-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_h [hPre_finite_h : Cert.Pre_finite_h.Facts] (m : (ℓ : Loc Cert.KernelIdeal.nD Cert.KernelIdeal.τ Cert.KernelIdeal.sig) → Buf (Elt Ideal) ℓ) : Prop :=
  ∀ c : Dev Cert.KernelIdeal.nD,
    (Cert.Pre_finite_h.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_h [hPre_finite_h : Cert.Pre_finite_h.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_h.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_x [hPre_finite_x : Cert.Pre_finite_x.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_x.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_x [hPre_finite_x : Cert.Pre_finite_x.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_x.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_conv [hPre_finite_conv : Cert.Pre_finite_conv.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_conv.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_conv [hPre_finite_conv : Cert.Pre_finite_conv.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_conv.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_h [hKernelIdeal : Cert.KernelIdeal.Facts] [hPre_finite_h : Cert.Pre_finite_h.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_h m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_h [hReferenceIdeal : Cert.ReferenceIdeal.Facts] [hPre_finite_h : Cert.Pre_finite_h.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_h m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite_x [hKernel2Ideal : Cert.Kernel2Ideal.Facts] [hPre_finite_x : Cert.Pre_finite_x.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_x m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite_x [hReference2Ideal : Cert.Reference2Ideal.Facts] [hPre_finite_x : Cert.Pre_finite_x.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_x m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_conv [hKernel6Ideal : Cert.Kernel6Ideal.Facts] [hPre_finite_conv : Cert.Pre_finite_conv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_conv m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_conv [hReference6Ideal : Cert.Reference6Ideal.Facts] [hPre_finite_conv : Cert.Pre_finite_conv.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_conv m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite_h [hKernelIdeal : Cert.KernelIdeal.Facts] [hReferenceIdeal : Cert.ReferenceIdeal.Facts] [hPre_finite_h : Cert.Pre_finite_h.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_h m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_x [hKernel2Ideal : Cert.Kernel2Ideal.Facts] [hReference2Ideal : Cert.Reference2Ideal.Facts] [hPre_finite_x : Cert.Pre_finite_x.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_x m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_1)) (v1 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_1) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)) (v4 : (c : Dev Cert.Kernel4Ideal.nD) → Buf (Elt Ideal) ((c.tc : Thread Cert.Kernel4Ideal.nD Cert.Kernel4Ideal.τ).loc Cert.Kernel4Ideal.main_v23_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_v23_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_v42) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite_conv [hKernel6Ideal : Cert.Kernel6Ideal.Facts] [hReference6Ideal : Cert.Reference6Ideal.Facts] [hPre_finite_conv : Cert.Pre_finite_conv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_conv m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v41_0)) (v1 : (c : Dev Cert.Kernel6Ideal.nD) → Buf (Elt Ideal) ((c.tc : Thread Cert.Kernel6Ideal.nD Cert.Kernel6Ideal.τ).loc Cert.Kernel6Ideal.main_v43)) (v2 : (c : Dev Cert.Kernel6Ideal.nD) → Buf (Elt Ideal) ((c.tc : Thread Cert.Kernel6Ideal.nD Cert.Kernel6Ideal.τ).loc Cert.Kernel6Ideal.main_v41_2)) (v3 : (c : Dev Cert.Kernel6Ideal.nD) → Buf (Elt Ideal) ((c.tc : Thread Cert.Kernel6Ideal.nD Cert.Kernel6Ideal.τ).loc Cert.Kernel6Ideal.main_v41_3)) (v4 : (c : Dev Cert.Kernel6Ideal.nD) → Buf (Elt Ideal) ((c.tc : Thread Cert.Kernel6Ideal.nD Cert.Kernel6Ideal.τ).loc Cert.Kernel6Ideal.main_v41_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41_0) = v0 c
          ∧ r.2.mem ((c.tc : Thread Cert.Kernel6Ideal.nD Cert.Kernel6Ideal.τ).loc Cert.Kernel6Ideal.main_v43) = v1 c
          ∧ r.2.mem ((c.tc : Thread Cert.Kernel6Ideal.nD Cert.Kernel6Ideal.τ).loc Cert.Kernel6Ideal.main_v41_2) = v2 c
          ∧ r.2.mem ((c.tc : Thread Cert.Kernel6Ideal.nD Cert.Kernel6Ideal.τ).loc Cert.Kernel6Ideal.main_v41_3) = v3 c
          ∧ r.2.mem ((c.tc : Thread Cert.Kernel6Ideal.nD Cert.Kernel6Ideal.τ).loc Cert.Kernel6Ideal.main_v41_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v113) = v0 c
          ∧ r.2.mem ((c.tc : Thread Cert.Reference6Ideal.nD Cert.Reference6Ideal.τ).loc Cert.Reference6Ideal.main_v114) = v1 c
          ∧ r.2.mem ((c.tc : Thread Cert.Reference6Ideal.nD Cert.Reference6Ideal.τ).loc Cert.Reference6Ideal.main_v115) = v2 c
          ∧ r.2.mem ((c.tc : Thread Cert.Reference6Ideal.nD Cert.Reference6Ideal.τ).loc Cert.Reference6Ideal.main_v116) = v3 c
          ∧ r.2.mem ((c.tc : Thread Cert.Reference6Ideal.nD Cert.Reference6Ideal.τ).loc Cert.Reference6Ideal.main_v117) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "mask" .f32 0xF149F2CA#32 ⊥

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v24) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_h : Cert.Pre_finite_h.Facts) (hPre_finite_x : Cert.Pre_finite_x.Facts) (hPre_finite_ffn : Cert.Pre_finite_ffn.Facts) (hPre_finite_conv : Cert.Pre_finite_conv.Facts),
    quiescent_Kernel (hKernel := hKernel)
    ∧ quiescent_KernelIdeal (hKernelIdeal := hKernelIdeal)
    ∧ quiescent_KernelIdeal_pre_finite_h (hKernelIdeal := hKernelIdeal) (hPre_finite_h := hPre_finite_h)
    ∧ quiescent_ReferenceIdeal (hReferenceIdeal := hReferenceIdeal)
    ∧ quiescent_ReferenceIdeal_pre_finite_h (hReferenceIdeal := hReferenceIdeal) (hPre_finite_h := hPre_finite_h)
    ∧ quiescent_Kernel2 (hKernel2 := hKernel2)
    ∧ quiescent_Kernel2Ideal (hKernel2Ideal := hKernel2Ideal)
    ∧ quiescent_Kernel2Ideal_pre_finite_x (hKernel2Ideal := hKernel2Ideal) (hPre_finite_x := hPre_finite_x)
    ∧ quiescent_Reference2Ideal (hReference2Ideal := hReference2Ideal)
    ∧ quiescent_Reference2Ideal_pre_finite_x (hReference2Ideal := hReference2Ideal) (hPre_finite_x := hPre_finite_x)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_conv (hKernel6Ideal := hKernel6Ideal) (hPre_finite_conv := hPre_finite_conv)
    ∧ quiescent_Reference6Ideal (hReference6Ideal := hReference6Ideal)
    ∧ quiescent_Reference6Ideal_pre_finite_conv (hReference6Ideal := hReference6Ideal) (hPre_finite_conv := hPre_finite_conv)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_h (hKernelIdeal := hKernelIdeal) (hReferenceIdeal := hReferenceIdeal) (hPre_finite_h := hPre_finite_h)
    ∧ preserves_Kernel2_Kernel2Ideal
    ∧ algebraic_Kernel2Ideal_Reference2Ideal_pre_finite_x (hKernel2Ideal := hKernel2Ideal) (hReference2Ideal := hReference2Ideal) (hPre_finite_x := hPre_finite_x)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_conv (hKernel6Ideal := hKernel6Ideal) (hReference6Ideal := hReference6Ideal) (hPre_finite_conv := hPre_finite_conv)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_conv.lean ====
abbrev S4x2048x5376 : Shape := ⟨3, ![4, 2048, 5376]⟩
abbrev S31x1x1024 : Shape := ⟨3, ![31, 1, 1024]⟩
abbrev S1024 : Shape := ⟨1, ![1024]⟩
abbrev S4x2048x1024 : Shape := ⟨3, ![4, 2048, 1024]⟩
abbrev S8192x5376 : Shape := ⟨2, ![8192, 5376]⟩
abbrev S8192x1024 : Shape := ⟨2, ![8192, 1024]⟩
abbrev S31x1024 : Shape := ⟨2, ![31, 1024]⟩
abbrev S1x1024 : Shape := ⟨2, ![1, 1024]⟩
abbrev S24609x1024 : Shape := ⟨2, ![24609, 1024]⟩
abbrev S_ : Shape := ⟨0, ![]⟩

class Facts : Prop where
  shapeCasts_S4x2048x5376_S8192x5376 : S4x2048x5376.ShapeCasts S8192x5376
  shapeCasts_S4x2048x1024_S8192x1024 : S4x2048x1024.ShapeCasts S8192x1024
  slices_S8192x5376_S8192x1024_0_0 : S8192x5376.Slices ![0, 0] S8192x1024
  slices_S8192x5376_S8192x1024_0_1024 : S8192x5376.Slices ![0, 1024] S8192x1024
  shapeCasts_S31x1x1024_S31x1024 : S31x1x1024.ShapeCasts S31x1024
  shapeCasts_S1024_S1x1024 : S1024.ShapeCasts S1x1024
  concatenates_S8192x1024_S8192x1024_S8192x1024_S31x1024_S1x1024_S1x1024_S24609x1024_d0 : Shape.Concatenates [S8192x1024, S8192x1024, S8192x1024, S31x1024, S1x1024, S1x1024] S24609x1024 0
  bcast_S_S24609x1024 : S_.BroadcastsInDim S24609x1024 (![] : Fin 0 → Fin S24609x1024.rank)

variable [Facts]

def fn {F : FTy → Type} [FloatOps F] (main_arg0 : FVec F S4x2048x5376 .f32) (main_arg1 : FVec F S31x1x1024 .f32) (main_arg2 : FVec F S1024 .f32) (main_arg3 : FVec F S1024 .f32) (main_arg4 : FVec F S1024 .f32) (main_arg5 : FVec F S4x2048x1024 .f32) : IVec S24609x1024 1 :=
  let main_v0 : FVec F S8192x5376 .f32 := shapeCast S8192x5376 main_arg0 shapeCasts_S4x2048x5376_S8192x5376
  let main_v1 : FVec F S8192x1024 .f32 := shapeCast S8192x1024 main_arg5 shapeCasts_S4x2048x1024_S8192x1024
  let main_v2 : FVec F S8192x1024 .f32 := (extractStridedSlice S8192x1024 ![0, 0] · slices_S8192x5376_S8192x1024_0_0) main_v0
  let main_v3 : FVec F S8192x1024 .f32 := (extractStridedSlice S8192x1024 ![0, 1024] · slices_S8192x5376_S8192x1024_0_1024) main_v0
  let main_v4 : FVec F S31x1024 .f32 := shapeCast S31x1024 main_arg1 shapeCasts_S31x1x1024_S31x1024
  let main_v5 : FVec F S1x1024 .f32 := shapeCast S1x1024 main_arg2 shapeCasts_S1024_S1x1024
  let main_v6 : FVec F S1x1024 .f32 := shapeCast S1x1024 main_arg3 shapeCasts_S1024_S1x1024
  let main_v7 : FVec F S24609x1024 .f32 := concatenate S24609x1024 0 [⟨S8192x1024, main_v2⟩, ⟨S8192x1024, main_v3⟩, ⟨S8192x1024, main_v1⟩, ⟨S31x1024, main_v4⟩, ⟨S1x1024, main_v5⟩, ⟨S1x1024, main_v6⟩] concatenates_S8192x1024_S8192x1024_S8192x1024_S31x1024_S1x1024_S1x1024_S24609x1024_d0
  let main_v8 : FVec F S24609x1024 .f32 := Host.absf main_v7
  let main_cst : FVec F S_ .f32 := constant S_ .f32 0x7F800000#32
  let main_v9 : FVec F S24609x1024 .f32 := broadcastInDim S24609x1024 ![] bcast_S_S24609x1024 main_cst
  let main_v10 : IVec S24609x1024 1 := cmpf .olt main_v8 main_v9
  main_v10
-- ==== Pre_finite_ffn.lean ====
abbrev S4x2048x1024 : Shape := ⟨3, ![4, 2048, 1024]⟩
abbrev S1024x5632 : Shape := ⟨2, ![1024, 5632]⟩
abbrev S2816x1024 : Shape := ⟨2, ![2816, 1024]⟩
abbrev S8192x1024 : Shape := ⟨2, ![8192, 1024]⟩
abbrev S5632x1024 : Shape := ⟨2, ![5632, 1024]⟩
abbrev S24832x1024 : Shape := ⟨2, ![24832, 1024]⟩
abbrev S_ : Shape := ⟨0, ![]⟩

class Facts : Prop where
  shapeCasts_S4x2048x1024_S8192x1024 : S4x2048x1024.ShapeCasts S8192x1024
  transposes_S1024x5632_S5632x1024_1_0 : S1024x5632.Transposes [1, 0] S5632x1024
  concatenates_S8192x1024_S8192x1024_S5632x1024_S2816x1024_S24832x1024_d0 : Shape.Concatenates [S8192x1024, S8192x1024, S5632x1024, S2816x1024] S24832x1024 0
  bcast_S_S24832x1024 : S_.BroadcastsInDim S24832x1024 (![] : Fin 0 → Fin S24832x1024.rank)

variable [Facts]

def fn {F : FTy → Type} [FloatOps F] (main_arg0 : FVec F S4x2048x1024 .f32) (main_arg1 : FVec F S1024x5632 .f32) (main_arg2 : FVec F S2816x1024 .f32) (main_arg3 : FVec F S4x2048x1024 .f32) : IVec S24832x1024 1 :=
  let main_v0 : FVec F S8192x1024 .f32 := shapeCast S8192x1024 main_arg0 shapeCasts_S4x2048x1024_S8192x1024
  let main_v1 : FVec F S8192x1024 .f32 := shapeCast S8192x1024 main_arg3 shapeCasts_S4x2048x1024_S8192x1024
  let main_v2 : FVec F S5632x1024 .f32 := (transpose S5632x1024 [1, 0] · transposes_S1024x5632_S5632x1024_1_0) main_arg1
  let main_v3 : FVec F S24832x1024 .f32 := concatenate S24832x1024 0 [⟨S8192x1024, main_v0⟩, ⟨S8192x1024, main_v1⟩, ⟨S5632x1024, main_v2⟩, ⟨S2816x1024, main_arg2⟩] concatenates_S8192x1024_S8192x1024_S5632x1024_S2816x1024_S24832x1024_d0
  let main_v4 : FVec F S24832x1024 .f32 := Host.absf main_v3
  let main_cst : FVec F S_ .f32 := constant S_ .f32 0x7F800000#32
  let main_v5 : FVec F S24832x1024 .f32 := broadcastInDim S24832x1024 ![] bcast_S_S24832x1024 main_cst
  let main_v6 : IVec S24832x1024 1 := cmpf .olt main_v4 main_v5
  main_v6
-- ==== Pre_finite_h.lean ====
abbrev S4x2048x1024 : Shape := ⟨3, ![4, 2048, 1024]⟩
abbrev S1024 : Shape := ⟨1, ![1024]⟩
abbrev S1024x5632 : Shape := ⟨2, ![1024, 5632]⟩
abbrev S8192x5632 : Shape := ⟨2, ![8192, 5632]⟩
abbrev S8192x1024 : Shape := ⟨2, ![8192, 1024]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S1024 .f32) (main_arg2 : FVec F S1024x5632 .f32) (main_arg3 : FVec F S8192x5632 .bf16) (main_arg4 : FVec F S8192x1024 .f32) : IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  main_v2
-- ==== Pre_finite_x.lean ====
abbrev S4x2048x1024 : Shape := ⟨3, ![4, 2048, 1024]⟩
abbrev S1024 : Shape := ⟨1, ![1024]⟩
abbrev S1024x5376 : Shape := ⟨2, ![1024, 5376]⟩
abbrev S8192x2048 : Shape := ⟨2, ![8192, 2048]⟩
abbrev S8192x1024 : Shape := ⟨2, ![8192, 1024]⟩
abbrev S8192x256 : Shape := ⟨2, ![8192, 256]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S1024 .f32) (main_arg2 : FVec F S1024x5376 .f32) (main_arg3 : FVec F S8192x2048 .bf16) (main_arg4 : FVec F S8192x1024 .bf16) (main_arg5 : FVec F S8192x256 .bf16) (main_arg6 : FVec F S8192x2048 .bf16) (main_arg7 : FVec F S8192x1024 .f32) : IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  main_v2
-- ==== Kernel.lean ====
abbrev S4x2048x1024 : Shape := ⟨3, ![4, 2048, 1024]⟩
abbrev S1024 : Shape := ⟨1, ![1024]⟩
abbrev S1024x5632 : Shape := ⟨2, ![1024, 5632]⟩
abbrev S8192x5632 : Shape := ⟨2, ![8192, 5632]⟩
abbrev S8192x1024 : Shape := ⟨2, ![8192, 1024]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S8192x5632, .bf16⟩
  | .hbm, ⟨4, _⟩ => ⟨S8192x1024, .f32⟩
  | .hbm, ⟨5, _⟩ => ⟨S1024x5632, .bf16⟩
  | .hbm, ⟨6, _⟩ => ⟨S5632x1024, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x2048x1024 : Shape := ⟨3, ![4, 2048, 1024]⟩
abbrev S1024 : Shape := ⟨1, ![1024]⟩
abbrev S1024x5632 : Shape := ⟨2, ![1024, 5632]⟩
abbrev S8192x5632 : Shape := ⟨2, ![8192, 5632]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5632, .f32⟩
  | .hbm, ⟨3, _⟩ => ⟨S8192x5632, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S4x2048x1024 : Shape := ⟨3, ![4, 2048, 1024]⟩
abbrev S1024 : Shape := ⟨1, ![1024]⟩
abbrev S1024x5376 : Shape := ⟨2, ![1024, 5376]⟩
abbrev S8192x2048 : Shape := ⟨2, ![8192, 2048]⟩
abbrev S8192x1024 : Shape := ⟨2, ![8192, 1024]⟩
abbrev S8192x256 : Shape := ⟨2, ![8192, 256]⟩
abbrev S5376x1024 : Shape := ⟨2, ![5376, 1024]⟩
abbrev S1x1024 : Shape := ⟨2, ![1, 1024]⟩
abbrev S512x2048 : Shape := ⟨2, ![512, 2048]⟩
abbrev S512x1024 : Shape := ⟨2, ![512, 1024]⟩
abbrev S512x256 : Shape := ⟨2, ![512, 256]⟩
abbrev S2048x1024 : Shape := ⟨2, ![2048, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5376, .f32⟩
  | .hbm, ⟨3, _⟩ => ⟨S8192x2048, .bf16⟩
  | .hbm, ⟨4, _⟩ => ⟨S8192x1024, .bf16⟩
  | .hbm, ⟨5, _⟩ => ⟨S8192x256, .bf16⟩
  | .hbm, ⟨6, _⟩ => ⟨S8192x2048, .bf16⟩
  | .hbm, ⟨7, _⟩ => ⟨S8192x1024, .f32⟩
  | .hbm, ⟨8, _⟩ => ⟨S1024x5376, .bf16⟩
  | .hbm, ⟨9, _⟩ => ⟨S5376x1024, .bf16⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S5376x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5376x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4x2048x1024 : Shape := ⟨3, ![4, 2048, 1024]⟩
abbrev S1024 : Shape := ⟨1, ![1024]⟩
abbrev S1024x5376 : Shape := ⟨2, ![1024, 5376]⟩
abbrev S8192x2048 : Shape := ⟨2, ![8192, 2048]⟩
abbrev S8192x1024 : Shape := ⟨2, ![8192, 1024]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5376 : Shape := ⟨2, ![8192, 5376]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5376, .f32⟩
  | .hbm, ⟨3, _⟩ => ⟨S8192x2048, .bf16⟩
  | .hbm, ⟨4, _⟩ => ⟨S8192x1024, .bf16⟩
  | .hbm, ⟨5, _⟩ => ⟨S8192x256, .bf16⟩
  | .hbm, ⟨6, _⟩ => ⟨S8192x2048, .bf16⟩
  | .hbm, ⟨7, _⟩ => ⟨S8192x1024, .f32⟩
  | .hbm, ⟨8, _⟩ => ⟨S8192x2048, .f32⟩
  | .hbm, ⟨9, _⟩ => ⟨S8192x1024, .f32⟩
  | .hbm, ⟨10, _⟩ => ⟨S8192x256, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5376, .f32⟩
  | .hbm, ⟨34, _⟩ => ⟨S8192x2048, .f32⟩
  | .hbm, ⟨35, _⟩ => ⟨S8192x1024, .f32⟩
  | .hbm, ⟨36, _⟩ => ⟨S8192x256, .f32⟩
  | .hbm, ⟨37, _⟩ => ⟨S8192x2048, .f32⟩
  | .hbm, ⟨38, _⟩ => ⟨S_, .f32⟩
  | .hbm, ⟨39, _⟩ => ⟨S8192x5376, .f32⟩
  | .hbm, ⟨40, _⟩ => ⟨S_, .f32⟩
  | .hbm, ⟨41, _⟩ => ⟨S8192x5376, .f32⟩
  | .hbm, ⟨42, _⟩ => ⟨S8192x5376, .f32⟩
  | .hbm, ⟨43, _⟩ => ⟨S_, .f32⟩
  | .hbm, ⟨44, _⟩ => ⟨S8192x5376, .f32⟩
  | .hbm, ⟨45, _⟩ => ⟨S8192x5376, .f32⟩
  | .hbm, ⟨46, _⟩ => ⟨S_, .f32⟩
  | .hbm, ⟨47, _⟩ => ⟨S8192x5376, .f32⟩
  | .hbm, ⟨48, _⟩ => ⟨S8192x5376, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024x5632 : Shape := ⟨2, ![1024, 5632]⟩
abbrev S2816x1024 : Shape := ⟨2, ![2816, 1024]⟩
abbrev S8192x1024 : Shape := ⟨2, ![8192, 1024]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S2816x1024, .f32⟩
  | .hbm, ⟨3, _⟩ => ⟨S4x2048x1024, .f32⟩
  | .hbm, ⟨4, _⟩ => ⟨S8192x1024, .f32⟩
  | .hbm, ⟨5, _⟩ => ⟨S8192x1024, .bf16⟩
  | .hbm, ⟨6, _⟩ => ⟨S1024x5632, .bf16⟩
  | .hbm, ⟨7, _⟩ => ⟨S5632x1024, .bf16⟩
  | .hbm, ⟨8, _⟩ => ⟨S8192x5632, .bf16⟩
  | .hbm, ⟨9, _⟩ => ⟨S8192x2816, .bf16⟩
  | .hbm, ⟨10, _⟩ => ⟨S8192x1024, .f32⟩
  | .hbm, ⟨11, _⟩ => ⟨S8192x1024, .bf16⟩
  | .hbm, ⟨12, _⟩ => ⟨S2816x1024, .bf16⟩
  | .hbm, ⟨13, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .bf16⟩
  | .local _ .vmem, ⟨8, _⟩ => ⟨S512x1024, .bf16⟩
  | .local _ .vmem, ⟨9, _⟩ => ⟨S2816x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x5632, .bf16⟩
  | .local _ .vmem, ⟨15, _⟩ => ⟨S512x5632, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x5632 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference3Ideal.lean ====
abbrev S4x2048x1024 : Shape := ⟨3, ![4, 2048, 1024]⟩
abbrev S1024x5632 : Shape := ⟨2, ![1024, 5632]⟩
abbrev S2816x1024 : Shape := ⟨2, ![2816, 1024]⟩
abbrev S8192x1024 : Shape := ⟨2, ![8192, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x5632, .f32⟩
  | .hbm, ⟨2, _⟩ => ⟨S2816x1024, .f32⟩
  | .hbm, ⟨3, _⟩ => ⟨S4x2048x1024, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .bf16⟩
  | .hbm, ⟨45, _⟩ => ⟨S8192x5632, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x2048x5376 : Shape := ⟨3, ![4, 2048, 5376]⟩
abbrev S1024x1024 : Shape := ⟨2, ![1024, 1024]⟩
abbrev S8192x1024 : Shape := ⟨2, ![8192, 1024]⟩
abbrev S8192x5376 : Shape := ⟨2, ![8192, 5376]⟩
abbrev S8192x2048 : Shape := ⟨2, ![8192, 2048]⟩
abbrev S8192x1280 : Shape := ⟨2, ![8192, 1280]⟩
abbrev S512x1024 : Shape := ⟨2, ![512, 1024]⟩
abbrev S512x2048 : Shape := ⟨2, ![512, 2048]⟩

abbrev nBuf : Space → Nat
  | .hbm => 35
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x5376, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S8192x5376, .f32⟩
  | .hbm, ⟨25, _⟩ => ⟨S8192x2048, .f32⟩
  | .hbm, ⟨26, _⟩ => ⟨S8192x2048, .f32⟩
  | .hbm, ⟨27, _⟩ => ⟨S8192x1280, .f32⟩
  | .hbm, ⟨28, _⟩ => ⟨S8192x5376, .f32⟩
  | .hbm, ⟨29, _⟩ => ⟨S8192x5376, .bf16⟩
  | .hbm, ⟨30, _⟩ => ⟨S8192x1024, .bf16⟩
  | .hbm, ⟨31, _⟩ => ⟨S8192x1024, .bf16⟩
  | .hbm, ⟨32, _⟩ => ⟨S8192x2048, .bf16⟩
  | .hbm, ⟨33, _⟩ => ⟨S8192x1024, .f32⟩
  | .hbm, ⟨34, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4x2048x1024 : Shape := ⟨3, ![4, 2048, 1024]⟩
abbrev S4x2048x5376 : Shape := ⟨3, ![4, 2048, 5376]⟩
abbrev S1024x1024 : Shape := ⟨2, ![1024, 1024]⟩
abbrev S8192x1024 : Shape := ⟨2, ![8192, 1024]⟩
abbrev S8192x5376 : Shape := ⟨2, ![8192, 5376]⟩
abbrev S8192x2048 : Shape := ⟨2, ![8192, 2048]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x5376, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x5376, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x2048, .f32⟩
  | .hbm, ⟨52, _⟩ => ⟨S8192x1024, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S1024x1024, .f32⟩
  | .hbm, ⟨57, _⟩ => ⟨S8192x1024, .f32⟩
  | .hbm, ⟨58, _⟩ => ⟨S1024x1024, .f32⟩
  | .hbm, ⟨59, _⟩ => ⟨S8192x1024, .f32⟩
  | .hbm, ⟨60, _⟩ => ⟨S8192x1024, .bf16⟩
  | .hbm, ⟨61, _⟩ => ⟨S8192x1024, .bf16⟩
  | .hbm, ⟨62, _⟩ => ⟨S8192x2048, .bf16⟩
  | .hbm, ⟨63, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x2048x5376 : Shape := ⟨3, ![4, 2048, 5376]⟩
abbrev S1024x1024 : Shape := ⟨2, ![1024, 1024]⟩
abbrev S1024 : Shape := ⟨1, ![1024]⟩
abbrev S8192x1024 : Shape := ⟨2, ![8192, 1024]⟩
abbrev S8192x5376 : Shape := ⟨2, ![8192, 5376]⟩
abbrev S8192x2048 : Shape := ⟨2, ![8192, 2048]⟩
abbrev S8192x1280 : Shape := ⟨2, ![8192, 1280]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 28
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x5376, .f32⟩
  | .hbm, ⟨3, _⟩ => ⟨S4x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x5376, .f32⟩
  | .hbm, ⟨16, _⟩ => ⟨S8192x2048, .f32⟩
  | .hbm, ⟨17, _⟩ => ⟨S8192x2048, .f32⟩
  | .hbm, ⟨18, _⟩ => ⟨S8192x1280, .f32⟩
  | .hbm, ⟨19, _⟩ => ⟨S8192x5376, .f32⟩
  | .hbm, ⟨20, _⟩ => ⟨S8192x5376, .bf16⟩
  | .hbm, ⟨21, _⟩ => ⟨S8192x1024, .f32⟩
  | .hbm, ⟨22, _⟩ => ⟨S1x1024, .f32⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S8192x1024, .f32⟩
  | .hbm, ⟨27, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S4x2048x1024 : Shape := ⟨3, ![4, 2048, 1024]⟩
abbrev S4x2048x5376 : Shape := ⟨3, ![4, 2048, 5376]⟩
abbrev S1024x1024 : Shape := ⟨2, ![1024, 1024]⟩
abbrev S1024 : Shape := ⟨1, ![1024]⟩
abbrev S8192x1024 : Shape := ⟨2, ![8192, 1024]⟩
abbrev S8192x5376 : Shape := ⟨2, ![8192, 5376]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x5376, .f32⟩
  | .hbm, ⟨3, _⟩ => ⟨S4x2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x5376, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x1024, .bf16⟩
  | .hbm, ⟨56, _⟩ => ⟨S8192x1024, .bf16⟩
  | .hbm, ⟨57, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel6.lean ====
abbrev S4x2048x5376 : Shape := ⟨3, ![4, 2048, 5376]⟩
abbrev S31x1x1024 : Shape := ⟨3, ![31, 1, 1024]⟩
abbrev S1024 : Shape := ⟨1, ![1024]⟩
abbrev S4x2048x1024 : Shape := ⟨3, ![4, 2048, 1024]⟩
abbrev S8192x5376 : Shape := ⟨2, ![8192, 5376]⟩
abbrev S8192x2048 : Shape := ⟨2, ![8192, 2048]⟩
abbrev S8192x1280 : Shape := ⟨2, ![8192, 1280]⟩
abbrev S_ : Shape := ⟨0, ![]⟩
abbrev S31x1x2048x2048x1 : Shape := ⟨5, ![31, 1, 2048, 2048, 1]⟩
abbrev S4x1x2048x1024 : Shape := ⟨4, ![4, 1, 2048, 1024]⟩
abbrev S31x4x2048x2048x1024 : Shape := ⟨5, ![31, 4, 2048, 2048, 1024]⟩
abbrev S31x4x2048x1024 : Shape := ⟨4, ![31, 4, 2048, 1024]⟩
abbrev S31x1x1x1024 : Shape := ⟨4, ![31, 1, 1, 1024]⟩
abbrev S1x1x1024 : Shape := ⟨3, ![1, 1, 1024]⟩
abbrev S8192x1024 : Shape := ⟨2, ![8192, 1024]⟩
abbrev S31x1024 : Shape := ⟨2, ![31, 1024]⟩
abbrev S1x1024 : Shape := ⟨2, ![1, 1024]⟩
abbrev S248x1024 : Shape := ⟨2, ![248, 1024]⟩
abbrev S256x1024 : Shape := ⟨2, ![256, 1024]⟩
abbrev S32x1024 : Shape := ⟨2, ![32, 1024]⟩
abbrev S256x2048 : Shape := ⟨2, ![256, 2048]⟩
abbrev S288x1024 : Shape := ⟨2, ![288, 1024]⟩
abbrev S7x288x1024 : Shape := ⟨3, ![7, 288, 1024]⟩
abbrev S256 : Shape := ⟨1, ![256]⟩
abbrev S256x1 : Shape := ⟨2, ![256, 1]⟩
abbrev S32 : Shape := ⟨1, ![32]⟩
abbrev S32x1 : Shape := ⟨2, ![32, 1]⟩
abbrev S280x1024 : Shape := ⟨2, ![280, 1024]⟩
abbrev S1x280x1024 : Shape := ⟨3, ![1, 280, 1024]⟩
abbrev S128x128 : Shape := ⟨2, ![128, 128]⟩
abbrev S1x128 : Shape := ⟨2, ![1, 128]⟩
abbrev S1x128x128 : Shape := ⟨3, ![1, 128, 128]⟩
abbrev S8x128 : Shape := ⟨2, ![8, 128]⟩
abbrev S1x8x128 : Shape := ⟨3, ![1, 8, 128]⟩
abbrev S31x8x1024 : Shape := ⟨3, ![31, 8, 1024]⟩

abbrev nBuf : Space → Nat
  | .hbm => 65
  | .vmem => 25
  | .smem => 0
  | _ => 0

abbrev bufTy : (tb : Table) → Fin (tcTables nBuf tb) → BufTy
  | .hbm, ⟨0, _⟩ => ⟨S4x2048x5376, .f32⟩
  | .hbm, ⟨1, _⟩ => ⟨S31x1x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S4x2048x1024, .f32⟩
  | .hbm, ⟨6, _⟩ => ⟨S8192x5376, .f32⟩
  | .hbm, ⟨7, _⟩ => ⟨S8192x2048, .f32⟩
  | .hbm, ⟨8, _⟩ => ⟨S8192x2048, .f32⟩
  | .hbm, ⟨9, _⟩ => ⟨S8192x1280, .f32⟩
  | .hbm, ⟨10, _⟩ => ⟨S8192x5376, .f32⟩
  | .hbm, ⟨11, _⟩ => ⟨S8192x5376, .bf16⟩
  | .hbm, ⟨12, _⟩ => ⟨S4x2048x1024, .f32⟩
  | .hbm, ⟨13, _⟩ => ⟨S4x2048x1024, .bf16⟩
  | .hbm, ⟨14, _⟩ => ⟨S4x2048x1024, .f32⟩
  | .hbm, ⟨15, _⟩ => ⟨S4x2048x1024, .f32⟩
  | .hbm, ⟨16, _⟩ => ⟨S4x2048x1024, .bf16⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S_, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S31x1x2048x2048x1, .i32⟩
  | .hbm, ⟨28, _⟩ => ⟨S31x1x2048x2048x1, .i32⟩
  | .hbm, ⟨29, _⟩ => ⟨S31x1x2048x2048x1, .i32⟩
  | .hbm, ⟨30, _⟩ => ⟨S_, .i32⟩
  | .hbm, ⟨31, _⟩ => ⟨S31x1x2048x2048x1, .i32⟩
  | .hbm, ⟨32, _⟩ => ⟨S31x1x2048x2048x1, .i32⟩
  | .hbm, ⟨33, _⟩ => ⟨S31x1x2048x2048x1, .i32⟩
  | .hbm, ⟨34, _⟩ => ⟨S31x1x2048x2048x1, .i1⟩
  | .hbm, ⟨35, _⟩ => ⟨S4x1x2048x1024, .f32⟩
  | .hbm, ⟨36, _⟩ => ⟨S_, .f32⟩
  | .hbm, ⟨37, _⟩ => ⟨S_, .f32⟩
  | .hbm, ⟨38, _⟩ => ⟨S31x4x2048x2048x1024, .i1⟩
  | .hbm, ⟨39, _⟩ => ⟨S31x4x2048x2048x1024, .f32⟩
  | .hbm, ⟨40, _⟩ => ⟨S31x4x2048x2048x1024, .f32⟩
  | .hbm, ⟨41, _⟩ => ⟨S31x4x2048x2048x1024, .f32⟩
  | .hbm, ⟨42, _⟩ => ⟨S_, .f32⟩
  | .hbm, ⟨43, _⟩ => ⟨S31x4x2048x1024, .f32⟩
  | .hbm, ⟨44, _⟩ => ⟨S31x1x1x1024, .f32⟩
  | .hbm, ⟨45, _⟩ => ⟨S31x4x2048x1024, .f32⟩
  | .hbm, ⟨46, _⟩ => ⟨S31x4x2048x1024, .f32⟩
  | .hbm, ⟨47, _⟩ => ⟨S_, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | .hbm, ⟨52, _⟩ => ⟨S8192x1024, .f32⟩
  | .hbm, ⟨53, _⟩ => ⟨S8192x1024, .f32⟩
  | .hbm, ⟨54, _⟩ => ⟨S31x1024, .f32⟩
  | .hbm, ⟨55, _⟩ => ⟨S1x1024, .f32⟩
  | .hbm, ⟨56, _⟩ => ⟨S1x1024, .f32⟩
  | .hbm, ⟨57, _⟩ => ⟨S8192x2048, .bf16⟩
  | .hbm, ⟨58, _⟩ => ⟨S248x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S31x8x1024, .f32⟩
  | .hbm, ⟨63, _⟩ => ⟨S_, .f32⟩
  | .hbm, ⟨64, _⟩ => ⟨S31x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S31x1024, .f32⟩
  | .local _ .vmem, ⟨13, _⟩ => ⟨S1x1024, .f32⟩
  | .local _ .vmem, ⟨14, _⟩ => ⟨S1x1024, .f32⟩
  | .local _ .vmem, ⟨15, _⟩ => ⟨S256x2048, .bf16⟩
  | .local _ .vmem, ⟨16, _⟩ => ⟨S256x2048, .bf16⟩
  | .local _ .vmem, ⟨17, _⟩ => ⟨S248x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S288x1024, .f32⟩
  | .local _ .vmem, ⟨22, _⟩ => ⟨S256x1024, .f32⟩
  | .local _ .vmem, ⟨23, _⟩ => ⟨S7x288x1024, .f32⟩
  | .local _ .vmem, ⟨24, _⟩ => ⟨S256x1024, .f32⟩
  | _, _ => ⟨S4x2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_v41_3 : Ref sig .tc := ⟨.hbm, 60, rfl⟩
abbrev main_v41_4 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_91 : BitVec 32 := 0#32
  let c8_i32 : BitVec 32 := 8#32
  let v180 : BitVec 32 := Scalar.addi c0_i32_91 c8_i32
  let c1_i32 : BitVec 32 := 1#32
  ⟨c0_i32_91, v180, c1_i32⟩
def k0_mult1 (k0_t1 : Fin k0_t1_loop.trips) : BitVec 32 :=
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  v192
def k0_mult2 (k0_t1 : Fin k0_t1_loop.trips) : BitVec 32 :=
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  v194
def k0_off1 (k0_t1 : Fin k0_t1_loop.trips) : Fin 2 → Nat :=
  let c0_101 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v197 : Index := Scalar.indexCast v195
  ![0, v197.toNat]
def k0_off2 (k0_t1 : Fin k0_t1_loop.trips) : Fin 3 → Nat :=
  let c5_102 : Index := 5#32
  let c24 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v200 : Index := Scalar.indexCast v195
  ![5, 24, v200.toNat]
def k0_off3 (k0_t1 : Fin k0_t1_loop.trips) : Fin 2 → Nat :=
  let c1_103 : Index := 1#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v206 : Index := Scalar.indexCast v195
  ![1, v206.toNat]
def k0_off4 (k0_t1 : Fin k0_t1_loop.trips) : Fin 3 → Nat :=
  let c4_104 : Index := 4#32
  let c24_105 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v209 : Index := Scalar.indexCast v195
  ![4, 24, v209.toNat]
def k0_off5 (k0_t1 : Fin k0_t1_loop.trips) : Fin 2 → Nat :=
  let c2_106 : Index := 2#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v215 : Index := Scalar.indexCast v195
  ![2, v215.toNat]
def k0_off6 (k0_t1 : Fin k0_t1_loop.trips) : Fin 3 → Nat :=
  let c3_107 : Index := 3#32
  let c24_108 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v218 : Index := Scalar.indexCast v195
  ![3, 24, v218.toNat]
def k0_off7 (k0_t1 : Fin k0_t1_loop.trips) : Fin 2 → Nat :=
  let c3_109 : Index := 3#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v224 : Index := Scalar.indexCast v195
  ![3, v224.toNat]
def k0_off8 (k0_t1 : Fin k0_t1_loop.trips) : Fin 3 → Nat :=
  let c2_110 : Index := 2#32
  let c24_111 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v227 : Index := Scalar.indexCast v195
  ![2, 24, v227.toNat]
def k0_off9 (k0_t1 : Fin k0_t1_loop.trips) : Fin 2 → Nat :=
  let c4_112 : Index := 4#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v233 : Index := Scalar.indexCast v195
  ![4, v233.toNat]
def k0_off10 (k0_t1 : Fin k0_t1_loop.trips) : Fin 3 → Nat :=
  let c1_113 : Index := 1#32
  let c24_114 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v236 : Index := Scalar.indexCast v195
  ![1, 24, v236.toNat]
def k0_off11 (k0_t1 : Fin k0_t1_loop.trips) : Fin 2 → Nat :=
  let c5_115 : Index := 5#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v242 : Index := Scalar.indexCast v195
  ![5, v242.toNat]
def k0_off12 (k0_t1 : Fin k0_t1_loop.trips) : Fin 3 → Nat :=
  let c0_116 : Index := 0#32
  let c24_117 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v245 : Index := Scalar.indexCast v195
  ![0, 24, v245.toNat]
def k0_off13 (k0_t1 : Fin k0_t1_loop.trips) : Fin 2 → Nat :=
  let c6_118 : Index := 6#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v251 : Index := Scalar.indexCast v195
  ![6, v251.toNat]
def k0_off14 (k0_t1 : Fin k0_t1_loop.trips) : Fin 2 → Nat :=
  let c24_119 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v254 : Index := Scalar.indexCast v195
  ![24, v254.toNat]
def k0_off15 (k0_t1 : Fin k0_t1_loop.trips) : Fin 2 → Nat :=
  let c7_120 : Index := 7#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v259 : Index := Scalar.indexCast v195
  ![7, v259.toNat]
def k0_off16 (k0_t1 : Fin k0_t1_loop.trips) : Fin 3 → Nat :=
  let c6_121 : Index := 6#32
  let c16 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v262 : Index := Scalar.indexCast v195
  ![6, 16, v262.toNat]
def k0_off17 (k0_t1 : Fin k0_t1_loop.trips) : Fin 2 → Nat :=
  let c8 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v268 : Index := Scalar.indexCast v195
  ![8, v268.toNat]
def k0_off18 (k0_t1 : Fin k0_t1_loop.trips) : Fin 3 → Nat :=
  let c5_122 : Index := 5#32
  let c16_123 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v271 : Index := Scalar.indexCast v195
  ![5, 16, v271.toNat]
def k0_off19 (k0_t1 : Fin k0_t1_loop.trips) : Fin 2 → Nat :=
  let c9 : Index := 9#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v277 : Index := Scalar.indexCast v195
  ![9, v277.toNat]
def k0_off20 (k0_t1 : Fin k0_t1_loop.trips) : Fin 3 → Nat :=
  let c4_124 : Index := 4#32
  let c16_125 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v280 : Index := Scalar.indexCast v195
  ![4, 16, v280.toNat]
def k0_off21 (k0_t1 : Fin k0_t1_loop.trips) : Fin 2 → Nat :=
  let c10 : Index := 10#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v286 : Index := Scalar.indexCast v195
  ![10, v286.toNat]
def k0_off22 (k0_t1 : Fin k0_t1_loop.trips) : Fin 3 → Nat :=
  let c3_126 : Index := 3#32
  let c16_127 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v289 : Index := Scalar.indexCast v195
  ![3, 16, v289.toNat]
def k0_off23 (k0_t1 : Fin k0_t1_loop.trips) : Fin 2 → Nat :=
  let c11 : Index := 11#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v295 : Index := Scalar.indexCast v195
  ![11, v295.toNat]
def k0_off24 (k0_t1 : Fin k0_t1_loop.trips) : Fin 3 → Nat :=
  let c2_128 : Index := 2#32
  let c16_129 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v298 : Index := Scalar.indexCast v195
  ![2, 16, v298.toNat]
def k0_off25 (k0_t1 : Fin k0_t1_loop.trips) : Fin 2 → Nat :=
  let c12 : Index := 12#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v304 : Index := Scalar.indexCast v195
  ![12, v304.toNat]
def k0_off26 (k0_t1 : Fin k0_t1_loop.trips) : Fin 3 → Nat :=
  let c1_130 : Index := 1#32
  let c16_131 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v307 : Index := Scalar.indexCast v195
  ![1, 16, v307.toNat]
def k0_off27 (k0_t1 : Fin k0_t1_loop.trips) : Fin 2 → Nat :=
  let c13 : Index := 13#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v313 : Index := Scalar.indexCast v195
  ![13, v313.toNat]
def k0_off28 (k0_t1 : Fin k0_t1_loop.trips) : Fin 3 → Nat :=
  let c0_132 : Index := 0#32
  let c16_133 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v316 : Index := Scalar.indexCast v195
  ![0, 16, v316.toNat]
def k0_off29 (k0_t1 : Fin k0_t1_loop.trips) : Fin 2 → Nat :=
  let c14 : Index := 14#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v322 : Index := Scalar.indexCast v195
  ![14, v322.toNat]
def k0_off30 (k0_t1 : Fin k0_t1_loop.trips) : Fin 2 → Nat :=
  let c16_134 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v325 : Index := Scalar.indexCast v195
  ![16, v325.toNat]
def k0_off31 (k0_t1 : Fin k0_t1_loop.trips) : Fin 2 → Nat :=
  let c15 : Index := 15#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v330 : Index := Scalar.indexCast v195
  ![15, v330.toNat]
def k0_off32 (k0_t1 : Fin k0_t1_loop.trips) : Fin 3 → Nat :=
  let c6_135 : Index := 6#32
  let c8_136 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v333 : Index := Scalar.indexCast v195
  ![6, 8, v333.toNat]
def k0_off33 (k0_t1 : Fin k0_t1_loop.trips) : Fin 2 → Nat :=
  let c16_137 : Index := 16#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v339 : Index := Scalar.indexCast v195
  ![16, v339.toNat]
def k0_off34 (k0_t1 : Fin k0_t1_loop.trips) : Fin 3 → Nat :=
  let c5_138 : Index := 5#32
  let c8_139 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v342 : Index := Scalar.indexCast v195
  ![5, 8, v342.toNat]
def k0_off35 (k0_t1 : Fin k0_t1_loop.trips) : Fin 2 → Nat :=
  let c17 : Index := 17#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v348 : Index := Scalar.indexCast v195
  ![17, v348.toNat]
def k0_off36 (k0_t1 : Fin k0_t1_loop.trips) : Fin 3 → Nat :=
  let c4_140 : Index := 4#32
  let c8_141 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v351 : Index := Scalar.indexCast v195
  ![4, 8, v351.toNat]
def k0_off37 (k0_t1 : Fin k0_t1_loop.trips) : Fin 2 → Nat :=
  let c18 : Index := 18#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v357 : Index := Scalar.indexCast v195
  ![18, v357.toNat]
def k0_off38 (k0_t1 : Fin k0_t1_loop.trips) : Fin 3 → Nat :=
  let c3_142 : Index := 3#32
  let c8_143 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v360 : Index := Scalar.indexCast v195
  ![3, 8, v360.toNat]
def k0_off39 (k0_t1 : Fin k0_t1_loop.trips) : Fin 2 → Nat :=
  let c19 : Index := 19#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v366 : Index := Scalar.indexCast v195
  ![19, v366.toNat]
def k0_off40 (k0_t1 : Fin k0_t1_loop.trips) : Fin 3 → Nat :=
  let c2_144 : Index := 2#32
  let c8_145 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v369 : Index := Scalar.indexCast v195
  ![2, 8, v369.toNat]
def k0_off41 (k0_t1 : Fin k0_t1_loop.trips) : Fin 2 → Nat :=
  let c20 : Index := 20#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v375 : Index := Scalar.indexCast v195
  ![20, v375.toNat]
def k0_off42 (k0_t1 : Fin k0_t1_loop.trips) : Fin 3 → Nat :=
  let c1_146 : Index := 1#32
  let c8_147 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v378 : Index := Scalar.indexCast v195
  ![1, 8, v378.toNat]
def k0_off43 (k0_t1 : Fin k0_t1_loop.trips) : Fin 2 → Nat :=
  let c21 : Index := 21#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v384 : Index := Scalar.indexCast v195
  ![21, v384.toNat]
def k0_off44 (k0_t1 : Fin k0_t1_loop.trips) : Fin 3 → Nat :=
  let c0_148 : Index := 0#32
  let c8_149 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v387 : Index := Scalar.indexCast v195
  ![0, 8, v387.toNat]
def k0_off45 (k0_t1 : Fin k0_t1_loop.trips) : Fin 2 → Nat :=
  let c22 : Index := 22#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v393 : Index := Scalar.indexCast v195
  ![22, v393.toNat]
def k0_off46 (k0_t1 : Fin k0_t1_loop.trips) : Fin 2 → Nat :=
  let c8_150 : Index := 8#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v396 : Index := Scalar.indexCast v195
  ![8, v396.toNat]
def k0_off47 (k0_t1 : Fin k0_t1_loop.trips) : Fin 2 → Nat :=
  let c23 : Index := 23#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v401 : Index := Scalar.indexCast v195
  ![23, v401.toNat]
def k0_off48 (k0_t1 : Fin k0_t1_loop.trips) : Fin 3 → Nat :=
  let c6_151 : Index := 6#32
  let c0_152 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v404 : Index := Scalar.indexCast v195
  ![6, 0, v404.toNat]
def k0_off49 (k0_t1 : Fin k0_t1_loop.trips) : Fin 2 → Nat :=
  let c24_153 : Index := 24#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v410 : Index := Scalar.indexCast v195
  ![24, v410.toNat]
def k0_off50 (k0_t1 : Fin k0_t1_loop.trips) : Fin 3 → Nat :=
  let c5_154 : Index := 5#32
  let c0_155 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v413 : Index := Scalar.indexCast v195
  ![5, 0, v413.toNat]
def k0_off51 (k0_t1 : Fin k0_t1_loop.trips) : Fin 2 → Nat :=
  let c25 : Index := 25#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v419 : Index := Scalar.indexCast v195
  ![25, v419.toNat]
def k0_off52 (k0_t1 : Fin k0_t1_loop.trips) : Fin 3 → Nat :=
  let c4_156 : Index := 4#32
  let c0_157 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v422 : Index := Scalar.indexCast v195
  ![4, 0, v422.toNat]
def k0_off53 (k0_t1 : Fin k0_t1_loop.trips) : Fin 2 → Nat :=
  let c26 : Index := 26#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v428 : Index := Scalar.indexCast v195
  ![26, v428.toNat]
def k0_off54 (k0_t1 : Fin k0_t1_loop.trips) : Fin 3 → Nat :=
  let c3_158 : Index := 3#32
  let c0_159 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v431 : Index := Scalar.indexCast v195
  ![3, 0, v431.toNat]
def k0_off55 (k0_t1 : Fin k0_t1_loop.trips) : Fin 2 → Nat :=
  let c27 : Index := 27#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v437 : Index := Scalar.indexCast v195
  ![27, v437.toNat]
def k0_off56 (k0_t1 : Fin k0_t1_loop.trips) : Fin 3 → Nat :=
  let c2_160 : Index := 2#32
  let c0_161 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v440 : Index := Scalar.indexCast v195
  ![2, 0, v440.toNat]
def k0_off57 (k0_t1 : Fin k0_t1_loop.trips) : Fin 2 → Nat :=
  let c28 : Index := 28#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v446 : Index := Scalar.indexCast v195
  ![28, v446.toNat]
def k0_off58 (k0_t1 : Fin k0_t1_loop.trips) : Fin 3 → Nat :=
  let c1_162 : Index := 1#32
  let c0_163 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v449 : Index := Scalar.indexCast v195
  ![1, 0, v449.toNat]
def k0_off59 (k0_t1 : Fin k0_t1_loop.trips) : Fin 2 → Nat :=
  let c29 : Index := 29#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v455 : Index := Scalar.indexCast v195
  ![29, v455.toNat]
def k0_off60 (k0_t1 : Fin k0_t1_loop.trips) : Fin 3 → Nat :=
  let c0_164 : Index := 0#32
  let c0_165 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v458 : Index := Scalar.indexCast v195
  ![0, 0, v458.toNat]
def k0_off61 (k0_t1 : Fin k0_t1_loop.trips) : Fin 2 → Nat :=
  let c30 : Index := 30#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v464 : Index := Scalar.indexCast v195
  ![30, v464.toNat]
def k0_off62 (k0_t1 : Fin k0_t1_loop.trips) : Fin 2 → Nat :=
  let c0_166 : Index := 0#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v467 : Index := Scalar.indexCast v195
  ![0, v467.toNat]
def k0_off63 (k0_t1 : Fin k0_t1_loop.trips) : Fin 3 → Nat :=
  let c5_169 : Index := 5#32
  let c152 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v476 : Index := Scalar.indexCast v195
  ![5, 152, v476.toNat]
def k0_off64 (k0_t1 : Fin k0_t1_loop.trips) : Fin 3 → Nat :=
  let c4_171 : Index := 4#32
  let c152_172 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v485 : Index := Scalar.indexCast v195
  ![4, 152, v485.toNat]
def k0_off65 (k0_t1 : Fin k0_t1_loop.trips) : Fin 3 → Nat :=
  let c3_174 : Index := 3#32
  let c152_175 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v494 : Index := Scalar.indexCast v195
  ![3, 152, v494.toNat]
def k0_off66 (k0_t1 : Fin k0_t1_loop.trips) : Fin 3 → Nat :=
  let c2_177 : Index := 2#32
  let c152_178 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v503 : Index := Scalar.indexCast v195
  ![2, 152, v503.toNat]
def k0_off67 (k0_t1 : Fin k0_t1_loop.trips) : Fin 3 → Nat :=
  let c1_180 : Index := 1#32
  let c152_181 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v512 : Index := Scalar.indexCast v195
  ![1, 152, v512.toNat]
def k0_off68 (k0_t1 : Fin k0_t1_loop.trips) : Fin 3 → Nat :=
  let c0_183 : Index := 0#32
  let c152_184 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v521 : Index := Scalar.indexCast v195
  ![0, 152, v521.toNat]
def k0_off69 (k0_t1 : Fin k0_t1_loop.trips) : Fin 2 → Nat :=
  let c152_186 : Index := 152#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v530 : Index := Scalar.indexCast v195
  ![152, v530.toNat]
def k0_off70 (k0_t1 : Fin k0_t1_loop.trips) : Fin 3 → Nat :=
  let c6_188 : Index := 6#32
  let c144 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v538 : Index := Scalar.indexCast v195
  ![6, 144, v538.toNat]
def k0_off71 (k0_t1 : Fin k0_t1_loop.trips) : Fin 3 → Nat :=
  let c5_190 : Index := 5#32
  let c144_191 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v547 : Index := Scalar.indexCast v195
  ![5, 144, v547.toNat]
def k0_off72 (k0_t1 : Fin k0_t1_loop.trips) : Fin 3 → Nat :=
  let c4_193 : Index := 4#32
  let c144_194 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v556 : Index := Scalar.indexCast v195
  ![4, 144, v556.toNat]
def k0_off73 (k0_t1 : Fin k0_t1_loop.trips) : Fin 3 → Nat :=
  let c3_196 : Index := 3#32
  let c144_197 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v565 : Index := Scalar.indexCast v195
  ![3, 144, v565.toNat]
def k0_off74 (k0_t1 : Fin k0_t1_loop.trips) : Fin 3 → Nat :=
  let c2_199 : Index := 2#32
  let c144_200 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v574 : Index := Scalar.indexCast v195
  ![2, 144, v574.toNat]
def k0_off75 (k0_t1 : Fin k0_t1_loop.trips) : Fin 3 → Nat :=
  let c1_202 : Index := 1#32
  let c144_203 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v583 : Index := Scalar.indexCast v195
  ![1, 144, v583.toNat]
def k0_off76 (k0_t1 : Fin k0_t1_loop.trips) : Fin 3 → Nat :=
  let c0_205 : Index := 0#32
  let c144_206 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v592 : Index := Scalar.indexCast v195
  ![0, 144, v592.toNat]
def k0_off77 (k0_t1 : Fin k0_t1_loop.trips) : Fin 2 → Nat :=
  let c144_208 : Index := 144#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v601 : Index := Scalar.indexCast v195
  ![144, v601.toNat]
def k0_off78 (k0_t1 : Fin k0_t1_loop.trips) : Fin 3 → Nat :=
  let c6_210 : Index := 6#32
  let c136 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v609 : Index := Scalar.indexCast v195
  ![6, 136, v609.toNat]
def k0_off79 (k0_t1 : Fin k0_t1_loop.trips) : Fin 3 → Nat :=
  let c5_212 : Index := 5#32
  let c136_213 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v618 : Index := Scalar.indexCast v195
  ![5, 136, v618.toNat]
def k0_off80 (k0_t1 : Fin k0_t1_loop.trips) : Fin 3 → Nat :=
  let c4_215 : Index := 4#32
  let c136_216 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v627 : Index := Scalar.indexCast v195
  ![4, 136, v627.toNat]
def k0_off81 (k0_t1 : Fin k0_t1_loop.trips) : Fin 3 → Nat :=
  let c3_218 : Index := 3#32
  let c136_219 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v636 : Index := Scalar.indexCast v195
  ![3, 136, v636.toNat]
def k0_off82 (k0_t1 : Fin k0_t1_loop.trips) : Fin 3 → Nat :=
  let c2_221 : Index := 2#32
  let c136_222 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v645 : Index := Scalar.indexCast v195
  ![2, 136, v645.toNat]
def k0_off83 (k0_t1 : Fin k0_t1_loop.trips) : Fin 3 → Nat :=
  let c1_224 : Index := 1#32
  let c136_225 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v654 : Index := Scalar.indexCast v195
  ![1, 136, v654.toNat]
def k0_off84 (k0_t1 : Fin k0_t1_loop.trips) : Fin 3 → Nat :=
  let c0_227 : Index := 0#32
  let c136_228 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v663 : Index := Scalar.indexCast v195
  ![0, 136, v663.toNat]
def k0_off85 (k0_t1 : Fin k0_t1_loop.trips) : Fin 2 → Nat :=
  let c136_230 : Index := 136#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v672 : Index := Scalar.indexCast v195
  ![136, v672.toNat]
def k0_off86 (k0_t1 : Fin k0_t1_loop.trips) : Fin 3 → Nat :=
  let c6_232 : Index := 6#32
  let c128 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v680 : Index := Scalar.indexCast v195
  ![6, 128, v680.toNat]
def k0_off87 (k0_t1 : Fin k0_t1_loop.trips) : Fin 3 → Nat :=
  let c5_234 : Index := 5#32
  let c128_235 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v689 : Index := Scalar.indexCast v195
  ![5, 128, v689.toNat]
def k0_off88 (k0_t1 : Fin k0_t1_loop.trips) : Fin 3 → Nat :=
  let c4_237 : Index := 4#32
  let c128_238 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v698 : Index := Scalar.indexCast v195
  ![4, 128, v698.toNat]
def k0_off89 (k0_t1 : Fin k0_t1_loop.trips) : Fin 3 → Nat :=
  let c3_240 : Index := 3#32
  let c128_241 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v707 : Index := Scalar.indexCast v195
  ![3, 128, v707.toNat]
def k0_off90 (k0_t1 : Fin k0_t1_loop.trips) : Fin 3 → Nat :=
  let c2_243 : Index := 2#32
  let c128_244 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v716 : Index := Scalar.indexCast v195
  ![2, 128, v716.toNat]
def k0_off91 (k0_t1 : Fin k0_t1_loop.trips) : Fin 3 → Nat :=
  let c1_246 : Index := 1#32
  let c128_247 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v725 : Index := Scalar.indexCast v195
  ![1, 128, v725.toNat]
def k0_off92 (k0_t1 : Fin k0_t1_loop.trips) : Fin 3 → Nat :=
  let c0_249 : Index := 0#32
  let c128_250 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v734 : Index := Scalar.indexCast v195
  ![0, 128, v734.toNat]
def k0_off93 (k0_t1 : Fin k0_t1_loop.trips) : Fin 2 → Nat :=
  let c128_252 : Index := 128#32
  let c0_i32_91 : BitVec 32 := 0#32
  let c1_i32 : BitVec 32 := 1#32
  let arg20 : BitVec 32 := Scf.iv c0_i32_91 c1_i32 k0_t1
  let c128_i32_99 : BitVec 32 := 128#32
  let v194 : BitVec 32 := Scalar.muli arg20 c128_i32_99
  let v195 : BitVec 32 := v194
  let v743 : Index := Scalar.indexCast v195
  ![128, v743.toNat]
def k0_off94 (k0_t1 : Fin k0_t1_loop.trips) : Fin 2 → Nat :=
  let c0_253 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v748 : Index := Scalar.indexCast v193
  ![0, v748.toNat]
def k0_off95 (k0_t1 : Fin k0_t1_loop.trips) : Fin 2 → Nat :=
  let c128_254 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v752 : Index := Scalar.indexCast v193
  ![128, v752.toNat]
def k0_off96 (k0_t1 : Fin k0_t1_loop.trips) : Fin 2 → Nat :=
  let c0_286 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v787 : Index := Scalar.indexCast v193
  ![0, v787.toNat]
def k0_off97 (k0_t1 : Fin k0_t1_loop.trips) : Fin 2 → Nat :=
  let c8_287 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v789 : Index := Scalar.indexCast v193
  ![8, v789.toNat]
def k0_off98 (k0_t1 : Fin k0_t1_loop.trips) : Fin 2 → Nat :=
  let c16_288 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v791 : Index := Scalar.indexCast v193
  ![16, v791.toNat]
def k0_off99 (k0_t1 : Fin k0_t1_loop.trips) : Fin 2 → Nat :=
  let c24_289 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v793 : Index := Scalar.indexCast v193
  ![24, v793.toNat]
def k0_off100 (k0_t1 : Fin k0_t1_loop.trips) : Fin 2 → Nat :=
  let c32 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v795 : Index := Scalar.indexCast v193
  ![32, v795.toNat]
def k0_off101 (k0_t1 : Fin k0_t1_loop.trips) : Fin 2 → Nat :=
  let c40 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v797 : Index := Scalar.indexCast v193
  ![40, v797.toNat]
def k0_off102 (k0_t1 : Fin k0_t1_loop.trips) : Fin 2 → Nat :=
  let c48 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v799 : Index := Scalar.indexCast v193
  ![48, v799.toNat]
def k0_off103 (k0_t1 : Fin k0_t1_loop.trips) : Fin 2 → Nat :=
  let c56 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v801 : Index := Scalar.indexCast v193
  ![56, v801.toNat]
def k0_off104 (k0_t1 : Fin k0_t1_loop.trips) : Fin 2 → Nat :=
  let c64 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v803 : Index := Scalar.indexCast v193
  ![64, v803.toNat]
def k0_off105 (k0_t1 : Fin k0_t1_loop.trips) : Fin 2 → Nat :=
  let c72 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v805 : Index := Scalar.indexCast v193
  ![72, v805.toNat]
def k0_off106 (k0_t1 : Fin k0_t1_loop.trips) : Fin 2 → Nat :=
  let c80 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v807 : Index := Scalar.indexCast v193
  ![80, v807.toNat]
def k0_off107 (k0_t1 : Fin k0_t1_loop.trips) : Fin 2 → Nat :=
  let c88 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v809 : Index := Scalar.indexCast v193
  ![88, v809.toNat]
def k0_off108 (k0_t1 : Fin k0_t1_loop.trips) : Fin 2 → Nat :=
  let c96 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v811 : Index := Scalar.indexCast v193
  ![96, v811.toNat]
def k0_off109 (k0_t1 : Fin k0_t1_loop.trips) : Fin 2 → Nat :=
  let c104 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v813 : Index := Scalar.indexCast v193
  ![104, v813.toNat]
def k0_off110 (k0_t1 : Fin k0_t1_loop.trips) : Fin 2 → Nat :=
  let c112 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v815 : Index := Scalar.indexCast v193
  ![112, v815.toNat]
def k0_off111 (k0_t1 : Fin k0_t1_loop.trips) : Fin 2 → Nat :=
  let c120 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v817 : Index := Scalar.indexCast v193
  ![120, v817.toNat]
def k0_off112 (k0_t1 : Fin k0_t1_loop.trips) : Fin 2 → Nat :=
  let c0_290 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v819 : Index := Scalar.indexCast v193
  ![0, v819.toNat]
def k0_off113 (k0_t1 : Fin k0_t1_loop.trips) : Fin 2 → Nat :=
  let c8_291 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v823 : Index := Scalar.indexCast v193
  ![8, v823.toNat]
def k0_off114 (k0_t1 : Fin k0_t1_loop.trips) : Fin 2 → Nat :=
  let c16_292 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v829 : Index := Scalar.indexCast v193
  ![16, v829.toNat]
def k0_off115 (k0_t1 : Fin k0_t1_loop.trips) : Fin 2 → Nat :=
  let c24_293 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v837 : Index := Scalar.indexCast v193
  ![24, v837.toNat]
def k0_off116 (k0_t1 : Fin k0_t1_loop.trips) : Fin 2 → Nat :=
  let c32_294 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v847 : Index := Scalar.indexCast v193
  ![32, v847.toNat]
def k0_off117 (k0_t1 : Fin k0_t1_loop.trips) : Fin 2 → Nat :=
  let c40_295 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v857 : Index := Scalar.indexCast v193
  ![40, v857.toNat]
def k0_off118 (k0_t1 : Fin k0_t1_loop.trips) : Fin 2 → Nat :=
  let c48_296 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v867 : Index := Scalar.indexCast v193
  ![48, v867.toNat]
def k0_off119 (k0_t1 : Fin k0_t1_loop.trips) : Fin 2 → Nat :=
  let c56_297 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v877 : Index := Scalar.indexCast v193
  ![56, v877.toNat]
def k0_off120 (k0_t1 : Fin k0_t1_loop.trips) : Fin 2 → Nat :=
  let c64_298 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v887 : Index := Scalar.indexCast v193
  ![64, v887.toNat]
def k0_off121 (k0_t1 : Fin k0_t1_loop.trips) : Fin 2 → Nat :=
  let c72_299 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v897 : Index := Scalar.indexCast v193
  ![72, v897.toNat]
def k0_off122 (k0_t1 : Fin k0_t1_loop.trips) : Fin 2 → Nat :=
  let c80_300 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v907 : Index := Scalar.indexCast v193
  ![80, v907.toNat]
def k0_off123 (k0_t1 : Fin k0_t1_loop.trips) : Fin 2 → Nat :=
  let c88_301 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v917 : Index := Scalar.indexCast v193
  ![88, v917.toNat]
def k0_off124 (k0_t1 : Fin k0_t1_loop.trips) : Fin 2 → Nat :=
  let c96_302 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v927 : Index := Scalar.indexCast v193
  ![96, v927.toNat]
def k0_off125 (k0_t1 : Fin k0_t1_loop.trips) : Fin 2 → Nat :=
  let c104_303 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v937 : Index := Scalar.indexCast v193
  ![104, v937.toNat]
def k0_off126 (k0_t1 : Fin k0_t1_loop.trips) : Fin 2 → Nat :=
  let c112_304 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v947 : Index := Scalar.indexCast v193
  ![112, v947.toNat]
def k0_off127 (k0_t1 : Fin k0_t1_loop.trips) : Fin 2 → Nat :=
  let c120_305 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v957 : Index := Scalar.indexCast v193
  ![120, v957.toNat]
def k0_off128 (k0_t1 : Fin k0_t1_loop.trips) : Fin 2 → Nat :=
  let c128_306 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v967 : Index := Scalar.indexCast v193
  ![128, v967.toNat]
def k0_off129 (k0_t1 : Fin k0_t1_loop.trips) : Fin 2 → Nat :=
  let c136_307 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v975 : Index := Scalar.indexCast v193
  ![136, v975.toNat]
def k0_off130 (k0_t1 : Fin k0_t1_loop.trips) : Fin 2 → Nat :=
  let c144_308 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v981 : Index := Scalar.indexCast v193
  ![144, v981.toNat]
def k0_off131 (k0_t1 : Fin k0_t1_loop.trips) : Fin 3 → Nat :=
  let c0_309 : Index := 0#32
  let c0_310 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v985 : Index := Scalar.indexCast v193
  ![0, 0, v985.toNat]
def k0_off132 (k0_t1 : Fin k0_t1_loop.trips) : Fin 3 → Nat :=
  let c0_311 : Index := 0#32
  let c8_312 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v990 : Index := Scalar.indexCast v193
  ![0, 8, v990.toNat]
def k0_off133 (k0_t1 : Fin k0_t1_loop.trips) : Fin 3 → Nat :=
  let c0_313 : Index := 0#32
  let c16_314 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v997 : Index := Scalar.indexCast v193
  ![0, 16, v997.toNat]
def k0_off134 (k0_t1 : Fin k0_t1_loop.trips) : Fin 3 → Nat :=
  let c0_315 : Index := 0#32
  let c24_316 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1006 : Index := Scalar.indexCast v193
  ![0, 24, v1006.toNat]
def k0_off135 (k0_t1 : Fin k0_t1_loop.trips) : Fin 3 → Nat :=
  let c0_317 : Index := 0#32
  let c32_318 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1017 : Index := Scalar.indexCast v193
  ![0, 32, v1017.toNat]
def k0_off136 (k0_t1 : Fin k0_t1_loop.trips) : Fin 3 → Nat :=
  let c0_319 : Index := 0#32
  let c40_320 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1028 : Index := Scalar.indexCast v193
  ![0, 40, v1028.toNat]
def k0_off137 (k0_t1 : Fin k0_t1_loop.trips) : Fin 3 → Nat :=
  let c0_321 : Index := 0#32
  let c48_322 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1039 : Index := Scalar.indexCast v193
  ![0, 48, v1039.toNat]
def k0_off138 (k0_t1 : Fin k0_t1_loop.trips) : Fin 3 → Nat :=
  let c0_323 : Index := 0#32
  let c56_324 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1050 : Index := Scalar.indexCast v193
  ![0, 56, v1050.toNat]
def k0_off139 (k0_t1 : Fin k0_t1_loop.trips) : Fin 3 → Nat :=
  let c0_325 : Index := 0#32
  let c64_326 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1061 : Index := Scalar.indexCast v193
  ![0, 64, v1061.toNat]
def k0_off140 (k0_t1 : Fin k0_t1_loop.trips) : Fin 3 → Nat :=
  let c0_327 : Index := 0#32
  let c72_328 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1072 : Index := Scalar.indexCast v193
  ![0, 72, v1072.toNat]
def k0_off141 (k0_t1 : Fin k0_t1_loop.trips) : Fin 3 → Nat :=
  let c0_329 : Index := 0#32
  let c80_330 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1083 : Index := Scalar.indexCast v193
  ![0, 80, v1083.toNat]
def k0_off142 (k0_t1 : Fin k0_t1_loop.trips) : Fin 3 → Nat :=
  let c0_331 : Index := 0#32
  let c88_332 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1094 : Index := Scalar.indexCast v193
  ![0, 88, v1094.toNat]
def k0_off143 (k0_t1 : Fin k0_t1_loop.trips) : Fin 3 → Nat :=
  let c0_333 : Index := 0#32
  let c96_334 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1105 : Index := Scalar.indexCast v193
  ![0, 96, v1105.toNat]
def k0_off144 (k0_t1 : Fin k0_t1_loop.trips) : Fin 3 → Nat :=
  let c0_335 : Index := 0#32
  let c104_336 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1116 : Index := Scalar.indexCast v193
  ![0, 104, v1116.toNat]
def k0_off145 (k0_t1 : Fin k0_t1_loop.trips) : Fin 3 → Nat :=
  let c0_337 : Index := 0#32
  let c112_338 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1127 : Index := Scalar.indexCast v193
  ![0, 112, v1127.toNat]
def k0_off146 (k0_t1 : Fin k0_t1_loop.trips) : Fin 3 → Nat :=
  let c0_339 : Index := 0#32
  let c120_340 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1138 : Index := Scalar.indexCast v193
  ![0, 120, v1138.toNat]
def k0_off147 (k0_t1 : Fin k0_t1_loop.trips) : Fin 3 → Nat :=
  let c0_341 : Index := 0#32
  let c128_342 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1149 : Index := Scalar.indexCast v193
  ![0, 128, v1149.toNat]
def k0_off148 (k0_t1 : Fin k0_t1_loop.trips) : Fin 3 → Nat :=
  let c0_343 : Index := 0#32
  let c136_344 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1158 : Index := Scalar.indexCast v193
  ![0, 136, v1158.toNat]
def k0_off149 (k0_t1 : Fin k0_t1_loop.trips) : Fin 3 → Nat :=
  let c0_345 : Index := 0#32
  let c144_346 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1165 : Index := Scalar.indexCast v193
  ![0, 144, v1165.toNat]
def k0_off150 (k0_t1 : Fin k0_t1_loop.trips) : Fin 3 → Nat :=
  let c1_347 : Index := 1#32
  let c0_348 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1170 : Index := Scalar.indexCast v193
  ![1, 0, v1170.toNat]
def k0_off151 (k0_t1 : Fin k0_t1_loop.trips) : Fin 3 → Nat :=
  let c1_349 : Index := 1#32
  let c8_350 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1175 : Index := Scalar.indexCast v193
  ![1, 8, v1175.toNat]
def k0_off152 (k0_t1 : Fin k0_t1_loop.trips) : Fin 3 → Nat :=
  let c1_351 : Index := 1#32
  let c16_352 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1182 : Index := Scalar.indexCast v193
  ![1, 16, v1182.toNat]
def k0_off153 (k0_t1 : Fin k0_t1_loop.trips) : Fin 3 → Nat :=
  let c1_353 : Index := 1#32
  let c24_354 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1191 : Index := Scalar.indexCast v193
  ![1, 24, v1191.toNat]
def k0_off154 (k0_t1 : Fin k0_t1_loop.trips) : Fin 3 → Nat :=
  let c1_355 : Index := 1#32
  let c32_356 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1202 : Index := Scalar.indexCast v193
  ![1, 32, v1202.toNat]
def k0_off155 (k0_t1 : Fin k0_t1_loop.trips) : Fin 3 → Nat :=
  let c1_357 : Index := 1#32
  let c40_358 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1213 : Index := Scalar.indexCast v193
  ![1, 40, v1213.toNat]
def k0_off156 (k0_t1 : Fin k0_t1_loop.trips) : Fin 3 → Nat :=
  let c1_359 : Index := 1#32
  let c48_360 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1224 : Index := Scalar.indexCast v193
  ![1, 48, v1224.toNat]
def k0_off157 (k0_t1 : Fin k0_t1_loop.trips) : Fin 3 → Nat :=
  let c1_361 : Index := 1#32
  let c56_362 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1235 : Index := Scalar.indexCast v193
  ![1, 56, v1235.toNat]
def k0_off158 (k0_t1 : Fin k0_t1_loop.trips) : Fin 3 → Nat :=
  let c1_363 : Index := 1#32
  let c64_364 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1246 : Index := Scalar.indexCast v193
  ![1, 64, v1246.toNat]
def k0_off159 (k0_t1 : Fin k0_t1_loop.trips) : Fin 3 → Nat :=
  let c1_365 : Index := 1#32
  let c72_366 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1257 : Index := Scalar.indexCast v193
  ![1, 72, v1257.toNat]
def k0_off160 (k0_t1 : Fin k0_t1_loop.trips) : Fin 3 → Nat :=
  let c1_367 : Index := 1#32
  let c80_368 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1268 : Index := Scalar.indexCast v193
  ![1, 80, v1268.toNat]
def k0_off161 (k0_t1 : Fin k0_t1_loop.trips) : Fin 3 → Nat :=
  let c1_369 : Index := 1#32
  let c88_370 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1279 : Index := Scalar.indexCast v193
  ![1, 88, v1279.toNat]
def k0_off162 (k0_t1 : Fin k0_t1_loop.trips) : Fin 3 → Nat :=
  let c1_371 : Index := 1#32
  let c96_372 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1290 : Index := Scalar.indexCast v193
  ![1, 96, v1290.toNat]
def k0_off163 (k0_t1 : Fin k0_t1_loop.trips) : Fin 3 → Nat :=
  let c1_373 : Index := 1#32
  let c104_374 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1301 : Index := Scalar.indexCast v193
  ![1, 104, v1301.toNat]
def k0_off164 (k0_t1 : Fin k0_t1_loop.trips) : Fin 3 → Nat :=
  let c1_375 : Index := 1#32
  let c112_376 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1312 : Index := Scalar.indexCast v193
  ![1, 112, v1312.toNat]
def k0_off165 (k0_t1 : Fin k0_t1_loop.trips) : Fin 3 → Nat :=
  let c1_377 : Index := 1#32
  let c120_378 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1323 : Index := Scalar.indexCast v193
  ![1, 120, v1323.toNat]
def k0_off166 (k0_t1 : Fin k0_t1_loop.trips) : Fin 3 → Nat :=
  let c1_379 : Index := 1#32
  let c128_380 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1334 : Index := Scalar.indexCast v193
  ![1, 128, v1334.toNat]
def k0_off167 (k0_t1 : Fin k0_t1_loop.trips) : Fin 3 → Nat :=
  let c1_381 : Index := 1#32
  let c136_382 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1343 : Index := Scalar.indexCast v193
  ![1, 136, v1343.toNat]
def k0_off168 (k0_t1 : Fin k0_t1_loop.trips) : Fin 3 → Nat :=
  let c1_383 : Index := 1#32
  let c144_384 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1350 : Index := Scalar.indexCast v193
  ![1, 144, v1350.toNat]
def k0_off169 (k0_t1 : Fin k0_t1_loop.trips) : Fin 3 → Nat :=
  let c2_385 : Index := 2#32
  let c0_386 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1355 : Index := Scalar.indexCast v193
  ![2, 0, v1355.toNat]
def k0_off170 (k0_t1 : Fin k0_t1_loop.trips) : Fin 3 → Nat :=
  let c2_387 : Index := 2#32
  let c8_388 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1360 : Index := Scalar.indexCast v193
  ![2, 8, v1360.toNat]
def k0_off171 (k0_t1 : Fin k0_t1_loop.trips) : Fin 3 → Nat :=
  let c2_389 : Index := 2#32
  let c16_390 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1367 : Index := Scalar.indexCast v193
  ![2, 16, v1367.toNat]
def k0_off172 (k0_t1 : Fin k0_t1_loop.trips) : Fin 3 → Nat :=
  let c2_391 : Index := 2#32
  let c24_392 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1376 : Index := Scalar.indexCast v193
  ![2, 24, v1376.toNat]
def k0_off173 (k0_t1 : Fin k0_t1_loop.trips) : Fin 3 → Nat :=
  let c2_393 : Index := 2#32
  let c32_394 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1387 : Index := Scalar.indexCast v193
  ![2, 32, v1387.toNat]
def k0_off174 (k0_t1 : Fin k0_t1_loop.trips) : Fin 3 → Nat :=
  let c2_395 : Index := 2#32
  let c40_396 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1398 : Index := Scalar.indexCast v193
  ![2, 40, v1398.toNat]
def k0_off175 (k0_t1 : Fin k0_t1_loop.trips) : Fin 3 → Nat :=
  let c2_397 : Index := 2#32
  let c48_398 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1409 : Index := Scalar.indexCast v193
  ![2, 48, v1409.toNat]
def k0_off176 (k0_t1 : Fin k0_t1_loop.trips) : Fin 3 → Nat :=
  let c2_399 : Index := 2#32
  let c56_400 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1420 : Index := Scalar.indexCast v193
  ![2, 56, v1420.toNat]
def k0_off177 (k0_t1 : Fin k0_t1_loop.trips) : Fin 3 → Nat :=
  let c2_401 : Index := 2#32
  let c64_402 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1431 : Index := Scalar.indexCast v193
  ![2, 64, v1431.toNat]
def k0_off178 (k0_t1 : Fin k0_t1_loop.trips) : Fin 3 → Nat :=
  let c2_403 : Index := 2#32
  let c72_404 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1442 : Index := Scalar.indexCast v193
  ![2, 72, v1442.toNat]
def k0_off179 (k0_t1 : Fin k0_t1_loop.trips) : Fin 3 → Nat :=
  let c2_405 : Index := 2#32
  let c80_406 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1453 : Index := Scalar.indexCast v193
  ![2, 80, v1453.toNat]
def k0_off180 (k0_t1 : Fin k0_t1_loop.trips) : Fin 3 → Nat :=
  let c2_407 : Index := 2#32
  let c88_408 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1464 : Index := Scalar.indexCast v193
  ![2, 88, v1464.toNat]
def k0_off181 (k0_t1 : Fin k0_t1_loop.trips) : Fin 3 → Nat :=
  let c2_409 : Index := 2#32
  let c96_410 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1475 : Index := Scalar.indexCast v193
  ![2, 96, v1475.toNat]
def k0_off182 (k0_t1 : Fin k0_t1_loop.trips) : Fin 3 → Nat :=
  let c2_411 : Index := 2#32
  let c104_412 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1486 : Index := Scalar.indexCast v193
  ![2, 104, v1486.toNat]
def k0_off183 (k0_t1 : Fin k0_t1_loop.trips) : Fin 3 → Nat :=
  let c2_413 : Index := 2#32
  let c112_414 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1497 : Index := Scalar.indexCast v193
  ![2, 112, v1497.toNat]
def k0_off184 (k0_t1 : Fin k0_t1_loop.trips) : Fin 3 → Nat :=
  let c2_415 : Index := 2#32
  let c120_416 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1508 : Index := Scalar.indexCast v193
  ![2, 120, v1508.toNat]
def k0_off185 (k0_t1 : Fin k0_t1_loop.trips) : Fin 3 → Nat :=
  let c2_417 : Index := 2#32
  let c128_418 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1519 : Index := Scalar.indexCast v193
  ![2, 128, v1519.toNat]
def k0_off186 (k0_t1 : Fin k0_t1_loop.trips) : Fin 3 → Nat :=
  let c2_419 : Index := 2#32
  let c136_420 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1528 : Index := Scalar.indexCast v193
  ![2, 136, v1528.toNat]
def k0_off187 (k0_t1 : Fin k0_t1_loop.trips) : Fin 3 → Nat :=
  let c2_421 : Index := 2#32
  let c144_422 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1535 : Index := Scalar.indexCast v193
  ![2, 144, v1535.toNat]
def k0_off188 (k0_t1 : Fin k0_t1_loop.trips) : Fin 3 → Nat :=
  let c3_423 : Index := 3#32
  let c0_424 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1540 : Index := Scalar.indexCast v193
  ![3, 0, v1540.toNat]
def k0_off189 (k0_t1 : Fin k0_t1_loop.trips) : Fin 3 → Nat :=
  let c3_425 : Index := 3#32
  let c8_426 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1545 : Index := Scalar.indexCast v193
  ![3, 8, v1545.toNat]
def k0_off190 (k0_t1 : Fin k0_t1_loop.trips) : Fin 3 → Nat :=
  let c3_427 : Index := 3#32
  let c16_428 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1552 : Index := Scalar.indexCast v193
  ![3, 16, v1552.toNat]
def k0_off191 (k0_t1 : Fin k0_t1_loop.trips) : Fin 3 → Nat :=
  let c3_429 : Index := 3#32
  let c24_430 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1561 : Index := Scalar.indexCast v193
  ![3, 24, v1561.toNat]
def k0_off192 (k0_t1 : Fin k0_t1_loop.trips) : Fin 3 → Nat :=
  let c3_431 : Index := 3#32
  let c32_432 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1572 : Index := Scalar.indexCast v193
  ![3, 32, v1572.toNat]
def k0_off193 (k0_t1 : Fin k0_t1_loop.trips) : Fin 3 → Nat :=
  let c3_433 : Index := 3#32
  let c40_434 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1583 : Index := Scalar.indexCast v193
  ![3, 40, v1583.toNat]
def k0_off194 (k0_t1 : Fin k0_t1_loop.trips) : Fin 3 → Nat :=
  let c3_435 : Index := 3#32
  let c48_436 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1594 : Index := Scalar.indexCast v193
  ![3, 48, v1594.toNat]
def k0_off195 (k0_t1 : Fin k0_t1_loop.trips) : Fin 3 → Nat :=
  let c3_437 : Index := 3#32
  let c56_438 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1605 : Index := Scalar.indexCast v193
  ![3, 56, v1605.toNat]
def k0_off196 (k0_t1 : Fin k0_t1_loop.trips) : Fin 3 → Nat :=
  let c3_439 : Index := 3#32
  let c64_440 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1616 : Index := Scalar.indexCast v193
  ![3, 64, v1616.toNat]
def k0_off197 (k0_t1 : Fin k0_t1_loop.trips) : Fin 3 → Nat :=
  let c3_441 : Index := 3#32
  let c72_442 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1627 : Index := Scalar.indexCast v193
  ![3, 72, v1627.toNat]
def k0_off198 (k0_t1 : Fin k0_t1_loop.trips) : Fin 3 → Nat :=
  let c3_443 : Index := 3#32
  let c80_444 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1638 : Index := Scalar.indexCast v193
  ![3, 80, v1638.toNat]
def k0_off199 (k0_t1 : Fin k0_t1_loop.trips) : Fin 3 → Nat :=
  let c3_445 : Index := 3#32
  let c88_446 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1649 : Index := Scalar.indexCast v193
  ![3, 88, v1649.toNat]
def k0_off200 (k0_t1 : Fin k0_t1_loop.trips) : Fin 3 → Nat :=
  let c3_447 : Index := 3#32
  let c96_448 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1660 : Index := Scalar.indexCast v193
  ![3, 96, v1660.toNat]
def k0_off201 (k0_t1 : Fin k0_t1_loop.trips) : Fin 3 → Nat :=
  let c3_449 : Index := 3#32
  let c104_450 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1671 : Index := Scalar.indexCast v193
  ![3, 104, v1671.toNat]
def k0_off202 (k0_t1 : Fin k0_t1_loop.trips) : Fin 3 → Nat :=
  let c3_451 : Index := 3#32
  let c112_452 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1682 : Index := Scalar.indexCast v193
  ![3, 112, v1682.toNat]
def k0_off203 (k0_t1 : Fin k0_t1_loop.trips) : Fin 3 → Nat :=
  let c3_453 : Index := 3#32
  let c120_454 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1693 : Index := Scalar.indexCast v193
  ![3, 120, v1693.toNat]
def k0_off204 (k0_t1 : Fin k0_t1_loop.trips) : Fin 3 → Nat :=
  let c3_455 : Index := 3#32
  let c128_456 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1704 : Index := Scalar.indexCast v193
  ![3, 128, v1704.toNat]
def k0_off205 (k0_t1 : Fin k0_t1_loop.trips) : Fin 3 → Nat :=
  let c3_457 : Index := 3#32
  let c136_458 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1713 : Index := Scalar.indexCast v193
  ![3, 136, v1713.toNat]
def k0_off206 (k0_t1 : Fin k0_t1_loop.trips) : Fin 3 → Nat :=
  let c3_459 : Index := 3#32
  let c144_460 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1720 : Index := Scalar.indexCast v193
  ![3, 144, v1720.toNat]
def k0_off207 (k0_t1 : Fin k0_t1_loop.trips) : Fin 3 → Nat :=
  let c4_461 : Index := 4#32
  let c0_462 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1725 : Index := Scalar.indexCast v193
  ![4, 0, v1725.toNat]
def k0_off208 (k0_t1 : Fin k0_t1_loop.trips) : Fin 3 → Nat :=
  let c4_463 : Index := 4#32
  let c8_464 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1730 : Index := Scalar.indexCast v193
  ![4, 8, v1730.toNat]
def k0_off209 (k0_t1 : Fin k0_t1_loop.trips) : Fin 3 → Nat :=
  let c4_465 : Index := 4#32
  let c16_466 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1737 : Index := Scalar.indexCast v193
  ![4, 16, v1737.toNat]
def k0_off210 (k0_t1 : Fin k0_t1_loop.trips) : Fin 3 → Nat :=
  let c4_467 : Index := 4#32
  let c24_468 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1746 : Index := Scalar.indexCast v193
  ![4, 24, v1746.toNat]
def k0_off211 (k0_t1 : Fin k0_t1_loop.trips) : Fin 3 → Nat :=
  let c4_469 : Index := 4#32
  let c32_470 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1757 : Index := Scalar.indexCast v193
  ![4, 32, v1757.toNat]
def k0_off212 (k0_t1 : Fin k0_t1_loop.trips) : Fin 3 → Nat :=
  let c4_471 : Index := 4#32
  let c40_472 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1768 : Index := Scalar.indexCast v193
  ![4, 40, v1768.toNat]
def k0_off213 (k0_t1 : Fin k0_t1_loop.trips) : Fin 3 → Nat :=
  let c4_473 : Index := 4#32
  let c48_474 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1779 : Index := Scalar.indexCast v193
  ![4, 48, v1779.toNat]
def k0_off214 (k0_t1 : Fin k0_t1_loop.trips) : Fin 3 → Nat :=
  let c4_475 : Index := 4#32
  let c56_476 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1790 : Index := Scalar.indexCast v193
  ![4, 56, v1790.toNat]
def k0_off215 (k0_t1 : Fin k0_t1_loop.trips) : Fin 3 → Nat :=
  let c4_477 : Index := 4#32
  let c64_478 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1801 : Index := Scalar.indexCast v193
  ![4, 64, v1801.toNat]
def k0_off216 (k0_t1 : Fin k0_t1_loop.trips) : Fin 3 → Nat :=
  let c4_479 : Index := 4#32
  let c72_480 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1812 : Index := Scalar.indexCast v193
  ![4, 72, v1812.toNat]
def k0_off217 (k0_t1 : Fin k0_t1_loop.trips) : Fin 3 → Nat :=
  let c4_481 : Index := 4#32
  let c80_482 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1823 : Index := Scalar.indexCast v193
  ![4, 80, v1823.toNat]
def k0_off218 (k0_t1 : Fin k0_t1_loop.trips) : Fin 3 → Nat :=
  let c4_483 : Index := 4#32
  let c88_484 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1834 : Index := Scalar.indexCast v193
  ![4, 88, v1834.toNat]
def k0_off219 (k0_t1 : Fin k0_t1_loop.trips) : Fin 3 → Nat :=
  let c4_485 : Index := 4#32
  let c96_486 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1845 : Index := Scalar.indexCast v193
  ![4, 96, v1845.toNat]
def k0_off220 (k0_t1 : Fin k0_t1_loop.trips) : Fin 3 → Nat :=
  let c4_487 : Index := 4#32
  let c104_488 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1856 : Index := Scalar.indexCast v193
  ![4, 104, v1856.toNat]
def k0_off221 (k0_t1 : Fin k0_t1_loop.trips) : Fin 3 → Nat :=
  let c4_489 : Index := 4#32
  let c112_490 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1867 : Index := Scalar.indexCast v193
  ![4, 112, v1867.toNat]
def k0_off222 (k0_t1 : Fin k0_t1_loop.trips) : Fin 3 → Nat :=
  let c4_491 : Index := 4#32
  let c120_492 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1878 : Index := Scalar.indexCast v193
  ![4, 120, v1878.toNat]
def k0_off223 (k0_t1 : Fin k0_t1_loop.trips) : Fin 3 → Nat :=
  let c4_493 : Index := 4#32
  let c128_494 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1889 : Index := Scalar.indexCast v193
  ![4, 128, v1889.toNat]
def k0_off224 (k0_t1 : Fin k0_t1_loop.trips) : Fin 3 → Nat :=
  let c4_495 : Index := 4#32
  let c136_496 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1898 : Index := Scalar.indexCast v193
  ![4, 136, v1898.toNat]
def k0_off225 (k0_t1 : Fin k0_t1_loop.trips) : Fin 3 → Nat :=
  let c4_497 : Index := 4#32
  let c144_498 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1905 : Index := Scalar.indexCast v193
  ![4, 144, v1905.toNat]
def k0_off226 (k0_t1 : Fin k0_t1_loop.trips) : Fin 3 → Nat :=
  let c5_499 : Index := 5#32
  let c0_500 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1910 : Index := Scalar.indexCast v193
  ![5, 0, v1910.toNat]
def k0_off227 (k0_t1 : Fin k0_t1_loop.trips) : Fin 3 → Nat :=
  let c5_501 : Index := 5#32
  let c8_502 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1915 : Index := Scalar.indexCast v193
  ![5, 8, v1915.toNat]
def k0_off228 (k0_t1 : Fin k0_t1_loop.trips) : Fin 3 → Nat :=
  let c5_503 : Index := 5#32
  let c16_504 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1922 : Index := Scalar.indexCast v193
  ![5, 16, v1922.toNat]
def k0_off229 (k0_t1 : Fin k0_t1_loop.trips) : Fin 3 → Nat :=
  let c5_505 : Index := 5#32
  let c24_506 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1931 : Index := Scalar.indexCast v193
  ![5, 24, v1931.toNat]
def k0_off230 (k0_t1 : Fin k0_t1_loop.trips) : Fin 3 → Nat :=
  let c5_507 : Index := 5#32
  let c32_508 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1942 : Index := Scalar.indexCast v193
  ![5, 32, v1942.toNat]
def k0_off231 (k0_t1 : Fin k0_t1_loop.trips) : Fin 3 → Nat :=
  let c5_509 : Index := 5#32
  let c40_510 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1953 : Index := Scalar.indexCast v193
  ![5, 40, v1953.toNat]
def k0_off232 (k0_t1 : Fin k0_t1_loop.trips) : Fin 3 → Nat :=
  let c5_511 : Index := 5#32
  let c48_512 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1964 : Index := Scalar.indexCast v193
  ![5, 48, v1964.toNat]
def k0_off233 (k0_t1 : Fin k0_t1_loop.trips) : Fin 3 → Nat :=
  let c5_513 : Index := 5#32
  let c56_514 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1975 : Index := Scalar.indexCast v193
  ![5, 56, v1975.toNat]
def k0_off234 (k0_t1 : Fin k0_t1_loop.trips) : Fin 3 → Nat :=
  let c5_515 : Index := 5#32
  let c64_516 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1986 : Index := Scalar.indexCast v193
  ![5, 64, v1986.toNat]
def k0_off235 (k0_t1 : Fin k0_t1_loop.trips) : Fin 3 → Nat :=
  let c5_517 : Index := 5#32
  let c72_518 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v1997 : Index := Scalar.indexCast v193
  ![5, 72, v1997.toNat]
def k0_off236 (k0_t1 : Fin k0_t1_loop.trips) : Fin 3 → Nat :=
  let c5_519 : Index := 5#32
  let c80_520 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2008 : Index := Scalar.indexCast v193
  ![5, 80, v2008.toNat]
def k0_off237 (k0_t1 : Fin k0_t1_loop.trips) : Fin 3 → Nat :=
  let c5_521 : Index := 5#32
  let c88_522 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2019 : Index := Scalar.indexCast v193
  ![5, 88, v2019.toNat]
def k0_off238 (k0_t1 : Fin k0_t1_loop.trips) : Fin 3 → Nat :=
  let c5_523 : Index := 5#32
  let c96_524 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2030 : Index := Scalar.indexCast v193
  ![5, 96, v2030.toNat]
def k0_off239 (k0_t1 : Fin k0_t1_loop.trips) : Fin 3 → Nat :=
  let c5_525 : Index := 5#32
  let c104_526 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2041 : Index := Scalar.indexCast v193
  ![5, 104, v2041.toNat]
def k0_off240 (k0_t1 : Fin k0_t1_loop.trips) : Fin 3 → Nat :=
  let c5_527 : Index := 5#32
  let c112_528 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2052 : Index := Scalar.indexCast v193
  ![5, 112, v2052.toNat]
def k0_off241 (k0_t1 : Fin k0_t1_loop.trips) : Fin 3 → Nat :=
  let c5_529 : Index := 5#32
  let c120_530 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2063 : Index := Scalar.indexCast v193
  ![5, 120, v2063.toNat]
def k0_off242 (k0_t1 : Fin k0_t1_loop.trips) : Fin 3 → Nat :=
  let c5_531 : Index := 5#32
  let c128_532 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2074 : Index := Scalar.indexCast v193
  ![5, 128, v2074.toNat]
def k0_off243 (k0_t1 : Fin k0_t1_loop.trips) : Fin 3 → Nat :=
  let c5_533 : Index := 5#32
  let c136_534 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2083 : Index := Scalar.indexCast v193
  ![5, 136, v2083.toNat]
def k0_off244 (k0_t1 : Fin k0_t1_loop.trips) : Fin 3 → Nat :=
  let c5_535 : Index := 5#32
  let c144_536 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2090 : Index := Scalar.indexCast v193
  ![5, 144, v2090.toNat]
def k0_off245 (k0_t1 : Fin k0_t1_loop.trips) : Fin 3 → Nat :=
  let c6_537 : Index := 6#32
  let c0_538 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2095 : Index := Scalar.indexCast v193
  ![6, 0, v2095.toNat]
def k0_off246 (k0_t1 : Fin k0_t1_loop.trips) : Fin 3 → Nat :=
  let c6_539 : Index := 6#32
  let c8_540 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2100 : Index := Scalar.indexCast v193
  ![6, 8, v2100.toNat]
def k0_off247 (k0_t1 : Fin k0_t1_loop.trips) : Fin 3 → Nat :=
  let c6_541 : Index := 6#32
  let c16_542 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2107 : Index := Scalar.indexCast v193
  ![6, 16, v2107.toNat]
def k0_off248 (k0_t1 : Fin k0_t1_loop.trips) : Fin 3 → Nat :=
  let c6_543 : Index := 6#32
  let c24_544 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2116 : Index := Scalar.indexCast v193
  ![6, 24, v2116.toNat]
def k0_off249 (k0_t1 : Fin k0_t1_loop.trips) : Fin 3 → Nat :=
  let c6_545 : Index := 6#32
  let c32_546 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2125 : Index := Scalar.indexCast v193
  ![6, 32, v2125.toNat]
def k0_off250 (k0_t1 : Fin k0_t1_loop.trips) : Fin 3 → Nat :=
  let c6_547 : Index := 6#32
  let c40_548 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2134 : Index := Scalar.indexCast v193
  ![6, 40, v2134.toNat]
def k0_off251 (k0_t1 : Fin k0_t1_loop.trips) : Fin 3 → Nat :=
  let c6_549 : Index := 6#32
  let c48_550 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2143 : Index := Scalar.indexCast v193
  ![6, 48, v2143.toNat]
def k0_off252 (k0_t1 : Fin k0_t1_loop.trips) : Fin 3 → Nat :=
  let c6_551 : Index := 6#32
  let c56_552 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2152 : Index := Scalar.indexCast v193
  ![6, 56, v2152.toNat]
def k0_off253 (k0_t1 : Fin k0_t1_loop.trips) : Fin 3 → Nat :=
  let c6_553 : Index := 6#32
  let c64_554 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2161 : Index := Scalar.indexCast v193
  ![6, 64, v2161.toNat]
def k0_off254 (k0_t1 : Fin k0_t1_loop.trips) : Fin 3 → Nat :=
  let c6_555 : Index := 6#32
  let c72_556 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2170 : Index := Scalar.indexCast v193
  ![6, 72, v2170.toNat]
def k0_off255 (k0_t1 : Fin k0_t1_loop.trips) : Fin 3 → Nat :=
  let c6_557 : Index := 6#32
  let c80_558 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2179 : Index := Scalar.indexCast v193
  ![6, 80, v2179.toNat]
def k0_off256 (k0_t1 : Fin k0_t1_loop.trips) : Fin 3 → Nat :=
  let c6_559 : Index := 6#32
  let c88_560 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2188 : Index := Scalar.indexCast v193
  ![6, 88, v2188.toNat]
def k0_off257 (k0_t1 : Fin k0_t1_loop.trips) : Fin 3 → Nat :=
  let c6_561 : Index := 6#32
  let c96_562 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2197 : Index := Scalar.indexCast v193
  ![6, 96, v2197.toNat]
def k0_off258 (k0_t1 : Fin k0_t1_loop.trips) : Fin 3 → Nat :=
  let c6_563 : Index := 6#32
  let c104_564 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2206 : Index := Scalar.indexCast v193
  ![6, 104, v2206.toNat]
def k0_off259 (k0_t1 : Fin k0_t1_loop.trips) : Fin 3 → Nat :=
  let c6_565 : Index := 6#32
  let c112_566 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2215 : Index := Scalar.indexCast v193
  ![6, 112, v2215.toNat]
def k0_off260 (k0_t1 : Fin k0_t1_loop.trips) : Fin 3 → Nat :=
  let c6_567 : Index := 6#32
  let c120_568 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2224 : Index := Scalar.indexCast v193
  ![6, 120, v2224.toNat]
def k0_off261 (k0_t1 : Fin k0_t1_loop.trips) : Fin 3 → Nat :=
  let c6_569 : Index := 6#32
  let c128_570 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2233 : Index := Scalar.indexCast v193
  ![6, 128, v2233.toNat]
def k0_off262 (k0_t1 : Fin k0_t1_loop.trips) : Fin 3 → Nat :=
  let c6_571 : Index := 6#32
  let c136_572 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2240 : Index := Scalar.indexCast v193
  ![6, 136, v2240.toNat]
def k0_off263 (k0_t1 : Fin k0_t1_loop.trips) : Fin 2 → Nat :=
  let c128_573 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2245 : Index := Scalar.indexCast v193
  ![128, v2245.toNat]
def k0_off264 (k0_t1 : Fin k0_t1_loop.trips) : Fin 2 → Nat :=
  let c136_574 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2247 : Index := Scalar.indexCast v193
  ![136, v2247.toNat]
def k0_off265 (k0_t1 : Fin k0_t1_loop.trips) : Fin 2 → Nat :=
  let c144_575 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2249 : Index := Scalar.indexCast v193
  ![144, v2249.toNat]
def k0_off266 (k0_t1 : Fin k0_t1_loop.trips) : Fin 2 → Nat :=
  let c152_576 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2251 : Index := Scalar.indexCast v193
  ![152, v2251.toNat]
def k0_off267 (k0_t1 : Fin k0_t1_loop.trips) : Fin 2 → Nat :=
  let c160 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2253 : Index := Scalar.indexCast v193
  ![160, v2253.toNat]
def k0_off268 (k0_t1 : Fin k0_t1_loop.trips) : Fin 2 → Nat :=
  let c168 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2255 : Index := Scalar.indexCast v193
  ![168, v2255.toNat]
def k0_off269 (k0_t1 : Fin k0_t1_loop.trips) : Fin 2 → Nat :=
  let c176 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2257 : Index := Scalar.indexCast v193
  ![176, v2257.toNat]
def k0_off270 (k0_t1 : Fin k0_t1_loop.trips) : Fin 2 → Nat :=
  let c184 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2259 : Index := Scalar.indexCast v193
  ![184, v2259.toNat]
def k0_off271 (k0_t1 : Fin k0_t1_loop.trips) : Fin 2 → Nat :=
  let c192 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2261 : Index := Scalar.indexCast v193
  ![192, v2261.toNat]
def k0_off272 (k0_t1 : Fin k0_t1_loop.trips) : Fin 2 → Nat :=
  let c200 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2263 : Index := Scalar.indexCast v193
  ![200, v2263.toNat]
def k0_off273 (k0_t1 : Fin k0_t1_loop.trips) : Fin 2 → Nat :=
  let c208 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2265 : Index := Scalar.indexCast v193
  ![208, v2265.toNat]
def k0_off274 (k0_t1 : Fin k0_t1_loop.trips) : Fin 2 → Nat :=
  let c216 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2267 : Index := Scalar.indexCast v193
  ![216, v2267.toNat]
def k0_off275 (k0_t1 : Fin k0_t1_loop.trips) : Fin 2 → Nat :=
  let c224 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2269 : Index := Scalar.indexCast v193
  ![224, v2269.toNat]
def k0_off276 (k0_t1 : Fin k0_t1_loop.trips) : Fin 2 → Nat :=
  let c232 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2271 : Index := Scalar.indexCast v193
  ![232, v2271.toNat]
def k0_off277 (k0_t1 : Fin k0_t1_loop.trips) : Fin 2 → Nat :=
  let c240 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2273 : Index := Scalar.indexCast v193
  ![240, v2273.toNat]
def k0_off278 (k0_t1 : Fin k0_t1_loop.trips) : Fin 2 → Nat :=
  let c248 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2275 : Index := Scalar.indexCast v193
  ![248, v2275.toNat]
def k0_off279 (k0_t1 : Fin k0_t1_loop.trips) : Fin 2 → Nat :=
  let c152_580 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2295 : Index := Scalar.indexCast v193
  ![152, v2295.toNat]
def k0_off280 (k0_t1 : Fin k0_t1_loop.trips) : Fin 2 → Nat :=
  let c160_581 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2305 : Index := Scalar.indexCast v193
  ![160, v2305.toNat]
def k0_off281 (k0_t1 : Fin k0_t1_loop.trips) : Fin 2 → Nat :=
  let c168_582 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2315 : Index := Scalar.indexCast v193
  ![168, v2315.toNat]
def k0_off282 (k0_t1 : Fin k0_t1_loop.trips) : Fin 2 → Nat :=
  let c176_583 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2325 : Index := Scalar.indexCast v193
  ![176, v2325.toNat]
def k0_off283 (k0_t1 : Fin k0_t1_loop.trips) : Fin 2 → Nat :=
  let c184_584 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2335 : Index := Scalar.indexCast v193
  ![184, v2335.toNat]
def k0_off284 (k0_t1 : Fin k0_t1_loop.trips) : Fin 2 → Nat :=
  let c192_585 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2345 : Index := Scalar.indexCast v193
  ![192, v2345.toNat]
def k0_off285 (k0_t1 : Fin k0_t1_loop.trips) : Fin 2 → Nat :=
  let c200_586 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2355 : Index := Scalar.indexCast v193
  ![200, v2355.toNat]
def k0_off286 (k0_t1 : Fin k0_t1_loop.trips) : Fin 2 → Nat :=
  let c208_587 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2365 : Index := Scalar.indexCast v193
  ![208, v2365.toNat]
def k0_off287 (k0_t1 : Fin k0_t1_loop.trips) : Fin 2 → Nat :=
  let c216_588 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2375 : Index := Scalar.indexCast v193
  ![216, v2375.toNat]
def k0_off288 (k0_t1 : Fin k0_t1_loop.trips) : Fin 2 → Nat :=
  let c224_589 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2385 : Index := Scalar.indexCast v193
  ![224, v2385.toNat]
def k0_off289 (k0_t1 : Fin k0_t1_loop.trips) : Fin 2 → Nat :=
  let c232_590 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2395 : Index := Scalar.indexCast v193
  ![232, v2395.toNat]
def k0_off290 (k0_t1 : Fin k0_t1_loop.trips) : Fin 2 → Nat :=
  let c240_591 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2405 : Index := Scalar.indexCast v193
  ![240, v2405.toNat]
def k0_off291 (k0_t1 : Fin k0_t1_loop.trips) : Fin 2 → Nat :=
  let c248_592 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2415 : Index := Scalar.indexCast v193
  ![248, v2415.toNat]
def k0_off292 (k0_t1 : Fin k0_t1_loop.trips) : Fin 2 → Nat :=
  let c256_593 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2425 : Index := Scalar.indexCast v193
  ![256, v2425.toNat]
def k0_off293 (k0_t1 : Fin k0_t1_loop.trips) : Fin 2 → Nat :=
  let c264 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2433 : Index := Scalar.indexCast v193
  ![264, v2433.toNat]
def k0_off294 (k0_t1 : Fin k0_t1_loop.trips) : Fin 2 → Nat :=
  let c272 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2439 : Index := Scalar.indexCast v193
  ![272, v2439.toNat]
def k0_off295 (k0_t1 : Fin k0_t1_loop.trips) : Fin 3 → Nat :=
  let c0_600 : Index := 0#32
  let c152_601 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2464 : Index := Scalar.indexCast v193
  ![0, 152, v2464.toNat]
def k0_off296 (k0_t1 : Fin k0_t1_loop.trips) : Fin 3 → Nat :=
  let c0_602 : Index := 0#32
  let c160_603 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2475 : Index := Scalar.indexCast v193
  ![0, 160, v2475.toNat]
def k0_off297 (k0_t1 : Fin k0_t1_loop.trips) : Fin 3 → Nat :=
  let c0_604 : Index := 0#32
  let c168_605 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2486 : Index := Scalar.indexCast v193
  ![0, 168, v2486.toNat]
def k0_off298 (k0_t1 : Fin k0_t1_loop.trips) : Fin 3 → Nat :=
  let c0_606 : Index := 0#32
  let c176_607 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2497 : Index := Scalar.indexCast v193
  ![0, 176, v2497.toNat]
def k0_off299 (k0_t1 : Fin k0_t1_loop.trips) : Fin 3 → Nat :=
  let c0_608 : Index := 0#32
  let c184_609 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2508 : Index := Scalar.indexCast v193
  ![0, 184, v2508.toNat]
def k0_off300 (k0_t1 : Fin k0_t1_loop.trips) : Fin 3 → Nat :=
  let c0_610 : Index := 0#32
  let c192_611 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2519 : Index := Scalar.indexCast v193
  ![0, 192, v2519.toNat]
def k0_off301 (k0_t1 : Fin k0_t1_loop.trips) : Fin 3 → Nat :=
  let c0_612 : Index := 0#32
  let c200_613 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2530 : Index := Scalar.indexCast v193
  ![0, 200, v2530.toNat]
def k0_off302 (k0_t1 : Fin k0_t1_loop.trips) : Fin 3 → Nat :=
  let c0_614 : Index := 0#32
  let c208_615 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2541 : Index := Scalar.indexCast v193
  ![0, 208, v2541.toNat]
def k0_off303 (k0_t1 : Fin k0_t1_loop.trips) : Fin 3 → Nat :=
  let c0_616 : Index := 0#32
  let c216_617 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2552 : Index := Scalar.indexCast v193
  ![0, 216, v2552.toNat]
def k0_off304 (k0_t1 : Fin k0_t1_loop.trips) : Fin 3 → Nat :=
  let c0_618 : Index := 0#32
  let c224_619 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2563 : Index := Scalar.indexCast v193
  ![0, 224, v2563.toNat]
def k0_off305 (k0_t1 : Fin k0_t1_loop.trips) : Fin 3 → Nat :=
  let c0_620 : Index := 0#32
  let c232_621 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2574 : Index := Scalar.indexCast v193
  ![0, 232, v2574.toNat]
def k0_off306 (k0_t1 : Fin k0_t1_loop.trips) : Fin 3 → Nat :=
  let c0_622 : Index := 0#32
  let c240_623 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2585 : Index := Scalar.indexCast v193
  ![0, 240, v2585.toNat]
def k0_off307 (k0_t1 : Fin k0_t1_loop.trips) : Fin 3 → Nat :=
  let c0_624 : Index := 0#32
  let c248_625 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2596 : Index := Scalar.indexCast v193
  ![0, 248, v2596.toNat]
def k0_off308 (k0_t1 : Fin k0_t1_loop.trips) : Fin 3 → Nat :=
  let c0_626 : Index := 0#32
  let c256_627 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2607 : Index := Scalar.indexCast v193
  ![0, 256, v2607.toNat]
def k0_off309 (k0_t1 : Fin k0_t1_loop.trips) : Fin 3 → Nat :=
  let c0_628 : Index := 0#32
  let c264_629 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2616 : Index := Scalar.indexCast v193
  ![0, 264, v2616.toNat]
def k0_off310 (k0_t1 : Fin k0_t1_loop.trips) : Fin 3 → Nat :=
  let c0_630 : Index := 0#32
  let c272_631 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2623 : Index := Scalar.indexCast v193
  ![0, 272, v2623.toNat]
def k0_off311 (k0_t1 : Fin k0_t1_loop.trips) : Fin 3 → Nat :=
  let c1_638 : Index := 1#32
  let c152_639 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2649 : Index := Scalar.indexCast v193
  ![1, 152, v2649.toNat]
def k0_off312 (k0_t1 : Fin k0_t1_loop.trips) : Fin 3 → Nat :=
  let c1_640 : Index := 1#32
  let c160_641 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2660 : Index := Scalar.indexCast v193
  ![1, 160, v2660.toNat]
def k0_off313 (k0_t1 : Fin k0_t1_loop.trips) : Fin 3 → Nat :=
  let c1_642 : Index := 1#32
  let c168_643 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2671 : Index := Scalar.indexCast v193
  ![1, 168, v2671.toNat]
def k0_off314 (k0_t1 : Fin k0_t1_loop.trips) : Fin 3 → Nat :=
  let c1_644 : Index := 1#32
  let c176_645 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2682 : Index := Scalar.indexCast v193
  ![1, 176, v2682.toNat]
def k0_off315 (k0_t1 : Fin k0_t1_loop.trips) : Fin 3 → Nat :=
  let c1_646 : Index := 1#32
  let c184_647 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2693 : Index := Scalar.indexCast v193
  ![1, 184, v2693.toNat]
def k0_off316 (k0_t1 : Fin k0_t1_loop.trips) : Fin 3 → Nat :=
  let c1_648 : Index := 1#32
  let c192_649 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2704 : Index := Scalar.indexCast v193
  ![1, 192, v2704.toNat]
def k0_off317 (k0_t1 : Fin k0_t1_loop.trips) : Fin 3 → Nat :=
  let c1_650 : Index := 1#32
  let c200_651 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2715 : Index := Scalar.indexCast v193
  ![1, 200, v2715.toNat]
def k0_off318 (k0_t1 : Fin k0_t1_loop.trips) : Fin 3 → Nat :=
  let c1_652 : Index := 1#32
  let c208_653 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2726 : Index := Scalar.indexCast v193
  ![1, 208, v2726.toNat]
def k0_off319 (k0_t1 : Fin k0_t1_loop.trips) : Fin 3 → Nat :=
  let c1_654 : Index := 1#32
  let c216_655 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2737 : Index := Scalar.indexCast v193
  ![1, 216, v2737.toNat]
def k0_off320 (k0_t1 : Fin k0_t1_loop.trips) : Fin 3 → Nat :=
  let c1_656 : Index := 1#32
  let c224_657 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2748 : Index := Scalar.indexCast v193
  ![1, 224, v2748.toNat]
def k0_off321 (k0_t1 : Fin k0_t1_loop.trips) : Fin 3 → Nat :=
  let c1_658 : Index := 1#32
  let c232_659 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2759 : Index := Scalar.indexCast v193
  ![1, 232, v2759.toNat]
def k0_off322 (k0_t1 : Fin k0_t1_loop.trips) : Fin 3 → Nat :=
  let c1_660 : Index := 1#32
  let c240_661 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2770 : Index := Scalar.indexCast v193
  ![1, 240, v2770.toNat]
def k0_off323 (k0_t1 : Fin k0_t1_loop.trips) : Fin 3 → Nat :=
  let c1_662 : Index := 1#32
  let c248_663 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2781 : Index := Scalar.indexCast v193
  ![1, 248, v2781.toNat]
def k0_off324 (k0_t1 : Fin k0_t1_loop.trips) : Fin 3 → Nat :=
  let c1_664 : Index := 1#32
  let c256_665 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2792 : Index := Scalar.indexCast v193
  ![1, 256, v2792.toNat]
def k0_off325 (k0_t1 : Fin k0_t1_loop.trips) : Fin 3 → Nat :=
  let c1_666 : Index := 1#32
  let c264_667 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2801 : Index := Scalar.indexCast v193
  ![1, 264, v2801.toNat]
def k0_off326 (k0_t1 : Fin k0_t1_loop.trips) : Fin 3 → Nat :=
  let c1_668 : Index := 1#32
  let c272_669 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2808 : Index := Scalar.indexCast v193
  ![1, 272, v2808.toNat]
def k0_off327 (k0_t1 : Fin k0_t1_loop.trips) : Fin 3 → Nat :=
  let c2_676 : Index := 2#32
  let c152_677 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2834 : Index := Scalar.indexCast v193
  ![2, 152, v2834.toNat]
def k0_off328 (k0_t1 : Fin k0_t1_loop.trips) : Fin 3 → Nat :=
  let c2_678 : Index := 2#32
  let c160_679 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2845 : Index := Scalar.indexCast v193
  ![2, 160, v2845.toNat]
def k0_off329 (k0_t1 : Fin k0_t1_loop.trips) : Fin 3 → Nat :=
  let c2_680 : Index := 2#32
  let c168_681 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2856 : Index := Scalar.indexCast v193
  ![2, 168, v2856.toNat]
def k0_off330 (k0_t1 : Fin k0_t1_loop.trips) : Fin 3 → Nat :=
  let c2_682 : Index := 2#32
  let c176_683 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2867 : Index := Scalar.indexCast v193
  ![2, 176, v2867.toNat]
def k0_off331 (k0_t1 : Fin k0_t1_loop.trips) : Fin 3 → Nat :=
  let c2_684 : Index := 2#32
  let c184_685 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2878 : Index := Scalar.indexCast v193
  ![2, 184, v2878.toNat]
def k0_off332 (k0_t1 : Fin k0_t1_loop.trips) : Fin 3 → Nat :=
  let c2_686 : Index := 2#32
  let c192_687 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2889 : Index := Scalar.indexCast v193
  ![2, 192, v2889.toNat]
def k0_off333 (k0_t1 : Fin k0_t1_loop.trips) : Fin 3 → Nat :=
  let c2_688 : Index := 2#32
  let c200_689 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2900 : Index := Scalar.indexCast v193
  ![2, 200, v2900.toNat]
def k0_off334 (k0_t1 : Fin k0_t1_loop.trips) : Fin 3 → Nat :=
  let c2_690 : Index := 2#32
  let c208_691 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2911 : Index := Scalar.indexCast v193
  ![2, 208, v2911.toNat]
def k0_off335 (k0_t1 : Fin k0_t1_loop.trips) : Fin 3 → Nat :=
  let c2_692 : Index := 2#32
  let c216_693 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2922 : Index := Scalar.indexCast v193
  ![2, 216, v2922.toNat]
def k0_off336 (k0_t1 : Fin k0_t1_loop.trips) : Fin 3 → Nat :=
  let c2_694 : Index := 2#32
  let c224_695 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2933 : Index := Scalar.indexCast v193
  ![2, 224, v2933.toNat]
def k0_off337 (k0_t1 : Fin k0_t1_loop.trips) : Fin 3 → Nat :=
  let c2_696 : Index := 2#32
  let c232_697 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2944 : Index := Scalar.indexCast v193
  ![2, 232, v2944.toNat]
def k0_off338 (k0_t1 : Fin k0_t1_loop.trips) : Fin 3 → Nat :=
  let c2_698 : Index := 2#32
  let c240_699 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2955 : Index := Scalar.indexCast v193
  ![2, 240, v2955.toNat]
def k0_off339 (k0_t1 : Fin k0_t1_loop.trips) : Fin 3 → Nat :=
  let c2_700 : Index := 2#32
  let c248_701 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2966 : Index := Scalar.indexCast v193
  ![2, 248, v2966.toNat]
def k0_off340 (k0_t1 : Fin k0_t1_loop.trips) : Fin 3 → Nat :=
  let c2_702 : Index := 2#32
  let c256_703 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2977 : Index := Scalar.indexCast v193
  ![2, 256, v2977.toNat]
def k0_off341 (k0_t1 : Fin k0_t1_loop.trips) : Fin 3 → Nat :=
  let c2_704 : Index := 2#32
  let c264_705 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2986 : Index := Scalar.indexCast v193
  ![2, 264, v2986.toNat]
def k0_off342 (k0_t1 : Fin k0_t1_loop.trips) : Fin 3 → Nat :=
  let c2_706 : Index := 2#32
  let c272_707 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v2993 : Index := Scalar.indexCast v193
  ![2, 272, v2993.toNat]
def k0_off343 (k0_t1 : Fin k0_t1_loop.trips) : Fin 3 → Nat :=
  let c3_714 : Index := 3#32
  let c152_715 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3019 : Index := Scalar.indexCast v193
  ![3, 152, v3019.toNat]
def k0_off344 (k0_t1 : Fin k0_t1_loop.trips) : Fin 3 → Nat :=
  let c3_716 : Index := 3#32
  let c160_717 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3030 : Index := Scalar.indexCast v193
  ![3, 160, v3030.toNat]
def k0_off345 (k0_t1 : Fin k0_t1_loop.trips) : Fin 3 → Nat :=
  let c3_718 : Index := 3#32
  let c168_719 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3041 : Index := Scalar.indexCast v193
  ![3, 168, v3041.toNat]
def k0_off346 (k0_t1 : Fin k0_t1_loop.trips) : Fin 3 → Nat :=
  let c3_720 : Index := 3#32
  let c176_721 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3052 : Index := Scalar.indexCast v193
  ![3, 176, v3052.toNat]
def k0_off347 (k0_t1 : Fin k0_t1_loop.trips) : Fin 3 → Nat :=
  let c3_722 : Index := 3#32
  let c184_723 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3063 : Index := Scalar.indexCast v193
  ![3, 184, v3063.toNat]
def k0_off348 (k0_t1 : Fin k0_t1_loop.trips) : Fin 3 → Nat :=
  let c3_724 : Index := 3#32
  let c192_725 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3074 : Index := Scalar.indexCast v193
  ![3, 192, v3074.toNat]
def k0_off349 (k0_t1 : Fin k0_t1_loop.trips) : Fin 3 → Nat :=
  let c3_726 : Index := 3#32
  let c200_727 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3085 : Index := Scalar.indexCast v193
  ![3, 200, v3085.toNat]
def k0_off350 (k0_t1 : Fin k0_t1_loop.trips) : Fin 3 → Nat :=
  let c3_728 : Index := 3#32
  let c208_729 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3096 : Index := Scalar.indexCast v193
  ![3, 208, v3096.toNat]
def k0_off351 (k0_t1 : Fin k0_t1_loop.trips) : Fin 3 → Nat :=
  let c3_730 : Index := 3#32
  let c216_731 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3107 : Index := Scalar.indexCast v193
  ![3, 216, v3107.toNat]
def k0_off352 (k0_t1 : Fin k0_t1_loop.trips) : Fin 3 → Nat :=
  let c3_732 : Index := 3#32
  let c224_733 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3118 : Index := Scalar.indexCast v193
  ![3, 224, v3118.toNat]
def k0_off353 (k0_t1 : Fin k0_t1_loop.trips) : Fin 3 → Nat :=
  let c3_734 : Index := 3#32
  let c232_735 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3129 : Index := Scalar.indexCast v193
  ![3, 232, v3129.toNat]
def k0_off354 (k0_t1 : Fin k0_t1_loop.trips) : Fin 3 → Nat :=
  let c3_736 : Index := 3#32
  let c240_737 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3140 : Index := Scalar.indexCast v193
  ![3, 240, v3140.toNat]
def k0_off355 (k0_t1 : Fin k0_t1_loop.trips) : Fin 3 → Nat :=
  let c3_738 : Index := 3#32
  let c248_739 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3151 : Index := Scalar.indexCast v193
  ![3, 248, v3151.toNat]
def k0_off356 (k0_t1 : Fin k0_t1_loop.trips) : Fin 3 → Nat :=
  let c3_740 : Index := 3#32
  let c256_741 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3162 : Index := Scalar.indexCast v193
  ![3, 256, v3162.toNat]
def k0_off357 (k0_t1 : Fin k0_t1_loop.trips) : Fin 3 → Nat :=
  let c3_742 : Index := 3#32
  let c264_743 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3171 : Index := Scalar.indexCast v193
  ![3, 264, v3171.toNat]
def k0_off358 (k0_t1 : Fin k0_t1_loop.trips) : Fin 3 → Nat :=
  let c3_744 : Index := 3#32
  let c272_745 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3178 : Index := Scalar.indexCast v193
  ![3, 272, v3178.toNat]
def k0_off359 (k0_t1 : Fin k0_t1_loop.trips) : Fin 3 → Nat :=
  let c4_752 : Index := 4#32
  let c152_753 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3204 : Index := Scalar.indexCast v193
  ![4, 152, v3204.toNat]
def k0_off360 (k0_t1 : Fin k0_t1_loop.trips) : Fin 3 → Nat :=
  let c4_754 : Index := 4#32
  let c160_755 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3215 : Index := Scalar.indexCast v193
  ![4, 160, v3215.toNat]
def k0_off361 (k0_t1 : Fin k0_t1_loop.trips) : Fin 3 → Nat :=
  let c4_756 : Index := 4#32
  let c168_757 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3226 : Index := Scalar.indexCast v193
  ![4, 168, v3226.toNat]
def k0_off362 (k0_t1 : Fin k0_t1_loop.trips) : Fin 3 → Nat :=
  let c4_758 : Index := 4#32
  let c176_759 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3237 : Index := Scalar.indexCast v193
  ![4, 176, v3237.toNat]
def k0_off363 (k0_t1 : Fin k0_t1_loop.trips) : Fin 3 → Nat :=
  let c4_760 : Index := 4#32
  let c184_761 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3248 : Index := Scalar.indexCast v193
  ![4, 184, v3248.toNat]
def k0_off364 (k0_t1 : Fin k0_t1_loop.trips) : Fin 3 → Nat :=
  let c4_762 : Index := 4#32
  let c192_763 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3259 : Index := Scalar.indexCast v193
  ![4, 192, v3259.toNat]
def k0_off365 (k0_t1 : Fin k0_t1_loop.trips) : Fin 3 → Nat :=
  let c4_764 : Index := 4#32
  let c200_765 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3270 : Index := Scalar.indexCast v193
  ![4, 200, v3270.toNat]
def k0_off366 (k0_t1 : Fin k0_t1_loop.trips) : Fin 3 → Nat :=
  let c4_766 : Index := 4#32
  let c208_767 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3281 : Index := Scalar.indexCast v193
  ![4, 208, v3281.toNat]
def k0_off367 (k0_t1 : Fin k0_t1_loop.trips) : Fin 3 → Nat :=
  let c4_768 : Index := 4#32
  let c216_769 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3292 : Index := Scalar.indexCast v193
  ![4, 216, v3292.toNat]
def k0_off368 (k0_t1 : Fin k0_t1_loop.trips) : Fin 3 → Nat :=
  let c4_770 : Index := 4#32
  let c224_771 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3303 : Index := Scalar.indexCast v193
  ![4, 224, v3303.toNat]
def k0_off369 (k0_t1 : Fin k0_t1_loop.trips) : Fin 3 → Nat :=
  let c4_772 : Index := 4#32
  let c232_773 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3314 : Index := Scalar.indexCast v193
  ![4, 232, v3314.toNat]
def k0_off370 (k0_t1 : Fin k0_t1_loop.trips) : Fin 3 → Nat :=
  let c4_774 : Index := 4#32
  let c240_775 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3325 : Index := Scalar.indexCast v193
  ![4, 240, v3325.toNat]
def k0_off371 (k0_t1 : Fin k0_t1_loop.trips) : Fin 3 → Nat :=
  let c4_776 : Index := 4#32
  let c248_777 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3336 : Index := Scalar.indexCast v193
  ![4, 248, v3336.toNat]
def k0_off372 (k0_t1 : Fin k0_t1_loop.trips) : Fin 3 → Nat :=
  let c4_778 : Index := 4#32
  let c256_779 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3347 : Index := Scalar.indexCast v193
  ![4, 256, v3347.toNat]
def k0_off373 (k0_t1 : Fin k0_t1_loop.trips) : Fin 3 → Nat :=
  let c4_780 : Index := 4#32
  let c264_781 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3356 : Index := Scalar.indexCast v193
  ![4, 264, v3356.toNat]
def k0_off374 (k0_t1 : Fin k0_t1_loop.trips) : Fin 3 → Nat :=
  let c4_782 : Index := 4#32
  let c272_783 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3363 : Index := Scalar.indexCast v193
  ![4, 272, v3363.toNat]
def k0_off375 (k0_t1 : Fin k0_t1_loop.trips) : Fin 3 → Nat :=
  let c5_790 : Index := 5#32
  let c152_791 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3389 : Index := Scalar.indexCast v193
  ![5, 152, v3389.toNat]
def k0_off376 (k0_t1 : Fin k0_t1_loop.trips) : Fin 3 → Nat :=
  let c5_792 : Index := 5#32
  let c160_793 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3400 : Index := Scalar.indexCast v193
  ![5, 160, v3400.toNat]
def k0_off377 (k0_t1 : Fin k0_t1_loop.trips) : Fin 3 → Nat :=
  let c5_794 : Index := 5#32
  let c168_795 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3411 : Index := Scalar.indexCast v193
  ![5, 168, v3411.toNat]
def k0_off378 (k0_t1 : Fin k0_t1_loop.trips) : Fin 3 → Nat :=
  let c5_796 : Index := 5#32
  let c176_797 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3422 : Index := Scalar.indexCast v193
  ![5, 176, v3422.toNat]
def k0_off379 (k0_t1 : Fin k0_t1_loop.trips) : Fin 3 → Nat :=
  let c5_798 : Index := 5#32
  let c184_799 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3433 : Index := Scalar.indexCast v193
  ![5, 184, v3433.toNat]
def k0_off380 (k0_t1 : Fin k0_t1_loop.trips) : Fin 3 → Nat :=
  let c5_800 : Index := 5#32
  let c192_801 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3444 : Index := Scalar.indexCast v193
  ![5, 192, v3444.toNat]
def k0_off381 (k0_t1 : Fin k0_t1_loop.trips) : Fin 3 → Nat :=
  let c5_802 : Index := 5#32
  let c200_803 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3455 : Index := Scalar.indexCast v193
  ![5, 200, v3455.toNat]
def k0_off382 (k0_t1 : Fin k0_t1_loop.trips) : Fin 3 → Nat :=
  let c5_804 : Index := 5#32
  let c208_805 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3466 : Index := Scalar.indexCast v193
  ![5, 208, v3466.toNat]
def k0_off383 (k0_t1 : Fin k0_t1_loop.trips) : Fin 3 → Nat :=
  let c5_806 : Index := 5#32
  let c216_807 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3477 : Index := Scalar.indexCast v193
  ![5, 216, v3477.toNat]
def k0_off384 (k0_t1 : Fin k0_t1_loop.trips) : Fin 3 → Nat :=
  let c5_808 : Index := 5#32
  let c224_809 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3488 : Index := Scalar.indexCast v193
  ![5, 224, v3488.toNat]
def k0_off385 (k0_t1 : Fin k0_t1_loop.trips) : Fin 3 → Nat :=
  let c5_810 : Index := 5#32
  let c232_811 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3499 : Index := Scalar.indexCast v193
  ![5, 232, v3499.toNat]
def k0_off386 (k0_t1 : Fin k0_t1_loop.trips) : Fin 3 → Nat :=
  let c5_812 : Index := 5#32
  let c240_813 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3510 : Index := Scalar.indexCast v193
  ![5, 240, v3510.toNat]
def k0_off387 (k0_t1 : Fin k0_t1_loop.trips) : Fin 3 → Nat :=
  let c5_814 : Index := 5#32
  let c248_815 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3521 : Index := Scalar.indexCast v193
  ![5, 248, v3521.toNat]
def k0_off388 (k0_t1 : Fin k0_t1_loop.trips) : Fin 3 → Nat :=
  let c5_816 : Index := 5#32
  let c256_817 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3532 : Index := Scalar.indexCast v193
  ![5, 256, v3532.toNat]
def k0_off389 (k0_t1 : Fin k0_t1_loop.trips) : Fin 3 → Nat :=
  let c5_818 : Index := 5#32
  let c264_819 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3541 : Index := Scalar.indexCast v193
  ![5, 264, v3541.toNat]
def k0_off390 (k0_t1 : Fin k0_t1_loop.trips) : Fin 3 → Nat :=
  let c5_820 : Index := 5#32
  let c272_821 : Index := 272#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3548 : Index := Scalar.indexCast v193
  ![5, 272, v3548.toNat]
def k0_off391 (k0_t1 : Fin k0_t1_loop.trips) : Fin 3 → Nat :=
  let c6_826 : Index := 6#32
  let c144_827 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3565 : Index := Scalar.indexCast v193
  ![6, 144, v3565.toNat]
def k0_off392 (k0_t1 : Fin k0_t1_loop.trips) : Fin 3 → Nat :=
  let c6_828 : Index := 6#32
  let c152_829 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3574 : Index := Scalar.indexCast v193
  ![6, 152, v3574.toNat]
def k0_off393 (k0_t1 : Fin k0_t1_loop.trips) : Fin 3 → Nat :=
  let c6_830 : Index := 6#32
  let c160_831 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3583 : Index := Scalar.indexCast v193
  ![6, 160, v3583.toNat]
def k0_off394 (k0_t1 : Fin k0_t1_loop.trips) : Fin 3 → Nat :=
  let c6_832 : Index := 6#32
  let c168_833 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3592 : Index := Scalar.indexCast v193
  ![6, 168, v3592.toNat]
def k0_off395 (k0_t1 : Fin k0_t1_loop.trips) : Fin 3 → Nat :=
  let c6_834 : Index := 6#32
  let c176_835 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3601 : Index := Scalar.indexCast v193
  ![6, 176, v3601.toNat]
def k0_off396 (k0_t1 : Fin k0_t1_loop.trips) : Fin 3 → Nat :=
  let c6_836 : Index := 6#32
  let c184_837 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3610 : Index := Scalar.indexCast v193
  ![6, 184, v3610.toNat]
def k0_off397 (k0_t1 : Fin k0_t1_loop.trips) : Fin 3 → Nat :=
  let c6_838 : Index := 6#32
  let c192_839 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3619 : Index := Scalar.indexCast v193
  ![6, 192, v3619.toNat]
def k0_off398 (k0_t1 : Fin k0_t1_loop.trips) : Fin 3 → Nat :=
  let c6_840 : Index := 6#32
  let c200_841 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3628 : Index := Scalar.indexCast v193
  ![6, 200, v3628.toNat]
def k0_off399 (k0_t1 : Fin k0_t1_loop.trips) : Fin 3 → Nat :=
  let c6_842 : Index := 6#32
  let c208_843 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3637 : Index := Scalar.indexCast v193
  ![6, 208, v3637.toNat]
def k0_off400 (k0_t1 : Fin k0_t1_loop.trips) : Fin 3 → Nat :=
  let c6_844 : Index := 6#32
  let c216_845 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3646 : Index := Scalar.indexCast v193
  ![6, 216, v3646.toNat]
def k0_off401 (k0_t1 : Fin k0_t1_loop.trips) : Fin 3 → Nat :=
  let c6_846 : Index := 6#32
  let c224_847 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3655 : Index := Scalar.indexCast v193
  ![6, 224, v3655.toNat]
def k0_off402 (k0_t1 : Fin k0_t1_loop.trips) : Fin 3 → Nat :=
  let c6_848 : Index := 6#32
  let c232_849 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3664 : Index := Scalar.indexCast v193
  ![6, 232, v3664.toNat]
def k0_off403 (k0_t1 : Fin k0_t1_loop.trips) : Fin 3 → Nat :=
  let c6_850 : Index := 6#32
  let c240_851 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3673 : Index := Scalar.indexCast v193
  ![6, 240, v3673.toNat]
def k0_off404 (k0_t1 : Fin k0_t1_loop.trips) : Fin 3 → Nat :=
  let c6_852 : Index := 6#32
  let c248_853 : Index := 248#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3682 : Index := Scalar.indexCast v193
  ![6, 248, v3682.toNat]
def k0_off405 (k0_t1 : Fin k0_t1_loop.trips) : Fin 3 → Nat :=
  let c6_854 : Index := 6#32
  let c256_855 : Index := 256#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3691 : Index := Scalar.indexCast v193
  ![6, 256, v3691.toNat]
def k0_off406 (k0_t1 : Fin k0_t1_loop.trips) : Fin 3 → Nat :=
  let c6_856 : Index := 6#32
  let c264_857 : Index := 264#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3698 : Index := Scalar.indexCast v193
  ![6, 264, v3698.toNat]
def k0_off407 (k0_t1 : Fin k0_t1_loop.trips) : Fin 2 → Nat :=
  let c0_858 : Index := 0#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3703 : Index := Scalar.indexCast v193
  ![0, v3703.toNat]
def k0_off408 (k0_t1 : Fin k0_t1_loop.trips) : Fin 2 → Nat :=
  let c8_860 : Index := 8#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3709 : Index := Scalar.indexCast v193
  ![8, v3709.toNat]
def k0_off409 (k0_t1 : Fin k0_t1_loop.trips) : Fin 2 → Nat :=
  let c16_862 : Index := 16#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3715 : Index := Scalar.indexCast v193
  ![16, v3715.toNat]
def k0_off410 (k0_t1 : Fin k0_t1_loop.trips) : Fin 2 → Nat :=
  let c24_864 : Index := 24#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3721 : Index := Scalar.indexCast v193
  ![24, v3721.toNat]
def k0_off411 (k0_t1 : Fin k0_t1_loop.trips) : Fin 2 → Nat :=
  let c32_866 : Index := 32#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3727 : Index := Scalar.indexCast v193
  ![32, v3727.toNat]
def k0_off412 (k0_t1 : Fin k0_t1_loop.trips) : Fin 2 → Nat :=
  let c40_868 : Index := 40#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3733 : Index := Scalar.indexCast v193
  ![40, v3733.toNat]
def k0_off413 (k0_t1 : Fin k0_t1_loop.trips) : Fin 2 → Nat :=
  let c48_870 : Index := 48#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3739 : Index := Scalar.indexCast v193
  ![48, v3739.toNat]
def k0_off414 (k0_t1 : Fin k0_t1_loop.trips) : Fin 2 → Nat :=
  let c56_872 : Index := 56#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3745 : Index := Scalar.indexCast v193
  ![56, v3745.toNat]
def k0_off415 (k0_t1 : Fin k0_t1_loop.trips) : Fin 2 → Nat :=
  let c64_874 : Index := 64#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3751 : Index := Scalar.indexCast v193
  ![64, v3751.toNat]
def k0_off416 (k0_t1 : Fin k0_t1_loop.trips) : Fin 2 → Nat :=
  let c72_876 : Index := 72#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3757 : Index := Scalar.indexCast v193
  ![72, v3757.toNat]
def k0_off417 (k0_t1 : Fin k0_t1_loop.trips) : Fin 2 → Nat :=
  let c80_878 : Index := 80#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3763 : Index := Scalar.indexCast v193
  ![80, v3763.toNat]
def k0_off418 (k0_t1 : Fin k0_t1_loop.trips) : Fin 2 → Nat :=
  let c88_880 : Index := 88#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3769 : Index := Scalar.indexCast v193
  ![88, v3769.toNat]
def k0_off419 (k0_t1 : Fin k0_t1_loop.trips) : Fin 2 → Nat :=
  let c96_882 : Index := 96#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3775 : Index := Scalar.indexCast v193
  ![96, v3775.toNat]
def k0_off420 (k0_t1 : Fin k0_t1_loop.trips) : Fin 2 → Nat :=
  let c104_884 : Index := 104#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3781 : Index := Scalar.indexCast v193
  ![104, v3781.toNat]
def k0_off421 (k0_t1 : Fin k0_t1_loop.trips) : Fin 2 → Nat :=
  let c112_886 : Index := 112#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3787 : Index := Scalar.indexCast v193
  ![112, v3787.toNat]
def k0_off422 (k0_t1 : Fin k0_t1_loop.trips) : Fin 2 → Nat :=
  let c120_888 : Index := 120#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3793 : Index := Scalar.indexCast v193
  ![120, v3793.toNat]
def k0_off423 (k0_t1 : Fin k0_t1_loop.trips) : Fin 2 → Nat :=
  let c128_890 : Index := 128#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3799 : Index := Scalar.indexCast v193
  ![128, v3799.toNat]
def k0_off424 (k0_t1 : Fin k0_t1_loop.trips) : Fin 2 → Nat :=
  let c136_892 : Index := 136#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3805 : Index := Scalar.indexCast v193
  ![136, v3805.toNat]
def k0_off425 (k0_t1 : Fin k0_t1_loop.trips) : Fin 2 → Nat :=
  let c144_894 : Index := 144#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3811 : Index := Scalar.indexCast v193
  ![144, v3811.toNat]
def k0_off426 (k0_t1 : Fin k0_t1_loop.trips) : Fin 2 → Nat :=
  let c152_896 : Index := 152#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3817 : Index := Scalar.indexCast v193
  ![152, v3817.toNat]
def k0_off427 (k0_t1 : Fin k0_t1_loop.trips) : Fin 2 → Nat :=
  let c160_898 : Index := 160#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3823 : Index := Scalar.indexCast v193
  ![160, v3823.toNat]
def k0_off428 (k0_t1 : Fin k0_t1_loop.trips) : Fin 2 → Nat :=
  let c168_900 : Index := 168#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3829 : Index := Scalar.indexCast v193
  ![168, v3829.toNat]
def k0_off429 (k0_t1 : Fin k0_t1_loop.trips) : Fin 2 → Nat :=
  let c176_902 : Index := 176#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3835 : Index := Scalar.indexCast v193
  ![176, v3835.toNat]
def k0_off430 (k0_t1 : Fin k0_t1_loop.trips) : Fin 2 → Nat :=
  let c184_904 : Index := 184#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3841 : Index := Scalar.indexCast v193
  ![184, v3841.toNat]
def k0_off431 (k0_t1 : Fin k0_t1_loop.trips) : Fin 2 → Nat :=
  let c192_906 : Index := 192#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3847 : Index := Scalar.indexCast v193
  ![192, v3847.toNat]
def k0_off432 (k0_t1 : Fin k0_t1_loop.trips) : Fin 2 → Nat :=
  let c200_908 : Index := 200#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3853 : Index := Scalar.indexCast v193
  ![200, v3853.toNat]
def k0_off433 (k0_t1 : Fin k0_t1_loop.trips) : Fin 2 → Nat :=
  let c208_910 : Index := 208#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3859 : Index := Scalar.indexCast v193
  ![208, v3859.toNat]
def k0_off434 (k0_t1 : Fin k0_t1_loop.trips) : Fin 2 → Nat :=
  let c216_912 : Index := 216#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3865 : Index := Scalar.indexCast v193
  ![216, v3865.toNat]
def k0_off435 (k0_t1 : Fin k0_t1_loop.trips) : Fin 2 → Nat :=
  let c224_914 : Index := 224#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3871 : Index := Scalar.indexCast v193
  ![224, v3871.toNat]
def k0_off436 (k0_t1 : Fin k0_t1_loop.trips) : Fin 2 → Nat :=
  let c232_916 : Index := 232#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3877 : Index := Scalar.indexCast v193
  ![232, v3877.toNat]
def k0_off437 (k0_t1 : Fin k0_t1_loop.trips) : Fin 2 → Nat :=
  let c240_918 : Index := 240#32
  let c0_i32_91 : BitVec 32 := 0#32
  let c1_i32 : BitVec 32 := 1#32
  let arg20 : BitVec 32 := Scf.iv c0_i32_91 c1_i32 k0_t1
  let c128_i32 : BitVec 32 := 128#32
  let v192 : BitVec 32 := Scalar.muli arg20 c128_i32
  let v193 : BitVec 32 := v192
  let v3883 : Index := Scalar.indexCast v193
  ![240, v3883.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c8_i32 : BitVec 32 := 8#32
  let v2 : BitVec 32 := Scalar.muli v1 c8_i32
  let v3 : BitVec 32 := Scalar.addi v0 v2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c8_i32 : BitVec 32 := 8#32
  let v2 : BitVec 32 := Scalar.muli v1 c8_i32
  let v3 : BitVec 32 := Scalar.addi v0 v2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S248x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference6Ideal.lean ====
abbrev S4x2048x5376 : Shape := ⟨3, ![4, 2048, 5376]⟩
abbrev S31x1x1024 : Shape := ⟨3, ![31, 1, 1024]⟩
abbrev S1024 : Shape := ⟨1, ![1024]⟩
abbrev S4x2048x1024 : Shape := ⟨3, ![4, 2048, 1024]⟩
abbrev S4x2048x2048 : Shape := ⟨3, ![4, 2048, 2048]⟩
abbrev S_ : Shape := ⟨0, ![]⟩
abbrev S31x1x2048x2048x1 : Shape := ⟨5, ![31, 1, 2048, 2048, 1]⟩
abbrev S4x1x2048x1024 : Shape := ⟨4, ![4, 1, 2048, 1024]⟩
abbrev S31x4x2048x2048x1024 : Shape := ⟨5, ![31, 4, 2048, 2048, 1024]⟩
abbrev S31x4x2048x1024 : Shape := ⟨4, ![31, 4, 2048, 1024]⟩
abbrev S31x1x1x1024 : Shape := ⟨4, ![31, 1, 1, 1024]⟩
abbrev S1x1x1024 : Shape := ⟨3, ![1, 1, 1024]⟩
abbrev S4x2048 : Shape := ⟨2, ![4, 2048]⟩
abbrev S4x2048x1 : Shape := ⟨3, ![4, 2048, 1]⟩
abbrev S31x1024 : Shape := ⟨2, ![31, 1024]⟩
abbrev S8192x2048 : Shape := ⟨2, ![8192, 2048]⟩
abbrev S1x1024 : Shape := ⟨2, ![1, 1024]⟩

abbrev nBuf : Space → Nat
  | .hbm => 180
  | .vmem => 0
  | .smem => 0
  | _ => 0

abbrev hbmTy0_0 (i : Nat) : BufTy := match i % 128 with
  | 0 => ⟨S4x2048x5376, .f32⟩
  | 1 => ⟨S31x1x1024, .f32⟩
  | 2 => ⟨S1024, .f32⟩
  | 3 => ⟨S1024, .f32⟩
  | 4 => ⟨S1024, .f32⟩
  | 5 => ⟨S4x2048x1024, .f32⟩
  | 6 => ⟨S4x2048x2048, .f32⟩
  | 7 => ⟨S4x2048x1024, .f32⟩
  | 8 => ⟨S4x2048x1024, .f32⟩
  | 9 => ⟨S4x2048x1024, .f32⟩
  | 10 => ⟨S4x2048x1024, .f32⟩
  | 11 => ⟨S_, .f32⟩
  | 12 => ⟨S4x2048x1024, .f32⟩
  | 13 => ⟨S4x2048x1024, .f32⟩
  | 14 => ⟨S_, .f32⟩
  | 15 => ⟨S4x2048x1024, .f32⟩
  | 16 => ⟨S4x2048x1024, .f32⟩
  | 17 => ⟨S_, .f32⟩
  | 18 => ⟨S4x2048x1024, .f32⟩
  | 19 => ⟨S4x2048x1024, .f32⟩
  | 20 => ⟨S4x2048x1024, .f32⟩
  | 21 => ⟨S4x2048x1024, .f32⟩
  | 22 => ⟨S31x1x2048x2048x1, .i32⟩
  | 23 => ⟨S31x1x2048x2048x1, .i32⟩
  | 24 => ⟨S31x1x2048x2048x1, .i32⟩
  | 25 => ⟨S_, .i32⟩
  | 26 => ⟨S31x1x2048x2048x1, .i32⟩
  | 27 => ⟨S31x1x2048x2048x1, .i32⟩
  | 28 => ⟨S31x1x2048x2048x1, .i32⟩
  | 29 => ⟨S31x1x2048x2048x1, .i1⟩
  | 30 => ⟨S4x1x2048x1024, .f32⟩
  | 31 => ⟨S_, .f32⟩
  | 32 => ⟨S_, .f32⟩
  | 33 => ⟨S31x4x2048x2048x1024, .i1⟩
  | 34 => ⟨S31x4x2048x2048x1024, .f32⟩
  | 35 => ⟨S31x4x2048x2048x1024, .f32⟩
  | 36 => ⟨S31x4x2048x2048x1024, .f32⟩
  | 37 => ⟨S_, .f32⟩
  | 38 => ⟨S31x4x2048x2048x1024, .f32⟩
  | 39 => ⟨S_, .f32⟩
  | 40 => ⟨S31x4x2048x1024, .f32⟩
  | 41 => ⟨S31x1x1x1024, .f32⟩
  | 42 => ⟨S31x4x2048x1024, .f32⟩
  | 43 => ⟨S31x4x2048x1024, .f32⟩
  | 44 => ⟨S_, .f32⟩
  | 45 => ⟨S4x2048x1024, .f32⟩
  | 46 => ⟨S1x1x1024, .f32⟩
  | 47 => ⟨S4x2048x1024, .f32⟩
  | 48 => ⟨S4x2048x1024, .f32⟩
  | 49 => ⟨S_, .f32⟩
  | 50 => ⟨S4x2048, .f32⟩
  | 51 => ⟨S4x2048x1, .f32⟩
  | 52 => ⟨S_, .f32⟩
  | 53 => ⟨S4x2048x1, .f32⟩
  | 54 => ⟨S4x2048x1, .f32⟩
  | 55 => ⟨S4x2048x1024, .f32⟩
  | 56 => ⟨S4x2048x1024, .f32⟩
  | 57 => ⟨S4x2048x1024, .f32⟩
  | 58 => ⟨S_, .f32⟩
  | 59 => ⟨S4x2048x1024, .f32⟩
  | 60 => ⟨S4x2048x1024, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S4x2048x1024, .f32⟩
  | 68 => ⟨S4x2048x1024, .f32⟩
  | 69 => ⟨S_, .f32⟩
  | 70 => ⟨S4x2048x1, .f32⟩
  | 71 => ⟨S4x2048x1, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x1024, .f32⟩
  | 78 => ⟨S4x2048x1024, .f32⟩
  | 79 => ⟨S1x1x1024, .f32⟩
  | 80 => ⟨S4x2048x1024, .f32⟩
  | 81 => ⟨S4x2048x1024, .f32⟩
  | 82 => ⟨S1x1x1024, .f32⟩
  | 83 => ⟨S4x2048x1024, .f32⟩
  | 84 => ⟨S4x2048x1024, .f32⟩
  | 85 => ⟨S4x2048x1024, .f32⟩
  | 86 => ⟨S4x2048x1024, .f32⟩
  | 87 => ⟨S_, .f32⟩
  | 88 => ⟨S4x2048x1024, .f32⟩
  | 89 => ⟨S4x2048x1024, .f32⟩
  | 90 => ⟨S_, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S_, .f32⟩
  | 103 => ⟨S1024, .f32⟩
  | 104 => ⟨S1x1x1024, .f32⟩
  | 105 => ⟨S_, .f32⟩
  | 106 => ⟨S1024, .f32⟩
  | 107 => ⟨S4x2048x1024, .f32⟩
  | 108 => ⟨S_, .f32⟩
  | 109 => ⟨S1024, .f32⟩
  | 110 => ⟨S1x1x1024, .f32⟩
  | 111 => ⟨S4x2048x1024, .f32⟩
  | 112 => ⟨S4x2048x1024, .f32⟩
  | 113 => ⟨S_, .f32⟩
  | 114 => ⟨S1024, .f32⟩
  | 115 => ⟨S4x2048x1024, .f32⟩
  | 116 => ⟨S_, .f32⟩
  | 117 => ⟨S4x2048, .f32⟩
  | 118 => ⟨S4x2048x1, .f32⟩
  | 119 => ⟨S4x2048x1024, .f32⟩
  | 120 => ⟨S4x2048x1024, .f32⟩
  | 121 => ⟨S4x2048x1, .f32⟩
  | 122 => ⟨S4x2048x1024, .f32⟩
  | 123 => ⟨S_, .f32⟩
  | 124 => ⟨S4x2048, .f32⟩
  | 125 => ⟨S4x2048x1, .f32⟩
  | 126 => ⟨S_, .f32⟩
  | 127 => ⟨S4x2048x1, .f32⟩
  | _ => ⟨S4x2048x5376, .f32⟩

abbrev hbmTy0_1 (i : Nat) : BufTy := match i % 128 with
  | 0 => ⟨S4x2048x1, .f32⟩
  | 1 => ⟨S_, .f32⟩
  | 2 => ⟨S4x2048, .f32⟩
  | 3 => ⟨S4x2048x1024, .f32⟩
  | 4 => ⟨S4x2048x1024, .f32⟩
  | 5 => ⟨S4x2048x1024, .f32⟩
  | 6 => ⟨S_, .f32⟩
  | 7 => ⟨S4x2048, .f32⟩
  | 8 => ⟨S4x2048x1, .f32⟩
  | 9 => ⟨S4x2048x1024, .f32⟩
  | 10 => ⟨S4x2048x1, .f32⟩
  | 11 => ⟨S_, .f32⟩
  | 12 => ⟨S4x2048x1, .f32⟩
  | 13 => ⟨S4x2048x1, .f32⟩
  | 14 => ⟨S_, .f32⟩
  | 15 => ⟨S4x2048, .f32⟩
  | 16 => ⟨S4x2048x1024, .f32⟩
  | 17 => ⟨S4x2048x1024, .f32⟩
  | 18 => ⟨S_, .f32⟩
  | 19 => ⟨S1024, .f32⟩
  | 20 => ⟨S1x1x1024, .f32⟩
  | 21 => ⟨S_, .f32⟩
  | 22 => ⟨S1024, .f32⟩
  | 23 => ⟨S31x4x2048x1024, .f32⟩
  | 24 => ⟨S31x4x2048x1024, .f32⟩
  | 25 => ⟨S_, .f32⟩
  | 26 => ⟨S31x1024, .f32⟩
  | 27 => ⟨S31x1x1x1024, .f32⟩
  | 28 => ⟨S31x4x2048x1024, .f32⟩
  | 29 => ⟨S31x4x2048x1024, .f32⟩
  | 30 => ⟨S_, .f32⟩
  | 31 => ⟨S31x1024, .f32⟩
  | 32 => ⟨S31x1x1024, .f32⟩
  | 33 => ⟨S31x4x2048x2048x1024, .f32⟩
  | 34 => ⟨S_, .f32⟩
  | 35 => ⟨S31x4x2048x2048x1024, .f32⟩
  | 36 => ⟨S31x4x2048x2048x1024, .f32⟩
  | 37 => ⟨S_, .f32⟩
  | 38 => ⟨S4x2048x1024, .f32⟩
  | 39 => ⟨S4x1x2048x1024, .f32⟩
  | 40 => ⟨S_, .f32⟩
  | 41 => ⟨S4x2048x1024, .f32⟩
  | 42 => ⟨S4x2048x1024, .f32⟩
  | 43 => ⟨S4x2048x1024, .f32⟩
  | 44 => ⟨S4x2048x1024, .f32⟩
  | 45 => ⟨S4x2048x2048, .f32⟩
  | 46 => ⟨S8192x2048, .f32⟩
  | 47 => ⟨S8192x2048, .bf16⟩
  | 48 => ⟨S31x1024, .f32⟩
  | 49 => ⟨S1x1024, .f32⟩
  | 50 => ⟨S1x1024, .f32⟩
  | 51 => ⟨S1x1024, .f32⟩
  | _ => ⟨S4x2048x5376, .f32⟩

abbrev hbmTy (i : Nat) : BufTy := match i / 128 with
  | 0 => hbmTy0_0 i
  | 1 => hbmTy0_1 i
  | _ => ⟨S4x2048x5376, .f32⟩

abbrev bufTy : (tb : Table) → Fin (tcTables nBuf tb) → BufTy
  | .hbm, ⟨i, _⟩ => hbmTy i
  | _, _ => ⟨S4x2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call0_v0 : Ref sig .tc := ⟨.hbm, 32, rfl⟩
abbrev main_v21_1 : Ref sig .tc := ⟨.hbm, 33, rfl⟩
abbrev main_call0_v2 : Ref sig .tc := ⟨.hbm, 34, rfl⟩
abbrev main_call0_v3 : Ref sig .tc := ⟨.hbm, 35, rfl⟩
abbrev main_v21_0 : Ref sig .tc := ⟨.hbm, 36, rfl⟩
abbrev main_call0_cst : Ref sig .tc := ⟨.hbm, 37, rfl⟩
abbrev main_v21_2 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_v59_2 : Ref sig .tc := ⟨.hbm, 92, rfl⟩
abbrev main_call1_cst_1 : Ref sig .tc := ⟨.hbm, 93, rfl⟩
abbrev main_call1_v6 : Ref sig .tc := ⟨.hbm, 94, rfl⟩
abbrev main_call1_v7 : Ref sig .tc := ⟨.hbm, 95, rfl⟩
abbrev main_v59_1 : Ref sig .tc := ⟨.hbm, 96, rfl⟩
abbrev main_v59_0 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v60 : Ref sig .tc := ⟨.hbm, 101, rfl⟩
abbrev main_cst_12 : Ref sig .tc := ⟨.hbm, 102, rfl⟩
abbrev main_v61 : Ref sig .tc := ⟨.hbm, 103, rfl⟩
abbrev main_v62 : Ref sig .tc := ⟨.hbm, 104, rfl⟩
abbrev main_cst_13 : Ref sig .tc := ⟨.hbm, 105, rfl⟩
abbrev main_v63 : Ref sig .tc := ⟨.hbm, 106, rfl⟩
abbrev main_v64 : Ref sig .tc := ⟨.hbm, 107, rfl⟩
abbrev main_cst_14 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_15 : Ref sig .tc := ⟨.hbm, 113, rfl⟩
abbrev main_v69 : Ref sig .tc := ⟨.hbm, 114, rfl⟩
abbrev main_v70 : Ref sig .tc := ⟨.hbm, 115, rfl⟩
abbrev main_cst_16 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_17 : Ref sig .tc := ⟨.hbm, 123, rfl⟩
abbrev main_v77 : Ref sig .tc := ⟨.hbm, 124, rfl⟩
abbrev main_v78 : Ref sig .tc := ⟨.hbm, 125, rfl⟩
abbrev main_cst_18 : Ref sig .tc := ⟨.hbm, 126, rfl⟩
abbrev main_v79 : Ref sig .tc := ⟨.hbm, 127, rfl⟩
abbrev main_v80 : Ref sig .tc := ⟨.hbm, 128, rfl⟩
abbrev main_cst_19 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_20 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_21 : Ref sig .tc := ⟨.hbm, 139, rfl⟩
abbrev main_v89 : Ref sig .tc := ⟨.hbm, 140, rfl⟩
abbrev main_v90 : Ref sig .tc := ⟨.hbm, 141, rfl⟩
abbrev main_cst_22 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_23 : Ref sig .tc := ⟨.hbm, 146, rfl⟩
abbrev main_v94 : Ref sig .tc := ⟨.hbm, 147, rfl⟩
abbrev main_v95 : Ref sig .tc := ⟨.hbm, 148, rfl⟩
abbrev main_cst_24 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_25 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_26 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_v106 : Ref sig .tc := ⟨.hbm, 167, rfl⟩
abbrev main_cst_27 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩

abbrev nD : Nat := 1
abbrev τ : Topo := Topo.v7x

variable {F : FTy → Type} [FloatOps F]
-- ==== Kernel7.lean ====
abbrev S4x2048x5376 : Shape := ⟨3, ![4, 2048, 5376]⟩
abbrev S64 : Shape := ⟨1, ![64]⟩
abbrev S16 : Shape := ⟨1, ![16]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192x5376 : Shape := ⟨2, ![8192, 5376]⟩
abbrev S8192x2048 : Shape := ⟨2, ![8192, 2048]⟩
abbrev S8192x1280 : Shape := ⟨2, ![8192, 1280]⟩
abbrev S_ : Shape := ⟨0, ![]⟩
abbrev S8192x1024 : Shape := ⟨2, ![8192, 1024]⟩
abbrev S2048x512 : Shape := ⟨2, ![2048, 512]⟩
abbrev S2048x128 : Shape := ⟨2, ![2048, 128]⟩
abbrev S2176x128 : Shape := ⟨2, ![2176, 128]⟩
abbrev S2x8x256x128 : Shape := ⟨4, ![2, 8, 256, 128]⟩
abbrev S8x512x128 : Shape := ⟨3, ![8, 512, 128]⟩
abbrev S8x512x512 : Shape := ⟨3, ![8, 512, 512]⟩
abbrev S2048 : Shape := ⟨1, ![2048]⟩
abbrev S2048x1 : Shape := ⟨2, ![2048, 1]⟩
abbrev S128x128 : Shape := ⟨2, ![128, 128]⟩
abbrev S256x128 : Shape := ⟨2, ![256, 128]⟩
abbrev S1 : Shape := ⟨1, ![1]⟩
abbrev S1x1x256x128 : Shape := ⟨4, ![1, 1, 256, 128]⟩
abbrev S512x128 : Shape := ⟨2, ![512, 128]⟩
abbrev S128x1 : Shape := ⟨2, ![128, 1]⟩
abbrev S1x512x128 : Shape := ⟨3, ![1, 512, 128]⟩
abbrev S1x128x128 : Shape := ⟨3, ![1, 128, 128]⟩
abbrev S512x512 : Shape := ⟨2, ![512, 512]⟩
abbrev S1x512x512 : Shape := ⟨3, ![1, 512, 512]⟩
abbrev S1x256x128 : Shape := ⟨3, ![1, 256, 128]⟩
abbrev S128x512 : Shape := ⟨2, ![128, 512]⟩

abbrev nBuf : Space → Nat
  | .hbm => 33
  | .vmem => 18
  | .smem => 2
  | _ => 0

abbrev bufTy : (tb : Table) → Fin (tcTables nBuf tb) → BufTy
  | .hbm, ⟨0, _⟩ => ⟨S4x2048x5376, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S8192x5376, .f32⟩
  | .hbm, ⟨13, _⟩ => ⟨S8192x2048, .f32⟩
  | .hbm, ⟨14, _⟩ => ⟨S8192x2048, .f32⟩
  | .hbm, ⟨15, _⟩ => ⟨S8192x1280, .f32⟩
  | .hbm, ⟨16, _⟩ => ⟨S8192x5376, .f32⟩
  | .hbm, ⟨17, _⟩ => ⟨S8192x5376, .bf16⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S2048x512, .bf16⟩
  | .local _ .vmem, ⟨9, _⟩ => ⟨S2048x512, .bf16⟩
  | .local _ .vmem, ⟨10, _⟩ => ⟨S2176x128, .bf16⟩
  | .local _ .vmem, ⟨11, _⟩ => ⟨S2176x128, .bf16⟩
  | .local _ .vmem, ⟨12, _⟩ => ⟨S2176x128, .bf16⟩
  | .local _ .vmem, ⟨13, _⟩ => ⟨S2176x128, .bf16⟩
  | .local _ .vmem, ⟨14, _⟩ => ⟨S2x8x256x128, .f32⟩
  | .local _ .vmem, ⟨15, _⟩ => ⟨S8x512x128, .bf16⟩
  | .local _ .vmem, ⟨16, _⟩ => ⟨S8x512x512, .f32⟩
  | .local _ .vmem, ⟨17, _⟩ => ⟨S8x512x512, .bf16⟩
  | .local _ .smem, ⟨0, _⟩ => ⟨S16, .f32⟩
  | .local _ .smem, ⟨1, _⟩ => ⟨S16, .f32⟩
  | _, _ => ⟨S4x2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 2], ![false, false]⟩

def k0_off1 (i : grid0.Coords) (c0_i32_38 : BitVec 32) : Fin 1 → Nat :=
  let arg1 : BitVec 32 := BitVec.ofNat 32 (i 1).val
  let c8_i32 : BitVec 32 := 8#32
  let v121 : BitVec 32 := Scalar.muli arg1 c8_i32
  let v122 : BitVec 32 := Scalar.addi v121 c0_i32_38
  let v123 : Index := Scalar.indexCast v122
  ![v123.toNat]
@[reducible] def k0_t1_loop : Scf.Loop 32 :=
  let c0_i32_139 : BitVec 32 := 0#32
  let c2_i32_140 : BitVec 32 := 2#32
  let v277 : BitVec 32 := Scalar.addi c0_i32_139 c2_i32_140
  let c1_i32_141 : BitVec 32 := 1#32
  ⟨c0_i32_139, v277, c1_i32_141⟩
def k0_mult1 (k0_t1 : Fin k0_t1_loop.trips) : BitVec 32 :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let c0_i32_144 : BitVec 32 := 0#32
  let v279 : BitVec 32 := Scalar.addi v278 c0_i32_144
  let c128_i32_145 : BitVec 32 := 128#32
  let v280 : BitVec 32 := Scalar.muli v279 c128_i32_145
  v280
def k0_off2 (k0_t1 : Fin k0_t1_loop.trips) (c0_i32_144 : BitVec 32) : Fin 2 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c128_i32_145 : BitVec 32 := 128#32
  let v280 : BitVec 32 := Scalar.muli v279 c128_i32_145
  let v281 : BitVec 32 := v280
  let v282 : Index := Scalar.indexCast v281
  let c0_146 : Index := 0#32
  ![v282.toNat, 0]
def k0_off3 (k0_t1 : Fin k0_t1_loop.trips) (c0_i32_144 : BitVec 32) : Fin 2 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c128_i32_145 : BitVec 32 := 128#32
  let v280 : BitVec 32 := Scalar.muli v279 c128_i32_145
  let v281 : BitVec 32 := v280
  let v293 : Index := Scalar.indexCast v281
  let c0_151 : Index := 0#32
  ![v293.toNat, 0]
def k0_off4 (k0_t1 : Fin k0_t1_loop.trips) (c0_i32_144 : BitVec 32) : Fin 2 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c128_i32_145 : BitVec 32 := 128#32
  let v280 : BitVec 32 := Scalar.muli v279 c128_i32_145
  let v281 : BitVec 32 := v280
  let v331 : Index := Scalar.indexCast v281
  let c128_163 : Index := 128#32
  ![v331.toNat, 128]
def k0_off5 (k0_t1 : Fin k0_t1_loop.trips) (c0_i32_144 : BitVec 32) : Fin 2 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c128_i32_145 : BitVec 32 := 128#32
  let v280 : BitVec 32 := Scalar.muli v279 c128_i32_145
  let v281 : BitVec 32 := v280
  let v369 : Index := Scalar.indexCast v281
  let c256 : Index := 256#32
  ![v369.toNat, 256]
def k0_off6 (k0_t1 : Fin k0_t1_loop.trips) (c0_i32_144 : BitVec 32) : Fin 2 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c128_i32_145 : BitVec 32 := 128#32
  let v280 : BitVec 32 := Scalar.muli v279 c128_i32_145
  let v281 : BitVec 32 := v280
  let v407 : Index := Scalar.indexCast v281
  let c384 : Index := 384#32
  ![v407.toNat, 384]
def k0_off7 (i : grid0.Coords) (c0_i32_205 : BitVec 32) : Fin 1 → Nat :=
  let arg1 : BitVec 32 := BitVec.ofNat 32 (i 1).val
  let c8_i32_204 : BitVec 32 := 8#32
  let v451 : BitVec 32 := Scalar.muli arg1 c8_i32_204
  let v452 : BitVec 32 := Scalar.addi v451 c0_i32_205
  let v453 : Index := Scalar.indexCast v452
  ![v453.toNat]
def k0_off8 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v458 : Index := Scalar.indexCast v292
  let c0_211 : Index := 0#32
  let c0_212 : Index := 0#32
  let c0_213 : Index := 0#32
  ![v458.toNat, 0, 0, 0]
def k0_off9 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v492 : Index := Scalar.indexCast v292
  let c1_229 : Index := 1#32
  let c0_230 : Index := 0#32
  let c0_231 : Index := 0#32
  ![v492.toNat, 1, 0, 0]
def k0_off10 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v526 : Index := Scalar.indexCast v292
  let c2_247 : Index := 2#32
  let c0_248 : Index := 0#32
  let c0_249 : Index := 0#32
  ![v526.toNat, 2, 0, 0]
def k0_off11 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v560 : Index := Scalar.indexCast v292
  let c3_265 : Index := 3#32
  let c0_266 : Index := 0#32
  let c0_267 : Index := 0#32
  ![v560.toNat, 3, 0, 0]
def k0_off12 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v594 : Index := Scalar.indexCast v292
  let c4_283 : Index := 4#32
  let c0_284 : Index := 0#32
  let c0_285 : Index := 0#32
  ![v594.toNat, 4, 0, 0]
def k0_off13 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v628 : Index := Scalar.indexCast v292
  let c5_301 : Index := 5#32
  let c0_302 : Index := 0#32
  let c0_303 : Index := 0#32
  ![v628.toNat, 5, 0, 0]
def k0_off14 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v662 : Index := Scalar.indexCast v292
  let c6_319 : Index := 6#32
  let c0_320 : Index := 0#32
  let c0_321 : Index := 0#32
  ![v662.toNat, 6, 0, 0]
def k0_off15 (k0_t1 : Fin k0_t1_loop.trips) (c0_i32_144 : BitVec 32) : Fin 4 → Nat :=
  let c8_i32_143 : BitVec 32 := 8#32
  let c0_i32_139 : BitVec 32 := 0#32
  let c1_i32_141 : BitVec 32 := 1#32
  let arg18 : BitVec 32 := Scf.iv c0_i32_139 c1_i32_141 k0_t1
  let v278 : BitVec 32 := Scalar.muli c8_i32_143 arg18
  let v279 : BitVec 32 := Scalar.addi v278 c0_i32_144
  let c1_i32_150 : BitVec 32 := 1#32
  let v292 : BitVec 32 := Scalar.minsi v279 c1_i32_150
  let v696 : Index := Scalar.indexCast v292
  let c7_337 : Index := 7#32
  let c0_338 : Index := 0#32
  let c0_339 : Index := 0#32
  ![v696.toNat, 7, 0, 0]
def k0_mult2 (k0_t1 : Fin k0_t1_loop.trips) : BitVec 32 :=
  let c8_i32_356 : BitVec 32 := 8#32
  let c0_i32_139 : BitVec 32 := 0#32
  let c1_i32_141 : BitVec 32 := 1#32
  let arg18 : BitVec 32 := Scf.iv c0_i32_139 c1_i32_141 k0_t1
  let v743 : BitVec 32 := Scalar.muli c8_i32_356 arg18
  let c1_i32_357 : BitVec 32 := 1#32
  let v744 : BitVec 32 := Scalar.addi v743 c1_i32_357
  let c128_i32_358 : BitVec 32 := 128#32
  let v745 : BitVec 32 := Scalar.muli v744 c128_i32_358
  v745
def k0_mult3 (k0_t1 : Fin k0_t1_loop.trips) : BitVec 32 :=
  let c8_i32_571 : BitVec 32 := 8#32
  let c0_i32_139 : BitVec 32 := 0#32
  let c1_i32_141 : BitVec 32 := 1#32
  let arg18 : BitVec 32 := Scf.iv c0_i32_139 c1_i32_141 k0_t1
  let v1208 : BitVec 32 := Scalar.muli c8_i32_571 arg18
  let c2_i32_572 : BitVec 32 := 2#32
  let v1209 : BitVec 32 := Scalar.addi v1208 c2_i32_572
  let c128_i32_573 : BitVec 32 := 128#32
  let v1210 : BitVec 32 := Scalar.muli v1209 c128_i32_573
  v1210
def k0_mult4 (k0_t1 : Fin k0_t1_loop.trips) : BitVec 32 :=
  let c8_i32_786 : BitVec 32 := 8#32
  let c0_i32_139 : BitVec 32 := 0#32
  let c1_i32_141 : BitVec 32 := 1#32
  let arg18 : BitVec 32 := Scf.iv c0_i32_139 c1_i32_141 k0_t1
  let v1673 : BitVec 32 := Scalar.muli c8_i32_786 arg18
  let c3_i32_787 : BitVec 32 := 3#32
  let v1674 : BitVec 32 := Scalar.addi v1673 c3_i32_787
  let c128_i32_788 : BitVec 32 := 128#32
  let v1675 : BitVec 32 := Scalar.muli v1674 c128_i32_788
  v1675
def k0_mult5 (k0_t1 : Fin k0_t1_loop.trips) : BitVec 32 :=
  let c8_i32_1001 : BitVec 32 := 8#32
  let c0_i32_139 : BitVec 32 := 0#32
  let c1_i32_141 : BitVec 32 := 1#32
  let arg18 : BitVec 32 := Scf.iv c0_i32_139 c1_i32_141 k0_t1
  let v2138 : BitVec 32 := Scalar.muli c8_i32_1001 arg18
  let c4_i32_1002 : BitVec 32 := 4#32
  let v2139 : BitVec 32 := Scalar.addi v2138 c4_i32_1002
  let c128_i32_1003 : BitVec 32 := 128#32
  let v2140 : BitVec 32 := Scalar.muli v2139 c128_i32_1003
  v2140
def k0_mult6 (k0_t1 : Fin k0_t1_loop.trips) : BitVec 32 :=
  let c8_i32_1216 : BitVec 32 := 8#32
  let c0_i32_139 : BitVec 32 := 0#32
  let c1_i32_141 : BitVec 32 := 1#32
  let arg18 : BitVec 32 := Scf.iv c0_i32_139 c1_i32_141 k0_t1
  let v2603 : BitVec 32 := Scalar.muli c8_i32_1216 arg18
  let c5_i32_1217 : BitVec 32 := 5#32
  let v2604 : BitVec 32 := Scalar.addi v2603 c5_i32_1217
  let c128_i32_1218 : BitVec 32 := 128#32
  let v2605 : BitVec 32 := Scalar.muli v2604 c128_i32_1218
  v2605
def k0_mult7 (k0_t1 : Fin k0_t1_loop.trips) : BitVec 32 :=
  let c8_i32_1431 : BitVec 32 := 8#32
  let c0_i32_139 : BitVec 32 := 0#32
  let c1_i32_141 : BitVec 32 := 1#32
  let arg18 : BitVec 32 := Scf.iv c0_i32_139 c1_i32_141 k0_t1
  let v3068 : BitVec 32 := Scalar.muli c8_i32_1431 arg18
  let c6_i32_1432 : BitVec 32 := 6#32
  let v3069 : BitVec 32 := Scalar.addi v3068 c6_i32_1432
  let c128_i32_1433 : BitVec 32 := 128#32
  let v3070 : BitVec 32 := Scalar.muli v3069 c128_i32_1433
  v3070
def k0_mult8 (k0_t1 : Fin k0_t1_loop.trips) : BitVec 32 :=
  let c8_i32_1646 : BitVec 32 := 8#32
  let c0_i32_139 : BitVec 32 := 0#32
  let c1_i32_141 : BitVec 32 := 1#32
  let arg18 : BitVec 32 := Scf.iv c0_i32_139 c1_i32_141 k0_t1
  let v3533 : BitVec 32 := Scalar.muli c8_i32_1646 arg18
  let c7_i32_1647 : BitVec 32 := 7#32
  let v3534 : BitVec 32 := Scalar.addi v3533 c7_i32_1647
  let c128_i32_1648 : BitVec 32 := 128#32
  let v3535 : BitVec 32 := Scalar.muli v3534 c128_i32_1648
  v3535
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, c40_i32.toNat]

def cc0_transform_4 (i : grid0.Coords) : Fin 2 → Nat :=
  let arg0 : BitVec 32 := BitVec.ofNat 32 (i 0).val
  let arg1 : BitVec 32 := BitVec.ofNat 32 (i 1).val
  let c41_i32 : BitVec 32 := 41#32
  let c0_i32 : BitVec 32 := 0#32
  ![arg0.toNat, c41_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "mask" => some ⊥
  | _ => none
-- ==== Kernel8.lean ====
abbrev S4x2048x1024 : Shape := ⟨3, ![4, 2048, 1024]⟩
abbrev S1024 : Shape := ⟨1, ![1024]⟩
abbrev S1024x5376 : Shape := ⟨2, ![1024, 5376]⟩
abbrev S8192x1024 : Shape := ⟨2, ![8192, 1024]⟩
abbrev S1x1024 : Shape := ⟨2, ![1, 1024]⟩
abbrev S5376x1024 : Shape := ⟨2, ![5376, 1024]⟩
abbrev S8192x5376 : Shape := ⟨2, ![8192, 5376]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩
abbrev S2048x1024 : Shape := ⟨2, ![2048, 1024]⟩
abbrev S512x2048 : Shape := ⟨2, ![512, 2048]⟩
abbrev S1280x1024 : Shape := ⟨2, ![1280, 1024]⟩
abbrev S512x1280 : Shape := ⟨2, ![512, 1280]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5376, .f32⟩
  | .hbm, ⟨3, _⟩ => ⟨S8192x1024, .f32⟩
  | .hbm, ⟨4, _⟩ => ⟨S1x1024, .f32⟩
  | .hbm, ⟨5, _⟩ => ⟨S1024x5376, .bf16⟩
  | .hbm, ⟨6, _⟩ => ⟨S5376x1024, .bf16⟩
  | .hbm, ⟨7, _⟩ => ⟨S8192x5376, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5376x1024, .bf16⟩
  | .local _ .vmem, ⟨4, _⟩ => ⟨S512x5376, .bf16⟩
  | .local _ .vmem, ⟨5, _⟩ => ⟨S512x5376, .bf16⟩
  | .local _ .vmem, ⟨6, _⟩ => ⟨S512x1024, .bf16⟩
  | .local _ .vmem, ⟨7, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4x2048x1024 : Shape := ⟨3, ![4, 2048, 1024]⟩
abbrev S1024 : Shape := ⟨1, ![1024]⟩
abbrev S1024x5376 : Shape := ⟨2, ![1024, 5376]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5376 : Shape := ⟨2, ![8192, 5376]⟩
abbrev S8192x2048 : Shape := ⟨2, ![8192, 2048]⟩
abbrev S8192x1280 : Shape := ⟨2, ![8192, 1280]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x5376, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5376, .f32⟩
  | .hbm, ⟨21, _⟩ => ⟨S8192x2048, .f32⟩
  | .hbm, ⟨22, _⟩ => ⟨S8192x2048, .f32⟩
  | .hbm, ⟨23, _⟩ => ⟨S8192x1280, .f32⟩
  | .hbm, ⟨24, _⟩ => ⟨S8192x5376, .f32⟩
  | .hbm, ⟨25, _⟩ => ⟨S8192x5376, .bf16⟩
  | .hbm, ⟨26, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel9.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S8192x2816 : Shape := ⟨2, ![8192, 2816]⟩
abbrev S8192x1024 : Shape := ⟨2, ![8192, 1024]⟩
abbrev S8x128 : Shape := ⟨2, ![8, 128]⟩
abbrev S512x2816 : Shape := ⟨2, ![512, 2816]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S4x2048x1024, .f32⟩
  | .hbm, ⟨4, _⟩ => ⟨S8192x2816, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S8192x1024, .f32⟩
  | .hbm, ⟨9, _⟩ => ⟨S8x128, .f32⟩
  | .hbm, ⟨10, _⟩ => ⟨S8192x1024, .f32⟩
  | .hbm, ⟨11, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S8192x1024 : Shape := ⟨2, ![8192, 1024]⟩
abbrev S8192x2816 : Shape := ⟨2, ![8192, 2816]⟩
abbrev S_ : Shape := ⟨0, ![]⟩
abbrev S8192 : Shape := ⟨1, ![8192]⟩
abbrev S8x128 : Shape := ⟨2, ![8, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S2816x1024, .f32⟩
  | .hbm, ⟨2, _⟩ => ⟨S4x2048x1024, .f32⟩
  | .hbm, ⟨3, _⟩ => ⟨S4x2048x1024, .f32⟩
  | .hbm, ⟨4, _⟩ => ⟨S8192x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1024, .f32⟩
  | .hbm, ⟨35, _⟩ => ⟨S8192x1024, .f32⟩
  | .hbm, ⟨36, _⟩ => ⟨S8x128, .f32⟩
  | .hbm, ⟨37, _⟩ => ⟨S8192x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.RealArith.lean ====
module

public import Idealize.ShloMosaic.Lib.IdealHost
public import Idealize.ShloMosaic.Lib.Pointwise

/-! Arithmetic of the extended reals that the gradients' claims share: the literals' values, sums of finite
    terms, and the gradient of the rms norm. -/

@[expose] public section

noncomputable section

namespace Cert.Arith

open Idealize.ShloMosaic

/-! ## Literals -/

theorem lit_1024 : Ideal.ofBits .f32 1149239296#32 = ((1024 : ℝ) : EReal) := by
  simp [Ideal.ofBits, Ideal.ieee, -EReal.coe_mul]; norm_num
theorem lit_neg_half : Ideal.ofBits .f32 3204448256#32 = ((-(1 / 2) : ℝ) : EReal) := by
  simp [Ideal.ofBits, Ideal.ieee, -EReal.coe_mul]; norm_num
/-- The epsilon of the norms is some positive real. -/
theorem lit_eps : ∃ e : ℝ, 0 < e ∧ Ideal.ofBits .f32 897988541#32 = (e : EReal) := by
  refine ⟨_, ?_, by simp [Ideal.ofBits, Ideal.ieee, -EReal.coe_mul]; rfl⟩
  norm_num

/-! ## Finite terms -/

/-- A sum of reals is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A comparison of magnitude with infinity leaves a real. -/
theorem real_of_abs_lt {x : EReal} (h1 : x ≠ ⊤) (h2 : x ≠ ⊥) : ∃ a : ℝ, x = a :=
  ⟨x.toReal, (EReal.coe_toReal h1 h2).symm⟩

/-- A magnitude compared below infinity is a real's. -/
theorem real_of_olt {S : Shape} (x : FVec Ideal S .f32) (v : FVec Ideal S .f32) (i : S.Idx) (hv : v i = Ideal.ofBits .f32 0x7F800000#32)
    (h : cmpf .olt (Host.absf x) v i = 1#1) : ∃ a : ℝ, x i = (a : EReal) := by
  have ht : Ideal.ofBits .f32 0x7F800000#32 = ⊤ := by simp [Ideal.ofBits, Ideal.ieee]
  pointwise at h
  rw [hv, ht] at h
  have h' : max (x i) (-(x i)) < (⊤ : EReal) := by
    by_contra hc
    have : decide (FloatOps.absf (F := Ideal) (x i) < (⊤ : EReal)) = false := decide_eq_false hc
    rw [this] at h
    exact absurd h (by decide)
  refine real_of_abs_lt (fun e => ?_) (fun e => ?_) <;> (rw [e] at h'; simp at h')

/-- Two negated halves of a real multiple of any extended real are its negation. -/
theorem halves_neg (S : EReal) (c : ℝ) : S * ((-(c / 2) : ℝ) : EReal) + S * ((-(c / 2) : ℝ) : EReal) = -(S * (c : EReal)) := by
  induction S with
  | coe s => norm_cast; ring
  | top =>
    rcases lt_trichotomy c 0 with h | h | h
    · rw [EReal.top_mul_coe_of_neg h, EReal.top_mul_coe_of_pos (by linarith)]; simp
    · subst h; simp
    · rw [EReal.top_mul_coe_of_pos h, EReal.top_mul_coe_of_neg (by linarith)]; simp
  | bot =>
    rcases lt_trichotomy c 0 with h | h | h
    · rw [EReal.bot_mul_coe_of_neg h, EReal.bot_mul_coe_of_pos (by linarith)]; simp
    · subst h; simp
    · rw [EReal.bot_mul_coe_of_pos h, EReal.bot_mul_coe_of_neg (by linarith)]; simp

/-! ## The rms norm's gradient -/

/-- The kernel's closed form of the rms norm's gradient against the derivative's own chain of operations, for one
    row of finite entries `x` and any cotangents `t`, `d`. -/
theorem rms_grad {n : ℕ} (x t : Fin n → EReal) (hx : ∀ k, ∃ a : ℝ, x k = a) {N e : EReal} {N' e' : ℝ} (hN : N = (N' : EReal)) (he : e = (e' : EReal))
    (hN0 : 0 < N') (he0 : 0 < e') (i : Fin n) (d : EReal) {h : EReal} (hh : h = ((-(1 / 2) : ℝ) : EReal)) :
    d + (Ideal.rsqrt (Ideal.div (∑ k, x k * x k) N + e) * t i
        - x i * (Ideal.rsqrt (Ideal.div (∑ k, x k * x k) N + e) * Ideal.rsqrt (Ideal.div (∑ k, x k * x k) N + e)
            * Ideal.rsqrt (Ideal.div (∑ k, x k * x k) N + e) * Ideal.div (∑ k, t k * x k) N))
      = d + t i * Ideal.rsqrt (Ideal.div (∑ k, x k * x k) N + e)
        + x i * Ideal.div ((∑ k, x k * t k) * (h * Ideal.div (Ideal.rsqrt (Ideal.div (∑ k, x k * x k) N + e)) (Ideal.div (∑ k, x k * x k) N + e))) N
        + Ideal.div ((∑ k, x k * t k) * (h * Ideal.div (Ideal.rsqrt (Ideal.div (∑ k, x k * x k) N + e)) (Ideal.div (∑ k, x k * x k) N + e))) N * x i := by
  choose a ha using hx
  subst hN he hh
  have hv : Ideal.div (∑ k, x k * x k) (N' : EReal) + (e' : EReal) = (((∑ k, a k * a k) * (1 / N') + e' : ℝ) : EReal) := by
    simp only [ha]
    rw [Ideal.div_coe hN0.ne']
    simp only [← EReal.coe_mul, coe_sum, ← EReal.coe_add]
  have hw : 0 < (∑ k, a k * a k) * (1 / N') + e' := by
    have : 0 ≤ ∑ k, a k * a k := Finset.sum_nonneg fun k _ => mul_self_nonneg _
    positivity
  rw [hv]
  generalize (∑ k, a k * a k) * (1 / N') + e' = w at hw
  rw [Ideal.rsqrt_coe, if_neg (not_lt.2 hw.le), if_neg hw.ne', Ideal.div_coe hw.ne', Ideal.div_coe hN0.ne', Ideal.div_coe hN0.ne',
    Finset.sum_congr rfl (fun k _ => mul_comm (x k) (t k))]
  generalize ∑ k, t k * x k = S
  rw [ha i]
  generalize a i = b
  have hq : (Real.sqrt w)⁻¹ * (1 / w) = (Real.sqrt w)⁻¹ * (Real.sqrt w)⁻¹ * (Real.sqrt w)⁻¹ := by
    have : Real.sqrt w * Real.sqrt w = w := Real.mul_self_sqrt hw.le
    have h0 : Real.sqrt w ≠ 0 := (Real.sqrt_pos.2 hw).ne'
    nth_rewrite 2 [← this]
    field_simp
  have key : ∀ p : ℝ, p = (Real.sqrt w)⁻¹ * (Real.sqrt w)⁻¹ * (Real.sqrt w)⁻¹ →
      (b : EReal) * ((p : EReal) * (S * ((1 / N' : ℝ) : EReal))) = S * ((b * p * (1 / N') : ℝ) : EReal) := by
    intro p _
    push_cast
    ac_rfl
  have key2 : (b : EReal) * (S * ((((-(1 / 2) : ℝ) : EReal)) * ((((Real.sqrt w)⁻¹ : ℝ) : EReal) * ((1 / w : ℝ) : EReal))) * ((1 / N' : ℝ) : EReal))
      = S * ((-((b * ((Real.sqrt w)⁻¹ * (Real.sqrt w)⁻¹ * (Real.sqrt w)⁻¹) * (1 / N')) / 2) : ℝ) : EReal) := by
    rw [← hq]
    have : (-((b * ((Real.sqrt w)⁻¹ * (1 / w)) * (1 / N')) / 2) : ℝ) = b * ((-(1 / 2)) * ((Real.sqrt w)⁻¹ * (1 / w)) * (1 / N')) := by ring
    rw [this]
    simp only [EReal.coe_mul]
    ac_rfl
  rw [mul_comm _ (b : EReal), key2, sub_eq_add_neg, ← EReal.coe_mul, ← EReal.coe_mul, key _ rfl, ← halves_neg, add_assoc, add_assoc,
    mul_comm (t i)]

end Cert.Arith
-- ==== Proof.FfnIn.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Proof.RealArith

@[expose] public section

set_option maxRecDepth 16384

noncomputable section

open Idealize.ShloMosaic Idealize.ShloMosaic.TcCoe Idealize.SL.Sem
open Idealize.ShloMosaic.Pipeline (Dat)

namespace Cert.ReferenceIdeal.Value
open Cert.ReferenceIdeal Cert.ReferenceIdeal.Gen

/-- The tokens of the hidden state, flattened. -/
def flat (X : FVec Ideal S4x2048x1024 .f32) : FVec Ideal S8192x1024 .f32 := shapeCast _ X shapeCasts_S4x2048x1024_S8192x1024
theorem flat_real (X : FVec Ideal S4x2048x1024 .f32) (h : ∀ j, ∃ a : ℝ, X j = (a : EReal)) (i : S8192x1024.Idx) : ∃ a : ℝ, flat X i = (a : EReal) := by
  unfold flat shapeCast
  exact h _
/-- Mean square plus epsilon of each token. -/
def ms (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- The normalised tokens. -/
def nrm (x : FVec Ideal S8192x1024 .f32) : FVec Ideal S8192x1024 .f32 :=
  mulf x (broadcastInDim S8192x1024 ![0, 1] bcast_S8192x1_S8192x1024_0_1 (Host.rsqrt (ms x)))
/-- The cotangent of the normalised and scaled tokens. -/
def dhn (W : FVec Ideal S1024x5632 .f32) (D : FVec Ideal S8192x5632 .bf16) : FVec Ideal S8192x1024 .f32 :=
  Host.dotGeneral dot_S8192x5632_S1024x5632_S8192x1024_1_1_0_0_n_n none (extf .f32 D bitsLt_bf16_f32) W
/-- The cotangent of the normalised tokens. -/
def tt (g : FVec Ideal S1024 .f32) (d : FVec Ideal S8192x1024 .f32) : FVec Ideal S8192x1024 .f32 :=
  mulf d (broadcastInDim S8192x1024 ![0, 1] bcast_S1x1024_S8192x1024_0_1 (broadcastInDim S1x1024 ![1] bcast_S1024_S1x1024_1 g))
/-- The cotangent of a token's mean square, over its width. -/
def gms (x t : FVec Ideal S8192x1024 .f32) : FVec Ideal S8192x1024 .f32 :=
  broadcastInDim S8192x1024 ![0] bcast_S8192_S8192x1024_0 (Host.reduceAdd (Host.divf (mulf (shapeCast _ (Host.reduceAdd (mulf x t) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (ms x)) (ms x)))) (broadcastInDim S8192x1 ![] bcast_S_S8192x1 (constant S_ .f32 0x44800000#32))) (constant S_ .f32 0x00000000#32) reducesTo_S8192x1_S8192_d1 h_S_)
/-- The gradient of the hidden state. -/
def gx (x t dout : FVec Ideal S8192x1024 .f32) : FVec Ideal S8192x1024 .f32 :=
  addf (addf (addf dout (mulf t (broadcastInDim S8192x1024 ![0, 1] bcast_S8192x1_S8192x1024_0_1 (Host.rsqrt (ms x))))) (mulf x (gms x t))) (mulf (gms x t) x)
/-- The gradient of the gain. -/
def gg (x d : FVec Ideal S8192x1024 .f32) : FVec Ideal S1x1024 .f32 :=
  shapeCast _ (Host.reduceAdd (shapeCast _ (Host.reduceAdd (mulf (nrm x) d) (constant S_ .f32 0x00000000#32) reducesTo_S8192x1024_S1024_d0 h_S_) shapeCasts_S1024_S1x1024) (constant S_ .f32 0x00000000#32) reducesTo_S1x1024_S1024_d0 h_S_) shapeCasts_S1024_S1x1024

theorem out0_eq (m : (ℓ : Loc nD τ sig) → Buf (Elt Ideal) ℓ) (c : Dev nD) :
    res_out0 m c = gx (flat (m ((c.tc : Thread nD τ).loc main_arg0))) (tt (m ((c.tc : Thread nD τ).loc main_arg1)) (dhn (m ((c.tc : Thread nD τ).loc main_arg2)) (m ((c.tc : Thread nD τ).loc main_arg3)))) (m ((c.tc : Thread nD τ).loc main_arg4)) := rfl

theorem out1_eq (m : (ℓ : Loc nD τ sig) → Buf (Elt Ideal) ℓ) (c : Dev nD) :
    res_out1 m c = truncf .bf16 (gx (flat (m ((c.tc : Thread nD τ).loc main_arg0))) (tt (m ((c.tc : Thread nD τ).loc main_arg1)) (dhn (m ((c.tc : Thread nD τ).loc main_arg2)) (m ((c.tc : Thread nD τ).loc main_arg3)))) (m ((c.tc : Thread nD τ).loc main_arg4))) bitsLt_bf16_f32 := rfl

end Cert.ReferenceIdeal.Value

namespace Cert.KernelIdeal.Value
open Cert.KernelIdeal Cert.KernelIdeal.Gen
open Cert.ReferenceIdeal.Value (flat ms nrm dhn tt gms gx gg)

/-- One row of the kernel's gradient of the hidden state against the reference's. -/
theorem row_dh (v0 : FVec Ideal S512x5632 .bf16) (v1 : FVec Ideal S5632x1024 .bf16) (v4 : FVec Ideal S512x1024 .f32) (v6 : FVec Ideal S1x1024 .f32)
    (v34 : FVec Ideal S512x1024 .f32) (x O : FVec Ideal S8192x1024 .f32) (G : FVec Ideal S1024 .f32) (W : FVec Ideal S1024x5632 .f32) (D : FVec Ideal S8192x5632 .bf16)
    (r : Fin 512) (s : Fin 8192) (d : Fin 1024)
    (h0 : ∀ k, v0 (ix2 r k) = D (ix2 s k)) (h1 : ∀ k e, v1 (ix2 k e) = W (ix2 e k)) (h4 : ∀ k, v4 (ix2 r k) = x (ix2 s k))
    (h6 : ∀ k, v6 (ix2 0 k) = G (ix1 k)) (h34 : v34 (ix2 r d) = O (ix2 s d)) (hx : ∀ k, ∃ a : ℝ, x (ix2 s k) = (a : EReal)) :
    k0_pay7 (F := Ideal) v0 v1 v4 v6 v34 (ix2 r d) = gx x (tt G (dhn W D)) O (ix2 s d) := by
  obtain ⟨e, he0, he⟩ := Cert.Arith.lit_eps
  pointwise [k0_pay7, k0_pay3, k0_pay4, k0_pay5, gx, gms, ms, tt, dhn]
  simp only [h0, h1, h4, h6, h34, Finset.univ_unique, Finset.sum_const, Finset.card_singleton, one_smul]
  exact Cert.Arith.rms_grad (fun k => x (ix2 s k)) (fun k => (∑ j, D (ix2 s j) * W (ix2 k j)) * G (ix1 k)) hx Cert.Arith.lit_1024 he (by norm_num) he0 d _ Cert.Arith.lit_neg_half

/-- One token's part of the gain's gradient. -/
def part (x : FVec Ideal S8192x1024 .f32) (W : FVec Ideal S1024x5632 .f32) (D : FVec Ideal S8192x5632 .bf16) (d : Fin 1024) (s : Fin 8192) : EReal :=
  x (ix2 s d) * Ideal.rsqrt (Ideal.div (∑ k, x (ix2 s k) * x (ix2 s k)) (Ideal.ofBits .f32 1149239296#32) + Ideal.ofBits .f32 897988541#32)
    * ∑ k, D (ix2 s k) * W (ix2 d k)

/-- The gain's gradient of one grid point added to what the points before left. -/
theorem row_dg (v0 : FVec Ideal S512x5632 .bf16) (v1 : FVec Ideal S5632x1024 .bf16) (v4 : FVec Ideal S512x1024 .f32) (v42 : FVec Ideal S1x1024 .f32)
    (x : FVec Ideal S8192x1024 .f32) (W : FVec Ideal S1024x5632 .f32) (D : FVec Ideal S8192x5632 .bf16) (tok : Fin 512 → Fin 8192) (d : Fin 1024)
    (h0 : ∀ r k, v0 (ix2 r k) = D (ix2 (tok r) k)) (h1 : ∀ k e, v1 (ix2 k e) = W (ix2 e k)) (h4 : ∀ r k, v4 (ix2 r k) = x (ix2 (tok r) k)) :
    k0_pay2 (F := Ideal) (k0_pay6 v0 v1 v4) v42 (ix2 0 d) = v42 (ix2 0 d) + ∑ r, part x W D d (tok r) := by
  pointwise [k0_pay2, k0_pay6, k0_pay3, k0_pay4, k0_pay5]
  simp only [h0, h1, h4, part]
  refine congrArg _ (Finset.sum_congr rfl fun r _ => ?_)
  ac_rfl

theorem gg_at (x : FVec Ideal S8192x1024 .f32) (W : FVec Ideal S1024x5632 .f32) (D : FVec Ideal S8192x5632 .bf16) (d : Fin 1024) :
    gg x (dhn W D) (ix2 0 d) = ∑ s, part x W D d s := by
  pointwise [gg, nrm, ms, dhn]
  simp only [part, Finset.univ_unique, Finset.sum_const, Finset.card_singleton, one_smul]

theorem hzero (j : S1x1024.Idx) : k0_pay1 (F := Ideal) j = 0 := by pointwise [k0_pay1]

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ) (c : Dev nD)

/-- The gradient of the hidden state, over the kernel's own memory. -/
abbrev GX : FVec Ideal S8192x1024 .f32 :=
  gx (flat (m ((c.tc : Thread nD τ).loc main_arg0))) (tt (m ((c.tc : Thread nD τ).loc main_arg1)) (dhn (m ((c.tc : Thread nD τ).loc main_arg2)) (m ((c.tc : Thread nD τ).loc main_arg3)))) (m ((c.tc : Thread nD τ).loc main_arg4))

theorem row (hx : ∀ i, ∃ a : ℝ, flat (m ((c.tc : Thread nD τ).loc main_arg0)) i = (a : EReal)) (t : Fin cfg0.N) (y : S512x1024.Idx) (i : S8192x1024.Idx)
   (hi : (i 0).val = t.val * 512 + (y 0).val) (hi1 : (i 1).val = (y 1).val) :
    k0_pay7 (F := Ideal) (iblk m c 0 t) (iblk m c 1 t) (iblk m c 2 t) (iblk m c 3 t) (iblk m c 4 t) y = GX m c i := by
  idx_vars y
  idx_vars i
  obtain rfl : i1 = y1 := Fin.ext hi1
  refine row_dh _ _ _ _ _ _ _ _ _ _ y0 i0 i1 (fun k => ?_) (fun k e => ?_) (fun k => ?_) (fun k => ?_) ?_ (fun k => hx _)
  · blk_ext! [iblk, V, idx t]
  · blk_ext! [iblk, V, idx t]
  · blk_ext! [iblk, V, idx t]
  · blk_ext! [iblk, V, idx t]
  · blk_ext! [iblk, V, idx t]

theorem final5 (hx : ∀ i, ∃ a : ℝ, flat (m ((c.tc : Thread nD τ).loc main_arg0)) i = (a : EReal)) :
    (dats m 0 c).arrAt 5 (cfgs 0).N = GX m c := by
  refine (dats m 0 c).arrAt_eq_of_covers 5 _ (by decide +kernel) fun t _ y => ?_
  blk_simp
  rw [after0_5]
  by_cases h : t.val % 16 = 0
  · rw [outsAt0_A m c t h]
    frame_out
    exact row m c hx t y _ (by blk_simp [idx t]) (by blk_simp [idx t])
  · rw [outsAt0_B m c t h]
    frame_out
    exact row m c hx t y _ (by blk_simp [idx t]) (by blk_simp [idx t])

theorem final6 (hx : ∀ i, ∃ a : ℝ, flat (m ((c.tc : Thread nD τ).loc main_arg0)) i = (a : EReal)) :
    (dats m 0 c).arrAt 6 (cfgs 0).N = (truncf .bf16 (GX m c) bitsLt_bf16_f32 : FVec Ideal S8192x1024 .bf16) := by
  refine (dats m 0 c).arrAt_eq_of_covers 6 _ (by decide +kernel) fun t _ y => ?_
  blk_simp
  rw [after0_6]
  by_cases h : t.val % 16 = 0
  · rw [outsAt0_A m c t h]
    frame_out
    exact row m c hx t y _ (by blk_simp [idx t]) (by blk_simp [idx t])
  · rw [outsAt0_B m c t h]
    frame_out
    exact row m c hx t y _ (by blk_simp [idx t]) (by blk_simp [idx t])

theorem step (t : Fin cfg0.N) (v : FVec Ideal S1x1024 .f32) (j : S1x1024.Idx) :
    k0_pay2 (F := Ideal) (k0_pay6 (iblk m c 0 t) (iblk m c 1 t) (iblk m c 2 t)) v j
      = v j + ∑ r : Fin 512, part (flat (m ((c.tc : Thread nD τ).loc main_arg0))) (m ((c.tc : Thread nD τ).loc main_arg2)) (m ((c.tc : Thread nD τ).loc main_arg3)) (j 1)
          ⟨t.val * 512 + r.val, by have := lt_of_lt_of_eq t.2 N_0; omega⟩ := by
  idx_vars j
  obtain rfl : j0 = 0 := Subsingleton.elim _ _
  refine row_dg _ _ _ _ _ _ _ _ _ (fun r k => ?_) (fun k e => ?_) (fun r k => ?_)
  · blk_ext! [iblk, V, idx t]
  · blk_ext! [iblk, V, idx t]
  · blk_ext! [iblk, V, idx t]

theorem final7 : (dats m 0 c).arrAt 7 (cfgs 0).N
    = gg (flat (m ((c.tc : Thread nD τ).loc main_arg0))) (dhn (m ((c.tc : Thread nD τ).loc main_arg2)) (m ((c.tc : Thread nD τ).loc main_arg3))) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by rw [outsAt0_A m c t h]; frame_out; rw [step, hzero])
    (fun t h j => by rw [outsAt0_B m c t h]; frame_out; rw [step])
    (le_of_eq N_0) t0_15 rfl j, zero_add]
  idx_vars j
  obtain rfl : j0 = 0 := Subsingleton.elim _ _
  refine Eq.trans ?_ (gg_at _ _ _ j1).symm
  exact Fin.sum_mul_add_congr (S := 16) (n := 512) (L := 8192) fun s k hl => rfl

end Cert.KernelIdeal.Value
-- ==== Proof.FfnInClaim.lean ====
module

public import proofs.«01_k».proof.Defs
public import proofs.«01_k».proof.Proof.FfnIn
public import proofs.«01_k».proof.Proof.Gen.Pre_finite_h
public import Idealize.ShloMosaic.Lib.Claim

/-! The claims about the gradients of the second rms norm, from the two runs. -/

@[expose] public section

noncomputable section

namespace Cert.Proof

open Idealize.ShloMosaic Idealize.SL.Sem

theorem frame_reference : Cert.quiescent_ReferenceIdeal := by
  intro m g _
  exact (θ_run Cert.ReferenceIdeal.defs _ _).mono (fun r h => ⟨fun c => (h c).2.2.2, sem_eq_zero_of_no_sems (by decide) r.2⟩) (Cert.ReferenceIdeal.Value.run m g)

theorem frame_reference' : Cert.quiescent_ReferenceIdeal_pre_finite_h := by
  intro m g _
  exact (θ_run Cert.ReferenceIdeal.defs _ _).mono (fun r h => ⟨fun c => (h c).2.2.2, sem_eq_zero_of_no_sems (by decide) r.2⟩) (Cert.ReferenceIdeal.Value.run m g)

/-- The precondition says that the hidden state is finite. -/
theorem finite_h (m : (ℓ : Loc Cert.KernelIdeal.nD Cert.KernelIdeal.τ Cert.KernelIdeal.sig) → Buf (Elt Ideal) ℓ) (h : Cert.Pre_KernelIdeal_finite_h m)
    (c : Dev Cert.KernelIdeal.nD) (i : Cert.ReferenceIdeal.S8192x1024.Idx) :
    ∃ a : ℝ, Cert.ReferenceIdeal.Value.flat (m ((c.tc : Thread Cert.KernelIdeal.nD Cert.KernelIdeal.τ).loc Cert.KernelIdeal.main_arg0)) i = (a : EReal) :=
  Cert.ReferenceIdeal.Value.flat_real _ (fun j => by
    have := congrFun (h c) j
    dsimp only [Cert.Pre_finite_h.fn] at this
    exact Cert.Arith.real_of_olt _ _ j rfl this) i

theorem algebraic : Cert.algebraic_KernelIdeal_ReferenceIdeal_pre_finite_h := by
  pair_intro
  · run_from Cert.KernelIdeal.Value.run_blocks m g
  · run_from Cert.ReferenceIdeal.Value.run m' g'
    · obtain ⟨h0, h1, h2, h3, h4⟩ := hagree c
      refine (Cert.ReferenceIdeal.Value.out0_eq m' c).trans ?_
      rw [h0, h1, h2, h3, h4]
      exact (Cert.KernelIdeal.Value.final5 m c (finite_h m hpre c)).symm
    · obtain ⟨h0, h1, h2, h3, h4⟩ := hagree c
      refine (Cert.ReferenceIdeal.Value.out1_eq m' c).trans ?_
      rw [h0, h1, h2, h3, h4]
      exact (Cert.KernelIdeal.Value.final6 m c (finite_h m hpre c)).symm
    · exact (Cert.KernelIdeal.Value.final7 m c).symm

end Cert.Proof
-- ==== Proof.Inproj.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import proofs.«01_k».proof.Proof.FfnIn

@[expose] public section

set_option maxRecDepth 16384

noncomputable section

open Idealize.ShloMosaic Idealize.ShloMosaic.TcCoe Idealize.SL.Sem
open Idealize.ShloMosaic.Pipeline (Dat)

namespace Cert.Reference2Ideal.Value
open Cert.Reference2Ideal Cert.Reference2Ideal.Gen
open Cert.ReferenceIdeal.Value (flat ms nrm tt gms gx gg)

/-- The cotangent of the projected columns: the four parts side by side. -/
def du (Dc : FVec Ideal S8192x2048 .bf16) (Dq : FVec Ideal S8192x1024 .bf16) (Dkv : FVec Ideal S8192x256 .bf16) (Dg : FVec Ideal S8192x2048 .bf16) : FVec Ideal S8192x5376 .f32 :=
  addf (addf (addf (pad S8192x5376 ![0, 3328] ![0, 0] ![0, 0] (extf .f32 Dg bitsLt_bf16_f32) (constant S_ .f32 0x00000000#32) pads_S8192x2048_S8192x5376_000_332800 h_S_) (pad S8192x5376 ![0, 3072] ![0, 2048] ![0, 0] (extf .f32 Dkv bitsLt_bf16_f32) (constant S_ .f32 0x00000000#32) pads_S8192x256_S8192x5376_000_307220480 h_S_)) (pad S8192x5376 ![0, 2048] ![0, 2304] ![0, 0] (extf .f32 Dq bitsLt_bf16_f32) (constant S_ .f32 0x00000000#32) pads_S8192x1024_S8192x5376_000_204823040 h_S_)) (pad S8192x5376 ![0, 0] ![0, 3328] ![0, 0] (extf .f32 Dc bitsLt_bf16_f32) (constant S_ .f32 0x00000000#32) pads_S8192x2048_S8192x5376_000_033280 h_S_)
/-- The cotangent of the normalised and scaled tokens. -/
def dxn (W : FVec Ideal S1024x5376 .f32) (D : FVec Ideal S8192x5376 .f32) : FVec Ideal S8192x1024 .f32 :=
  Host.dotGeneral dot_S8192x5376_S1024x5376_S8192x1024_1_1_0_0_n_n none D W

variable (m : (ℓ : Loc nD τ sig) → Buf (Elt Ideal) ℓ) (c : Dev nD)

/-- The cotangent of the normalised and scaled tokens, of the arguments. -/
abbrev DXN : FVec Ideal S8192x1024 .f32 :=
  dxn (m ((c.tc : Thread nD τ).loc main_arg2)) (du (m ((c.tc : Thread nD τ).loc main_arg3)) (m ((c.tc : Thread nD τ).loc main_arg4)) (m ((c.tc : Thread nD τ).loc main_arg5)) (m ((c.tc : Thread nD τ).loc main_arg6)))

theorem out0_eq : res_out0 m c = gx (flat (m ((c.tc : Thread nD τ).loc main_arg0))) (tt (m ((c.tc : Thread nD τ).loc main_arg1)) (DXN m c)) (m ((c.tc : Thread nD τ).loc main_arg7)) := rfl

/-- A sum over all columns, cut at the four parts. -/
theorem sum_cols {M : Type*} [AddCommMonoid M] (f : Fin 5376 → M) : ∑ k, f k
    = (∑ k : Fin 2048, f ⟨k.val, by omega⟩) + (∑ k : Fin 2048, f ⟨3328 + k.val, by omega⟩) + (∑ k : Fin 1024, f ⟨2048 + k.val, by omega⟩)
      + ∑ k : Fin 256, f ⟨3072 + k.val, by omega⟩ := by
  have e1 : ∑ k, f k = (∑ k : Fin 3328, f ⟨k.val, by omega⟩) + ∑ k : Fin 2048, f ⟨3328 + k.val, by omega⟩ :=
    Fin.sum_univ_add (a := 3328) (b := 2048) f
  have e2 : (∑ k : Fin 3328, f ⟨k.val, by omega⟩) = (∑ k : Fin 3072, f ⟨k.val, by omega⟩) + ∑ k : Fin 256, f ⟨3072 + k.val, by omega⟩ :=
    Fin.sum_univ_add (a := 3072) (b := 256) fun k => f ⟨k.val, by omega⟩
  have e3 : (∑ k : Fin 3072, f ⟨k.val, by omega⟩) = (∑ k : Fin 2048, f ⟨k.val, by omega⟩) + ∑ k : Fin 1024, f ⟨2048 + k.val, by omega⟩ :=
    Fin.sum_univ_add (a := 2048) (b := 1024) fun k => f ⟨k.val, by omega⟩
  rw [e1, e2, e3]
  ac_rfl

/-- The product over all columns is the sum of the products over the four parts. -/
theorem dxn_at (W Dc Dq Dkv Dg) (s : Fin 8192) (d : Fin 1024) : dxn W (du Dc Dq Dkv Dg) (ix2 s d)
    = (∑ k : Fin 2048, Dc (ix2 s k) * W (ix2 d ⟨k.val, by omega⟩)) + (∑ k : Fin 2048, Dg (ix2 s k) * W (ix2 d ⟨3328 + k.val, by omega⟩))
      + (∑ k : Fin 1024, Dq (ix2 s k) * W (ix2 d ⟨2048 + k.val, by omega⟩)) + ∑ k : Fin 256, Dkv (ix2 s k) * W (ix2 d ⟨3072 + k.val, by omega⟩) := by
  pointwise [dxn, du]
  rw [sum_cols]
  congr 1
  · congr 1
    · congr 1
      · refine Finset.sum_congr rfl fun k _ => ?_
        have := k.2
        rw [dif_neg (by dsimp only; omega), dif_neg (by dsimp only; omega), dif_neg (by dsimp only; omega), dif_pos (by dsimp only; omega)]
        simp
      · refine Finset.sum_congr rfl fun k _ => ?_
        have := k.2
        rw [dif_pos (by dsimp only; omega), dif_neg (by dsimp only; omega), dif_neg (by dsimp only; omega), dif_neg (by dsimp only; omega)]
        simp
    · refine Finset.sum_congr rfl fun k _ => ?_
      have := k.2
      rw [dif_neg (by dsimp only; omega), dif_neg (by dsimp only; omega), dif_pos (by dsimp only; omega), dif_neg (by dsimp only; omega)]
      simp
  · refine Finset.sum_congr rfl fun k _ => ?_
    have := k.2
    rw [dif_neg (by dsimp only; omega), dif_pos (by dsimp only; omega), dif_neg (by dsimp only; omega), dif_neg (by dsimp only; omega)]
    simp

end Cert.Reference2Ideal.Value

namespace Cert.Kernel2Ideal.Value
open Cert.Kernel2Ideal Cert.Kernel2Ideal.Gen
open Cert.ReferenceIdeal.Value (flat ms nrm tt gms gx gg)
open Cert.Reference2Ideal.Value (du dxn)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] ∧ win0_7.index t = ![t.val, 0] ∧ win0_8.index t = ![t.val, 0] ∧ win0_9.index t = ![0, 0] :=
  (by decide +kernel : ∀ t : Fin grid0.N, _)

variable (m : (ℓ : Loc nD τ sig) → Buf (Elt Ideal) ℓ) (c : Dev nD)

/-- The tokens of one grid point. -/
def tok (t : Fin cfg0.N) (r : Fin 512) : Fin 8192 := ⟨t.val * 512 + r.val, by have := lt_of_lt_of_eq t.2 N_0; omega⟩

/-- The arguments, by what they are. -/
abbrev X : FVec Ideal S8192x1024 .f32 := flat (m ((c.tc : Thread nD τ).loc main_arg0))
abbrev DX : FVec Ideal S8192x1024 .f32 :=
  dxn (m ((c.tc : Thread nD τ).loc main_arg2)) (du (m ((c.tc : Thread nD τ).loc main_arg3)) (m ((c.tc : Thread nD τ).loc main_arg4)) (m ((c.tc : Thread nD τ).loc main_arg5)) (m ((c.tc : Thread nD τ).loc main_arg6)))
abbrev GX : FVec Ideal S8192x1024 .f32 :=
  gx (X m c) (tt (m ((c.tc : Thread nD τ).loc main_arg1)) (DX m c)) (m ((c.tc : Thread nD τ).loc main_arg7))

/-- The kernel's four products at a grid point, together the cotangent of the normalised and scaled tokens. -/
abbrev dx (t : Fin cfg0.N) : FVec Ideal S512x1024 .f32 :=
  k0_pay4 (F := Ideal) (iblk m c 0 t) (View.ld (iblk m c 4 t) (Rect.unit ![0, 0] ![2048, 1024] inb_S5376x1024_S2048x1024_0_0))
    (iblk m c 1 t) (View.ld (iblk m c 4 t) (Rect.unit ![3328, 0] ![2048, 1024] inb_S5376x1024_S2048x1024_3328_0))
    (iblk m c 2 t) (View.ld (iblk m c 4 t) (Rect.unit ![2048, 0] ![1024, 1024] inb_S5376x1024_S1024x1024_2048_0))
    (iblk m c 3 t) (View.ld (iblk m c 4 t) (Rect.unit ![3072, 0] ![256, 1024] inb_S5376x1024_S256x1024_3072_0))

theorem dx_at (t : Fin cfg0.N) (r : Fin 512) (d : Fin 1024) : dx m c t (ix2 r d) = DX m c (ix2 (tok t r) d) := by
  refine Eq.trans ?_ (Cert.Reference2Ideal.Value.dxn_at _ _ _ _ _ (tok t r) d).symm
  pointwise [k0_pay4]
  blk_point [iblk, V, idx t, tok]
/-- One row of the kernel's gradient of the tokens against the reference's. -/
theorem row_dx (v18 v19 : FVec Ideal S512x1024 .f32) (v21 : FVec Ideal S1x1024 .f32) (v49 : FVec Ideal S512x1024 .f32)
    (x D O : FVec Ideal S8192x1024 .f32) (G : FVec Ideal S1024 .f32) (r : Fin 512) (s : Fin 8192) (d : Fin 1024)
    (h18 : ∀ k, v18 (ix2 r k) = D (ix2 s k)) (h19 : ∀ k, v19 (ix2 r k) = x (ix2 s k))
    (h21 : ∀ k, v21 (ix2 0 k) = G (ix1 k)) (h49 : v49 (ix2 r d) = O (ix2 s d)) (hx : ∀ k, ∃ a : ℝ, x (ix2 s k) = (a : EReal)) :
    k0_pay1 (F := Ideal) v18 (k0_pay5 v19) (k0_pay6 v19) (k0_pay7 v21) v49 (ix2 r d) = gx x (tt G D) O (ix2 s d) := by
  obtain ⟨e, he0, he⟩ := Cert.Arith.lit_eps
  pointwise [k0_pay1, k0_pay5, k0_pay6, k0_pay7, gx, gms, ms, tt]
  simp only [h18, h19, h21, h49, Finset.univ_unique, Finset.sum_const, Finset.card_singleton, one_smul]
  exact Cert.Arith.rms_grad (fun k => x (ix2 s k)) (fun k => D (ix2 s k) * G (ix1 k)) hx Cert.Arith.lit_1024 he (by norm_num) he0 d _ Cert.Arith.lit_neg_half

theorem row (hx : ∀ i, ∃ a : ℝ, X m c i = (a : EReal)) (t : Fin cfg0.N) (y : S512x1024.Idx) (i : S8192x1024.Idx) (hi : (i 0).val = t.val * 512 + (y 0).val)
    (hi1 : (i 1).val = (y 1).val) :
    k0_pay1 (F := Ideal) (dx m c t) (k0_pay5 (iblk m c 5 t)) (k0_pay6 (iblk m c 5 t)) (k0_pay7 (iblk m c 6 t)) (iblk m c 7 t) y = GX m c i := by
  idx_vars y
  idx_vars i
  obtain rfl : i1 = y1 := Fin.ext hi1
  obtain rfl : i0 = tok t y0 := Fin.ext hi
  refine row_dx _ _ _ _ _ _ _ _ y0 _ i1 (dx_at m c t y0) (fun k => ?_) (fun k => ?_) ?_ (fun k => hx _)
  · blk_ext! [iblk, V, idx t, tok]
  · blk_ext! [iblk, V, idx t]
  · blk_ext! [iblk, V, idx t, tok]

theorem final8 (hx : ∀ i, ∃ a : ℝ, X m c i = (a : EReal)) : (dats m 0 c).arrAt 8 (cfgs 0).N = GX m c := by
  refine (dats m 0 c).arrAt_eq_of_covers 8 _ (by decide +kernel) fun t _ y => ?_
  blk_simp
  rw [after0_8]
  by_cases h : t.val % 16 = 0
  · rw [outsAt0_A m c t h]
    frame_out
    exact row m c hx t y _ (by blk_simp [idx t]) (by blk_simp [idx t])
  · rw [outsAt0_B m c t h]
    frame_out
    exact row m c hx t y _ (by blk_simp [idx t]) (by blk_simp [idx t])

/-! ## The gain -/

/-- One token's part of the gain's gradient. -/
def part (x D : FVec Ideal S8192x1024 .f32) (d : Fin 1024) (s : Fin 8192) : EReal :=
  x (ix2 s d) * Ideal.rsqrt (Ideal.div (∑ k, x (ix2 s k) * x (ix2 s k)) (Ideal.ofBits .f32 1149239296#32) + Ideal.ofBits .f32 897988541#32) * D (ix2 s d)

theorem row_dg (v18 v19 : FVec Ideal S512x1024 .f32) (v55 : FVec Ideal S1x1024 .f32) (x D : FVec Ideal S8192x1024 .f32) (tok : Fin 512 → Fin 8192) (d : Fin 1024)
    (h18 : ∀ r k, v18 (ix2 r k) = D (ix2 (tok r) k)) (h19 : ∀ r k, v19 (ix2 r k) = x (ix2 (tok r) k)) :
    k0_pay3 (F := Ideal) v18 (k0_pay5 v19) (k0_pay6 v19) v55 (ix2 0 d) = v55 (ix2 0 d) + ∑ r, part x D d (tok r) := by
  pointwise [k0_pay3, k0_pay5, k0_pay6]
  simp only [h18, h19, part]
  refine congrArg _ (Finset.sum_congr rfl fun r _ => ?_)
  ac_rfl

theorem gg_at (x D : FVec Ideal S8192x1024 .f32) (d : Fin 1024) : gg x D (ix2 0 d) = ∑ s, part x D d s := by
  pointwise [gg, nrm, ms]
  simp only [part, Finset.univ_unique, Finset.sum_const, Finset.card_singleton, one_smul]

theorem hzero (j : S1x1024.Idx) : k0_pay2 (F := Ideal) j = 0 := by pointwise [k0_pay2]

theorem step (t : Fin cfg0.N) (v : FVec Ideal S1x1024 .f32) (j : S1x1024.Idx) :
    k0_pay3 (F := Ideal) (dx m c t) (k0_pay5 (iblk m c 5 t)) (k0_pay6 (iblk m c 5 t)) v j = v j + ∑ r : Fin 512, part (X m c) (DX m c) (j 1) (tok t r) := by
  idx_vars j
  obtain rfl : j0 = 0 := Subsingleton.elim _ _
  refine row_dg _ _ _ _ _ _ _ (fun r k => dx_at m c t r k) (fun r k => ?_)
  blk_ext! [iblk, V, idx t, tok]

theorem final9 : (dats m 0 c).arrAt 9 (cfgs 0).N = gg (X m c) (DX m c) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0)
    (fun t j => ∑ r : Fin 512, part (X m c) (DX m c) (j 1) (tok t r))
    (fun t h j => by rw [outsAt0_A m c t h]; frame_out; exact (step m c t _ j).trans (congrArg (· + _) (hzero j)))
    (fun t h j => by rw [outsAt0_B m c t h]; frame_out; exact step m c t _ j)
    (le_of_eq N_0) t0_15 rfl j, zero_add]
  idx_vars j
  obtain rfl : j0 = 0 := Subsingleton.elim _ _
  refine Eq.trans ?_ (gg_at _ _ j1).symm
  exact Fin.sum_mul_add_congr (S := 16) (n := 512) (L := 8192) fun s k hl => rfl

end Cert.Kernel2Ideal.Value
-- ==== Proof.InprojClaim.lean ====
module

public import proofs.«01_k».proof.Defs
public import proofs.«01_k».proof.Proof.Inproj
public import proofs.«01_k».proof.Proof.Gen.Pre_finite_x
public import Idealize.ShloMosaic.Lib.Claim

/-! The claims about the gradients of the first rms norm, from the two runs. -/

@[expose] public section

noncomputable section

namespace Cert.Proof

open Idealize.ShloMosaic Idealize.SL.Sem

theorem frame_reference2 : Cert.quiescent_Reference2Ideal := by
  intro m g _
  exact (θ_run Cert.Reference2Ideal.defs _ _).mono (fun r h => ⟨fun c => (h c).2.2, sem_eq_zero_of_no_sems (by decide) r.2⟩) (Cert.Reference2Ideal.Value.run m g)

theorem frame_reference2' : Cert.quiescent_Reference2Ideal_pre_finite_x := by
  intro m g _
  exact (θ_run Cert.Reference2Ideal.defs _ _).mono (fun r h => ⟨fun c => (h c).2.2, sem_eq_zero_of_no_sems (by decide) r.2⟩) (Cert.Reference2Ideal.Value.run m g)

/-- The precondition says that the tokens are finite. -/
theorem finite_x (m : (ℓ : Loc Cert.Kernel2Ideal.nD Cert.Kernel2Ideal.τ Cert.Kernel2Ideal.sig) → Buf (Elt Ideal) ℓ) (h : Cert.Pre_Kernel2Ideal_finite_x m)
    (c : Dev Cert.Kernel2Ideal.nD) (i : Cert.ReferenceIdeal.S8192x1024.Idx) :
    ∃ a : ℝ, Cert.ReferenceIdeal.Value.flat (m ((c.tc : Thread Cert.Kernel2Ideal.nD Cert.Kernel2Ideal.τ).loc Cert.Kernel2Ideal.main_arg0)) i = (a : EReal) :=
  Cert.ReferenceIdeal.Value.flat_real _ (fun j => by
    have := congrFun (h c) j
    dsimp only [Cert.Pre_finite_x.fn] at this
    exact Cert.Arith.real_of_olt _ _ j rfl this) i

theorem algebraic2 : Cert.algebraic_Kernel2Ideal_Reference2Ideal_pre_finite_x := by
  pair_intro
  · run_from Cert.Kernel2Ideal.Value.run_blocks m g
  · run_from Cert.Reference2Ideal.Value.run m' g'
    · obtain ⟨h0, h1, h2, h3, h4, h5, h6, h7⟩ := hagree c
      refine (Cert.Reference2Ideal.Value.out0_eq m' c).trans ?_
      rw [h0, h1, Cert.Reference2Ideal.Value.DXN, h2, h3, h4, h5, h6, h7]
      exact (Cert.Kernel2Ideal.Value.final8 m c (finite_x m hpre c)).symm
    · exact (Cert.Kernel2Ideal.Value.final9 m c).symm

end Cert.Proof
-- ==== Proof.FfnDown.lean ====
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Pipeline.RegionsLoop
public import Idealize.ShloMosaic.Lib.Tactic
public import proofs.«01_k».proof.Proof.RealArith

/-! The gated linear unit and its gradient: the forward call saves the two factors of the gradient, the backward call multiplies by them. -/

@[expose] public section

set_option maxRecDepth 16384

noncomputable section

open Idealize.ShloMosaic Idealize.ShloMosaic.TcCoe Idealize.SL.Sem
open Idealize.ShloMosaic.Pipeline (Dat cellOf)
open Idealize.SL Idealize.SL.RA Idealize.SL.BI Idealize.ShloMosaic.Rounds
open scoped Idealize.SL.BI
open Idealize.SL.BI.BIBase Idealize.SL.BI.Laws Idealize.SL.ProofMode

namespace Cert.Reference3Ideal.Value
open Cert.Reference3Ideal Cert.Reference3Ideal.Gen

/-- An array of four sequences, its tokens in one line. -/
def rows (x : FVec Ideal S4x2048x1024 .f32) : FVec Ideal S8192x1024 .f32 := shapeCast _ x shapeCasts_S4x2048x1024_S8192x1024
/-- Both halves of the projected tokens; the gate and the other half. -/
def proj (x : FVec Ideal S8192x1024 .f32) (w : FVec Ideal S1024x5632 .f32) : FVec Ideal S8192x5632 .f32 :=
  Host.dotGeneral dot_S8192x1024_S1024x5632_S8192x5632_1_0_0_1_n_n none x w
def gate (p : FVec Ideal S8192x5632 .f32) : FVec Ideal S8192x2816 .f32 := extractStridedSlice S8192x2816 ![0, 0] p slices_S8192x5632_S8192x2816_0_0
def up (p : FVec Ideal S8192x5632 .f32) : FVec Ideal S8192x2816 .f32 := extractStridedSlice S8192x2816 ![0, 2816] p slices_S8192x5632_S8192x2816_0_2816
def one : FVec Ideal S8192x2816 .f32 := broadcastInDim S8192x2816 ![] bcast_S_S8192x2816 (constant S_ .f32 0x3F800000#32)
/-- The sigmoid as jax writes it on the host. -/
def sgm (x : FVec Ideal S8192x2816 .f32) : FVec Ideal S8192x2816 .f32 := Host.divf one (addf one (Host.exp (Host.negf x)))
/-- The gated tokens. -/
def act (p : FVec Ideal S8192x5632 .f32) : FVec Ideal S8192x2816 .bf16 := truncf .bf16 (mulf (mulf (gate p) (sgm (gate p))) (up p)) bitsLt_bf16_f32
/-- The cotangent of the gated tokens, and of the two halves. -/
def dact (d : FVec Ideal S8192x1024 .f32) (w : FVec Ideal S2816x1024 .f32) : FVec Ideal S8192x2816 .f32 :=
  Host.dotGeneral dot_S8192x1024_S2816x1024_S8192x2816_1_1_0_0_n_n none d w
def dgate (p : FVec Ideal S8192x5632 .f32) (z : FVec Ideal S8192x2816 .f32) : FVec Ideal S8192x2816 .f32 :=
  addf (mulf (mulf z (up p)) (sgm (gate p))) (mulf (mulf (gate p) (mulf z (up p))) (mulf (sgm (gate p)) (subf one (sgm (gate p)))))
def dup (p : FVec Ideal S8192x5632 .f32) (z : FVec Ideal S8192x2816 .f32) : FVec Ideal S8192x2816 .f32 := mulf (mulf (gate p) (sgm (gate p))) z
def dproj (p : FVec Ideal S8192x5632 .f32) (z : FVec Ideal S8192x2816 .f32) : FVec Ideal S8192x5632 .bf16 :=
  truncf .bf16 (concatenate S8192x5632 1 [⟨S8192x2816, dgate p z⟩, ⟨S8192x2816, dup p z⟩] concatenates_S8192x2816_S8192x2816_S8192x5632_d1) bitsLt_bf16_f32

theorem sgm_at (x : FVec Ideal S8192x2816 .f32) (s : Fin 8192) (d : Fin 2816) : sgm x (ix2 s d) = Ideal.logistic (x (ix2 s d)) := by
  pointwise [sgm, one]
  rfl

theorem dproj_left (p z) (s : Fin 8192) (d : Fin 2816) : dproj p z (ix2 s ⟨d.val, by omega⟩) = dgate p z (ix2 s d) := by
  pointwise [dproj]

theorem dproj_right (p z) (s : Fin 8192) (d : Fin 2816) : dproj p z (ix2 s ⟨2816 + d.val, by omega⟩) = dup p z (ix2 s d) := by
  pointwise [dproj]

end Cert.Reference3Ideal.Value

namespace Cert.Kernel3Ideal.Value
open Cert.Kernel3Ideal Cert.Kernel3Ideal.Gen
open Cert.Reference3Ideal.Value (rows proj gate up one sgm act dact dgate dup dproj sgm_at dproj_left dproj_right)

theorem idx0 : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem idx1 : ∀ t : Fin cfg1.N, win1_0.index t = ![t.val, 0] ∧ win1_1.index t = ![0, 0] ∧ win1_2.index t = ![t.val, 0] ∧ win1_3.index t = ![t.val, 1] ∧ win1_4.index t = ![t.val, 0] :=
  (by decide +kernel : ∀ t : Fin grid1.N, _)

variable (m : (ℓ : Loc nD τ sig) → Buf (Elt Ideal) ℓ) (ρ : Dev nD → PrngReg) (c : Dev nD)

/-- The tokens of one grid point of either call. -/
def tok0 (t : Fin cfg0.N) (r : Fin 512) : Fin 8192 := ⟨t.val * 512 + r.val, by have := lt_of_lt_of_eq t.2 N_0; omega⟩
def tok1 (t : Fin cfg1.N) (r : Fin 512) : Fin 8192 := ⟨t.val * 512 + r.val, by have := lt_of_lt_of_eq t.2 N_1; omega⟩

/-- The projected tokens and the cotangent of the gated ones, of the arguments. -/
abbrev P : FVec Ideal S8192x5632 .f32 := proj (rows (m ((c.tc : Thread nD τ).loc main_arg0))) (m ((c.tc : Thread nD τ).loc main_arg1))
abbrev DA : FVec Ideal S8192x2816 .f32 := dact (rows (m ((c.tc : Thread nD τ).loc main_arg3))) (m ((c.tc : Thread nD τ).loc main_arg2))

/-- The two saved factors: what the gate's cotangent and what the other half's is multiplied by. -/
def facL (p : FVec Ideal S8192x5632 .f32) : FVec Ideal S8192x2816 .f32 :=
  mulf (up p) (mulf (sgm (gate p)) (addf one (mulf (gate p) (subf one (sgm (gate p))))))
def facR (p : FVec Ideal S8192x5632 .f32) : FVec Ideal S8192x2816 .f32 := mulf (gate p) (sgm (gate p))
def fac (p : FVec Ideal S8192x5632 .f32) : FVec Ideal S8192x5632 .bf16 := fun i =>
  if h : (i 1).val < 2816 then facL p (ix2 (i 0) ⟨(i 1).val, h⟩)
  else facR p (ix2 (i 0) ⟨(i 1).val - 2816, by have := (i 1).isLt; have e : S8192x5632.size 1 = 5632 := rfl; omega⟩)

theorem fac_left (p : FVec Ideal S8192x5632 .f32) (s : Fin 8192) (d : Fin 2816) : fac p (ix2 s ⟨d.val, by omega⟩) = facL p (ix2 s d) :=
  (dif_pos (show d.val < 2816 from d.2)).trans rfl

theorem fac_right (p : FVec Ideal S8192x5632 .f32) (s : Fin 8192) (d : Fin 2816) : fac p (ix2 s ⟨2816 + d.val, by omega⟩) = facR p (ix2 s d) :=
  (dif_neg (show ¬ 2816 + d.val < 2816 by omega)).trans (congrArg (facR p) (congrArg (ix2 s) (Fin.ext (Nat.add_sub_cancel_left 2816 d.val))))

/-! ## The forward call -/

theorem proj_at (t : Fin cfg0.N) (r : Fin 512) (j : Fin 5632) :
    k0_pay1 (F := Ideal) (iblk0 (V1 m ρ) c 0 t) (iblk0 (V1 m ρ) c 1 t) (ix2 r j) = P m c (ix2 (tok0 t r) j) := by
  pointwise [k0_pay1, proj, rows]
  blk_point [iblk0, V1, W1, W0, idx0 t, tok0]

section rows
variable (v0 : FVec Ideal S512x1024 .bf16) (v2 : FVec Ideal S5632x1024 .bf16) (p : FVec Ideal S8192x5632 .f32) (r : Fin 512) (s : Fin 8192)
  (hp : ∀ j, k0_pay1 (F := Ideal) v0 v2 (ix2 r j) = p (ix2 s j)) (d : Fin 2816)
include hp

theorem row_act : k0_pay6 (F := Ideal) v0 v2 (ix2 r d) = act p (ix2 s d) := by
  pointwise [k0_pay6, k0_pay5, k0_pay4, k0_pay3, k0_pay2, act, gate, up]
  simp only [hp, sgm_at]
  pointwise [gate]

theorem row_facL : k0_pay7 (F := Ideal) v0 v2 (ix2 r d) = facL p (ix2 s d) := by
  pointwise [k0_pay7, k0_pay5, k0_pay4, k0_pay3, k0_pay2, facL, gate, up, one]
  simp only [hp, sgm_at]
  pointwise [gate]

theorem row_facR : k0_pay8 (F := Ideal) v0 v2 (ix2 r d) = facR p (ix2 s d) := by
  pointwise [k0_pay8, k0_pay5, k0_pay4, k0_pay3, k0_pay2, facR, gate, up, one]
  simp only [hp, sgm_at]
  pointwise [gate]

end rows

theorem final3 : (dat0 (V1 m ρ) c).arrAt 3 cfg0.N = act (P m c) := by
  refine (dat0 (V1 m ρ) c).arrAt_eq_of_covers 3 _ (by decide +kernel) fun t _ y => ?_
  blk_simp
  rw [after0_3]
  frame_out
  idx_vars y
  refine (row_act _ _ (P m c) y0 (tok0 t y0) (proj_at m ρ c t y0) y1).trans ?_
  generalize act (P m c) = A
  blk_ext! [idx0 t, tok0]

theorem final2 : (dat0 (V1 m ρ) c).arrAt 2 cfg0.N = fac (P m c) := by
  refine (dat0 (V1 m ρ) c).arrAt_eq_of_covers 2 _ (by decide +kernel) fun t _ y => ?_
  blk_simp
  rw [after0_2]
  frame_out
  idx_vars y
  refine View.canon_eq_of_allAt _ _ _ (View.cover_of_tiled_head _ _ _ rfl _)
    (View.allAt_cons_unit _ _ _ _ _ (fun x hx => ?_) (View.allAt_cons_unit _ _ _ _ _ (fun x hx => ?_) (View.allAt_nil _ _)))
  · obtain ⟨x0, x1, rfl⟩ : ∃ (x0 : Fin 512) (x1 : Fin 2816), x = ix2 x0 x1 := ⟨x 0, x 1, by idx_vars x⟩
    have h0 : y0.val = x0.val := (hx 0).trans (Nat.zero_add _)
    have h1 : y1.val = 2816 + x1.val := hx 1
    obtain rfl : y0 = x0 := Fin.ext h0
    refine (row_facR _ _ (P m c) y0 (tok0 t y0) (proj_at m ρ c t y0) x1).trans ?_
    refine (fac_right (P m c) (tok0 t y0) x1).symm.trans ?_
    generalize fac (P m c) = A
    blk_ext! [idx0 t, tok0, h1]
  · obtain ⟨x0, x1, rfl⟩ : ∃ (x0 : Fin 512) (x1 : Fin 2816), x = ix2 x0 x1 := ⟨x 0, x 1, by idx_vars x⟩
    have h0 : y0.val = x0.val := (hx 0).trans (Nat.zero_add _)
    have h1 : y1.val = x1.val := (hx 1).trans (Nat.zero_add _)
    obtain rfl : y0 = x0 := Fin.ext h0
    refine (row_facL _ _ (P m c) y0 (tok0 t y0) (proj_at m ρ c t y0) x1).trans ?_
    refine (fac_left (P m c) (tok0 t y0) x1).symm.trans ?_
    generalize fac (P m c) = A
    blk_ext! [idx0 t, tok0, h1]

/-! ## The backward call -/

theorem dact_at (t : Fin cfg1.N) (r : Fin 512) (j : Fin 2816) :
    k1_pay1 (F := Ideal) (iblk1 (V3 m ρ) c 0 t) (iblk1 (V3 m ρ) c 1 t) (ix2 r j) = DA m c (ix2 (tok1 t r) j) := by
  pointwise [k1_pay1, dact, rows]
  blk_point [iblk1, V3, W3, idx1 t, tok1]

theorem facL_at (t : Fin cfg1.N) (r : Fin 512) (d : Fin 2816) : iblk1 (V3 m ρ) c 2 t (ix2 r d) = facL (P m c) (ix2 (tok1 t r) d) := by
  refine Eq.trans ?_ (fac_left (P m c) (tok1 t r) d)
  rw [← final2 m ρ c, ← W2_arr m ρ c 2]
  blk_ext! [iblk1, V3, W3, idx1 t, tok1]

theorem facR_at (t : Fin cfg1.N) (r : Fin 512) (d : Fin 2816) : iblk1 (V3 m ρ) c 3 t (ix2 r d) = facR (P m c) (ix2 (tok1 t r) d) := by
  refine Eq.trans ?_ (fac_right (P m c) (tok1 t r) d)
  rw [← final2 m ρ c, ← W2_arr m ρ c 2]
  blk_ext! [iblk1, V3, W3, idx1 t, tok1]

/-- The gate's gradient: one factor saved ahead against jax's two terms. -/
theorem silu_grad (g u z : EReal) (hg : ∃ a : ℝ, g = a) (hu : ∃ a : ℝ, u = a) (hz : ∃ a : ℝ, z = a) :
    z * (u * (Ideal.logistic g * (1 + g * (1 - Ideal.logistic g)))) = z * u * Ideal.logistic g + g * (z * u) * (Ideal.logistic g * (1 - Ideal.logistic g)) := by
  obtain ⟨g, rfl⟩ := hg
  obtain ⟨u, rfl⟩ := hu
  obtain ⟨z, rfl⟩ := hz
  rw [Ideal.logistic_coe]
  generalize (1 + Real.exp (-g))⁻¹ = q
  norm_cast
  ring

section rows
variable (v0 : FVec Ideal S512x1024 .bf16) (v2 : FVec Ideal S2816x1024 .bf16) (v5 : FVec Ideal S512x2816 .bf16) (p : FVec Ideal S8192x5632 .f32) (z : FVec Ideal S8192x2816 .f32) (r : Fin 512) (s : Fin 8192)
  (hz : ∀ j, k1_pay1 (F := Ideal) v0 v2 (ix2 r j) = z (ix2 s j)) (d : Fin 2816)
include hz

theorem row_dgate (h5 : v5 (ix2 r d) = facL p (ix2 s d)) (hpr : ∀ i, ∃ a : ℝ, p i = (a : EReal)) (hzr : ∀ i, ∃ a : ℝ, z i = (a : EReal)) :
    k1_pay2 (F := Ideal) v0 v2 v5 (ix2 r d) = dgate p z (ix2 s d) := by
  pointwise [k1_pay2, dgate, one]
  rw [hz, h5]
  pointwise [facL, one]
  rw [sgm_at]
  exact silu_grad _ _ _ (hpr _) (hpr _) (hzr _)

theorem row_dup (h5 : v5 (ix2 r d) = facR p (ix2 s d)) : k1_pay3 (F := Ideal) v0 v2 v5 (ix2 r d) = dup p z (ix2 s d) := by
  pointwise [k1_pay3, dup]
  rw [hz, h5]
  pointwise [facR]
  exact mul_comm _ _

end rows

theorem final4 (hpr : ∀ i, ∃ a : ℝ, P m c i = (a : EReal)) (hzr : ∀ i, ∃ a : ℝ, DA m c i = (a : EReal)) :
    (dat1 (V3 m ρ) c).arrAt 4 cfg1.N = dproj (P m c) (DA m c) := by
  refine (dat1 (V3 m ρ) c).arrAt_eq_of_covers 4 _ (by decide +kernel) fun t _ y => ?_
  blk_simp
  rw [after1_4]
  frame_out
  idx_vars y
  refine View.canon_eq_of_allAt _ _ _ (View.cover_of_tiled_head _ _ _ rfl _)
    (View.allAt_cons_unit _ _ _ _ _ (fun x hx => ?_) (View.allAt_cons_unit _ _ _ _ _ (fun x hx => ?_) (View.allAt_nil _ _)))
  · obtain ⟨x0, x1, rfl⟩ : ∃ (x0 : Fin 512) (x1 : Fin 2816), x = ix2 x0 x1 := ⟨x 0, x 1, by idx_vars x⟩
    have h0 : y0.val = x0.val := (hx 0).trans (Nat.zero_add _)
    have h1 : y1.val = 2816 + x1.val := hx 1
    obtain rfl : y0 = x0 := Fin.ext h0
    refine (row_dup _ _ _ (P m c) (DA m c) y0 (tok1 t y0) (dact_at m ρ c t y0) x1 (facR_at m ρ c t y0 x1)).trans ?_
    refine (dproj_right (P m c) (DA m c) (tok1 t y0) x1).symm.trans ?_
    generalize dproj (P m c) (DA m c) = A
    blk_ext! [idx1 t, tok1, h1]
  · obtain ⟨x0, x1, rfl⟩ : ∃ (x0 : Fin 512) (x1 : Fin 2816), x = ix2 x0 x1 := ⟨x 0, x 1, by idx_vars x⟩
    have h0 : y0.val = x0.val := (hx 0).trans (Nat.zero_add _)
    have h1 : y1.val = x1.val := (hx 1).trans (Nat.zero_add _)
    obtain rfl : y0 = x0 := Fin.ext h0
    refine (row_dgate _ _ _ (P m c) (DA m c) y0 (tok1 t y0) (dact_at m ρ c t y0) x1 (facL_at m ρ c t y0 x1) hpr hzr).trans ?_
    refine (dproj_left (P m c) (DA m c) (tok1 t y0) x1).symm.trans ?_
    generalize dproj (P m c) (DA m c) = A
    blk_ext! [idx1 t, tok1, h1]

/-! ## Finite arguments and the whole run -/

/-- A product of two finite matrices is finite. -/
theorem real_sum {n : ℕ} (f g : Fin n → EReal) (hf : ∀ k, ∃ a : ℝ, f k = a) (hg : ∀ k, ∃ a : ℝ, g k = a) : ∃ a : ℝ, ∑ k, f k * g k = (a : EReal) := by
  choose a ha using hf
  choose b hb using hg
  refine ⟨∑ k, a k * b k, ?_⟩
  rw [← Cert.Arith.coe_sum]
  exact Finset.sum_congr rfl fun k _ => by rw [ha, hb, EReal.coe_mul]

theorem proj_real (x : FVec Ideal S8192x1024 .f32) (w : FVec Ideal S1024x5632 .f32) (hx : ∀ s k, ∃ a : ℝ, x (ix2 s k) = (a : EReal)) (hw : ∀ k j, ∃ a : ℝ, w (ix2 k j) = (a : EReal))
    (i : S8192x5632.Idx) : ∃ a : ℝ, proj x w i = (a : EReal) := by
  idx_vars i
  pointwise [proj]
  exact real_sum _ _ (fun k => hx _ k) (fun k => hw k _)

theorem dact_real (d : FVec Ideal S8192x1024 .f32) (w : FVec Ideal S2816x1024 .f32) (hd : ∀ s k, ∃ a : ℝ, d (ix2 s k) = (a : EReal)) (hw : ∀ j k, ∃ a : ℝ, w (ix2 j k) = (a : EReal))
    (i : S8192x2816.Idx) : ∃ a : ℝ, dact d w i = (a : EReal) := by
  idx_vars i
  pointwise [dact]
  exact real_sum _ _ (fun k => hd _ k) (fun k => hw _ k)

set_option backward.isDefEq.respectTransparency.types false in
/-- The run of both calls: the two results are what the two pipelines leave, the arguments end as they were. -/
theorem run_blocks : θ_run defs (onTc (τ := τ) (main (F := Ideal))) ⟨m, fun _ => 0, ρ⟩ (fun r => (∀ c : Dev nD,
      r.2.mem ((c.tc : Thread nD τ).loc main_v4_1) = (dat0 (V1 m ρ) c).arrAt 3 cfg0.N
      ∧ r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v4_1 (by decide))).trans ((W4_of m ρ c main_v4_1 (by decide)).trans ((W3_of m ρ c main_v4_1 (by decide)).trans (W2_arr m ρ c 3))),
       (h c _ (mem_uc main_v8 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.Kernel3Ideal.Value
-- ==== Proof.FfnDownClaim.lean ====
module

public import proofs.«01_k».proof.Defs
public import proofs.«01_k».proof.Proof.FfnDown
public import proofs.«01_k».proof.Proof.Gen.Pre_finite_ffn
public import Idealize.ShloMosaic.Lib.Claim

/-! The claims about the gated linear unit's gradient, from the two runs. -/

@[expose] public section

set_option maxRecDepth 16384

noncomputable section

namespace Cert.Proof

open Idealize.ShloMosaic Idealize.SL.Sem
open Cert.Reference3Ideal (S8192x1024 S8192x5632 S8192x2816 S1024x5632 S2816x1024)
open Cert.Reference3Ideal.Value (rows proj dact)

theorem frame_reference3 : Cert.quiescent_Reference3Ideal := by
  intro m g _
  exact (θ_run Cert.Reference3Ideal.defs _ _).mono (fun r h => ⟨fun c => (h c).2.2, sem_eq_zero_of_no_sems (by decide) r.2⟩) (Cert.Reference3Ideal.Value.run m g)

theorem frame_reference3' : Cert.quiescent_Reference3Ideal_pre_finite_ffn := by
  intro m g _
  exact (θ_run Cert.Reference3Ideal.defs _ _).mono (fun r h => ⟨fun c => (h c).2.2, sem_eq_zero_of_no_sems (by decide) r.2⟩) (Cert.Reference3Ideal.Value.run m g)

variable (m : (ℓ : Loc Cert.Kernel3Ideal.nD Cert.Kernel3Ideal.τ Cert.Kernel3Ideal.sig) → Buf (Elt Ideal) ℓ) (h : Cert.Pre_Kernel3Ideal_finite_ffn m) (c : Dev Cert.Kernel3Ideal.nD)

/-- The rows the precondition speaks of. -/
abbrev all : FVec Ideal Cert.Pre_finite_ffn.S24832x1024 .f32 :=
  concatenate Cert.Pre_finite_ffn.S24832x1024 0 [⟨Cert.Pre_finite_ffn.S8192x1024, rows (m ((c.tc : Thread Cert.Kernel3Ideal.nD Cert.Kernel3Ideal.τ).loc Cert.Kernel3Ideal.main_arg0))⟩,
    ⟨Cert.Pre_finite_ffn.S8192x1024, rows (m ((c.tc : Thread Cert.Kernel3Ideal.nD Cert.Kernel3Ideal.τ).loc Cert.Kernel3Ideal.main_arg3))⟩,
    ⟨Cert.Pre_finite_ffn.S5632x1024, transpose Cert.Pre_finite_ffn.S5632x1024 [1, 0] (m ((c.tc : Thread Cert.Kernel3Ideal.nD Cert.Kernel3Ideal.τ).loc Cert.Kernel3Ideal.main_arg1)) Cert.Pre_finite_ffn.Facts.transposes_S1024x5632_S5632x1024_1_0⟩,
    ⟨Cert.Pre_finite_ffn.S2816x1024, m ((c.tc : Thread Cert.Kernel3Ideal.nD Cert.Kernel3Ideal.τ).loc Cert.Kernel3Ideal.main_arg2)⟩]
    Cert.Pre_finite_ffn.Facts.concatenates_S8192x1024_S8192x1024_S5632x1024_S2816x1024_S24832x1024_d0

include h in
theorem all_real (j : Cert.Pre_finite_ffn.S24832x1024.Idx) : ∃ a : ℝ, all m c j = (a : EReal) := by
  have := congrFun (h c) j
  dsimp only [Cert.Pre_finite_ffn.fn] at this
  exact Cert.Arith.real_of_olt _ _ j rfl this

include h in
theorem hn_real (s : Fin 8192) (k : Fin 1024) : ∃ a : ℝ, rows (m ((c.tc : Thread Cert.Kernel3Ideal.nD Cert.Kernel3Ideal.τ).loc Cert.Kernel3Ideal.main_arg0)) (ix2 s k) = (a : EReal) := by
  obtain ⟨a, ha⟩ := all_real m h c (ix2 ⟨s.val, by omega⟩ k)
  refine ⟨a, Eq.trans ?_ ha⟩
  pointwise [all]

include h in
theorem dout_real (s : Fin 8192) (k : Fin 1024) : ∃ a : ℝ, rows (m ((c.tc : Thread Cert.Kernel3Ideal.nD Cert.Kernel3Ideal.τ).loc Cert.Kernel3Ideal.main_arg3)) (ix2 s k) = (a : EReal) := by
  obtain ⟨a, ha⟩ := all_real m h c (ix2 ⟨8192 + s.val, by omega⟩ k)
  refine ⟨a, Eq.trans ?_ ha⟩
  pointwise [all]

include h in
theorem win_real (k : Fin 1024) (j : Fin 5632) : ∃ a : ℝ, (m ((c.tc : Thread Cert.Kernel3Ideal.nD Cert.Kernel3Ideal.τ).loc Cert.Kernel3Ideal.main_arg1)) (ix2 k j) = (a : EReal) := by
  obtain ⟨a, ha⟩ := all_real m h c (ix2 ⟨16384 + j.val, by omega⟩ k)
  refine ⟨a, Eq.trans ?_ ha⟩
  pointwise [all]
  rw [dif_neg (by omega), dif_neg (by omega), dif_pos (by omega)]
  blk_ext!

include h in
theorem wdown_real (j : Fin 2816) (k : Fin 1024) : ∃ a : ℝ, (m ((c.tc : Thread Cert.Kernel3Ideal.nD Cert.Kernel3Ideal.τ).loc Cert.Kernel3Ideal.main_arg2)) (ix2 j k) = (a : EReal) := by
  obtain ⟨a, ha⟩ := all_real m h c (ix2 ⟨22016 + j.val, by omega⟩ k)
  refine ⟨a, Eq.trans ?_ ha⟩
  pointwise [all]
  rw [dif_neg (by omega), dif_neg (by omega), dif_neg (by omega)]
  blk_ext!

theorem frame_kernel3' : Cert.quiescent_Kernel3Ideal_pre_finite_ffn := fun m g _ => Cert.Kernel3Ideal.Gen.frame m g

theorem algebraic3 : Cert.algebraic_Kernel3Ideal_Reference3Ideal_pre_finite_ffn := by
  pair_intro
  · run_from Cert.Kernel3Ideal.Value.run_blocks m g
  · run_from Cert.Reference3Ideal.Value.run m' g'
    · obtain ⟨h0, h1, h2, h3⟩ := hagree c
      exact (Cert.Kernel3Ideal.Value.final3 m g c).symm
    · obtain ⟨h0, h1, h2, h3⟩ := hagree c
      rw [h3]
      exact (Cert.Kernel3Ideal.Value.final4 m g c (Cert.Kernel3Ideal.Value.proj_real _ _ (hn_real m hpre c) (win_real m hpre c))
        (Cert.Kernel3Ideal.Value.dact_real _ _ (dout_real m hpre c) (wdown_real m hpre c))).symm

end Cert.Proof
-- ==== Proof.MergeBwd.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

/-! The gradients of the two gated branches: what each row of the kernel's blocks says, against jax's derivative of the gated sum. -/

@[expose] public section

set_option maxRecDepth 16384

noncomputable section

open Idealize.ShloMosaic Idealize.ShloMosaic.TcCoe Idealize.SL.Sem
open Idealize.ShloMosaic.Pipeline (Dat)

namespace Cert.Reference4Ideal.Value
open Cert.Reference4Ideal Cert.Reference4Ideal.Gen

/-- An array of four sequences, its tokens in one line. -/
def rows (x : FVec Ideal S4x2048x1024 .f32) : FVec Ideal S8192x1024 .f32 := shapeCast _ x shapeCasts_S4x2048x1024_S8192x1024
/-- The gates of the convolution branch among the projected columns, and those of the attention branch. -/
def gate0 (u : FVec Ideal S4x2048x5376 .f32) : FVec Ideal S8192x1024 .f32 :=
  extractStridedSlice S8192x1024 ![0, 0] (extractStridedSlice S8192x2048 ![0, 3328] (shapeCast _ u shapeCasts_S4x2048x5376_S8192x5376) slices_S8192x5376_S8192x2048_0_3328) slices_S8192x2048_S8192x1024_0_0
def gate1 (u : FVec Ideal S4x2048x5376 .f32) : FVec Ideal S8192x1024 .f32 :=
  extractStridedSlice S8192x1024 ![0, 1024] (extractStridedSlice S8192x2048 ![0, 3328] (shapeCast _ u shapeCasts_S4x2048x5376_S8192x5376) slices_S8192x5376_S8192x2048_0_3328) slices_S8192x2048_S8192x1024_0_1024
/-- The sigmoid as jax writes it on the host. -/
def sgm (x : FVec Ideal S8192x1024 .f32) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf x)))
def one : FVec Ideal S8192x1024 .f32 := broadcastInDim S8192x1024 ![] bcast_S_S8192x1024 (constant S_ .f32 0x3F800000#32)
/-- A branch's output, and the cotangent of the merged tokens. -/
def out (x : FVec Ideal S8192x1024 .f32) (w : FVec Ideal S1024x1024 .f32) : FVec Ideal S8192x1024 .f32 :=
  Host.dotGeneral dot_S8192x1024_S1024x1024_S8192x1024_1_0_0_1_n_n none x w
def dz (dh : FVec Ideal S8192x1024 .f32) (wm : FVec Ideal S1024x1024 .f32) : FVec Ideal S8192x1024 .f32 :=
  Host.dotGeneral dot_S8192x1024_S1024x1024_S8192x1024_1_1_0_0_n_n none dh wm
/-- The cotangent of a branch's output, of a branch's gates and of a branch's input. -/
def dy (g z : FVec Ideal S8192x1024 .f32) : FVec Ideal S8192x1024 .f32 := mulf (sgm g) z
def dg (g z y : FVec Ideal S8192x1024 .f32) : FVec Ideal S8192x1024 .f32 := mulf (mulf z y) (mulf (sgm g) (subf one (sgm g)))
def dgates (g0 g1 z y0 y1 : FVec Ideal S8192x1024 .f32) : FVec Ideal S8192x2048 .bf16 :=
  truncf .bf16 (addf (pad S8192x2048 ![0, 1024] ![0, 0] ![0, 0] (dg g1 z y1) (constant S_ .f32 0x00000000#32) pads_S8192x1024_S8192x2048_000_102400 h_S_) (pad S8192x2048 ![0, 0] ![0, 1024] ![0, 0] (dg g0 z y0) (constant S_ .f32 0x00000000#32) pads_S8192x1024_S8192x2048_000_010240 h_S_)) bitsLt_bf16_f32
def din (d : FVec Ideal S8192x1024 .f32) (w : FVec Ideal S1024x1024 .f32) : FVec Ideal S8192x1024 .f32 :=
  Host.dotGeneral dot_S8192x1024_S1024x1024_S8192x1024_1_0_0_1_n_n none d (transpose S1024x1024 [1, 0] w transposes_S1024x1024_S1024x1024_1_0)
/-- The two products of a branch narrowed for the kernel's arrays. -/
def half (x : FVec Ideal S8192x1024 .f32) : FVec Ideal S8192x1024 .bf16 := truncf .bf16 x bitsLt_bf16_f32

end Cert.Reference4Ideal.Value

namespace Cert.Kernel4Ideal.Value
open Cert.Kernel4Ideal Cert.Kernel4Ideal.Gen
open Cert.Reference4Ideal.Value (rows gate0 gate1 sgm one out dz dy dg dgates din half)

theorem idx : ∀ t : Fin cfg0.N, win0_0.index t = ![t.val, 0] ∧ win0_1.index t = ![0, 0] ∧ win0_2.index t = ![0, 0] ∧ win0_3.index t = ![0, 0]
    ∧ win0_4.index t = ![t.val, 2] ∧ win0_5.index t = ![t.val, 3] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] :=
  (by decide +kernel : ∀ t : Fin grid0.N, _)

variable (m : (ℓ : Loc nD τ sig) → Buf (Elt Ideal) ℓ) (c : Dev nD)

/-- The tokens of one grid point. -/
def tok (t : Fin cfg0.N) (r : Fin 512) : Fin 8192 := ⟨t.val * 512 + r.val, by have := lt_of_lt_of_eq t.2 N_0; omega⟩

/-- The arguments, by what they are. -/
abbrev G0 : FVec Ideal S8192x1024 .f32 := gate0 (m ((c.tc : Thread nD τ).loc main_arg2))
abbrev G1 : FVec Ideal S8192x1024 .f32 := gate1 (m ((c.tc : Thread nD τ).loc main_arg2))
abbrev Y0 : FVec Ideal S8192x1024 .f32 := out (rows (m ((c.tc : Thread nD τ).loc main_arg0))) (m ((c.tc : Thread nD τ).loc main_arg3))
abbrev Y1 : FVec Ideal S8192x1024 .f32 := out (rows (m ((c.tc : Thread nD τ).loc main_arg1))) (m ((c.tc : Thread nD τ).loc main_arg4))
abbrev Z : FVec Ideal S8192x1024 .f32 := dz (rows (m ((c.tc : Thread nD τ).loc main_arg6))) (m ((c.tc : Thread nD τ).loc main_arg5))

theorem dz_at (t : Fin cfg0.N) (r : Fin 512) (d : Fin 1024) : k0_pay4 (F := Ideal) (iblk m c 0 t) (iblk m c 1 t) (ix2 r d) = Z m c (ix2 (tok t r) d) := by
  pointwise [k0_pay4, dz, rows]
  blk_point [iblk, V, idx t, tok]

theorem g0_at (t : Fin cfg0.N) (r : Fin 512) (d : Fin 1024) : X0_4 m c t (ix2 r d) = G0 m c (ix2 (tok t r) d) := by
  unfold X0_4 Pipeline.Window.fill
  rw [dif_pos (moved0_4 t _)]
  have e : iblk m c 4 t (fun a => ⟨((ix2 r d : S512x1024.Idx) a).val, (((cfg0.win 4).moved_iff _ _).mp (moved0_4 t (ix2 r d))) a⟩) = V m c main_v22 (ix2 (tok t r) (⟨2048 + d.val, by omega⟩ : Fin 5376)) := by
    blk_ext! [iblk, idx t, tok]
  refine e.trans ?_
  unfold V
  after_results_simp
  pointwise [gate0, tok]
  rw [dif_pos (by omega)]
  after_results_simp
  pointwise

theorem g1_at (t : Fin cfg0.N) (r : Fin 512) (d : Fin 1024) : X0_5 m c t (ix2 r d) = G1 m c (ix2 (tok t r) d) := by
  unfold X0_5 Pipeline.Window.fill
  rw [dif_pos (moved0_5 t _)]
  have e : iblk m c 5 t (fun a => ⟨((ix2 r d : S512x1024.Idx) a).val, (((cfg0.win 5).moved_iff _ _).mp (moved0_5 t (ix2 r d))) a⟩) = V m c main_v22 (ix2 (tok t r) (⟨3072 + d.val, by omega⟩ : Fin 5376)) := by
    blk_ext! [iblk, idx t, tok]
  refine e.trans ?_
  unfold V
  after_results_simp
  pointwise [gate1, tok]
  after_results_simp
  pointwise
  blk_ext!

theorem y0_at (t : Fin cfg0.N) (r : Fin 512) (d : Fin 1024) : iblk m c 6 t (ix2 r d) = Y0 m c (ix2 (tok t r) d) := by
  have e : iblk m c 6 t (ix2 r d) = V m c main_v8 (ix2 (tok t r) d) := by
    blk_ext! [iblk, idx t, tok]
  refine e.trans ?_
  unfold V
  after_results_simp
  pointwise [out, rows, tok]

theorem y1_at (t : Fin cfg0.N) (r : Fin 512) (d : Fin 1024) : iblk m c 7 t (ix2 r d) = Y1 m c (ix2 (tok t r) d) := by
  have e : iblk m c 7 t (ix2 r d) = V m c main_v14 (ix2 (tok t r) d) := by
    blk_ext! [iblk, idx t, tok]
  refine e.trans ?_
  unfold V
  after_results_simp
  pointwise [out, rows, tok]

theorem wc_at (t : Fin cfg0.N) (k d : Fin 1024) : iblk m c 2 t (ix2 k d) = (m ((c.tc : Thread nD τ).loc main_arg3)) (ix2 k d) := by
  blk_ext! [iblk, V, idx t]

theorem wa_at (t : Fin cfg0.N) (k d : Fin 1024) : iblk m c 3 t (ix2 k d) = (m ((c.tc : Thread nD τ).loc main_arg4)) (ix2 k d) := by
  blk_ext! [iblk, V, idx t]

/-- The kernel's sigmoid is jax's, the quotient written out. -/
theorem sgm_at (x : FVec Ideal S8192x1024 .f32) (i : S8192x1024.Idx) : sgm x i = Ideal.logistic (x i) := by
  idx_vars i
  pointwise [sgm]
  rfl

section rows
variable (v0 v5 y : FVec Ideal S512x1024 .bf16) (v2 w : FVec Ideal S1024x1024 .bf16) (g z Y : FVec Ideal S8192x1024 .f32) (W : FVec Ideal S1024x1024 .f32)
  (r : Fin 512) (s : Fin 8192) (hz : ∀ d, k0_pay4 (F := Ideal) v0 v2 (ix2 r d) = z (ix2 s d)) (h5 : ∀ d, v5 (ix2 r d) = g (ix2 s d))
include hz h5

theorem row_dy0 (d : Fin 1024) : k0_pay7 (F := Ideal) v0 v2 v5 (ix2 r d) = half (dy g z) (ix2 s d) := by
  pointwise [k0_pay7, k0_pay5, half, dy]
  rw [hz, h5, sgm_at, mul_comm]

theorem row_dy1 (d : Fin 1024) : k0_pay8 (F := Ideal) v0 v2 v5 (ix2 r d) = half (dy g z) (ix2 s d) := by
  pointwise [k0_pay8, k0_pay6, half, dy]
  rw [hz, h5, sgm_at, mul_comm]

theorem row_dg0 (d : Fin 1024) (hy : ∀ d, y (ix2 r d) = Y (ix2 s d)) : k0_pay9 (F := Ideal) v0 v2 v5 y (ix2 r d) = dg g z Y (ix2 s d) := by
  pointwise [k0_pay9, k0_pay5, dg, one]
  rw [hz, h5, hy, sgm_at]

theorem row_dg1 (d : Fin 1024) (hy : ∀ d, y (ix2 r d) = Y (ix2 s d)) :
    k0_pay1 (F := Ideal) (k0_pay6 v5) (k0_pay10 v0 v2 y) (k0_pay11 v5) (ix2 r d) = dg g z Y (ix2 s d) := by
  pointwise [k0_pay1, k0_pay10, k0_pay11, k0_pay6, dg, one]
  rw [hz, h5, hy, sgm_at]

theorem row_din0 (d : Fin 1024) (hw : ∀ k d, w (ix2 k d) = W (ix2 k d)) :
    k0_pay2 (F := Ideal) (k0_pay7 v0 v2 v5) w (ix2 r d) = din (dy g z) W (ix2 s d) := by
  have e := row_dy0 v0 v5 v2 g z r s hz h5
  pointwise [k0_pay2, din]
  refine Finset.sum_congr rfl fun k _ => ?_
  rw [e, hw]; rfl

theorem row_din1 (d : Fin 1024) (hw : ∀ k d, w (ix2 k d) = W (ix2 k d)) :
    k0_pay3 (F := Ideal) (k0_pay8 v0 v2 v5) w (ix2 r d) = half (din (dy g z) W) (ix2 s d) := by
  have e := row_dy1 v0 v5 v2 g z r s hz h5
  pointwise [k0_pay3, din, half]
  refine Finset.sum_congr rfl fun k _ => ?_
  rw [e, hw]; rfl

end rows

/-- The cotangent of the gates, column by column. -/
theorem dgates_left (g0 g1 z y0 y1 : FVec Ideal S8192x1024 .f32) (s : Fin 8192) (d : Fin 1024) :
    dgates g0 g1 z y0 y1 (ix2 s ⟨d.val, by omega⟩) = dg g0 z y0 (ix2 s d) := by
  pointwise [dgates]
  rw [dif_neg (fun h => h.1)]
  exact zero_add _

theorem dgates_right (g0 g1 z y0 y1 : FVec Ideal S8192x1024 .f32) (s : Fin 8192) (d : Fin 1024) :
    dgates g0 g1 z y0 y1 (ix2 s ⟨1024 + d.val, by omega⟩) = dg g1 z y1 (ix2 s d) := by
  pointwise [dgates]
  first | done | rw [add_zero]

/-! ## The five results -/

abbrev D0 : FVec Ideal S8192x1024 .f32 := dy (G0 m c) (Z m c)
abbrev D1 : FVec Ideal S8192x1024 .f32 := dy (G1 m c) (Z m c)

theorem final8 : (dats m 0 c).arrAt 8 (cfgs 0).N = half (D0 m c) := by
  refine (dats m 0 c).arrAt_eq_of_covers 8 _ (by decide +kernel) fun t _ y => ?_
  blk_simp
  rw [after0_8, outsAt0]
  frame_out
  idx_vars y
  refine (row_dy0 _ _ _ (G0 m c) (Z m c) y0 (tok t y0) (dz_at m c t y0) (g0_at m c t y0) y1).trans ?_
  blk_ext! [idx t, tok]

theorem final9 : (dats m 0 c).arrAt 9 (cfgs 0).N = half (D1 m c) := by
  refine (dats m 0 c).arrAt_eq_of_covers 9 _ (by decide +kernel) fun t _ y => ?_
  blk_simp
  rw [after0_9, outsAt0]
  frame_out
  idx_vars y
  refine (row_dy1 _ _ _ (G1 m c) (Z m c) y0 (tok t y0) (dz_at m c t y0) (g1_at m c t y0) y1).trans ?_
  blk_ext! [idx t, tok]

theorem final10 : (dats m 0 c).arrAt 10 (cfgs 0).N = dgates (G0 m c) (G1 m c) (Z m c) (Y0 m c) (Y1 m c) := by
  refine (dats m 0 c).arrAt_eq_of_covers 10 _ (by decide +kernel) fun t _ y => ?_
  blk_simp
  rw [after0_10, outsAt0]
  frame_out
  idx_vars y
  refine View.canon_eq_of_allAt _ _ _ (View.cover_of_tiled_head _ _ _ rfl _)
    (View.allAt_cons_unit _ _ _ _ _ (fun x hx => ?_) (View.allAt_cons_unit _ _ _ _ _ (fun x hx => ?_) (View.allAt_nil _ _)))
  · obtain ⟨x0, x1, rfl⟩ : ∃ (x0 : Fin 512) (x1 : Fin 1024), x = ix2 x0 x1 := ⟨x 0, x 1, by idx_vars x⟩
    have h0 : y0.val = x0.val := (hx 0).trans (Nat.zero_add _)
    have h1 : y1.val = 1024 + x1.val := hx 1
    obtain rfl : y0 = x0 := Fin.ext h0
    refine (row_dg1 _ _ _ _ (G1 m c) (Z m c) (Y1 m c) y0 (tok t y0) (dz_at m c t y0) (g1_at m c t y0) x1 (y1_at m c t y0)).trans ?_
    refine (dgates_right (G0 m c) (G1 m c) (Z m c) (Y0 m c) (Y1 m c) (tok t y0) x1).symm.trans ?_
    generalize dgates (G0 m c) (G1 m c) (Z m c) (Y0 m c) (Y1 m c) = A
    blk_ext! [idx t, tok, h1]
  · obtain ⟨x0, x1, rfl⟩ : ∃ (x0 : Fin 512) (x1 : Fin 1024), x = ix2 x0 x1 := ⟨x 0, x 1, by idx_vars x⟩
    have h0 : y0.val = x0.val := (hx 0).trans (Nat.zero_add _)
    have h1 : y1.val = x1.val := (hx 1).trans (Nat.zero_add _)
    obtain rfl : y0 = x0 := Fin.ext h0
    refine (row_dg0 _ _ _ _ (G0 m c) (Z m c) (Y0 m c) y0 (tok t y0) (dz_at m c t y0) (g0_at m c t y0) x1 (y0_at m c t y0)).trans ?_
    refine (dgates_left (G0 m c) (G1 m c) (Z m c) (Y0 m c) (Y1 m c) (tok t y0) x1).symm.trans ?_
    generalize dgates (G0 m c) (G1 m c) (Z m c) (Y0 m c) (Y1 m c) = A
    blk_ext! [idx t, tok, h1]

theorem final11 : (dats m 0 c).arrAt 11 (cfgs 0).N = din (D0 m c) (m ((c.tc : Thread nD τ).loc main_arg3)) := by
  refine (dats m 0 c).arrAt_eq_of_covers 11 _ (by decide +kernel) fun t _ y => ?_
  blk_simp
  rw [after0_11, outsAt0]
  frame_out
  idx_vars y
  refine (row_din0 _ _ _ _ (G0 m c) (Z m c) _ y0 (tok t y0) (dz_at m c t y0) (g0_at m c t y0) y1 (wc_at m c t)).trans ?_
  blk_ext! [idx t, tok]

theorem final12 : (dats m 0 c).arrAt 12 (cfgs 0).N = half (din (D1 m c) (m ((c.tc : Thread nD τ).loc main_arg4))) := by
  refine (dats m 0 c).arrAt_eq_of_covers 12 _ (by decide +kernel) fun t _ y => ?_
  blk_simp
  rw [after0_12, outsAt0]
  frame_out
  idx_vars y
  refine (row_din1 _ _ _ _ (G1 m c) (Z m c) _ y0 (tok t y0) (dz_at m c t y0) (g1_at m c t y0) y1 (wa_at m c t)).trans ?_
  blk_ext! [idx t, tok]

end Cert.Kernel4Ideal.Value
-- ==== Proof.MergeFwd.lean ====
module

public import proofs.«01_k».proof.Proof.Gen.Kernel5Ideal.Value
public import proofs.«01_k».proof.Proof.Gen.Reference5Ideal.Run
public import proofs.«01_k».proof.Proof.MergeBwd

/-! The gated sum of the two branches and the second rms norm: what each row of the kernel's blocks says. -/

@[expose] public section

set_option maxRecDepth 16384

noncomputable section

open Idealize.ShloMosaic Idealize.ShloMosaic.TcCoe Idealize.SL.Sem
open Idealize.ShloMosaic.Pipeline (Dat)

namespace Cert.Reference5Ideal.Value
open Cert.Reference5Ideal Cert.Reference5Ideal.Gen
open Cert.Reference4Ideal.Value (rows gate0 gate1 sgm out half)

/-- The merged tokens, the hidden state, and the hidden state normalised and scaled. -/
def merged (g0 g1 y0 y1 : FVec Ideal S8192x1024 .f32) : FVec Ideal S8192x1024 .f32 := addf (mulf (sgm g0) y0) (mulf (sgm g1) y1)
def hid (x z : FVec Ideal S8192x1024 .f32) (w : FVec Ideal S1024x1024 .f32) : FVec Ideal S8192x1024 .f32 := addf x (out z w)
def scaled (h : FVec Ideal S8192x1024 .f32) (g : FVec Ideal S1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))

variable (m : (ℓ : Loc nD τ sig) → Buf (Elt Ideal) ℓ) (c : Dev nD)

theorem out4_eq : res_main_v42 m c = half (scaled (hid (rows (m ((c.tc : Thread nD τ).loc main_arg3)))
    (merged (gate0 (m ((c.tc : Thread nD τ).loc main_arg2))) (gate1 (m ((c.tc : Thread nD τ).loc main_arg2)))
      (out (rows (m ((c.tc : Thread nD τ).loc main_arg0))) (m ((c.tc : Thread nD τ).loc main_arg4)))
      (out (rows (m ((c.tc : Thread nD τ).loc main_arg1))) (m ((c.tc : Thread nD τ).loc main_arg5))))
    (m ((c.tc : Thread nD τ).loc main_arg6))) (m ((c.tc : Thread nD τ).loc main_arg7))) := rfl

end Cert.Reference5Ideal.Value

namespace Cert.Kernel5Ideal.Value
open Cert.Kernel5Ideal Cert.Kernel5Ideal.Gen
open Cert.Reference4Ideal.Value (rows gate0 gate1 sgm out half)
open Cert.Kernel4Ideal.Value (sgm_at)
open Cert.Reference5Ideal.Value (merged hid scaled)

theorem idx : ∀ t : Fin cfg0.N, win0_0.index t = ![t.val, 0] ∧ win0_1.index t = ![t.val, 0] ∧ win0_2.index t = ![t.val, 2] ∧ win0_3.index t = ![t.val, 3]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

variable (m : (ℓ : Loc nD τ sig) → Buf (Elt Ideal) ℓ) (c : Dev nD)

/-- The tokens of one grid point. -/
def tok (t : Fin cfg0.N) (r : Fin 512) : Fin 8192 := ⟨t.val * 512 + r.val, by have := lt_of_lt_of_eq t.2 N_0; omega⟩

/-- The arguments, by what they are. -/
abbrev G0 : FVec Ideal S8192x1024 .f32 := gate0 (m ((c.tc : Thread nD τ).loc main_arg2))
abbrev G1 : FVec Ideal S8192x1024 .f32 := gate1 (m ((c.tc : Thread nD τ).loc main_arg2))
abbrev Y0 : FVec Ideal S8192x1024 .f32 := out (rows (m ((c.tc : Thread nD τ).loc main_arg0))) (m ((c.tc : Thread nD τ).loc main_arg4))
abbrev Y1 : FVec Ideal S8192x1024 .f32 := out (rows (m ((c.tc : Thread nD τ).loc main_arg1))) (m ((c.tc : Thread nD τ).loc main_arg5))
abbrev Z : FVec Ideal S8192x1024 .f32 := merged (G0 m c) (G1 m c) (Y0 m c) (Y1 m c)
abbrev H : FVec Ideal S8192x1024 .f32 := hid (rows (m ((c.tc : Thread nD τ).loc main_arg3))) (Z m c) (m ((c.tc : Thread nD τ).loc main_arg6))

theorem y0_at (t : Fin cfg0.N) (r : Fin 512) (d : Fin 1024) : k0_pay3 (F := Ideal) (iblk m c 0 t) (iblk m c 5 t) (ix2 r d) = Y0 m c (ix2 (tok t r) d) := by
  pointwise [k0_pay3, out, rows]
  blk_point [iblk, V, idx t, tok]

theorem y1_at (t : Fin cfg0.N) (r : Fin 512) (d : Fin 1024) : k0_pay4 (F := Ideal) (iblk m c 1 t) (iblk m c 6 t) (ix2 r d) = Y1 m c (ix2 (tok t r) d) := by
  pointwise [k0_pay4, out, rows]
  blk_point [iblk, V, idx t, tok]

theorem g0_at (t : Fin cfg0.N) (r : Fin 512) (d : Fin 1024) : X0_2 m c t (ix2 r d) = G0 m c (ix2 (tok t r) d) := by
  unfold X0_2 Pipeline.Window.fill
  rw [dif_pos (moved0_2 t _)]
  have e : iblk m c 2 t (fun a => ⟨((ix2 r d : S512x1024.Idx) a).val, (((cfg0.win 2).moved_iff _ _).mp (moved0_2 t (ix2 r d))) a⟩) = V m c main_v12 (ix2 (tok t r) (⟨2048 + d.val, by omega⟩ : Fin 5376)) := by
    blk_ext! [iblk, idx t, tok]
  refine e.trans ?_
  unfold V
  after_results_simp
  pointwise [gate0, tok]
  rw [dif_pos (by omega)]
  after_results_simp
  pointwise

theorem g1_at (t : Fin cfg0.N) (r : Fin 512) (d : Fin 1024) : X0_3 m c t (ix2 r d) = G1 m c (ix2 (tok t r) d) := by
  unfold X0_3 Pipeline.Window.fill
  rw [dif_pos (moved0_3 t _)]
  have e : iblk m c 3 t (fun a => ⟨((ix2 r d : S512x1024.Idx) a).val, (((cfg0.win 3).moved_iff _ _).mp (moved0_3 t (ix2 r d))) a⟩) = V m c main_v12 (ix2 (tok t r) (⟨3072 + d.val, by omega⟩ : Fin 5376)) := by
    blk_ext! [iblk, idx t, tok]
  refine e.trans ?_
  unfold V
  after_results_simp
  pointwise [gate1, tok]
  after_results_simp
  pointwise
  blk_ext!

/-- The gated sum, row by row. -/
theorem row_z (v0 v5 v14 v19 : FVec Ideal S512x1024 .bf16) (v2 v7 : FVec Ideal S1024x1024 .bf16) (g0 g1 y0 y1 : FVec Ideal S8192x1024 .f32) (r : Fin 512) (s : Fin 8192) (d : Fin 1024)
    (h0 : k0_pay3 (F := Ideal) v0 v2 (ix2 r d) = y0 (ix2 s d)) (h1 : k0_pay4 (F := Ideal) v5 v7 (ix2 r d) = y1 (ix2 s d))
    (h2 : v14 (ix2 r d) = g0 (ix2 s d)) (h3 : v19 (ix2 r d) = g1 (ix2 s d)) :
    k0_pay7 (F := Ideal) v0 v2 v5 v7 v14 v19 (ix2 r d) = half (merged g0 g1 y0 y1) (ix2 s d) := by
  pointwise [k0_pay7, half, merged]
  rw [h0, h1, h2, h3, sgm_at, sgm_at]

/-- The hidden state, row by row. -/
theorem row_h (v25 : FVec Ideal S512x1024 .bf16) (v27 : FVec Ideal S512x1024 .f32) (v29 : FVec Ideal S1024x1024 .bf16) (x z : FVec Ideal S8192x1024 .f32) (w : FVec Ideal S1024x1024 .f32)
    (r : Fin 512) (s : Fin 8192) (d : Fin 1024) (hz : ∀ d, v25 (ix2 r d) = half z (ix2 s d)) (hx : ∀ d, v27 (ix2 r d) = x (ix2 s d)) (hw : ∀ k d, v29 (ix2 k d) = w (ix2 k d)) :
    k0_pay1 (F := Ideal) v25 (k0_pay8 v27) (k0_pay9 v29) (constant S512x1024 .f32 0x00000000#32) (ix2 r d) = hid x z w (ix2 s d) := by
  pointwise [k0_pay1, k0_pay8, k0_pay9, hid, out]
  rw [hx]
  refine congrArg _ (Finset.sum_congr rfl fun k _ => ?_)
  rw [hz, hw]; rfl

/-- The norm, row by row. -/
theorem row_hn (v25 : FVec Ideal S512x1024 .bf16) (v28 : FVec Ideal S512x1024 .f32) (v30 : FVec Ideal S1024x1024 .bf16) (cst : FVec Ideal S512x1024 .f32) (v44 : FVec Ideal S1x1024 .f32)
    (h : FVec Ideal S8192x1024 .f32) (g : FVec Ideal S1024 .f32)
    (r : Fin 512) (s : Fin 8192) (d : Fin 1024) (hh : ∀ d, k0_pay1 (F := Ideal) v25 v28 v30 cst (ix2 r d) = h (ix2 s d)) (hg : ∀ d, v44 (ix2 0 d) = g (ix1 d)) :
    k0_pay2 (F := Ideal) v25 v28 v30 cst v44 (ix2 r d) = half (scaled h g) (ix2 s d) := by
  pointwise [k0_pay2, half, scaled]
  simp only [hh, hg, Finset.univ_unique, Finset.sum_const, Finset.card_singleton, one_smul]

theorem x_at (t : Fin cfg0.N) (r : Fin 512) (d : Fin 1024) : iblk m c 4 t (ix2 r d) = rows (m ((c.tc : Thread nD τ).loc main_arg3)) (ix2 (tok t r) d) := by
  pointwise [rows]
  blk_ext! [iblk, V, idx t, tok]

theorem wm_at (t : Fin cfg0.N) (k d : Fin 1024) : iblk m c 7 t (ix2 k d) = (m ((c.tc : Thread nD τ).loc main_arg6)) (ix2 k d) := by
  blk_ext! [iblk, V, idx t]

theorem g_at (t : Fin cfg0.N) (d : Fin 1024) : iblk m c 8 t (ix2 0 d) = (m ((c.tc : Thread nD τ).loc main_arg7)) (ix1 d) := by
  blk_ext! [iblk, V, idx t]

theorem z_at (t : Fin cfg0.N) (r : Fin 512) (d : Fin 1024) :
    k0_pay7 (F := Ideal) (iblk m c 0 t) (iblk m c 5 t) (iblk m c 1 t) (iblk m c 6 t) (X0_2 m c t) (X0_3 m c t) (ix2 r d) = half (Z m c) (ix2 (tok t r) d) :=
  row_z _ _ _ _ _ _ _ _ _ _ r (tok t r) d (y0_at m c t r d) (y1_at m c t r d) (g0_at m c t r d) (g1_at m c t r d)

theorem h_at (t : Fin cfg0.N) (r : Fin 512) (d : Fin 1024) :
    k0_pay1 (F := Ideal) (k0_pay7 (iblk m c 0 t) (iblk m c 5 t) (iblk m c 1 t) (iblk m c 6 t) (X0_2 m c t) (X0_3 m c t)) (k0_pay8 (iblk m c 4 t)) (k0_pay9 (iblk m c 7 t)) (constant S512x1024 .f32 0x00000000#32) (ix2 r d) = H m c (ix2 (tok t r) d) :=
  row_h _ _ _ _ _ _ r (tok t r) d (z_at m c t r) (x_at m c t r) (wm_at m c t)

/-! ## The five results -/

theorem final9 : (dats m 0 c).arrAt 9 (cfgs 0).N = half (Y0 m c) := by
  refine (dats m 0 c).arrAt_eq_of_covers 9 _ (by decide +kernel) fun t _ y => ?_
  blk_simp
  rw [after0_9, outsAt0]
  frame_out
  idx_vars y
  have e := y0_at m c t y0 y1
  refine (show _ = half (Y0 m c) (ix2 (tok t y0) y1) from ?_).trans ?_
  · pointwise [k0_pay5, half]
    exact e
  · blk_ext! [idx t, tok]

theorem final10 : (dats m 0 c).arrAt 10 (cfgs 0).N = half (Y1 m c) := by
  refine (dats m 0 c).arrAt_eq_of_covers 10 _ (by decide +kernel) fun t _ y => ?_
  blk_simp
  rw [after0_10, outsAt0]
  frame_out
  idx_vars y
  have e := y1_at m c t y0 y1
  refine (show _ = half (Y1 m c) (ix2 (tok t y0) y1) from ?_).trans ?_
  · pointwise [k0_pay6, half]
    exact e
  · blk_ext! [idx t, tok]

theorem final11 : (dats m 0 c).arrAt 11 (cfgs 0).N = half (Z m c) := by
  refine (dats m 0 c).arrAt_eq_of_covers 11 _ (by decide +kernel) fun t _ y => ?_
  blk_simp
  rw [after0_11, outsAt0]
  frame_out
  idx_vars y
  refine (z_at m c t y0 y1).trans ?_
  blk_ext! [idx t, tok]

theorem final12 : (dats m 0 c).arrAt 12 (cfgs 0).N = H m c := by
  refine (dats m 0 c).arrAt_eq_of_covers 12 _ (by decide +kernel) fun t _ y => ?_
  blk_simp
  rw [after0_12, outsAt0]
  frame_out
  idx_vars y
  refine (h_at m c t y0 y1).trans ?_
  blk_ext! [idx t, tok]

theorem final13 : (dats m 0 c).arrAt 13 (cfgs 0).N = half (scaled (H m c) (m ((c.tc : Thread nD τ).loc main_arg7))) := by
  refine (dats m 0 c).arrAt_eq_of_covers 13 _ (by decide +kernel) fun t _ y => ?_
  blk_simp
  rw [after0_13, outsAt0]
  frame_out
  idx_vars y
  refine (row_hn _ _ _ _ _ (H m c) _ y0 (tok t y0) y1 (h_at m c t y0) (g_at m c t)).trans ?_
  blk_ext! [idx t, tok]

end Cert.Kernel5Ideal.Value
-- ==== Proof.MergeClaim.lean ====
module

public import proofs.«01_k».proof.Defs
public import proofs.«01_k».proof.Proof.MergeFwd
public import Idealize.ShloMosaic.Lib.Claim

/-! The claims about the gated sum of the two branches and its gradients, from the runs. -/

@[expose] public section

noncomputable section

namespace Cert.Proof

open Idealize.ShloMosaic Idealize.SL.Sem

theorem frame_reference4 : Cert.quiescent_Reference4Ideal := by
  intro m g _
  exact (θ_run Cert.Reference4Ideal.defs _ _).mono (fun r h => ⟨fun c => (h c).2.2.2.2.2, sem_eq_zero_of_no_sems (by decide) r.2⟩) (Cert.Reference4Ideal.Value.run m g)

theorem algebraic4 : Cert.algebraic_Kernel4Ideal_Reference4Ideal := by
  pair_intro
  · run_from Cert.Kernel4Ideal.Value.run_blocks m g
  · run_from Cert.Reference4Ideal.Value.run m' g'
    · exact (Cert.Kernel4Ideal.Value.final8 m c).symm
    · exact (Cert.Kernel4Ideal.Value.final9 m c).symm
    · exact (Cert.Kernel4Ideal.Value.final10 m c).symm
    · exact (Cert.Kernel4Ideal.Value.final11 m c).symm
    · exact (Cert.Kernel4Ideal.Value.final12 m c).symm

theorem frame_reference5 : Cert.quiescent_Reference5Ideal := by
  intro m g _
  exact (θ_run Cert.Reference5Ideal.defs _ _).mono (fun r h => ⟨fun c => (h c).2.2.2.2.2, sem_eq_zero_of_no_sems (by decide) r.2⟩) (Cert.Reference5Ideal.Value.run m g)

theorem algebraic5 : Cert.algebraic_Kernel5Ideal_Reference5Ideal := by
  pair_intro
  · run_from Cert.Kernel5Ideal.Value.run_blocks m g
  · run_from Cert.Reference5Ideal.Value.run m' g'
    · exact (Cert.Kernel5Ideal.Value.final9 m c).symm
    · exact (Cert.Kernel5Ideal.Value.final10 m c).symm
    · exact (Cert.Kernel5Ideal.Value.final11 m c).symm
    · exact (Cert.Kernel5Ideal.Value.final12 m c).symm
    · obtain ⟨h0, h1, h2, h3, h4, h5, h6, h7⟩ := hagree c
      refine (Cert.Reference5Ideal.Value.out4_eq m' c).trans ?_
      rw [h0, h1, h2, h3, h4, h5, h6, h7]
      exact (Cert.Kernel5Ideal.Value.final13 m c).symm

end Cert.Proof
-- ==== Proof.ConvArith.lean ====
module

public import proofs.«01_k».proof.Proof.RealArith

/-! Arithmetic of the convolution branch's gradient: the derivative of `v · σ(v)` and the gradient of the layer norm. -/

@[expose] public section

noncomputable section

namespace Cert.Arith

open Idealize.ShloMosaic

theorem logistic_top : Ideal.logistic ⊤ = 1 := by
  have h : Ideal.exp ⊥ = 0 := rfl
  simp [Ideal.logistic, h, Ideal.div]

theorem logistic_bot : Ideal.logistic ⊥ = 0 := by
  have h : Ideal.exp ⊤ = ⊤ := rfl
  have h1 : (1 : EReal) + ⊤ = ⊤ := EReal.add_top_of_ne_bot (EReal.coe_ne_bot 1)
  simp [Ideal.logistic, h, h1, Ideal.div]

theorem one_sub_one : (1 : EReal) - 1 = 0 := by
  rw [← EReal.coe_one, ← EReal.coe_sub]
  simp

/-- Two ways to write the cotangent behind `v · σ(v)`, where `s` stands for `σ(v)`: `s` is a real, and is one or zero
    where `v` is infinite. -/
theorem silu_grad (d : ℝ) (v : EReal) :
    (d : EReal) * (Ideal.logistic v * (1 + v * (1 - Ideal.logistic v)))
      = d * Ideal.logistic v + v * d * (Ideal.logistic v * (1 - Ideal.logistic v)) := by
  induction v with
  | coe x =>
    rw [Ideal.logistic_coe]
    norm_cast
    ring
  | top =>
    rw [logistic_top, one_sub_one]; simp
  | bot =>
    rw [logistic_bot]; simp

/-- The cotangent behind `v · σ(v)` is a real where the cotangent before it is. -/
theorem silu_real (d : ℝ) (v : EReal) :
    ∃ a : ℝ, (d : EReal) * Ideal.logistic v + v * d * (Ideal.logistic v * (1 - Ideal.logistic v)) = a := by
  induction v with
  | coe x =>
    rw [Ideal.logistic_coe]
    norm_cast
    exact ⟨_, rfl⟩
  | top =>
    rw [logistic_top, one_sub_one]; exact ⟨d, by simp⟩
  | bot =>
    rw [logistic_bot]; exact ⟨0, by simp⟩

/-- The kernel's closed form of the layer norm's gradient against the derivative's own chain of operations, for one row
    `h` of reals and real cotangents `q`. -/
theorem ln_grad {n : ℕ} (h q : Fin n → EReal) (hh : ∀ k, ∃ a : ℝ, h k = a) (hq : ∀ k, ∃ a : ℝ, q k = a) {N e f two : EReal} {e' : ℝ}
    (hN : N = ((n : ℝ) : EReal)) (he : e = (e' : EReal)) (hn : 0 < n) (he0 : 0 < e') (hf : f = ((-(1 / 2) : ℝ) : EReal)) (h2 : two = ((2 : ℝ) : EReal))
    (i : Fin n) (x : Fin n → EReal) (r ve : EReal) (hx : x = fun k => h k - Ideal.div (∑ k, h k) N)
    (hve : ve = Ideal.div (∑ k, x k * x k) N + e) (hr : r = Ideal.rsqrt ve) :
    r * (q i - Ideal.div (∑ k, q k) N - x i * r * Ideal.div (∑ k, q k * (x k * r)) N)
      = q i * r + Ideal.div ((∑ k, x k * q k) * (f * Ideal.div r ve)) N * (two * x i)
        + Ideal.div ((∑ k, -(q k * r)) + ∑ k, -(Ideal.div ((∑ k, x k * q k) * (f * Ideal.div r ve)) N * (two * x k))) N := by
  choose a ha using hh
  choose p hp using hq
  obtain rfl : h = fun k => (a k : EReal) := funext ha
  obtain rfl : q = fun k => (p k : EReal) := funext hp
  have hn' : (n : ℝ) ≠ 0 := by positivity
  subst hN he hf h2
  obtain ⟨y, hx', hs⟩ : ∃ y : Fin n → ℝ, (x = fun k => ((y k : ℝ) : EReal)) ∧ ∑ k, y k = 0 := by
    refine ⟨fun k => a k - (∑ k, a k) * (1 / n), ?_, ?_⟩
    · rw [hx]
      funext k
      rw [Ideal.div_coe hn', coe_sum]
      norm_cast
    · rw [Finset.sum_sub_distrib, Finset.sum_const, Finset.card_univ, Fintype.card_fin, nsmul_eq_mul]
      field_simp
      ring
  clear hx
  subst hx'
  dsimp only at hve ⊢
  have hw : 0 < (∑ k, y k * y k) * (1 / (n : ℝ)) + e' := by
    have : 0 ≤ ∑ k, y k * y k := Finset.sum_nonneg fun k _ => mul_self_nonneg _
    positivity
  have hve' : ve = (((∑ k, y k * y k) * (1 / (n : ℝ)) + e' : ℝ) : EReal) := by
    rw [hve, Ideal.div_coe hn']
    simp only [← EReal.coe_mul, coe_sum, ← EReal.coe_add]
  generalize (∑ k, y k * y k) * (1 / (n : ℝ)) + e' = w at hw hve'
  rw [hve', Ideal.rsqrt_coe, if_neg (not_lt.2 hw.le), if_neg hw.ne'] at hr
  have hq : (Real.sqrt w)⁻¹ * (Real.sqrt w)⁻¹ = 1 / w := by
    rw [← mul_inv, Real.mul_self_sqrt hw.le, one_div]
  generalize (Real.sqrt w)⁻¹ = ρ at hr hq
  rw [hve', hr, Ideal.div_coe hw.ne']
  simp only [Ideal.div_coe hn', ← EReal.coe_mul, ← EReal.coe_neg, coe_sum, ← EReal.coe_add, ← EReal.coe_sub]
  congr 1
  have e1 : ∑ k, p k * (y k * ρ) = (∑ k, y k * p k) * ρ := by
    rw [Finset.sum_mul]; exact Finset.sum_congr rfl fun k _ => by ring
  have e2 : ∑ k, -(p k * ρ) = -((∑ k, p k) * ρ) := by
    rw [Finset.sum_mul, Finset.sum_neg_distrib]
  have e3 : ∀ z : ℝ, ∑ k, -(z * (2 * y k)) = 0 := by
    intro z
    rw [Finset.sum_neg_distrib, ← Finset.mul_sum, ← Finset.mul_sum, hs]; ring
  rw [e1, e2, e3, ← hq]
  ring

/-! ## One row of the convolution branch's norm and gate -/

/-- A row with its mean taken off. -/
def cen {n : ℕ} (h : Fin n → EReal) (k : Fin n) : EReal := h k - Ideal.div (∑ k, h k) (Ideal.ofBits .f32 1149239296#32)
/-- Its variance and the epsilon. -/
def vre {n : ℕ} (h : Fin n → EReal) : EReal :=
  Ideal.div (∑ k, cen h k * cen h k) (Ideal.ofBits .f32 1149239296#32) + Ideal.ofBits .f32 897988541#32
/-- The row normalised, scaled and shifted. -/
def nrm {n : ℕ} (h g l : Fin n → EReal) (k : Fin n) : EReal := cen h k * Ideal.rsqrt (vre h) * g k + l k
/-- The cotangent behind `v · σ(v)`, as the reference has it. -/
def sil (d v : EReal) : EReal := d * Ideal.logistic v + v * d * (Ideal.logistic v * (1 - Ideal.logistic v))
/-- The same as the kernel has it. -/
def silK (d v : EReal) : EReal := d * (Ideal.logistic v * (1 + v * (1 - Ideal.logistic v)))

theorem silK_eq {d : EReal} (hd : ∃ a : ℝ, d = a) (v : EReal) : silK d v = sil d v := by
  obtain ⟨a, rfl⟩ := hd
  exact silu_grad a v

/-- One row of the gradient behind the norm, as the kernel has it and as the reference has it. -/
theorem ln_row (h d g l : Fin 1024 → EReal) (hh : ∀ k, ∃ a : ℝ, h k = a) (hd : ∀ k, ∃ a : ℝ, d k = a) (hg : ∀ k, ∃ a : ℝ, g k = a) (i : Fin 1024) :
    Ideal.rsqrt (vre h) * (silK (d i) (nrm h g l i) * g i - Ideal.div (∑ k, silK (d k) (nrm h g l k) * g k) (Ideal.ofBits .f32 1149239296#32)
        - cen h i * Ideal.rsqrt (vre h) * Ideal.div (∑ k, silK (d k) (nrm h g l k) * g k * (cen h k * Ideal.rsqrt (vre h))) (Ideal.ofBits .f32 1149239296#32))
      = sil (d i) (nrm h g l i) * g i * Ideal.rsqrt (vre h)
        + Ideal.div ((∑ k, cen h k * (sil (d k) (nrm h g l k) * g k)) * (Ideal.ofBits .f32 3204448256#32 * Ideal.div (Ideal.rsqrt (vre h)) (vre h)))
            (Ideal.ofBits .f32 1149239296#32) * (Ideal.ofBits .f32 1073741824#32 * cen h i)
        + Ideal.div ((∑ k, -(sil (d k) (nrm h g l k) * g k * Ideal.rsqrt (vre h)))
            + ∑ k, -(Ideal.div ((∑ k, cen h k * (sil (d k) (nrm h g l k) * g k)) * (Ideal.ofBits .f32 3204448256#32 * Ideal.div (Ideal.rsqrt (vre h)) (vre h)))
                (Ideal.ofBits .f32 1149239296#32) * (Ideal.ofBits .f32 1073741824#32 * cen h k))) (Ideal.ofBits .f32 1149239296#32) := by
  obtain ⟨e, he0, he⟩ := lit_eps
  simp only [fun k => silK_eq (hd k)]
  refine ln_grad h (fun k => sil (d k) (nrm h g l k) * g k) hh (fun k => ?_) (by rw [lit_1024]; norm_num) he (by norm_num) he0 lit_neg_half
    (by simp [Ideal.ofBits, Ideal.ieee, -EReal.coe_mul]; norm_num) i (cen h) _ _ rfl rfl rfl
  obtain ⟨a, ha⟩ := hd k
  obtain ⟨b, hb⟩ := hg k
  obtain ⟨c, hc⟩ := silu_real a (nrm h g l k)
  exact ⟨c * b, by rw [hb, ha, sil, hc, EReal.coe_mul]⟩

end Cert.Arith
-- ==== Proof.ConvTrip.lean ====
module

public import proofs.«01_k».proof.Proof.Gen.Kernel6Ideal.Loops
public import Idealize.ShloMosaic.Lib.Pipeline.ValueKit.Tiles
public import Idealize.ShloMosaic.Lib.Pointwise

@[expose] public section

set_option maxRecDepth 16384

noncomputable section

namespace Cert.Kernel6Ideal.Conv

open Idealize.ShloMosaic Idealize.ShloMosaic.TcCoe Idealize.ShloMosaic.Tactic Cert.Kernel6Ideal.Gen

/-- Everything one trip of the loop over the column blocks is given. -/
structure Args (F : FTy → Type) [FloatOps F] where
  𝒱 : Variants
  c : Dev nD
  bd : Option 𝒱.V
  i : grid0.Coords
  arg2 : Memref sig .tc .vmem S256x1024 .f32
  harg2 : arg2.IsWhole
  arg3 : Memref sig .tc .vmem S32x1024 .f32
  harg3 : arg3.IsWhole
  arg4 : Memref sig .tc .vmem S256x1024 .f32
  harg4 : arg4.IsWhole
  arg5 : Memref sig .tc .vmem S32x1024 .f32
  harg5 : arg5.IsWhole
  arg6 : Memref sig .tc .vmem S256x1024 .bf16
  harg6 : arg6.IsWhole
  arg7 : Memref sig .tc .vmem S256x1024 .bf16
  harg7 : arg7.IsWhole
  arg8 : Memref sig .tc .vmem S31x1024 .f32
  harg8 : arg8.IsWhole
  arg9 : Memref sig .tc .vmem S1x1024 .f32
  harg9 : arg9.IsWhole
  arg10 : Memref sig .tc .vmem S1x1024 .f32
  harg10 : arg10.IsWhole
  arg11 : Memref sig .tc .vmem S256x2048 .bf16
  harg11 : arg11.IsWhole
  arg12 : Memref sig .tc .vmem S248x1024 .f32
  harg12 : arg12.IsWhole
  arg13 : Memref sig .tc .vmem S1x1024 .f32
  harg13 : arg13.IsWhole
  arg14 : Memref sig .tc .vmem S1x1024 .f32
  harg14 : arg14.IsWhole
  arg15 : Memref sig .tc .vmem S1x1024 .f32
  harg15 : arg15.IsWhole
  arg16 : Memref sig .tc .vmem S288x1024 .f32
  harg16 : arg16.IsWhole
  arg17 : Memref sig .tc .vmem S256x1024 .f32
  harg17 : arg17.IsWhole
  arg18 : Memref sig .tc .vmem S7x288x1024 .f32
  harg18 : arg18.IsWhole
  arg19 : Memref sig .tc .vmem S256x1024 .f32
  harg19 : arg19.IsWhole
  c0_i32_91 : BitVec 32
  X_arg8 : BufTy.Contents (Elt F) arg8.view.ty
  X_arg16 : BufTy.Contents (Elt F) arg16.view.ty
  X_arg17 : BufTy.Contents (Elt F) arg17.view.ty
  X_arg18 : BufTy.Contents (Elt F) arg18.view.ty
  k : Fin k0_t1_loop.trips

variable {F : FTy → Type} [FloatOps F]

/-- What one trip leaves in the weights' gradient, as pieces. -/
abbrev Args.dwPieces (a : Args F) := (trip_k0_t1 (F := F) a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.c0_i32_91 a.X_arg8 a.X_arg16 a.X_arg17 a.X_arg18 a.k).1
/-- What one trip leaves in the input's gradient, as pieces. -/
abbrev Args.accPieces (a : Args F) := (trip_k0_t1 (F := F) a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.c0_i32_91 a.X_arg8 a.X_arg16 a.X_arg17 a.X_arg18 a.k).2.1

/-- The memrefs the loop reads, as functions of row and column: the weights, the gradient at the convolution's output
    with its halo, and the gated input; the shifted copies hold the halo's rows from one to seven rows on. -/
structure Holds (a : Args F) (W D G : ℕ → ℕ → F .f32) : Prop where
  h8 : ∀ i : S31x1024.Idx, a.arg8.view.read (Elt F) a.X_arg8 i = W (i 0).val (i 1).val
  h16 : ∀ i : S288x1024.Idx, a.arg16.view.read (Elt F) a.X_arg16 i = D (i 0).val (i 1).val
  h17 : ∀ i : S256x1024.Idx, a.arg17.view.read (Elt F) a.X_arg17 i = G (i 0).val (i 1).val
  h18 : ∀ i : S7x288x1024.Idx, (i 1).val < 280 → a.arg18.view.read (Elt F) a.X_arg18 i = D ((i 0).val + 1 + (i 1).val) (i 2).val

/-- Left-to-right sum of the first `n` terms, from zero. -/
def chain (p : ℕ → F .f32) : ℕ → F .f32
  | 0 => Scalar.ofBits .f32 0x00000000#32
  | n + 1 => FloatOps.addf (chain p n) (p n)

theorem chain_step {p : ℕ → F .f32} {n : ℕ} {y a b : F .f32} (hy : y = chain p n) (hab : FloatOps.mulf a b = p n) :
    FloatOps.addf y (FloatOps.mulf a b) = chain p (n + 1) := by rw [hy, hab]; rfl

section
variable {a : Args F} {W D G : ℕ → ℕ → F .f32} (H : Holds a W D G)
include H

theorem glu_leaf {off : Fin 2 → ℕ} [o : ClosedOff off] (inb : ∀ i, off i + S8x128.size i ≤ S256x1024.size i) (x : S8x128.Idx) :
    View.readAt (Elt F) a.arg17.view (Rect.unit (s := S256x1024) off S8x128.size inb).toLoadRect a.X_arg17 x
      = G (o.form 0 + (x 0).val) (o.form 1 + (x 1).val) := by
  refine Eq.trans (H.h17 ((Rect.unit (s := S256x1024) off S8x128.size inb).idx x)) ?_
  rw [Rect.idx_unit_val, Rect.idx_unit_val, ← o.eq]

theorem weight_leaf {off : Fin 2 → ℕ} [o : ClosedOff off] (inb : ∀ i, off i + S1x128.size i ≤ S31x1024.size i) (h h') (x : S128x128.Idx) :
    broadcastTo S128x128 (shapeCast S1x128 (View.readAt (Elt F) a.arg8.view (Rect.unit (s := S31x1024) off S1x128.size inb).toLoadRect a.X_arg8) h) h' x
      = W (o.form 0) (o.form 1 + (x 1).val) := by
  refine (broadcastTo_apply _ h' x (ix2 0 (x 1)) (by intro a; fin_cases a <;> rfl)).trans ((congrFun (shapeCast_self _ h) _).trans ?_)
  refine Eq.trans (H.h8 ((Rect.unit (s := S31x1024) off S1x128.size inb).idx _)) ?_
  rw [Rect.idx_unit_val, Rect.idx_unit_val, ← o.eq]
  rfl

theorem row_leaf' {m : ℕ} {off : Fin 2 → ℕ} [o : ClosedOff off] (inb : ∀ i, off i + (⟨2, ![m, 128]⟩ : Shape).size i ≤ S288x1024.size i)
    (x : (⟨2, ![m, 128]⟩ : Shape).Idx) :
    View.readAt (Elt F) a.arg16.view (Rect.unit (s := S288x1024) off (⟨2, ![m, 128]⟩ : Shape).size inb).toLoadRect a.X_arg16 x
      = D (o.form 0 + (x 0).val) (o.form 1 + (x 1).val) := by
  refine Eq.trans (H.h16 ((Rect.unit (s := S288x1024) off (⟨2, ![m, 128]⟩ : Shape).size inb).idx x)) ?_
  rw [Rect.idx_unit_val, Rect.idx_unit_val, ← o.eq]

theorem row_leaf {m : ℕ} {off : Fin 2 → ℕ} [o : ClosedOff off] (inb : ∀ i, off i + (⟨2, ![m, 128]⟩ : Shape).size i ≤ S288x1024.size i) (h)
    (x : (⟨2, ![m, 128]⟩ : Shape).Idx) :
    shapeCast ⟨2, ![m, 128]⟩ (View.readAt (Elt F) a.arg16.view (Rect.unit (s := S288x1024) off (⟨2, ![m, 128]⟩ : Shape).size inb).toLoadRect a.X_arg16) h x
      = D (o.form 0 + (x 0).val) (o.form 1 + (x 1).val) :=
  (congrFun (shapeCast_self _ h) x).trans (row_leaf' H inb x)

theorem shifted_leaf {m : ℕ} {off : Fin 3 → ℕ} [o : ClosedOff off] (inb : ∀ i, off i + (⟨3, ![1, m, 128]⟩ : Shape).size i ≤ S7x288x1024.size i) (h)
    (x : (⟨2, ![m, 128]⟩ : Shape).Idx) (hlt : o.form 1 + m ≤ 280) :
    shapeCast ⟨2, ![m, 128]⟩ (View.readAt (Elt F) a.arg18.view (Rect.unit (s := S7x288x1024) off (⟨3, ![1, m, 128]⟩ : Shape).size inb).toLoadRect a.X_arg18) h x
      = D (o.form 0 + 1 + o.form 1 + (x 0).val) (o.form 2 + (x 1).val) := by
  refine (shapeCast_dropUnit_apply ![m, 128] (View.readAt (Elt F) a.arg18.view (Rect.unit (s := S7x288x1024) off (⟨3, ![1, m, 128]⟩ : Shape).size inb).toLoadRect a.X_arg18) h x).trans ?_
  refine Eq.trans (H.h18 ((Rect.unit (s := S7x288x1024) off (⟨3, ![1, m, 128]⟩ : Shape).size inb).idx _) ?_) ?_
  · have h0 : (x 0).val < m := (x 0).isLt
    have h1 : off 1 = o.form 1 := congrFun o.eq 1
    rw [Rect.idx_unit_val]
    show off 1 + (x 0).val < 280
    omega
  · rw [Rect.idx_unit_val, Rect.idx_unit_val, Rect.idx_unit_val, ← o.eq]
    show D (off 0 + 0 + 1 + (off 1 + (x 0).val)) (off 2 + (x 1).val) = _
    congr 1
    omega

/-- Tap `j` at lane `r` of the eight partial sums and column `c`: the terms in the order the kernel adds them. -/
def tapTerm (G D : ℕ → ℕ → F .f32) (j r c n : ℕ) : F .f32 := FloatOps.mulf (G (8 * n + r) c) (D (30 - j + 8 * n + r) c)

/-- The input's gradient at row `r` and column `c`: tap `j`'s term. -/
def accTerm (W D : ℕ → ℕ → F .f32) (r c j : ℕ) : F .f32 := FloatOps.mulf (W j c) (D (30 - j + r) c)

theorem dw_piece {off : Fin 2 → ℕ} [o : ClosedOff off] (inb : ∀ i, off i + S8x128.size i ≤ S248x1024.size i) (h) (f) (t : S8x128.Idx → F .f32)
    (h0 : 8 * (o.form 0 / 8) = o.form 0)
    (ht : ∀ x, t x = chain (fun n => FloatOps.mulf (G (8 * n + (x 0).val) (o.form 1 + (x 1).val)) (D (30 - o.form 0 / 8 + 8 * n + (x 0).val) (o.form 1 + (x 1).val))) 32)
    (x : S8x128.Idx) :
    FloatOps.addf (shapeCast S8x128 (View.readAt (Elt F) a.arg12.view (Rect.unit (s := S248x1024) off S8x128.size inb).toLoadRect f) h x) (t x)
      = FloatOps.addf (a.arg12.view.read (Elt F) f ((Rect.unit (s := S248x1024) off S8x128.size inb).idx x))
          (chain (tapTerm G D (((Rect.unit (s := S248x1024) off S8x128.size inb).idx x 0).val / 8)
            (((Rect.unit (s := S248x1024) off S8x128.size inb).idx x 0).val % 8) ((Rect.unit (s := S248x1024) off S8x128.size inb).idx x 1).val) 32) := by
  rw [ht]
  refine congrArg₂ FloatOps.addf (congrFun (shapeCast_self _ h) x) ?_
  have hx : (x 0).val < 8 := (x 0).isLt
  have h1 : off 0 = o.form 0 := congrFun o.eq 0
  have h2 : off 1 = o.form 1 := congrFun o.eq 1
  rw [Rect.idx_unit_val, Rect.idx_unit_val, h1, h2, show (o.form 0 + (x 0).val) / 8 = o.form 0 / 8 by omega, show (o.form 0 + (x 0).val) % 8 = (x 0).val by omega]
  rfl

theorem acc_piece {off : Fin 2 → ℕ} [o : ClosedOff off] (inb : ∀ i, off i + S128x128.size i ≤ S256x1024.size i) (h) (t : S128x128.Idx → F .f32)
    (ht : ∀ x, t x = chain (fun j => FloatOps.mulf (W j (o.form 1 + (x 1).val)) (D (30 - j + o.form 0 + (x 0).val) (o.form 1 + (x 1).val))) 31)
    (x : S128x128.Idx) :
    shapeCast S128x128 t h x = chain (accTerm W D ((Rect.unit (s := S256x1024) off S128x128.size inb).idx x 0).val
        ((Rect.unit (s := S256x1024) off S128x128.size inb).idx x 1).val) 31 := by
  refine (congrFun (shapeCast_self _ h) x).trans ((ht x).trans ?_)
  have h1 : off 0 = o.form 0 := congrFun o.eq 0
  have h2 : off 1 = o.form 1 := congrFun o.eq 1
  rw [Rect.idx_unit_val, Rect.idx_unit_val, h1, h2]
  exact congrArg (fun p => chain p 31) (funext fun j => by unfold accTerm; rw [Nat.add_assoc])

theorem acc_pieces (f g) : ∀ p ∈ a.accPieces f g, ∀ x, p.2 x = chain (accTerm W D (p.1.idx x 0).val (p.1.idx x 1).val) 31 := by
  unfold Args.accPieces trip_k0_t1
  simp only [List.forall_mem_cons, List.not_mem_nil, false_implies, implies_true, and_true]
  repeat' apply And.intro
  all_goals
    intro x
    unfold_payloads
    refine acc_piece H _ _ _ (fun x => ?_) x
    simp only [ClosedOff.form, Matrix.cons_val_zero, Matrix.cons_val_one]
    iterate 31
      first
      | refine chain_step ?_ (congrArg₂ FloatOps.mulf (weight_leaf H _ _ _ x) (row_leaf' H _ x))
      | refine chain_step ?_ (congrArg₂ FloatOps.mulf (weight_leaf H _ _ _ x) (shifted_leaf H _ _ x ?_))
        rotate_left
        · simp only [ClosedOff.form, Matrix.cons_val_zero, Matrix.cons_val_one, Nat.reduceAdd, Nat.reduceLeDiff]
    rfl
set_option maxHeartbeats 4000000 in
theorem dw_pieces (f g) : ∀ p ∈ a.dwPieces f g, ∀ x, p.2 x = FloatOps.addf (a.arg12.view.read (Elt F) f (p.1.idx x))
    (chain (tapTerm G D ((p.1.idx x 0).val / 8) ((p.1.idx x 0).val % 8) (p.1.idx x 1).val) 32) := by
  unfold Args.dwPieces trip_k0_t1
  simp only [List.forall_mem_cons, List.not_mem_nil, false_implies, implies_true, and_true]
  repeat' apply And.intro
  all_goals
    refine dw_piece H _ _ _ _ ?_ fun x => ?_
    · simp only [ClosedOff.form, Matrix.cons_val_zero, Nat.reduceDiv, Nat.reduceMul]
    simp only [ClosedOff.form, Matrix.cons_val_zero, Matrix.cons_val_one, Nat.reduceDiv, Nat.reduceSub]
    first
    | iterate 32 refine chain_step ?_ (congrArg₂ FloatOps.mulf (glu_leaf H _ x) (row_leaf' H _ x))
      rfl
    | iterate 32
        refine chain_step ?_ (congrArg₂ FloatOps.mulf (glu_leaf H _ x) (shifted_leaf H _ _ x ?_))
        rotate_left
        · simp only [ClosedOff.form, Matrix.cons_val_zero, Matrix.cons_val_one, Nat.reduceAdd, Nat.reduceLeDiff]
      rfl

end

end Cert.Kernel6Ideal.Conv

end
-- ==== Proof.ConvLoop.lean ====
module

public import proofs.«01_k».proof.Proof.ConvTrip

@[expose] public section

set_option maxRecDepth 16384

noncomputable section

namespace Cert.Kernel6Ideal.Conv

open Idealize.ShloMosaic Idealize.ShloMosaic.TcCoe Idealize.ShloMosaic.Tactic Cert.Kernel6Ideal.Gen

variable {F : FTy → Type} [FloatOps F]

/-- The same trip's data at column block `k`. -/
abbrev Args.at (a : Args F) (k : Fin k0_t1_loop.trips) : Args F := { a with k := k }

/-- The pieces of the column blocks before `n`. -/
abbrev Args.before (a : Args F) (G12 : BufTy.Contents (Elt F) a.arg12.view.ty) (G19 : BufTy.Contents (Elt F) a.arg19.view.ty) (n : ℕ) :=
  pb_k0_t1 (F := F) a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.c0_i32_91 a.X_arg8 a.X_arg16 a.X_arg17 a.X_arg18 G12 G19 n

theorem before_succ (a : Args F) (G12 : BufTy.Contents (Elt F) a.arg12.view.ty) (G19 : BufTy.Contents (Elt F) a.arg19.view.ty)
    (k : Fin k0_t1_loop.trips) :
    a.before G12 G19 (k.val + 1)
      = ((a.at k).dwPieces (a.arg12.view.writes (Elt F) G12 (a.before G12 G19 k.val).1) (a.arg19.view.writes (Elt F) G19 (a.before G12 G19 k.val).2)
            ++ (a.before G12 G19 k.val).1,
         (a.at k).accPieces (a.arg12.view.writes (Elt F) G12 (a.before G12 G19 k.val).1) (a.arg19.view.writes (Elt F) G19 (a.before G12 G19 k.val).2)
            ++ (a.before G12 G19 k.val).2) :=
  pb_k0_t1_succ a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.c0_i32_91 a.X_arg8 a.X_arg16 a.X_arg17 a.X_arg18 G12 G19 k

theorem dw_cols (a : Args F) (f g) (y : S248x1024.Idx) :
    (∃ p ∈ a.dwPieces f g, y ∈ p.1.set) ↔ 128 * a.k.val ≤ (y 1).val ∧ (y 1).val < 128 * a.k.val + 128 := by
  have hy : (y 0).val < 248 := (y 0).isLt
  unfold Args.dwPieces trip_k0_t1
  simp only [List.exists_mem_cons_iff, List.not_mem_nil, false_and, exists_false, or_false, Rect.mem_set_unit, Fin.forall_fin_two]
  simp only [k0_off407_eq, k0_off408_eq, k0_off409_eq, k0_off410_eq, k0_off411_eq, k0_off412_eq, k0_off413_eq, k0_off414_eq, k0_off415_eq, k0_off416_eq, k0_off417_eq, k0_off418_eq, k0_off419_eq, k0_off420_eq, k0_off421_eq, k0_off422_eq, k0_off423_eq, k0_off424_eq, k0_off425_eq, k0_off426_eq, k0_off427_eq, k0_off428_eq, k0_off429_eq, k0_off430_eq, k0_off431_eq, k0_off432_eq, k0_off433_eq, k0_off434_eq, k0_off435_eq, k0_off436_eq, k0_off437_eq]
  simp only [Matrix.cons_val_zero, Matrix.cons_val_one, Nat.zero_le, true_and, Nat.zero_add, Nat.reduceAdd, ← or_and_right]
  refine and_iff_right ?_
  omega

theorem acc_cols (a : Args F) (f g) (y : S256x1024.Idx) :
    (∃ p ∈ a.accPieces f g, y ∈ p.1.set) ↔ 128 * a.k.val ≤ (y 1).val ∧ (y 1).val < 128 * a.k.val + 128 := by
  have hy : (y 0).val < 256 := (y 0).isLt
  unfold Args.accPieces trip_k0_t1
  simp only [List.exists_mem_cons_iff, List.not_mem_nil, false_and, exists_false, or_false, Rect.mem_set_unit, Fin.forall_fin_two]
  rw [k0_off94_eq, k0_off95_eq]
  simp only [Matrix.cons_val_zero, Matrix.cons_val_one, Nat.zero_le, true_and, Nat.zero_add, Nat.reduceAdd, ← or_and_right]
  refine and_iff_right ?_
  omega

/-- The taps' sum at an entry of the weights' gradient: row `8 j + r` is tap `j`, lane `r`. -/
def tapSum (G D : ℕ → ℕ → F .f32) (y : S248x1024.Idx) : F .f32 := chain (tapTerm G D ((y 0).val / 8) ((y 0).val % 8) (y 1).val) 32

/-- The input's gradient at an entry. -/
def accSum (W D : ℕ → ℕ → F .f32) (y : S256x1024.Idx) : F .f32 := chain (accTerm W D (y 0).val (y 1).val) 31

theorem Holds.at {a : Args F} {W D G : ℕ → ℕ → F .f32} (H : Holds a W D G) (k) : Holds (a.at k) W D G := ⟨H.h8, H.h16, H.h17, H.h18⟩

/-- What the loop leaves after the first `n` column blocks: the weights' gradient has the taps' sums added in the blocks
    passed, the input's gradient has its sums there, and nothing else has changed. -/
theorem before_read {a : Args F} {W D G : ℕ → ℕ → F .f32} (H : Holds a W D G) (G12 : BufTy.Contents (Elt F) a.arg12.view.ty)
    (G19 : BufTy.Contents (Elt F) a.arg19.view.ty) (n : ℕ) (hn : n ≤ 8) :
    (∀ y, a.arg12.view.read (Elt F) (a.arg12.view.writes (Elt F) G12 (a.before G12 G19 n).1) y
        = if (y 1).val < 128 * n then FloatOps.addf (a.arg12.view.read (Elt F) G12 y) (tapSum G D y)
          else a.arg12.view.read (Elt F) G12 y)
      ∧ ∀ y, a.arg19.view.read (Elt F) (a.arg19.view.writes (Elt F) G19 (a.before G12 G19 n).2) y
        = if (y 1).val < 128 * n then accSum W D y else a.arg19.view.read (Elt F) G19 y := by
  induction n with
  | zero => exact ⟨fun y => by rw [if_neg (by omega)]; rfl, fun y => by rw [if_neg (by omega)]; rfl⟩
  | succ n ih =>
    obtain ⟨ih1, ih2⟩ := ih (by omega)
    have hk : n < k0_t1_loop.trips := lt_of_lt_of_eq (show n < 8 by omega) (by decide +kernel)
    have e := before_succ a G12 G19 ⟨n, hk⟩
    refine ⟨fun y => ?_, fun y => ?_⟩
    · rw [e, View.writes_append]
      by_cases h : 128 * n ≤ (y 1).val ∧ (y 1).val < 128 * n + 128
      · rw [View.read_writes_apply_of_pieces _ _ (fun y => FloatOps.addf (a.arg12.view.read (Elt F) (a.arg12.view.writes (Elt F) G12 (a.before G12 G19 n).1) y) (tapSum G D y)) _ (dw_pieces (H.at ⟨n, hk⟩) _ _) y ((dw_cols (a.at ⟨n, hk⟩) _ _ y).mpr h), if_pos (by omega)]
        rw [ih1, if_neg (by omega)]
      · rw [View.read_writes_apply_of_forall_not_mem _ _ y _ (fun p hp hm => h ((dw_cols (a.at ⟨n, hk⟩) _ _ y).mp ⟨p, hp, hm⟩))]
        show a.arg12.view.read (Elt F) (a.arg12.view.writes (Elt F) G12 (a.before G12 G19 n).1) y = _
        rw [ih1]
        by_cases h' : (y 1).val < 128 * n
        · rw [if_pos h', if_pos (by omega)]
        · rw [if_neg h', if_neg (by omega)]
    · rw [e, View.writes_append]
      by_cases h : 128 * n ≤ (y 1).val ∧ (y 1).val < 128 * n + 128
      · rw [View.read_writes_apply_of_pieces _ _ (accSum W D) _ (acc_pieces (H.at ⟨n, hk⟩) _ _) y ((acc_cols (a.at ⟨n, hk⟩) _ _ y).mpr h), if_pos (by omega)]
      · rw [View.read_writes_apply_of_forall_not_mem _ _ y _ (fun p hp hm => h ((acc_cols (a.at ⟨n, hk⟩) _ _ y).mp ⟨p, hp, hm⟩))]
        show a.arg19.view.read (Elt F) (a.arg19.view.writes (Elt F) G19 (a.before G12 G19 n).2) y = _
        rw [ih2]
        by_cases h' : (y 1).val < 128 * n
        · rw [if_pos h', if_pos (by omega)]
        · rw [if_neg h', if_neg (by omega)]

end Cert.Kernel6Ideal.Conv

end
-- ==== Proof.ConvOuts.lean ====
module

public import proofs.«01_k».proof.Proof.ConvLoop

@[expose] public section

set_option maxRecDepth 16384

noncomputable section

namespace Cert.Kernel6Ideal.Conv

open Idealize.ShloMosaic Idealize.ShloMosaic.TcCoe Idealize.ShloMosaic.Tactic Cert.Kernel6Ideal.Gen

variable {F : FTy → Type} [FloatOps F]

/-- The gradient at the norm's input over one block of rows: of `dcp`, the norm's input, its gain and its shift. -/
def dNorm (dcp hc : Vec F S256x1024 .f32) (g b : Vec F S1x1024 .f32) : FVec F S256x1024 .f32 :=
  k0_pay615 (k0_pay606 dcp) (k0_pay607 g) (k0_pay609 hc) (k0_pay610 hc) (k0_pay612 hc g b) (k0_pay613 hc g b)

/-- The same over the next block's first rows; zero where the sequence ends. -/
def dNext (word : BitVec 32) (dcp hc : Vec F S32x1024 .f32) (g b : Vec F S1x1024 .f32) : FVec F S32x1024 .f32 :=
  k0_pay623 word (k0_pay617 dcp) (k0_pay618 g) (k0_pay619 b) (k0_pay620 hc) (k0_pay621 hc)

/-- Both, one above the other: 288 rows. -/
def grid (main : FVec F S256x1024 .f32) (next : FVec F S32x1024 .f32) (r c : ℕ) : F .f32 :=
  if h : r < 256 ∧ c < 1024 then main (ix2 ⟨r, h.1⟩ ⟨c, h.2⟩)
  else if h : (256 ≤ r ∧ r < 288) ∧ c < 1024 then next (ix2 ⟨r - 256, by omega⟩ ⟨c, h.2⟩)
  else Scalar.ofBits .f32 0x00000000#32

/-- An array of 256 rows by natural numbers. -/
def rows256 (x : Vec F S256x1024 .f32) (r c : ℕ) : F .f32 :=
  if h : r < 256 ∧ c < 1024 then x (ix2 ⟨r, h.1⟩ ⟨c, h.2⟩) else Scalar.ofBits .f32 0x00000000#32

/-- The taps' weights by natural numbers. -/
def rows31 (x : Vec F S31x1024 .f32) (r c : ℕ) : F .f32 :=
  if h : r < 31 ∧ c < 1024 then x (ix2 ⟨r, h.1⟩ ⟨c, h.2⟩) else Scalar.ofBits .f32 0x00000000#32

/-- What the body leaves in its five results, given its inputs and what the four sums held. -/
def outs (x2 : Vec F S256x1024 .f32) (x3 : Vec F S32x1024 .f32) (x4 : Vec F S256x1024 .f32) (x5 : Vec F S32x1024 .f32)
    (x6 x7 : Vec F S256x1024 .bf16) (x8 : Vec F S31x1024 .f32) (x9 x10 : Vec F S1x1024 .f32) (word : BitVec 32)
    (zw : Vec F S248x1024 .f32) (zb zg zl : Vec F S1x1024 .f32) :
    Vec F S256x2048 .bf16 × Vec F S248x1024 .f32 × Vec F S1x1024 .f32 × Vec F S1x1024 .f32 × Vec F S1x1024 .f32 :=
  let D := grid (k0_pay622 (dNorm x2 x4 x9 x10)) (dNext word x3 x5 x9 x10)
  let acc : FVec F S256x1024 .f32 := fun y => accSum (rows31 x8) D y
  (fun y => if h : (y 1).val < 1024 then k0_pay1 (k0_pay628 x7) acc (ix2 (y 0) ⟨(y 1).val, h⟩)
      else k0_pay2 (k0_pay628 x7) (k0_pay629 x6) acc (ix2 (y 0) ⟨(y 1).val - 1024, by have : (y 1).val < 2048 := (y 1).isLt; omega⟩),
    fun y => FloatOps.addf (zw y) (tapSum (rows256 (k0_pay630 x7 x6)) D y),
    k0_pay625 (dNorm x2 x4 x9 x10) (k0_pay624 zb),
    k0_pay626 (k0_pay616 (k0_pay606 x2) (k0_pay610 x4) (k0_pay612 x4 x9 x10) (k0_pay613 x4 x9 x10)) zg,
    k0_pay627 (k0_pay614 (k0_pay606 x2) (k0_pay612 x4 x9 x10) (k0_pay613 x4 x9 x10)) zl)

end Cert.Kernel6Ideal.Conv
-- ==== Proof.ConvRow.lean ====
module

public import proofs.«01_k».proof.Proof.ConvArith
public import proofs.«01_k».proof.Proof.ConvOuts
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Conv

open Idealize.ShloMosaic Idealize.ShloMosaic.TcCoe Cert.Kernel6Ideal.Gen
open Cert.Reference6Ideal.Value (res_main_v0 res_main_v1 res_main_v8 res_main_v21_1 res_main_v22 res_main_v23 res_main_v97 res_main_v107 res_main_v29 res_main_v33 res_main_v35 res_main_v44 res_main_v46 res_main_v47 res_main_v52 res_main_v53 res_main_v58 res_main_v59_2 res_main_v60 res_main_v68 res_main_v74 res_main_v83 res_main_v93)

variable (V0 : Valuation Cert.Reference6Ideal.τ Cert.Reference6Ideal.sig (Elt Ideal))

/-- The reference's arguments: the projected columns, the taps, their shift, the norm's gain and shift, the cotangent. -/
abbrev ru : FVec Ideal S4x2048x5376 .f32 := V0 (Proc.devRef .tc Cert.Reference6Ideal.main_arg0)
abbrev rw31 : FVec Ideal S31x1x1024 .f32 := V0 (Proc.devRef .tc Cert.Reference6Ideal.main_arg1)
abbrev rb : FVec Ideal S1024 .f32 := V0 (Proc.devRef .tc Cert.Reference6Ideal.main_arg2)
abbrev rg : FVec Ideal S1024 .f32 := V0 (Proc.devRef .tc Cert.Reference6Ideal.main_arg3)
abbrev rl : FVec Ideal S1024 .f32 := V0 (Proc.devRef .tc Cert.Reference6Ideal.main_arg4)
abbrev rd : FVec Ideal S4x2048x1024 .f32 := V0 (Proc.devRef .tc Cert.Reference6Ideal.main_arg5)
/-- Stages of the reference: the convolution's output, and what the norm gives. -/
abbrev r29 : FVec Ideal S4x2048x1024 .f32 := res_main_v29 V0
abbrev r58 : FVec Ideal S4x2048x1024 .f32 := res_main_v58 V0

/-- The gated input, at a position of a sequence. -/
def glu (u : FVec Ideal S4x2048x5376 .f32) (b : Fin 4) (s : Fin 2048) (k : Fin 1024) : EReal :=
  u (ix3 b s (⟨k.val, by omega⟩ : Fin 5376)) * Ideal.logistic (u (ix3 b s (⟨1024 + k.val, by omega⟩ : Fin 5376)))

/-- Whether tap `j` of position `t` reads position `s`. -/
def reads (s t j : ℕ) : BitVec 1 :=
  IntOp.cmpi .eq (IntOp.addi (BitVec.ofNat 32 s) 30#32) (IntOp.addi (BitVec.ofNat 32 t) (BitVec.ofNat 32 j))

/-- The convolution's output. -/
def cnv (u : FVec Ideal S4x2048x5376 .f32) (w : FVec Ideal S31x1x1024 .f32) (v : FVec Ideal S1024 .f32) (b : Fin 4) (t : ℕ) (k : Fin 1024) : EReal :=
  (∑ j : Fin 31, (∑ s : Fin 2048, Scalar.select (reads s.val t j.val) (glu u b s k) (Ideal.ofBits .f32 0#32)) * w (ix3 j 0 k)) + v (ix1 k)

theorem r29_at (b : Fin 4) (t : Fin 2048) (k : Fin 1024) : r29 V0 (ix3 b t k) = cnv (ru V0) (rw31 V0) (rb V0) b t.val k := by
  pointwise [res_main_v29, res_main_v23, res_main_v22, res_main_v21_1, res_main_v8, res_main_v1, res_main_v0]
  rfl

theorem select_one {α : Type} (x y : α) : Scalar.select 1#1 x y = x := rfl
theorem select_zero {α : Type} (x y : α) : Scalar.select 0#1 x y = y := rfl

theorem v60_at (b : Fin 4) (t : Fin 2048) (k : Fin 1024) : res_main_v60 V0 (ix3 b t k)
    = rd V0 (ix3 b t k) * Ideal.logistic (r58 V0 (ix3 b t k))
      + r58 V0 (ix3 b t k) * rd V0 (ix3 b t k) * (Ideal.logistic (r58 V0 (ix3 b t k)) * (1 - Ideal.logistic (r58 V0 (ix3 b t k)))) := by
  pointwise [res_main_v60, res_main_v59_2]
  rfl

section rows
variable (x2 x4 : Vec Ideal S256x1024 .f32) (x3 x5 : Vec Ideal S32x1024 .f32) (x9 x10 : Vec Ideal S1x1024 .f32) (r : Fin 256) (b : Fin 4) (t : Fin 2048)
  (d : Fin 1024)

/-- One row of the kernel's gradient behind the layer norm against the reference's. -/
theorem row_dNorm
    (h2 : ∀ k, x2 (ix2 r k) = rd V0 (ix3 b t k)) (h4 : ∀ k, x4 (ix2 r k) = r29 V0 (ix3 b t k))
    (h9 : ∀ k, x9 (ix2 0 k) = rg V0 (ix1 k)) (h10 : ∀ k, x10 (ix2 0 k) = rl V0 (ix1 k))
    (hh : ∀ k, ∃ a : ℝ, r29 V0 (ix3 b t k) = (a : EReal)) (hd : ∀ k, ∃ a : ℝ, rd V0 (ix3 b t k) = (a : EReal)) (hg : ∀ k, ∃ a : ℝ, rg V0 (ix1 k) = (a : EReal)) :
    dNorm x2 x4 x9 x10 (ix2 r d) = res_main_v93 V0 (ix3 b t d) := by
  pointwise [dNorm, k0_pay606, k0_pay607, k0_pay608, k0_pay609, k0_pay610, k0_pay611, k0_pay612, k0_pay613, k0_pay614, k0_pay615,
    res_main_v93, res_main_v83, res_main_v74, res_main_v68, res_main_v52, res_main_v47, res_main_v46, res_main_v44, res_main_v35, res_main_v33, v60_at, res_main_v58, res_main_v53]
  simp only [h2, h4, h9, h10, Finset.univ_unique, Finset.sum_const, Finset.card_singleton, one_smul]
  exact Cert.Arith.ln_row (fun k => r29 V0 (ix3 b t k)) (fun k => rd V0 (ix3 b t k)) (fun k => rg V0 (ix1 k)) (fun k => rl V0 (ix1 k)) hh hd hg d

/-- The same for a row of the next block. -/
theorem row_dNext (word : BitVec 32) (r : Fin 32) (hw : Scalar.cmpi .slt word 7#32 = 1#1)
    (h2 : ∀ k, x3 (ix2 r k) = rd V0 (ix3 b t k)) (h4 : ∀ k, x5 (ix2 r k) = r29 V0 (ix3 b t k))
    (h9 : ∀ k, x9 (ix2 0 k) = rg V0 (ix1 k)) (h10 : ∀ k, x10 (ix2 0 k) = rl V0 (ix1 k))
    (hh : ∀ k, ∃ a : ℝ, r29 V0 (ix3 b t k) = (a : EReal)) (hd : ∀ k, ∃ a : ℝ, rd V0 (ix3 b t k) = (a : EReal)) (hg : ∀ k, ∃ a : ℝ, rg V0 (ix1 k) = (a : EReal)) :
    dNext word x3 x5 x9 x10 (ix2 r d) = res_main_v93 V0 (ix3 b t d) := by
  unfold dNext k0_pay623
  simp only [hw, select_one]
  pointwise [k0_pay617, k0_pay618, k0_pay619, k0_pay620, k0_pay621,
    res_main_v93, res_main_v83, res_main_v74, res_main_v68, res_main_v52, res_main_v47, res_main_v46, res_main_v44, res_main_v35, res_main_v33, v60_at, res_main_v58, res_main_v53]
  simp only [h2, h4, h9, h10, Finset.univ_unique, Finset.sum_const, Finset.card_singleton, one_smul]
  exact Cert.Arith.ln_row (fun k => r29 V0 (ix3 b t k)) (fun k => rd V0 (ix3 b t k)) (fun k => rg V0 (ix1 k)) (fun k => rl V0 (ix1 k)) hh hd hg d

/-- Past the sequence's end the next block counts as zero. -/
theorem row_dNext_end (word : BitVec 32) (r : Fin 32) (hw : Scalar.cmpi .slt word 7#32 = 0#1) : dNext word x3 x5 x9 x10 (ix2 r d) = (0 : EReal) := by
  unfold dNext k0_pay623
  simp only [hw, select_zero]
  pointwise

/-- The cotangent behind the gate. -/
theorem row_gate
    (h2 : ∀ k, x2 (ix2 r k) = rd V0 (ix3 b t k)) (h4 : ∀ k, x4 (ix2 r k) = r29 V0 (ix3 b t k))
    (h9 : ∀ k, x9 (ix2 0 k) = rg V0 (ix1 k)) (h10 : ∀ k, x10 (ix2 0 k) = rl V0 (ix1 k)) (hd : ∀ k, ∃ a : ℝ, rd V0 (ix3 b t k) = (a : EReal)) :
    k0_pay614 (k0_pay606 x2) (k0_pay612 x4 x9 x10) (k0_pay613 x4 x9 x10) (ix2 r d) = res_main_v60 V0 (ix3 b t d) := by
  pointwise [k0_pay606, k0_pay607, k0_pay608, k0_pay609, k0_pay610, k0_pay611, k0_pay612, k0_pay613, k0_pay614,
    res_main_v52, res_main_v47, res_main_v46, res_main_v44, res_main_v35, res_main_v33, v60_at, res_main_v58, res_main_v53]
  simp only [h2, h4, h9, h10]
  exact Cert.Arith.silK_eq (hd d) _

/-- Its product with the normalised row. -/
theorem row_gain
    (h2 : ∀ k, x2 (ix2 r k) = rd V0 (ix3 b t k)) (h4 : ∀ k, x4 (ix2 r k) = r29 V0 (ix3 b t k))
    (h9 : ∀ k, x9 (ix2 0 k) = rg V0 (ix1 k)) (h10 : ∀ k, x10 (ix2 0 k) = rl V0 (ix1 k)) (hd : ∀ k, ∃ a : ℝ, rd V0 (ix3 b t k) = (a : EReal)) :
    k0_pay616 (k0_pay606 x2) (k0_pay610 x4) (k0_pay612 x4 x9 x10) (k0_pay613 x4 x9 x10) (ix2 r d)
      = mulf (F := Ideal) (res_main_v52 V0) (res_main_v60 V0) (ix3 b t d) := by
  have hx : k0_pay610 x4 (ix2 r d) = res_main_v52 V0 (ix3 b t d) := by
    pointwise [k0_pay608, k0_pay609, k0_pay610, res_main_v52, res_main_v47, res_main_v46, res_main_v44, res_main_v35, res_main_v33]
    simp only [h4]
  unfold k0_pay616
  pointwise
  rw [row_gate V0 x2 x4 x9 x10 r b t d h2 h4 h9 h10 hd, hx]
  exact mul_comm _ _

end rows

end Cert.Kernel6Ideal.Conv
-- ==== Proof.ConvSums.lean ====
module

public import proofs.«01_k».proof.Proof.ConvRow

/-! The sums over taps and positions: the reference selects from all pairs, the kernel shifts. -/

@[expose] public section

noncomputable section

namespace Cert.Kernel6Ideal.Conv

open Idealize.ShloMosaic

/-- A tap reads the position it is shifted to. -/
theorem reads_eq (s t j : ℕ) (hs : s < 2048) (ht : t < 2048) (hj : j < 31) : reads s t j = if s + 30 = t + j then 1#1 else 0#1 := by
  unfold reads
  have h : (IntOp.addi (BitVec.ofNat 32 s) 30#32 = IntOp.addi (BitVec.ofNat 32 t) (BitVec.ofNat 32 j)) ↔ s + 30 = t + j := by
    unfold IntOp.addi
    rw [← BitVec.toNat_inj]
    simp only [BitVec.toNat_add, BitVec.toNat_ofNat]
    omega
  by_cases hh : s + 30 = t + j
  · rw [if_pos hh, h.mpr hh]
    simp [IntOp.cmpi]
  · rw [if_neg hh]
    have := mt h.mp hh
    show BitVec.ofBool (_ == _) = _
    rw [beq_eq_false_iff_ne.mpr this]
    rfl

theorem sel_eq (s t j : ℕ) (hs : s < 2048) (ht : t < 2048) (hj : j < 31) (x : EReal) :
    Scalar.select (reads s t j) x (Ideal.ofBits .f32 0#32) = if s + 30 = t + j then x else 0 := by
  rw [reads_eq s t j hs ht hj, Ideal.ofBits_zero_f32]
  by_cases hh : s + 30 = t + j
  · rw [if_pos hh, if_pos hh]; rfl
  · rw [if_neg hh, if_neg hh]; rfl

/-- The position read, out of all of them. -/
theorem sum_read (f : Fin 2048 → EReal) (t j : ℕ) : (∑ s : Fin 2048, if s.val + 30 = t + j then f s else 0)
    = if h : 30 ≤ t + j ∧ t + j < 2078 then f ⟨t + j - 30, by omega⟩ else 0 := by
  by_cases h : 30 ≤ t + j ∧ t + j < 2078
  · rw [dif_pos h, Finset.sum_eq_single (⟨t + j - 30, by omega⟩ : Fin 2048)]
    · rw [if_pos (by dsimp only; omega)]
    · intro b _ hb
      exact if_neg fun e => hb (Fin.ext (by dsimp only; omega))
    · intro h; exact absurd (Finset.mem_univ _) h
  · rw [dif_neg h]
    exact Finset.sum_eq_zero fun s _ => if_neg (by have := s.2; omega)

/-- An array over positions, zero past the end. -/
def ext (f : Fin 2048 → EReal) (n : ℕ) : EReal := if h : n < 2048 then f ⟨n, h⟩ else 0

theorem sum_written (f : Fin 2048 → EReal) (s j : ℕ) (hj : j < 31) : (∑ t : Fin 2048, if s + 30 = t.val + j then f t else 0) = ext f (s + (30 - j)) := by
  unfold ext
  by_cases h : s + (30 - j) < 2048
  · rw [dif_pos h, Finset.sum_eq_single (⟨s + (30 - j), h⟩ : Fin 2048)]
    · rw [if_pos (by dsimp only; omega)]
    · intro b _ hb
      exact if_neg fun e => hb (Fin.ext (by dsimp only; omega))
    · intro h; exact absurd (Finset.mem_univ _) h
  · rw [dif_neg h]
    exact Finset.sum_eq_zero fun t _ => if_neg (by have := t.2; omega)

/-- The gradient of the gated input: taps against the shifted cotangent. -/
theorem glu_grad (d : Fin 2048 → EReal) (w : Fin 31 → EReal) (s : Fin 2048) :
    (∑ j : Fin 31, ∑ t : Fin 2048, Scalar.select (reads s.val t.val j.val) (d t * w j) (Ideal.ofBits .f32 0#32)) = ∑ j : Fin 31, w j * ext d (s.val + (30 - j.val)) := by
  refine Finset.sum_congr rfl fun j _ => ?_
  rw [Finset.sum_congr rfl fun t _ => sel_eq s.val t.val j.val s.2 t.2 j.2 _, sum_written (fun t => d t * w j) s.val j.val j.2]
  unfold ext
  split
  · exact mul_comm _ _
  · exact (mul_zero _).symm

/-- The gradient of one tap: the input read against the cotangent is the input against the shifted cotangent. -/
theorem tap_grad (d g : Fin 2048 → EReal) (j : Fin 31) :
    (∑ t : Fin 2048, (∑ s : Fin 2048, Scalar.select (reads s.val t.val j.val) (g s) (Ideal.ofBits .f32 0#32)) * d t)
      = ∑ s : Fin 2048, g s * ext d (s.val + (30 - j.val)) := by
  have h1 : ∀ t : Fin 2048, (∑ s : Fin 2048, Scalar.select (reads s.val t.val j.val) (g s) (Ideal.ofBits .f32 0#32)) * d t
      = ∑ s : Fin 2048, if s.val + 30 = t.val + j.val then g s * d t else 0 := by
    intro t
    rw [Finset.sum_congr rfl fun s _ => sel_eq s.val t.val j.val s.2 t.2 j.2 _, sum_read g, sum_read fun s => g s * d t]
    split
    · rfl
    · exact zero_mul _
  have h2 : ∀ s : Fin 2048, g s * ext d (s.val + (30 - j.val)) = ∑ t : Fin 2048, if s.val + 30 = t.val + j.val then g s * d t else 0 := by
    intro s
    rw [sum_written (fun t => g s * d t) s.val j.val j.2]
    unfold ext
    split
    · rfl
    · exact mul_zero _
  rw [Finset.sum_congr rfl fun t _ => h1 t, Finset.sum_congr rfl fun s _ => h2 s, Finset.sum_comm]

/-- The kernel's chain of additions is a sum. -/
theorem chain_eq (p : ℕ → EReal) (n : ℕ) : chain (F := Ideal) p n = ∑ i : Fin n, p i.val := by
  induction n with
  | zero => exact Ideal.ofBits_zero_f32
  | succ n ih => exact (congrArg (· + p n) ih).trans (Fin.sum_univ_castSucc fun i : Fin (n + 1) => p i.val).symm

/-- All rows of all points are all positions of all sequences. -/
theorem sum_points {M : Type*} [AddCommMonoid M] (f : Fin 4 → Fin 2048 → M) :
    (∑ t : Fin 32, ∑ r : Fin 256, f ⟨t.val / 8, by omega⟩ ⟨256 * (t.val % 8) + r.val, by omega⟩) = ∑ b : Fin 4, ∑ n : Fin 2048, f b n := by
  have h : ∀ b : Fin 4, ∑ n : Fin 2048, f b n = ∑ s : Fin 8, ∑ r : Fin 256, f b ⟨256 * s.val + r.val, by omega⟩ := fun b =>
    (Fin.sum_mul_add_congr (S := 8) (n := 256) (L := 2048) fun s k hl => congrArg (f b) (Fin.ext (by dsimp only; omega))).symm
  rw [Finset.sum_congr rfl fun b _ => h b]
  exact (Fin.sum_mul_add_congr (S := 4) (n := 8) (L := 32) fun s k hl => Finset.sum_congr rfl fun r _ =>
    congrArg₂ f (Fin.ext (by dsimp only; omega)) (Fin.ext (by dsimp only; omega))).symm

end Cert.Kernel6Ideal.Conv
-- ==== Proof.ConvHold.lean ====
module

public import proofs.«01_k».proof.Proof.ConvOuts
public import Idealize.ShloMosaic.Lib.WholeRead
public import Idealize.ShloMosaic.Lib.VecWindow
public import Idealize.ShloMosaic.Lib.WritesUnit

@[expose] public section

set_option maxRecDepth 16384

noncomputable section

namespace Cert.Kernel6Ideal.Conv

open Idealize.ShloMosaic Idealize.ShloMosaic.TcCoe Idealize.ShloMosaic.Tactic Cert.Kernel6Ideal.Gen

variable {F : FTy → Type} [FloatOps F]

theorem zero2 : (![0, 0] : Fin 2 → ℕ) = fun _ => 0 := by decide

/-- A load of a whole buffer reads what the buffer holds. -/
theorem readAt_whole {S : Shape} {e : EltTy} {κ : Kind} {sp : Space} {a : Memref sig κ sp S e} (ha : a.IsWhole) (x : S.Idx → Elt F e)
    {off : Fin S.rank → ℕ} (h : off = fun _ => 0) (inb) :
    View.readAt (Elt F) a.view (Rect.unit off S.size inb).toLoadRect (ha.unread x) = x := by
  subst h
  refine funext fun y => (ha.readAt_unread x _ y).trans (congrArg x ?_)
  exact funext fun j => Fin.ext (by rw [Rect.idx_unit_val]; exact Nat.zero_add _)

/-- The gradient above and below: what the two stores leave. -/
theorem read16 {κ : Kind} {sp : Space} (v : View sig κ sp S288x1024 .f32) (f) (p : FVec F S256x1024 .f32) (q : FVec F S32x1024 .f32) (inb1 inb2)
    (y : S288x1024.Idx) :
    v.read (Elt F) (v.writes (Elt F) f [⟨Rect.unit ![256, 0] S32x1024.size inb1, q⟩, ⟨Rect.unit ![0, 0] S256x1024.size inb2, p⟩]) y
      = grid p q (y 0).val (y 1).val := by
  have h0 : (y 0).val < 288 := (y 0).isLt
  have h1 : (y 1).val < 1024 := (y 1).isLt
  unfold grid
  by_cases h : (y 0).val < 256
  · rw [dif_pos ⟨h, h1⟩]
    refine (View.read_writes_cons_unit_of_not_mem v f inb1 q _ y rfl 0 (Or.inl h)).trans ?_
    exact View.read_writes_cons_unit_of_mem v f inb2 p [] y (ix2 ⟨_, h⟩ ⟨_, h1⟩) rfl (Fin.forall_fin_two.2 ⟨(Nat.zero_add _).symm, (Nat.zero_add _).symm⟩)
  · rw [dif_neg (fun c => h c.1), dif_pos ⟨⟨by omega, h0⟩, h1⟩]
    exact View.read_writes_cons_unit_of_mem v f inb1 q _ y (ix2 ⟨(y 0).val - 256, by omega⟩ ⟨_, h1⟩) rfl
      (Fin.forall_fin_two.2 ⟨by show (y 0).val = 256 + ((y 0).val - 256); omega, (Nat.zero_add _).symm⟩)

/-- A load of 280 rows from row `o` on reads the same rows by number. -/
theorem cov16 {κ : Kind} {sp : Space} (v : View sig κ sp S288x1024 .f32) (p : FVec F S256x1024 .f32) (q : FVec F S32x1024 .f32) (inb1 inb2)
    (o : ℕ) (inb) (y : S280x1024.Idx) :
    v.readCov (Val := Elt F) [⟨Rect.unit ![256, 0] S32x1024.size inb1, q⟩, ⟨Rect.unit ![0, 0] S256x1024.size inb2, p⟩]
        (Rect.unit (s := S288x1024) ![o, 0] S280x1024.size inb).toLoadRect y
      = grid p q (o + (y 0).val) (y 1).val := by
  refine (read16 v _ p q inb1 inb2 _).trans ?_
  congr 1
  · rw [Rect.idx_unit_val]; rfl
  · rw [Rect.idx_unit_val]; exact Nat.zero_add _

/-- One shifted copy, under a leading axis of length one. -/
theorem piece18 (D : ℕ → ℕ → F .f32) (s : ℕ) (inb) (p : FVec F S280x1024 .f32) (hp : ∀ y, p y = D (s + 1 + (y 0).val) (y 1).val)
    (x : (Rect.unit (s := S7x288x1024) ![s, 0, 0] S1x280x1024.size inb).shape.Idx) :
    k0_pay631 p x = D (((Rect.unit (s := S7x288x1024) ![s, 0, 0] S1x280x1024.size inb).emb x 0).val + 1
        + ((Rect.unit (s := S7x288x1024) ![s, 0, 0] S1x280x1024.size inb).emb x 1).val)
      ((Rect.unit (s := S7x288x1024) ![s, 0, 0] S1x280x1024.size inb).emb x 2).val := by
  have e : k0_pay631 p x = p (ix2 (x 1) (x 2)) := by
    unfold k0_pay631
    refine (shapeCast_addUnit_apply (![280, 1024] : Fin 2 → ℕ) p shapeCasts_S280x1024_S1x280x1024 x).trans (congrArg p ?_)
    exact funext fun a => by match a with | 0 => rfl | 1 => rfl
  rw [e, hp]
  have h0 : (x 0).val = 0 := Nat.lt_one_iff.mp (x 0).isLt
  congr 1
  · show s + 1 + (x 1).val = s + 1 * (x 0).val + 1 + (0 + 1 * (x 1).val)
    omega
  · show (x 2).val = 0 + 1 * (x 2).val
    omega

/-- The seven shifted copies. -/
theorem read18 {κ : Kind} {sp : Space} (v : View sig κ sp S7x288x1024 .f32) (f) (D : ℕ → ℕ → F .f32)
    (p0 p1 p2 p3 p4 p5 p6 : FVec F S280x1024 .f32) (i0 i1 i2 i3 i4 i5 i6)
    (h0 : ∀ y, p0 y = D (1 + (y 0).val) (y 1).val) (h1 : ∀ y, p1 y = D (2 + (y 0).val) (y 1).val)
    (h2 : ∀ y, p2 y = D (3 + (y 0).val) (y 1).val) (h3 : ∀ y, p3 y = D (4 + (y 0).val) (y 1).val)
    (h4 : ∀ y, p4 y = D (5 + (y 0).val) (y 1).val) (h5 : ∀ y, p5 y = D (6 + (y 0).val) (y 1).val)
    (h6 : ∀ y, p6 y = D (7 + (y 0).val) (y 1).val) (y : S7x288x1024.Idx) (hy : (y 1).val < 280) :
    v.read (Elt F) (v.writes (Elt F) f
        [⟨Rect.unit ![6, 0, 0] S1x280x1024.size i6, k0_pay637 p6⟩, ⟨Rect.unit ![5, 0, 0] S1x280x1024.size i5, k0_pay636 p5⟩,
         ⟨Rect.unit ![4, 0, 0] S1x280x1024.size i4, k0_pay635 p4⟩, ⟨Rect.unit ![3, 0, 0] S1x280x1024.size i3, k0_pay634 p3⟩,
         ⟨Rect.unit ![2, 0, 0] S1x280x1024.size i2, k0_pay633 p2⟩, ⟨Rect.unit ![1, 0, 0] S1x280x1024.size i1, k0_pay632 p1⟩,
         ⟨Rect.unit ![0, 0, 0] S1x280x1024.size i0, k0_pay631 p0⟩]) y
      = D ((y 0).val + 1 + (y 1).val) (y 2).val := by
  have hc : (y 0).val < 7 := (y 0).isLt
  refine View.read_writes_apply_of_pieces v f (fun y => D ((y 0).val + 1 + (y 1).val) (y 2).val) _ ?_ y ?_
  · intro pc hpc x
    simp only [List.mem_cons, List.not_mem_nil, or_false] at hpc
    rcases hpc with h | h | h | h | h | h | h <;> subst h
    · exact piece18 D 6 i6 p6 h6 x
    · exact piece18 D 5 i5 p5 h5 x
    · exact piece18 D 4 i4 p4 h4 x
    · exact piece18 D 3 i3 p3 h3 x
    · exact piece18 D 2 i2 p2 h2 x
    · exact piece18 D 1 i1 p1 h1 x
    · exact piece18 D 0 i0 p0 h0 x
  · have h2 : (y 2).val < 1024 := (y 2).isLt
    have hit : ∀ s : ℕ, (y 0).val = s → ∀ inb, y ∈ (Rect.unit (s := S7x288x1024) ![s, 0, 0] S1x280x1024.size inb).set := by
      intro s hs inb
      refine Rect.mem_set_unit.2 fun a => ?_
      match a with
      | 0 => exact ⟨hs.ge, by show (y 0).val < s + 1; omega⟩
      | 1 => exact ⟨Nat.zero_le _, by show (y 1).val < 0 + 280; omega⟩
      | 2 => exact ⟨Nat.zero_le _, by show (y 2).val < 0 + 1024; omega⟩
    simp only [List.exists_mem_cons_iff, List.not_mem_nil, false_and, exists_false, or_false]
    have : (y 0).val = 6 ∨ (y 0).val = 5 ∨ (y 0).val = 4 ∨ (y 0).val = 3 ∨ (y 0).val = 2 ∨ (y 0).val = 1 ∨ (y 0).val = 0 := by omega
    exact this.imp (hit 6 · _) (Or.imp (hit 5 · _) (Or.imp (hit 4 · _) (Or.imp (hit 3 · _) (Or.imp (hit 2 · _) (Or.imp (hit 1 · _) (hit 0 · _))))))

/-- What the loop leaves in the two buffers it writes. -/
theorem loop_read {a : Args F} {W D G} (H : Holds a W D G) (G12) (G19) (n : ℕ) (hn : n = 8) :
    (∀ y, a.arg12.view.read (Elt F) (a.arg12.view.writes (Elt F) G12 (a.before G12 G19 n).1) y
        = FloatOps.addf (a.arg12.view.read (Elt F) G12 y) (tapSum G D y))
    ∧ ∀ y, a.arg19.view.read (Elt F) (a.arg19.view.writes (Elt F) G19 (a.before G12 G19 n).2) y = accSum W D y := by
  subst hn
  have h := before_read H G12 G19 8 le_rfl
  exact ⟨fun y => (h.1 y).trans (if_pos (y 1).isLt), fun y => (h.2 y).trans (if_pos (y 1).isLt)⟩

/-- The two halves of the gradient's rows. -/
theorem read11 {κ : Kind} {sp : Space} (v : View sig κ sp S256x2048 .bf16) (f) (p q : FVec F S256x1024 .bf16) (i1 i0) :
    v.read (Elt F) (v.writes (Elt F) f [⟨Rect.unit ![0, 1024] ![256, 1024] i1, q⟩, ⟨Rect.unit ![0, 0] ![256, 1024] i0, p⟩])
      = fun y => if h : (y 1).val < 1024 then p (ix2 (y 0) ⟨(y 1).val, h⟩)
          else q (ix2 (y 0) ⟨(y 1).val - 1024, by have : (y 1).val < 2048 := (y 1).isLt; omega⟩) := by
  funext y
  have h1 : (y 1).val < 2048 := (y 1).isLt
  by_cases h : (y 1).val < 1024
  · rw [dif_pos h]
    refine (View.read_writes_cons_unit_of_not_mem v f i1 q _ y rfl 1 (Or.inl h)).trans ?_
    exact View.read_writes_cons_unit_of_mem v f i0 p [] y (ix2 (y 0) ⟨_, h⟩) rfl (Fin.forall_fin_two.2 ⟨(Nat.zero_add _).symm, (Nat.zero_add _).symm⟩)
  · rw [dif_neg h]
    exact View.read_writes_cons_unit_of_mem v f i1 q _ y (ix2 (y 0) ⟨(y 1).val - 1024, by omega⟩) rfl
      (Fin.forall_fin_two.2 ⟨(Nat.zero_add _).symm, by show (y 1).val = 1024 + ((y 1).val - 1024); omega⟩)

theorem out11 {κ : Kind} {sp : Space} (v : View sig κ sp S256x2048 .bf16) (f) {A A' B B' C C' : FVec F S256x1024 .f32} (hA : A = A')
    (hB : B = B') (hC : C = C') (i1 i0) :
    v.read (Elt F) (v.writes (Elt F) f [⟨Rect.unit ![0, 1024] ![256, 1024] i1, k0_pay2 A B C⟩, ⟨Rect.unit ![0, 0] ![256, 1024] i0, k0_pay1 A C⟩])
      = fun y => if h : (y 1).val < 1024 then k0_pay1 A' C' (ix2 (y 0) ⟨(y 1).val, h⟩)
          else k0_pay2 A' B' C' (ix2 (y 0) ⟨(y 1).val - 1024, by have : (y 1).val < 2048 := (y 1).isLt; omega⟩) := by
  subst hA hB hC
  exact read11 v f _ _ i1 i0

/-- One store of a whole buffer leaves its payload. -/
theorem read_one {S : Shape} {e : EltTy} {κ : Kind} {sp : Space} (v : View sig κ sp S e) (f) {p p' : S.Idx → Elt F e} (hp : p = p')
    {off : Fin S.rank → ℕ} (h : off = fun _ => 0) (inb) :
    v.read (Elt F) (v.writes (Elt F) f [⟨Rect.unit off S.size inb, p⟩]) = p' := by
  subst hp h
  funext y
  exact View.read_writes_cons_unit_of_mem v f inb p [] y y rfl fun a => (Nat.zero_add _).symm

theorem rows31_at (x : Vec F S31x1024 .f32) (y : S31x1024.Idx) : rows31 x (y 0).val (y 1).val = x y :=
  (dif_pos ⟨(y 0).isLt, (y 1).isLt⟩).trans (congrArg x (funext fun a => by match a with | 0 => rfl | 1 => rfl))

theorem rows256_at (x : Vec F S256x1024 .f32) (y : S256x1024.Idx) : rows256 x (y 0).val (y 1).val = x y :=
  (dif_pos ⟨(y 0).isLt, (y 1).isLt⟩).trans (congrArg x (funext fun a => by match a with | 0 => rfl | 1 => rfl))

theorem cov_one {κ : Kind} {sp : Space} (v : View sig κ sp S1x1024 .f32) (p : Vec F S1x1024 .f32) (inb inb') :
    v.readCov (Val := Elt F) [⟨Rect.unit ![0, 0] ![1, 1024] inb, p⟩] (Rect.unit (s := S1x1024) ![0, 0] ![1, 1024] inb').toLoadRect = p :=
  View.readCov_unit_zero v zero2 inb p

theorem trips8 : Scf.trips k0_t1_loop.lb k0_t1_loop.ub k0_t1_loop.st = 8 := by decide +kernel

section
variable (c : Dev nD) (i : grid0.Coords) (arg2 : Memref sig .tc .vmem S256x1024 .f32) (harg2 : arg2.IsWhole) (arg3 : Memref sig .tc .vmem S32x1024 .f32) (harg3 : arg3.IsWhole) (arg4 : Memref sig .tc .vmem S256x1024 .f32) (harg4 : arg4.IsWhole) (arg5 : Memref sig .tc .vmem S32x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x2048 .bf16) (harg11 : arg11.IsWhole) (arg12 : Memref sig .tc .vmem S248x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S288x1024 .f32) (harg16 : arg16.IsWhole) (arg17 : Memref sig .tc .vmem S256x1024 .f32) (harg17 : arg17.IsWhole) (arg18 : Memref sig .tc .vmem S7x288x1024 .f32) (harg18 : arg18.IsWhole) (arg19 : Memref sig .tc .vmem S256x1024 .f32) (harg19 : arg19.IsWhole)
  {X8 : BufTy.Contents (Elt F) arg8.view.ty} {X16 : BufTy.Contents (Elt F) arg16.view.ty} {X17 : BufTy.Contents (Elt F) arg17.view.ty}
  {X18 : BufTy.Contents (Elt F) arg18.view.ty} (W D G : ℕ → ℕ → F .f32)
  (h8 : ∀ i : S31x1024.Idx, arg8.view.read (Elt F) X8 i = W (i 0).val (i 1).val)
  (h16 : ∀ i : S288x1024.Idx, arg16.view.read (Elt F) X16 i = D (i 0).val (i 1).val)
  (h17 : ∀ i : S256x1024.Idx, arg17.view.read (Elt F) X17 i = G (i 0).val (i 1).val)
  (h18 : ∀ i : S7x288x1024.Idx, (i 1).val < 280 → arg18.view.read (Elt F) X18 i = D ((i 0).val + 1 + (i 1).val) (i 2).val)
  (G12 : BufTy.Contents (Elt F) arg12.view.ty) (G19 : BufTy.Contents (Elt F) arg19.view.ty)
include h8 h16 h17 h18

/-- The weights' gradient after the loop. -/
theorem dw_read : arg12.view.read (Elt F) (arg12.view.writes (Elt F) G12 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#32 X8 X16 X17 X18 G12 G19 (Scf.trips k0_t1_loop.lb k0_t1_loop.ub k0_t1_loop.st)).1)
      = fun y => FloatOps.addf (arg12.view.read (Elt F) G12 y) (tapSum G D y) :=
  funext fun y => (loop_read (a := ⟨Variants.none, c, none, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, 0#32, X8, X16, X17, X18, ⟨0, by decide +kernel⟩⟩) ⟨h8, h16, h17, h18⟩ G12 G19 _ trips8).1 y

/-- The input's gradient after the loop. -/
theorem acc_read : arg19.view.read (Elt F) (arg19.view.writes (Elt F) G19 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#32 X8 X16 X17 X18 G12 G19 (Scf.trips k0_t1_loop.lb k0_t1_loop.ub k0_t1_loop.st)).2)
      = fun y => accSum W D y :=
  funext fun y => (loop_read (a := ⟨Variants.none, c, none, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19, 0#32, X8, X16, X17, X18, ⟨0, by decide +kernel⟩⟩) ⟨h8, h16, h17, h18⟩ G12 G19 _ trips8).2 y

end

/-- The two stores of the gradient's rows. -/
abbrev L16 (p : FVec F S256x1024 .f32) (q : FVec F S32x1024 .f32) : List (View.Piece (Elt F) S288x1024 .f32) :=
  [⟨Rect.unit ![256, 0] S32x1024.size inb_S288x1024_S32x1024_256_0, q⟩, ⟨Rect.unit ![0, 0] S256x1024.size inb_S288x1024_S256x1024_0_0, p⟩]

/-- The seven stores of its shifted copies. -/
abbrev L18 {κ : Kind} {sp : Space} (v : View sig κ sp S288x1024 .f32) (p : FVec F S256x1024 .f32) (q : FVec F S32x1024 .f32) : List (View.Piece (Elt F) S7x288x1024 .f32) :=
  [⟨Rect.unit ![6, 0, 0] S1x280x1024.size inb_S7x288x1024_S1x280x1024_6_0_0, k0_pay637 (v.readCov (Val := Elt F) (L16 p q) (Rect.unit (s := S288x1024) ![7, 0] S280x1024.size inb_S288x1024_S280x1024_7_0).toLoadRect)⟩, ⟨Rect.unit ![5, 0, 0] S1x280x1024.size inb_S7x288x1024_S1x280x1024_5_0_0, k0_pay636 (v.readCov (Val := Elt F) (L16 p q) (Rect.unit (s := S288x1024) ![6, 0] S280x1024.size inb_S288x1024_S280x1024_6_0).toLoadRect)⟩, ⟨Rect.unit ![4, 0, 0] S1x280x1024.size inb_S7x288x1024_S1x280x1024_4_0_0, k0_pay635 (v.readCov (Val := Elt F) (L16 p q) (Rect.unit (s := S288x1024) ![5, 0] S280x1024.size inb_S288x1024_S280x1024_5_0).toLoadRect)⟩, ⟨Rect.unit ![3, 0, 0] S1x280x1024.size inb_S7x288x1024_S1x280x1024_3_0_0, k0_pay634 (v.readCov (Val := Elt F) (L16 p q) (Rect.unit (s := S288x1024) ![4, 0] S280x1024.size inb_S288x1024_S280x1024_4_0).toLoadRect)⟩, ⟨Rect.unit ![2, 0, 0] S1x280x1024.size inb_S7x288x1024_S1x280x1024_2_0_0, k0_pay633 (v.readCov (Val := Elt F) (L16 p q) (Rect.unit (s := S288x1024) ![3, 0] S280x1024.size inb_S288x1024_S280x1024_3_0).toLoadRect)⟩, ⟨Rect.unit ![1, 0, 0] S1x280x1024.size inb_S7x288x1024_S1x280x1024_1_0_0, k0_pay632 (v.readCov (Val := Elt F) (L16 p q) (Rect.unit (s := S288x1024) ![2, 0] S280x1024.size inb_S288x1024_S280x1024_2_0).toLoadRect)⟩, ⟨Rect.unit ![0, 0, 0] S1x280x1024.size inb_S7x288x1024_S1x280x1024_0_0_0, k0_pay631 (v.readCov (Val := Elt F) (L16 p q) (Rect.unit (s := S288x1024) ![1, 0] S280x1024.size inb_S288x1024_S280x1024_1_0).toLoadRect)⟩]

section
variable (c : Dev nD) (i : grid0.Coords) (arg2 : Memref sig .tc .vmem S256x1024 .f32) (harg2 : arg2.IsWhole) (arg3 : Memref sig .tc .vmem S32x1024 .f32) (harg3 : arg3.IsWhole) (arg4 : Memref sig .tc .vmem S256x1024 .f32) (harg4 : arg4.IsWhole) (arg5 : Memref sig .tc .vmem S32x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x2048 .bf16) (harg11 : arg11.IsWhole) (arg12 : Memref sig .tc .vmem S248x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S288x1024 .f32) (harg16 : arg16.IsWhole) (arg17 : Memref sig .tc .vmem S256x1024 .f32) (harg17 : arg17.IsWhole) (arg18 : Memref sig .tc .vmem S7x288x1024 .f32) (harg18 : arg18.IsWhole) (arg19 : Memref sig .tc .vmem S256x1024 .f32) (harg19 : arg19.IsWhole) (x8 : Vec F S31x1024 .f32)
  (p : FVec F S256x1024 .f32) (q : FVec F S32x1024 .f32) (g : FVec F S256x1024 .f32) (f16 f17 f18)
  (G12 : BufTy.Contents (Elt F) arg12.view.ty) (G19 : BufTy.Contents (Elt F) arg19.view.ty)

/-- The weights' gradient after the loop, of what the stores before it left. -/
theorem close12 : arg12.view.read (Elt F) (arg12.view.writes (Elt F) G12 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#32 (harg8.unread x8) (arg16.view.writes (Elt F) f16 (L16 p q)) (arg17.view.writes (Elt F) f17 [⟨Rect.unit ![0, 0] S256x1024.size inb_S256x1024_S256x1024_0_0, g⟩]) (arg18.view.writes (Elt F) f18 (L18 arg16.view p q)) G12 G19 (Scf.trips k0_t1_loop.lb k0_t1_loop.ub k0_t1_loop.st)).1)
      = fun y => FloatOps.addf (arg12.view.read (Elt F) G12 y) (tapSum (rows256 g) (grid p q) y) :=
  dw_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _
    (fun y => (congrFun (harg8.read_unread x8) y).trans (rows31_at x8 y).symm) (fun y => read16 _ _ _ _ _ _ y)
    (fun y => (congrFun (read_one _ _ rfl zero2 _) y).trans (rows256_at g y).symm)
    (read18 _ _ (grid p q) _ _ _ _ _ _ _ _ _ _ _ _ _ _ (cov16 _ _ _ _ _ 1 _) (cov16 _ _ _ _ _ 2 _) (cov16 _ _ _ _ _ 3 _) (cov16 _ _ _ _ _ 4 _)
      (cov16 _ _ _ _ _ 5 _) (cov16 _ _ _ _ _ 6 _) (cov16 _ _ _ _ _ 7 _)) G12 G19

/-- The input's gradient after it. -/
theorem close19 : arg19.view.read (Elt F) (arg19.view.writes (Elt F) G19 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#32 (harg8.unread x8) (arg16.view.writes (Elt F) f16 (L16 p q)) (arg17.view.writes (Elt F) f17 [⟨Rect.unit ![0, 0] S256x1024.size inb_S256x1024_S256x1024_0_0, g⟩]) (arg18.view.writes (Elt F) f18 (L18 arg16.view p q)) G12 G19 (Scf.trips k0_t1_loop.lb k0_t1_loop.ub k0_t1_loop.st)).2)
      = fun y => accSum (rows31 x8) (grid p q) y :=
  acc_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _
    (fun y => (congrFun (harg8.read_unread x8) y).trans (rows31_at x8 y).symm) (fun y => read16 _ _ _ _ _ _ y)
    (fun y => (congrFun (read_one _ _ rfl zero2 _) y).trans (rows256_at g y).symm)
    (read18 _ _ (grid p q) _ _ _ _ _ _ _ _ _ _ _ _ _ _ (cov16 _ _ _ _ _ 1 _) (cov16 _ _ _ _ _ 2 _) (cov16 _ _ _ _ _ 3 _) (cov16 _ _ _ _ _ 4 _)
      (cov16 _ _ _ _ _ 5 _) (cov16 _ _ _ _ _ 6 _) (cov16 _ _ _ _ _ 7 _)) G12 G19

end

theorem out12 {p p' : FVec F S256x1024 .f32} {q q' : FVec F S32x1024 .f32} {g g' : FVec F S256x1024 .f32} {z z' : Vec F S248x1024 .f32}
    (hp : p = p') (hq : q = q') (hg : g = g') (hz : z = z') :
    (fun y => FloatOps.addf (z y) (tapSum (rows256 g) (grid p q) y)) = fun y => FloatOps.addf (z' y) (tapSum (rows256 g') (grid p' q') y) := by
  subst hp hq hg hz; rfl

theorem out19 {p p' : FVec F S256x1024 .f32} {q q' : FVec F S32x1024 .f32} {w : ℕ → ℕ → F .f32} (hp : p = p') (hq : q = q') :
    (fun y : S256x1024.Idx => accSum w (grid p q) y) = fun y => accSum w (grid p' q') y := by
  subst hp hq; rfl

end Cert.Kernel6Ideal.Conv
-- ==== Proof.ConvNext.lean ====
module

public import proofs.«01_k».proof.Proof.ConvHold

@[expose] public section

set_option maxRecDepth 16384

noncomputable section

namespace Cert.Kernel6Ideal.Conv

open Idealize.ShloMosaic Idealize.ShloMosaic.TcCoe Idealize.ShloMosaic.Tactic Cert.Kernel6Ideal.Gen

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ
set_option maxHeartbeats 4000000 in
theorem triple_next (c : Dev nD) (i : grid0.Coords) (arg2 : Memref sig .tc .vmem S256x1024 .f32) (harg2 : arg2.IsWhole) (arg3 : Memref sig .tc .vmem S32x1024 .f32) (harg3 : arg3.IsWhole) (arg4 : Memref sig .tc .vmem S256x1024 .f32) (harg4 : arg4.IsWhole) (arg5 : Memref sig .tc .vmem S32x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x2048 .bf16) (harg11 : arg11.IsWhole) (arg12 : Memref sig .tc .vmem S248x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S288x1024 .f32) (harg16 : arg16.IsWhole) (arg17 : Memref sig .tc .vmem S256x1024 .f32) (harg17 : arg17.IsWhole) (arg18 : Memref sig .tc .vmem S7x288x1024 .f32) (harg18 : arg18.IsWhole) (arg19 : Memref sig .tc .vmem S256x1024 .f32) (harg19 : arg19.IsWhole)
    (hc : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (x2 : Vec F S256x1024 .f32) (x3 : Vec F S32x1024 .f32) (x4 : Vec F S256x1024 .f32) (x5 : Vec F S32x1024 .f32) (x6 x7 : Vec F S256x1024 .bf16) (x8 : Vec F S31x1024 .f32) (x9 x10 : Vec F S1x1024 .f32) (zw : Vec F S248x1024 .f32) (zb zg zl : Vec F S1x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare zw ∗ owns (c : Thread nD τ) arg13 fullShare zb ∗ owns (c : Thread nD τ) arg14 fullShare zg ∗ owns (c : Thread nD τ) arg15 fullShare zl ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outs x2 x3 x4 x5 x6 x7 x8 x9 x10 (BitVec.ofNat 32 (i 1).val) zw zb zg zl).1 ∗ owns (c : Thread nD τ) arg12 fullShare (outs x2 x3 x4 x5 x6 x7 x8 x9 x10 (BitVec.ofNat 32 (i 1).val) zw zb zg zl).2.1 ∗ owns (c : Thread nD τ) arg13 fullShare (outs x2 x3 x4 x5 x6 x7 x8 x9 x10 (BitVec.ofNat 32 (i 1).val) zw zb zg zl).2.2.1 ∗ owns (c : Thread nD τ) arg14 fullShare (outs x2 x3 x4 x5 x6 x7 x8 x9 x10 (BitVec.ofNat 32 (i 1).val) zw zb zg zl).2.2.2.1 ∗ owns (c : Thread nD τ) arg15 fullShare (outs x2 x3 x4 x5 x6 x7 x8 x9 x10 (BitVec.ofNat 32 (i 1).val) zw zb zg zl).2.2.2.2 ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f)) -∗ K ⟨⟩))
      ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_bwd_eq_skeleton]; unfold cc0_conv_bwd_skel
  simp only [k0_part79_eq_skeleton, k0_part80_eq_skeleton, k0_part81_eq_skeleton, k0_part82_eq_skeleton, k0_part83_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, H16⟩, ⟨%f17, H17⟩, ⟨%f18, H18⟩, ⟨%f19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    refine (out11 _ _ (A' := k0_pay628 x7) (B' := k0_pay629 x6) (C' := fun y => accSum (rows31 x8) (grid (k0_pay622 (dNorm x2 x4 x9 x10)) (dNext (BitVec.ofNat 32 (i 1).val) x3 x5 x9 x10)) y) ?_ ?_ ?_ _ _).trans rfl
    · try delta triple_next.sl.r_15
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2]
    · try delta triple_next.sl.r_16
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2]
    try delta triple_next.sl.v181
    refine (View.readAt_full _ _ _).trans ((close19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x8 _ _ _ _ _ _ _ _).trans (out19 ?_ ?_))
    · try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
      try delta triple_next.sl.r triple_next.sl.r_1 triple_next.sl.r_2 triple_next.sl.r_3 triple_next.sl.r_4 triple_next.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNorm]
    · try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
      try delta triple_next.sl.r triple_next.sl.r_1 triple_next.sl.r_2 triple_next.sl.r_3 triple_next.sl.r_4 triple_next.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNext]
  isplitl [H12]
  · iexists _; isplitr
    swap; · iexact H12
    ipureintro
    refine (close12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x8 _ _ _ _ _ _ _ _).trans ?_
    refine Eq.trans (out12 (p' := k0_pay622 (dNorm x2 x4 x9 x10)) (q' := dNext (BitVec.ofNat 32 (i 1).val) x3 x5 x9 x10) (g' := k0_pay630 x7 x6) (z' := zw) ?_ ?_ ?_ (harg12.read_unread zw)) rfl
    · try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
      try delta triple_next.sl.r triple_next.sl.r_1 triple_next.sl.r_2 triple_next.sl.r_3 triple_next.sl.r_4 triple_next.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNorm]
    · try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
      try delta triple_next.sl.r triple_next.sl.r_1 triple_next.sl.r_2 triple_next.sl.r_3 triple_next.sl.r_4 triple_next.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNext]
    · simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2]
  isplitl [H13]
  · iexists _; isplitr
    swap; · iexact H13
    ipureintro
    try delta triple_next.sl.H13_1
    refine read_one _ _ ?_ zero2 _
    try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
    try delta triple_next.sl.r triple_next.sl.r_1 triple_next.sl.r_2 triple_next.sl.r_3 triple_next.sl.r_4 triple_next.sl.r_5
    simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, outs, dNorm, readAt_whole harg13 zb zero2]
  isplitl [H14]
  · iexists _; isplitr
    swap; · iexact H14
    ipureintro
    try delta triple_next.sl.H14_1
    refine read_one _ _ ?_ zero2 _
    try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
    try delta triple_next.sl.r triple_next.sl.r_1 triple_next.sl.r_2 triple_next.sl.r_3 triple_next.sl.r_4 triple_next.sl.r_5
    simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, outs, dNorm, readAt_whole harg14 zg zero2]
  isplitl [H15]
  · iexists _; isplitr
    swap; · iexact H15
    ipureintro
    try delta triple_next.sl.H15_1
    refine read_one _ _ ?_ zero2 _
    try delta triple_next.sl.r_6 triple_next.sl.r_7 triple_next.sl.r_8 triple_next.sl.r_9 triple_next.sl.r_10 triple_next.sl.r_11 triple_next.sl.r_12 triple_next.sl.r_13 triple_next.sl.r_14 triple_next.sl.r_15 triple_next.sl.r_16
    try delta triple_next.sl.r triple_next.sl.r_1 triple_next.sl.r_2 triple_next.sl.r_3 triple_next.sl.r_4 triple_next.sl.r_5
    simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, outs, dNorm, readAt_whole harg15 zl zero2]
  isplitl [H16]; · iexists _; iexact H16
  isplitl [H17]; · iexists _; iexact H17
  isplitl [H18]; · iexists _; iexact H18
  iexists _; iexact H19

end Cert.Kernel6Ideal.Conv
-- ==== Proof.ConvFirst.lean ====
module

public import proofs.«01_k».proof.Proof.ConvHold

@[expose] public section

set_option maxRecDepth 16384

noncomputable section

namespace Cert.Kernel6Ideal.Conv

open Idealize.ShloMosaic Idealize.ShloMosaic.TcCoe Idealize.ShloMosaic.Tactic Cert.Kernel6Ideal.Gen

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ
set_option maxHeartbeats 4000000 in
theorem triple_first (c : Dev nD) (i : grid0.Coords) (arg2 : Memref sig .tc .vmem S256x1024 .f32) (harg2 : arg2.IsWhole) (arg3 : Memref sig .tc .vmem S32x1024 .f32) (harg3 : arg3.IsWhole) (arg4 : Memref sig .tc .vmem S256x1024 .f32) (harg4 : arg4.IsWhole) (arg5 : Memref sig .tc .vmem S32x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S31x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x2048 .bf16) (harg11 : arg11.IsWhole) (arg12 : Memref sig .tc .vmem S248x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S288x1024 .f32) (harg16 : arg16.IsWhole) (arg17 : Memref sig .tc .vmem S256x1024 .f32) (harg17 : arg17.IsWhole) (arg18 : Memref sig .tc .vmem S7x288x1024 .f32) (harg18 : arg18.IsWhole) (arg19 : Memref sig .tc .vmem S256x1024 .f32) (harg19 : arg19.IsWhole)
    (hc : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (x2 : Vec F S256x1024 .f32) (x3 : Vec F S32x1024 .f32) (x4 : Vec F S256x1024 .f32) (x5 : Vec F S32x1024 .f32) (x6 x7 : Vec F S256x1024 .bf16) (x8 : Vec F S31x1024 .f32) (x9 x10 : Vec F S1x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outs x2 x3 x4 x5 x6 x7 x8 x9 x10 (BitVec.ofNat 32 (i 1).val)  (k0_pay602 (F := F)) (k0_pay603 (F := F)) (k0_pay604 (F := F)) (k0_pay605 (F := F))).1 ∗ owns (c : Thread nD τ) arg12 fullShare (outs x2 x3 x4 x5 x6 x7 x8 x9 x10 (BitVec.ofNat 32 (i 1).val)  (k0_pay602 (F := F)) (k0_pay603 (F := F)) (k0_pay604 (F := F)) (k0_pay605 (F := F))).2.1 ∗ owns (c : Thread nD τ) arg13 fullShare (outs x2 x3 x4 x5 x6 x7 x8 x9 x10 (BitVec.ofNat 32 (i 1).val)  (k0_pay602 (F := F)) (k0_pay603 (F := F)) (k0_pay604 (F := F)) (k0_pay605 (F := F))).2.2.1 ∗ owns (c : Thread nD τ) arg14 fullShare (outs x2 x3 x4 x5 x6 x7 x8 x9 x10 (BitVec.ofNat 32 (i 1).val)  (k0_pay602 (F := F)) (k0_pay603 (F := F)) (k0_pay604 (F := F)) (k0_pay605 (F := F))).2.2.2.1 ∗ owns (c : Thread nD τ) arg15 fullShare (outs x2 x3 x4 x5 x6 x7 x8 x9 x10 (BitVec.ofNat 32 (i 1).val)  (k0_pay602 (F := F)) (k0_pay603 (F := F)) (k0_pay604 (F := F)) (k0_pay605 (F := F))).2.2.2.2 ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f)) -∗ K ⟨⟩))
      ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_bwd_eq_skeleton]; unfold cc0_conv_bwd_skel
  simp only [k0_part79_eq_skeleton, k0_part80_eq_skeleton, k0_part81_eq_skeleton, k0_part82_eq_skeleton, k0_part83_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, H16⟩, ⟨%f17, H17⟩, ⟨%f18, H18⟩, ⟨%f19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    refine (out11 _ _ (A' := k0_pay628 x7) (B' := k0_pay629 x6) (C' := fun y => accSum (rows31 x8) (grid (k0_pay622 (dNorm x2 x4 x9 x10)) (dNext (BitVec.ofNat 32 (i 1).val) x3 x5 x9 x10)) y) ?_ ?_ ?_ _ _).trans rfl
    · try delta triple_first.sl.r_15
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2]
    · try delta triple_first.sl.r_16
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2]
    try delta triple_first.sl.v181
    refine (View.readAt_full _ _ _).trans ((close19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x8 _ _ _ _ _ _ _ _).trans (out19 ?_ ?_))
    · try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
      try delta triple_first.sl.r triple_first.sl.r_1 triple_first.sl.r_2 triple_first.sl.r_3 triple_first.sl.r_4 triple_first.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNorm]
    · try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
      try delta triple_first.sl.r triple_first.sl.r_1 triple_first.sl.r_2 triple_first.sl.r_3 triple_first.sl.r_4 triple_first.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNext]
  isplitl [H12]
  · iexists _; isplitr
    swap; · iexact H12
    ipureintro
    rw [View.writes_append]
    refine (close12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x8 _ _ _ _ _ _ _ _).trans ?_
    refine Eq.trans (out12 (p' := k0_pay622 (dNorm x2 x4 x9 x10)) (q' := dNext (BitVec.ofNat 32 (i 1).val) x3 x5 x9 x10) (g' := k0_pay630 x7 x6) (z' := k0_pay602 (F := F)) ?_ ?_ ?_ (read_one _ _ rfl zero2 _)) rfl
    · try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
      try delta triple_first.sl.r triple_first.sl.r_1 triple_first.sl.r_2 triple_first.sl.r_3 triple_first.sl.r_4 triple_first.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNorm]
    · try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
      try delta triple_first.sl.r triple_first.sl.r_1 triple_first.sl.r_2 triple_first.sl.r_3 triple_first.sl.r_4 triple_first.sl.r_5
      simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, dNext]
    · simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2]
  isplitl [H13]
  · iexists _; isplitr
    swap; · iexact H13
    ipureintro
    try delta triple_first.sl.H13_2
    refine read_one _ _ ?_ zero2 _
    try delta triple_first.sl.r_14
    try delta triple_first.sl.v123
    try delta triple_first.sl.H13_1
    try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
    try delta triple_first.sl.r triple_first.sl.r_1 triple_first.sl.r_2 triple_first.sl.r_3 triple_first.sl.r_4 triple_first.sl.r_5
    simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, outs, dNorm]
    exact congrArg (k0_pay625 _) (congrArg k0_pay624 (cov_one _ _ _ _))
  isplitl [H14]
  · iexists _; isplitr
    swap; · iexact H14
    ipureintro
    try delta triple_first.sl.H14_2
    refine read_one _ _ ?_ zero2 _
    try delta triple_first.sl.v129
    try delta triple_first.sl.H14_1
    try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
    try delta triple_first.sl.r triple_first.sl.r_1 triple_first.sl.r_2 triple_first.sl.r_3 triple_first.sl.r_4 triple_first.sl.r_5
    simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, outs, dNorm]
    exact congrArg (k0_pay626 _) (cov_one _ _ _ _)
  isplitl [H15]
  · iexists _; isplitr
    swap; · iexact H15
    ipureintro
    try delta triple_first.sl.H15_2
    refine read_one _ _ ?_ zero2 _
    try delta triple_first.sl.v135
    try delta triple_first.sl.H15_1
    try delta triple_first.sl.r_6 triple_first.sl.r_7 triple_first.sl.r_8 triple_first.sl.r_9 triple_first.sl.r_10 triple_first.sl.r_11 triple_first.sl.r_12 triple_first.sl.r_13 triple_first.sl.r_14 triple_first.sl.r_15 triple_first.sl.r_16
    try delta triple_first.sl.r triple_first.sl.r_1 triple_first.sl.r_2 triple_first.sl.r_3 triple_first.sl.r_4 triple_first.sl.r_5
    simp only [readAt_whole harg2 x2 zero2, readAt_whole harg3 x3 zero2, readAt_whole harg4 x4 zero2, readAt_whole harg5 x5 zero2, readAt_whole harg6 x6 zero2, readAt_whole harg7 x7 zero2, readAt_whole harg8 x8 zero2, readAt_whole harg9 x9 zero2, readAt_whole harg10 x10 zero2, outs, dNorm]
    exact congrArg (k0_pay627 _) (cov_one _ _ _ _)
  isplitl [H16]; · iexists _; iexact H16
  isplitl [H17]; · iexists _; iexact H17
  isplitl [H18]; · iexists _; iexact H18
  iexists _; iexact H19

end Cert.Kernel6Ideal.Conv
-- ==== Proof.ConvFrame.lean ====
module

public import proofs.«01_k».proof.Proof.ConvNext
public import proofs.«01_k».proof.Proof.ConvFirst
public import proofs.«01_k».proof.Proof.Gen.Kernel6Ideal.Frame
public import Idealize.ShloMosaic.Lib.Claim

@[expose] public section

set_option maxRecDepth 16384

noncomputable section

namespace Cert.Kernel6Ideal.Conv

open Idealize.ShloMosaic Idealize.ShloMosaic.TcCoe Idealize.ShloMosaic.Tactic Cert.Kernel6Ideal.Gen

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## What the call leaves after each point -/

/-- The body's five results at point `t`, from the point's blocks and what the four sums held. -/
def step (c : Dev nD) (t : Fin cfg0.N) (zw : Vec F S248x1024 .f32) (zb zg zl : Vec F S1x1024 .f32) :
    Vec F S256x2048 .bf16 × Vec F S248x1024 .f32 × Vec F S1x1024 .f32 × Vec F S1x1024 .f32 × Vec F S1x1024 .f32 :=
  outs (iblk m c 0 t) (iblk m c 1 t) (iblk m c 2 t) (iblk m c 3 t) (X0_4 m c t) (X0_5 m c t) (iblk m c 6 t) (iblk m c 7 t) (iblk m c 8 t)
    (BitVec.ofNat 32 ((grid0.coords t) 1).val) zw zb zg zl

/-- The results after position `n`: the sums start from zero at the first point and go on from there. -/
def outsAt (c : Dev nD) : (n : ℕ) → n < cfg0.N →
    Vec F S256x2048 .bf16 × Vec F S248x1024 .f32 × Vec F S1x1024 .f32 × Vec F S1x1024 .f32 × Vec F S1x1024 .f32
  | 0, hn => step m c ⟨0, hn⟩ k0_pay602 k0_pay603 k0_pay604 k0_pay605
  | n + 1, hn => step m c ⟨n + 1, hn⟩ (outsAt c n (Nat.lt_of_succ_lt hn)).2.1 (outsAt c n (Nat.lt_of_succ_lt hn)).2.2.1
      (outsAt c n (Nat.lt_of_succ_lt hn)).2.2.2.1 (outsAt c n (Nat.lt_of_succ_lt hn)).2.2.2.2

theorem outsAt_first (c : Dev nD) (t : Fin cfg0.N) (h : t.val = 0) :
    outsAt m c t.val t.isLt = step m c t k0_pay602 k0_pay603 k0_pay604 k0_pay605 := by
  obtain ⟨n, hn⟩ := t
  cases n with
  | zero => rfl
  | succ n => exact absurd h (Nat.succ_ne_zero n)

/-- What the point before left. -/
def prior (c : Dev nD) (t : Fin cfg0.N) :=
  outsAt m c (t.val - 1) (Nat.lt_of_le_of_lt (Nat.sub_le _ _) t.isLt)

theorem outsAt_next (c : Dev nD) (t : Fin cfg0.N) (h : ¬t.val = 0) :
    outsAt m c t.val t.isLt = step m c t (prior m c t).2.1 (prior m c t).2.2.1 (prior m c t).2.2.2.1 (prior m c t).2.2.2.2 := by
  obtain ⟨n, hn⟩ := t
  cases n with
  | zero => exact absurd rfl h
  | succ n => rfl

/-- The body clears the sums at the first point only. -/
theorem clears : ∀ t : Fin cfg0.N,
    Scalar.cmpi .ne (Scalar.extui (Scalar.andi (Scalar.cmpi .eq (BitVec.ofNat 32 ((grid0.coords t) 0).val) 0#32) (Scalar.cmpi .eq (BitVec.ofNat 32 ((grid0.coords t) 1).val) 0#32)) : BitVec 32) 0#32 = 1#1
      ↔ t.val = 0 :=
  (by decide +kernel : ∀ t : Fin grid0.N, _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2.1
    | ⟨13, _⟩ => (outsAt m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = X0_4 m c t := by dsimp only [dats]
theorem after_5 (c : Dev nD) (t : Fin cfg0.N) : (dats m 0 c).after 5 t = X0_5 m c t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]
theorem after_11 (c : Dev nD) (t : Fin cfg0.N) : (dats m 0 c).after 11 t = (outsAt m c t.val t.isLt).2.2.1 := by dsimp only [dats]
theorem after_12 (c : Dev nD) (t : Fin cfg0.N) : (dats m 0 c).after 12 t = (outsAt m c t.val t.isLt).2.2.2.1 := by dsimp only [dats]
theorem after_13 (c : Dev nD) (t : Fin cfg0.N) : (dats m 0 c).after 13 t = (outsAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = X0_5 m c t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_10 (c : Dev nD) (t : Fin cfg0.N) (h : ¬t.val = 0) (d) : (dats m 0 c).before 10 t d = (prior m c t).2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats, prior]
theorem before_11 (c : Dev nD) (t : Fin cfg0.N) (h : ¬t.val = 0) (d) : (dats m 0 c).before 11 t d = (prior m c t).2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats, prior]
theorem before_12 (c : Dev nD) (t : Fin cfg0.N) (h : ¬t.val = 0) (d) : (dats m 0 c).before 12 t d = (prior m c t).2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats, prior]
theorem before_13 (c : Dev nD) (t : Fin cfg0.N) (h : ¬t.val = 0) (d) : (dats m 0 c).before 13 t d = (prior m c t).2.2.2.2 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats, prior]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13]
  unfold Pipeline.ΦA
  rw [scopedRest0_eq]
  by_cases h : t.val = 0
  · rw [outsAt_first m c t h]
    unfold step
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    icases HΦ with ⟨⟨⟨%s0, S0⟩, ⟨%s1, S1⟩, ⟨%s2, S2⟩, ⟨%s3, S3⟩⟩, Hr⟩
    iapply (triple_first c (grid0.coords t) _ _ _ _ _ _ _ _ _ _ _ _ _ _ _ _ _ _ _ _ _ _ _ _ _ _ _ _ _ _ _ _ _ _ _ _ ((clears t).mpr h) (iblk m c 0 t) (iblk m c 1 t) (iblk m c 2 t) (iblk m c 3 t) (X0_4 m c t) (X0_5 m c t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [S0]; · iexists s0; simp only [Memref.view_whole, View.set_whole]; iexact S0
    isplitl [S1]; · iexists s1; simp only [Memref.view_whole, View.set_whole]; iexact S1
    isplitl [S2]; · iexists s2; simp only [Memref.view_whole, View.set_whole]; iexact S2
    isplitl [S3]; · iexists s3; simp only [Memref.view_whole, View.set_whole]; iexact S3
    iintro ⟨H0, H1, H2, H3, H4, H5, H6, H7, H8, H9, H10, H11, H12, H13, ⟨%s0', S0⟩, ⟨%s1', S1⟩, ⟨%s2', S2⟩, ⟨%s3', S3⟩⟩
    isplitl [S0 S1 S2 S3 Hr]
    · isplitl [S0 S1 S2 S3]
      · isplitl [S0]; · iexists s0'; simp only [Memref.view_whole, View.set_whole]; iexact S0
        isplitl [S1]; · iexists s1'; simp only [Memref.view_whole, View.set_whole]; iexact S1
        isplitl [S2]; · iexists s2'; simp only [Memref.view_whole, View.set_whole]; iexact S2
        iexists s3'; simp only [Memref.view_whole, View.set_whole]; iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [outsAt_next m c t h]
    simp only [before_10 m c t h, before_11 m c t h, before_12 m c t h, before_13 m c t h]
    unfold step
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    icases HΦ with ⟨⟨⟨%s0, S0⟩, ⟨%s1, S1⟩, ⟨%s2, S2⟩, ⟨%s3, S3⟩⟩, Hr⟩
    iapply (triple_next c (grid0.coords t) _ _ _ _ _ _ _ _ _ _ _ _ _ _ _ _ _ _ _ _ _ _ _ _ _ _ _ _ _ _ _ _ _ _ _ _ (fun h' => h ((clears t).mp h')) (iblk m c 0 t) (iblk m c 1 t) (iblk m c 2 t) (iblk m c 3 t) (X0_4 m c t) (X0_5 m c t) (iblk m c 6 t) (iblk m c 7 t) (iblk m c 8 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [S0]; · iexists s0; simp only [Memref.view_whole, View.set_whole]; iexact S0
    isplitl [S1]; · iexists s1; simp only [Memref.view_whole, View.set_whole]; iexact S1
    isplitl [S2]; · iexists s2; simp only [Memref.view_whole, View.set_whole]; iexact S2
    isplitl [S3]; · iexists s3; simp only [Memref.view_whole, View.set_whole]; iexact S3
    iintro ⟨H0, H1, H2, H3, H4, H5, H6, H7, H8, H9, H10, H11, H12, H13, ⟨%s0', S0⟩, ⟨%s1', S1⟩, ⟨%s2', S2⟩, ⟨%s3', S3⟩⟩
    isplitl [S0 S1 S2 S3 Hr]
    · isplitl [S0 S1 S2 S3]
      · isplitl [S0]; · iexists s0'; simp only [Memref.view_whole, View.set_whole]; iexact S0
        isplitl [S1]; · iexists s1'; simp only [Memref.view_whole, View.set_whole]; iexact S1
        isplitl [S2]; · iexists s2'; simp only [Memref.view_whole, View.set_whole]; iexact S2
        iexists s3'; simp only [Memref.view_whole, View.set_whole]; iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl) (Q' := _)

/-- The frame, for any values: the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel6Ideal.Conv
-- ==== Proof.ConvBlocks.lean ====
module

public import proofs.«01_k».proof.Proof.ConvRow
public import proofs.«01_k».proof.Proof.ConvSums
public import proofs.«01_k».proof.Proof.ConvFrame

/-! What the kernel's blocks hold, by the reference's stages. -/

@[expose] public section

set_option maxRecDepth 16384

noncomputable section

namespace Cert.Kernel6Ideal.Conv

open Idealize.ShloMosaic Idealize.ShloMosaic.TcCoe Cert.Kernel6Ideal.Gen
open Cert.Reference6Ideal.Value (res_main_v0 res_main_v1 res_main_v8 res_main_v21_1 res_main_v22 res_main_v23 res_main_v29)

variable (V0 : Valuation Cert.Reference6Ideal.τ Cert.Reference6Ideal.sig (Elt Ideal))
  (m : (ℓ : Loc nD τ sig) → Buf (Elt Ideal) ℓ) (c : Dev nD)

theorem idx : ∀ t : Fin cfg0.N, win0_0.index t = ![t.val, 0] ∧ win0_1.index t = ![min (8 * t.val + 8) 255, 0] ∧ win0_2.index t = ![t.val, 0] ∧ win0_3.index t = ![min (8 * t.val + 8) 255, 0]
    ∧ win0_4.index t = ![t.val, 0] ∧ win0_5.index t = ![t.val, 1] ∧ win0_6.index t = ![0, 0] ∧ win0_7.index t = ![0, 0] ∧ win0_8.index t = ![0, 0]
    ∧ win0_9.index t = ![t.val, 0] ∧ win0_10.index t = ![0, 0] ∧ win0_11.index t = ![0, 0] ∧ win0_12.index t = ![0, 0] ∧ win0_13.index t = ![0, 0] :=
  (by decide +kernel : ∀ t : Fin grid0.N, _)

/-- The sequence and the token of row `r` at point `t`. -/
def seq (t : Fin cfg0.N) : Fin 4 := ⟨t.val / 8, by have := lt_of_lt_of_eq t.2 N_0; omega⟩
def pos (t : Fin cfg0.N) (r : Fin 256) : Fin 2048 := ⟨256 * (t.val % 8) + r.val, by omega⟩

/-- The two programs have the same arguments. -/
structure Same : Prop where
  u : ru V0 = m ((c.tc : Thread nD τ).loc main_arg0)
  w : rw31 V0 = m ((c.tc : Thread nD τ).loc main_arg1)
  b : rb V0 = m ((c.tc : Thread nD τ).loc main_arg2)
  g : rg V0 = m ((c.tc : Thread nD τ).loc main_arg3)
  l : rl V0 = m ((c.tc : Thread nD τ).loc main_arg4)
  d : rd V0 = m ((c.tc : Thread nD τ).loc main_arg5)

theorem v36_at (n : Fin 8192) (k : Fin 1024) : V m c main_v36 (ix2 n k)
    = cnv (m ((c.tc : Thread nD τ).loc main_arg0)) (m ((c.tc : Thread nD τ).loc main_arg1)) (m ((c.tc : Thread nD τ).loc main_arg2)) ⟨n.val / 2048, by omega⟩ (n.val % 2048) k := by
  unfold V Gen.V0
  simp only [List.flatten_cons, List.flatten_nil, List.append_nil, hostOps0, hostOps0_1, hostOps0_2, List.cons_append, List.nil_append]
  after_results_simp
  simp -implicitDefEqProofs only [StableHlo.TRef.toBuf, StableHlo.TRef.ofBuf, cast_cast, cast_eq]
  pointwise
  rfl

variable {V0 m c} (S : Same V0 m c)
include S

theorem dcp_at (t : Fin cfg0.N) (r : Fin 256) (k : Fin 1024) : iblk m c 0 t (ix2 r k) = rd V0 (ix3 (seq t) (pos t r) k) := by
  have e : iblk m c 0 t (ix2 r k) = V m c main_v37 (ix2 (⟨256 * t.val + r.val, by have := lt_of_lt_of_eq t.2 N_0; omega⟩ : Fin 8192) k) := by
    blk_ext! [iblk, idx t]
  rw [S.d, e]
  unfold V Gen.V0
  simp only [List.flatten_cons, List.flatten_nil, List.append_nil, hostOps0, hostOps0_1, hostOps0_2, List.cons_append, List.nil_append]
  after_results_simp
  pointwise [seq, pos]
  blk_ext!

theorem gain_at (t : Fin cfg0.N) (k : Fin 1024) : iblk m c 7 t (ix2 0 k) = rg V0 (ix1 k) := by
  have e : iblk m c 7 t (ix2 0 k) = V m c main_v39 (ix2 0 k) := by
    blk_ext! [iblk, idx t]
  rw [S.g, e]
  unfold V Gen.V0
  simp only [List.flatten_cons, List.flatten_nil, List.append_nil, hostOps0, hostOps0_1, hostOps0_2, List.cons_append, List.nil_append]
  after_results_simp
  pointwise
theorem shift_at (t : Fin cfg0.N) (k : Fin 1024) : iblk m c 8 t (ix2 0 k) = rl V0 (ix1 k) := by
  have e : iblk m c 8 t (ix2 0 k) = V m c main_v40 (ix2 0 k) := by
    blk_ext! [iblk, idx t]
  rw [S.l, e]
  unfold V Gen.V0
  simp only [List.flatten_cons, List.flatten_nil, List.append_nil, hostOps0, hostOps0_1, hostOps0_2, List.cons_append, List.nil_append]
  after_results_simp
  pointwise
theorem taps_at (t : Fin cfg0.N) (j : Fin 31) (k : Fin 1024) : iblk m c 6 t (ix2 j k) = rw31 V0 (ix3 j 0 k) := by
  have e : iblk m c 6 t (ix2 j k) = V m c main_v38 (ix2 j k) := by
    blk_ext! [iblk, idx t]
  rw [S.w, e]
  unfold V Gen.V0
  simp only [List.flatten_cons, List.flatten_nil, List.append_nil, hostOps0, hostOps0_1, hostOps0_2, List.cons_append, List.nil_append]
  after_results_simp
  pointwise

theorem a_at (t : Fin cfg0.N) (r : Fin 256) (d : Fin 1024) : X0_4 m c t (ix2 r d) = ru V0 (ix3 (seq t) (pos t r) (⟨d.val, by omega⟩ : Fin 5376)) := by
  unfold X0_4 Pipeline.Window.fill
  rw [dif_pos (moved0_4 t _)]
  have e : iblk m c 4 t (fun a => ⟨((ix2 r d : S256x1024.Idx) a).val, (((cfg0.win 4).moved_iff _ _).mp (moved0_4 t (ix2 r d))) a⟩)
      = V m c main_v5 (ix2 (⟨256 * t.val + r.val, by have := lt_of_lt_of_eq t.2 N_0; omega⟩ : Fin 8192) (⟨d.val, by omega⟩ : Fin 5376)) := by
    blk_ext! [iblk, idx t]
  refine e.trans ?_
  rw [S.u]
  unfold V Gen.V0
  simp only [List.flatten_cons, List.flatten_nil, List.append_nil, hostOps0, hostOps0_1, hostOps0_2, List.cons_append, List.nil_append]
  after_results_simp
  pointwise [seq, pos]
  rw [dif_pos (by omega)]
  after_results_simp
  pointwise
  blk_ext!

theorem gate_at (t : Fin cfg0.N) (r : Fin 256) (d : Fin 1024) : X0_5 m c t (ix2 r d) = ru V0 (ix3 (seq t) (pos t r) (⟨1024 + d.val, by omega⟩ : Fin 5376)) := by
  unfold X0_5 Pipeline.Window.fill
  rw [dif_pos (moved0_5 t _)]
  have e : iblk m c 5 t (fun a => ⟨((ix2 r d : S256x1024.Idx) a).val, (((cfg0.win 5).moved_iff _ _).mp (moved0_5 t (ix2 r d))) a⟩)
      = V m c main_v5 (ix2 (⟨256 * t.val + r.val, by have := lt_of_lt_of_eq t.2 N_0; omega⟩ : Fin 8192) (⟨1024 + d.val, by omega⟩ : Fin 5376)) := by
    blk_ext! [iblk, idx t]
  refine e.trans ?_
  rw [S.u]
  unfold V Gen.V0
  simp only [List.flatten_cons, List.flatten_nil, List.append_nil, hostOps0, hostOps0_1, hostOps0_2, List.cons_append, List.nil_append]
  after_results_simp
  pointwise [seq, pos]
  rw [dif_pos (by omega)]
  after_results_simp
  pointwise
  blk_ext!
theorem hc_at (t : Fin cfg0.N) (r : Fin 256) (k : Fin 1024) : iblk m c 2 t (ix2 r k) = r29 V0 (ix3 (seq t) (pos t r) k) := by
  have ht := lt_of_lt_of_eq t.2 N_0
  have e : iblk m c 2 t (ix2 r k) = V m c main_v36 (ix2 (⟨256 * t.val + r.val, by omega⟩ : Fin 8192) k) := by
    blk_ext! [iblk, idx t]
  have e1 : (⟨(256 * t.val + r.val) / 2048, by omega⟩ : Fin 4) = seq t := Fin.ext (by dsimp only [seq]; omega)
  have e2 : (256 * t.val + r.val) % 2048 = (pos t r).val := by dsimp only [pos]; omega
  rw [e, v36_at, r29_at, S.u, S.w, S.b]
  dsimp only
  rw [e1, e2]

/-! The next block's first rows, away from the sequence's end. -/

theorem dcp_next (t : Fin cfg0.N) (h : t.val % 8 < 7) (r : Fin 32) (k : Fin 1024) :
    iblk m c 1 t (ix2 r k) = rd V0 (ix3 (seq t) (⟨256 * (t.val % 8) + (256 + r.val), by omega⟩ : Fin 2048) k) := by
  have ht := lt_of_lt_of_eq t.2 N_0
  have e : iblk m c 1 t (ix2 r k) = V m c main_v37 (ix2 (⟨256 * t.val + 256 + r.val, by omega⟩ : Fin 8192) k) := by
    blk_ext! [iblk, idx t]
  rw [S.d, e]
  unfold V Gen.V0
  simp only [List.flatten_cons, List.flatten_nil, List.append_nil, hostOps0, hostOps0_1, hostOps0_2, List.cons_append, List.nil_append]
  after_results_simp
  pointwise [seq]
  blk_ext!

theorem hc_next (t : Fin cfg0.N) (h : t.val % 8 < 7) (r : Fin 32) (k : Fin 1024) :
    iblk m c 3 t (ix2 r k) = r29 V0 (ix3 (seq t) (⟨256 * (t.val % 8) + (256 + r.val), by omega⟩ : Fin 2048) k) := by
  have ht := lt_of_lt_of_eq t.2 N_0
  have e : iblk m c 3 t (ix2 r k) = V m c main_v36 (ix2 (⟨256 * t.val + 256 + r.val, by omega⟩ : Fin 8192) k) := by
    blk_ext! [iblk, idx t]
  have e1 : (⟨(256 * t.val + 256 + r.val) / 2048, by omega⟩ : Fin 4) = seq t := Fin.ext (by dsimp only [seq]; omega)
  have e2 : (256 * t.val + 256 + r.val) % 2048 = 256 * (t.val % 8) + (256 + r.val) := by omega
  rw [e, v36_at, r29_at, S.u, S.w, S.b]
  dsimp only
  rw [e1, e2]

end Cert.Kernel6Ideal.Conv
-- ==== Proof.ConvGrid.lean ====
module

public import proofs.«01_k».proof.Proof.ConvBlocks

/-! The cotangent behind the convolution, with its halo, at every point. -/

@[expose] public section

set_option maxRecDepth 16384

noncomputable section

namespace Cert.Kernel6Ideal.Conv

open Idealize.ShloMosaic Idealize.ShloMosaic.TcCoe Cert.Kernel6Ideal.Gen
open Cert.Reference6Ideal.Value (res_main_v93)

/-! ## Finite values -/

def Re (x : EReal) : Prop := ∃ a : ℝ, x = a

theorem Re.mul {x y : EReal} (hx : Re x) (hy : Re y) : Re (x * y) := by
  obtain ⟨a, rfl⟩ := hx; obtain ⟨b, rfl⟩ := hy; exact ⟨a * b, (EReal.coe_mul a b).symm⟩
theorem Re.add {x y : EReal} (hx : Re x) (hy : Re y) : Re (x + y) := by
  obtain ⟨a, rfl⟩ := hx; obtain ⟨b, rfl⟩ := hy; exact ⟨a + b, (EReal.coe_add a b).symm⟩
theorem Re.zero : Re 0 := ⟨0, rfl⟩
theorem Re.logistic {x : EReal} (hx : Re x) : Re (Ideal.logistic x) := by
  obtain ⟨a, rfl⟩ := hx; exact ⟨_, Ideal.logistic_coe a⟩
theorem Re.sum {ι : Type*} [Fintype ι] {f : ι → EReal} (h : ∀ i, Re (f i)) : Re (∑ i, f i) := by
  choose a ha using h
  obtain rfl : f = fun i => (a i : EReal) := funext ha
  exact ⟨_, Cert.Arith.coe_sum _ _⟩

variable (V0 : Valuation Cert.Reference6Ideal.τ Cert.Reference6Ideal.sig (Elt Ideal))

/-- The arguments that have to be finite: the gated columns, the taps and their shift, the norm's gain, the cotangent. -/
structure Finite : Prop where
  u : ∀ b s (k : Fin 2048), Re (ru V0 (ix3 b s (⟨k.val, by omega⟩ : Fin 5376)))
  w : ∀ j k, Re (rw31 V0 (ix3 j 0 k))
  b : ∀ k, Re (rb V0 (ix1 k))
  g : ∀ k, Re (rg V0 (ix1 k))
  d : ∀ b s k, Re (rd V0 (ix3 b s k))

theorem r29_real (H : Finite V0) (b : Fin 4) (t : Fin 2048) (k : Fin 1024) : Re (r29 V0 (ix3 b t k)) := by
  rw [r29_at]
  refine (Re.sum fun j => (Re.sum fun s => ?_).mul (H.w j k)).add (H.b k)
  rw [sel_eq s.val t.val j.val s.2 t.2 j.2]
  split
  · exact (H.u b s ⟨k.val, by omega⟩).mul (H.u b s ⟨1024 + k.val, by omega⟩).logistic
  · exact Re.zero

/-! ## The cotangent behind the convolution -/

/-- Of one sequence and column, by position, zero past the end. -/
def dcv (b : Fin 4) (k : Fin 1024) (n : ℕ) : EReal := ext (fun s => res_main_v93 V0 (ix3 b s k)) n

theorem word_at : ∀ t : Fin cfg0.N, ((grid0.coords t) 1).val = t.val % 8 :=
  (by decide +kernel : ∀ t : Fin grid0.N, _)
theorem word_slt : ∀ n : Fin 8, Scalar.cmpi .slt (BitVec.ofNat 32 n.val) 7#32 = if n.val < 7 then 1#1 else 0#1 := by decide

variable (m : (ℓ : Loc nD τ sig) → Buf (Elt Ideal) ℓ) (c : Dev nD)

theorem pay622_at (x : FVec Ideal S256x1024 .f32) (r : Fin 256) (k : Fin 1024) : k0_pay622 x (ix2 r k) = x (ix2 r k) := by
  pointwise [k0_pay622]

/-- The kernel's 288 rows at point `t`. -/
abbrev rows288 (t : Fin cfg0.N) : ℕ → ℕ → Ideal .f32 :=
  grid (k0_pay622 (dNorm (iblk m c 0 t) (iblk m c 2 t) (iblk m c 7 t) (iblk m c 8 t)))
    (dNext (BitVec.ofNat 32 ((grid0.coords t) 1).val) (iblk m c 1 t) (iblk m c 3 t) (iblk m c 7 t) (iblk m c 8 t))

variable {V0 m c} (S : Same V0 m c) (H : Finite V0)
include S H

theorem dNorm_at (t : Fin cfg0.N) (r : Fin 256) (k : Fin 1024) :
    dNorm (iblk m c 0 t) (iblk m c 2 t) (iblk m c 7 t) (iblk m c 8 t) (ix2 r k) = res_main_v93 V0 (ix3 (seq t) (pos t r) k) :=
  row_dNorm V0 _ _ _ _ r (seq t) (pos t r) k (dcp_at S t r) (hc_at S t r) (gain_at S t) (shift_at S t)
    (r29_real V0 H _ _) (H.d _ _) H.g

theorem rows288_at (t : Fin cfg0.N) (r : ℕ) (hr : r < 288) (k : Fin 1024) : rows288 m c t r k.val = dcv V0 (seq t) k (256 * (t.val % 8) + r) := by
  unfold rows288 grid dcv ext
  by_cases h : r < 256
  · rw [dif_pos ⟨h, k.2⟩, dif_pos (by omega)]
    refine (pay622_at _ ⟨r, h⟩ k).trans (dNorm_at S H t ⟨r, h⟩ k)
  · rw [dif_neg (by omega), dif_pos ⟨by omega, k.2⟩]
    have hw := word_slt ⟨t.val % 8, by omega⟩
    rw [word_at t]
    by_cases h7 : t.val % 8 < 7
    · rw [dif_pos (by omega)]
      rw [if_pos h7] at hw
      refine (row_dNext V0 _ _ _ _ (seq t) _ k _ ⟨r - 256, by omega⟩ hw (dcp_next S t h7 _) (hc_next S t h7 _) (gain_at S t) (shift_at S t)
        (r29_real V0 H _ _) (H.d _ _) H.g).trans ?_
      exact congrArg (fun n => res_main_v93 V0 (ix3 (seq t) n k)) (Fin.ext (by dsimp only; omega))
    · rw [dif_neg (by omega)]
      rw [if_neg h7] at hw
      exact row_dNext_end _ _ _ _ k _ ⟨r - 256, by omega⟩ hw

end Cert.Kernel6Ideal.Conv
-- ==== Proof.ConvReduce.lean ====
module

public import proofs.«01_k».proof.Proof.ConvGrid

/-! Host sums over two axes that do not end the shape. -/

@[expose] public section

set_option maxRecDepth 16384

noncomputable section

namespace Cert.Arith

open Idealize.ShloMosaic

/-- A sum over two axes, once the entries read for a result's entry are named. -/
theorem reduce_two {s t : Shape} {axes : List (Fin s.rank)} (h : s.ReducesTo axes t) (v : s.Idx → EReal) (init : EReal) (j : t.Idx) {p q : ℕ}
    (e : Fin p → Fin q → s.Idx) (he : ∀ a b a' b', e a b = e a' b' → a = a' ∧ b = b') (hm : ∀ i, h.drop i = j ↔ ∃ k : Fin p × Fin q, e k.1 k.2 = i) :
    Ideal.hostReduceAdd h v init j = init + ∑ a : Fin p, ∑ b : Fin q, v (e a b) :=
  congrArg (init + ·) ((Finset.sum_filter_eq_sum_of_fiber _ (fun k : Fin p × Fin q => e k.1 k.2)
    (fun _ _ h => Prod.ext (he _ _ _ _ h).1 (he _ _ _ _ h).2) hm v).trans (Fintype.sum_prod_type fun k : Fin p × Fin q => v (e k.1 k.2)))

theorem reduce_tokens {n0 n1 n2 : ℕ} (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) :
    Ideal.hostReduceAdd h v init j = init + ∑ a : Fin n0, ∑ b : Fin n1, v (ix3 a b (j 0 : Fin n2)) := by
  refine reduce_two h v init j (fun a b => ix3 a b (j 0 : Fin n2)) (fun a b a' b' e => ⟨congrFun e 0, congrFun e 1⟩) fun i => ⟨fun e => ⟨(i 0, i 1), ?_⟩, ?_⟩
  · funext a
    match a with
    | ⟨0, _⟩ => rfl
    | ⟨1, _⟩ => rfl
    | ⟨2, _⟩ => exact (congrFun e 0).symm
  · rintro ⟨k, rfl⟩
    funext b
    match b with
    | ⟨0, _⟩ => rfl

theorem reduce_taps {n0 n1 n2 n3 : ℕ} (h : (⟨4, ![n0, n1, n2, n3]⟩ : Shape).ReducesTo [1, 2] ⟨2, ![n0, n3]⟩) (v : (⟨4, ![n0, n1, n2, n3]⟩ : Shape).Idx → EReal)
    (init : EReal) (j : (⟨2, ![n0, n3]⟩ : Shape).Idx) :
    Ideal.hostReduceAdd h v init j = init + ∑ a : Fin n1, ∑ b : Fin n2, v (ix4 (j 0 : Fin n0) a b (j 1 : Fin n3)) := by
  refine reduce_two h v init j (fun a b => ix4 (j 0 : Fin n0) a b (j 1 : Fin n3)) (fun a b a' b' e => ⟨congrFun e 1, congrFun e 2⟩)
    fun i => ⟨fun e => ⟨(i 1, i 2), ?_⟩, ?_⟩
  · funext a
    match a with
    | ⟨0, _⟩ => exact (congrFun e 0).symm
    | ⟨1, _⟩ => rfl
    | ⟨2, _⟩ => rfl
    | ⟨3, _⟩ => exact (congrFun e 1).symm
  · rintro ⟨k, rfl⟩
    funext b
    match b with
    | ⟨0, _⟩ => rfl
    | ⟨1, _⟩ => rfl

theorem reduce_reads {n0 n1 n2 n3 n4 : ℕ} (h : (⟨5, ![n0, n1, n2, n3, n4]⟩ : Shape).ReducesTo [0, 2] ⟨3, ![n1, n3, n4]⟩)
    (v : (⟨5, ![n0, n1, n2, n3, n4]⟩ : Shape).Idx → EReal) (init : EReal) (j : (⟨3, ![n1, n3, n4]⟩ : Shape).Idx) :
    Ideal.hostReduceAdd h v init j = init + ∑ a : Fin n0, ∑ b : Fin n2, v (ix5 a (j 0 : Fin n1) b (j 1 : Fin n3) (j 2 : Fin n4)) := by
  refine reduce_two h v init j (fun a b => ix5 a (j 0 : Fin n1) b (j 1 : Fin n3) (j 2 : Fin n4)) (fun a b a' b' e => ⟨congrFun e 0, congrFun e 2⟩)
    fun i => ⟨fun e => ⟨(i 0, i 2), ?_⟩, ?_⟩
  · funext a
    match a with
    | ⟨0, _⟩ => rfl
    | ⟨1, _⟩ => exact (congrFun e 0).symm
    | ⟨2, _⟩ => rfl
    | ⟨3, _⟩ => exact (congrFun e 1).symm
    | ⟨4, _⟩ => exact (congrFun e 2).symm
  · rintro ⟨k, rfl⟩
    funext b
    match b with
    | ⟨0, _⟩ => rfl
    | ⟨1, _⟩ => rfl
    | ⟨2, _⟩ => rfl

end Cert.Arith
-- ==== Proof.ConvRes.lean ====
module

public import proofs.«01_k».proof.Proof.ConvReduce

/-! The reference's five results, entry by entry. -/

@[expose] public section

set_option maxRecDepth 16384

noncomputable section

namespace Cert.Reference6Ideal.Value

open Idealize.ShloMosaic Idealize.ShloMosaic.TcCoe Cert.Reference6Ideal Cert.Reference6Ideal.Gen
open Cert.Arith (reduce_tokens reduce_taps reduce_reads)
open Cert.Kernel6Ideal.Conv (ru rw31 rd reads ext glu dcv glu_grad tap_grad)

variable (V0 : Valuation Cert.Reference6Ideal.τ Cert.Reference6Ideal.sig (Elt Ideal))

/-- The cotangent of the gated columns. -/
def dglu (b : Fin 4) (k : Fin 1024) (s : ℕ) : EReal := ∑ j : Fin 31, rw31 V0 (ix3 j 0 k) * dcv V0 b k (s + (30 - j.val))

theorem v107_at (b : Fin 4) (s : Fin 2048) (k : Fin 1024) : res_main_v107 V0 (ix3 b s k) = dglu V0 b k s.val := by
  refine Eq.trans ?_ (glu_grad (fun t => res_main_v93 V0 (ix3 b t k)) (fun j => rw31 V0 (ix3 j 0 k)) s)
  pointwise [res_main_v107, res_main_v21_1, res_main_v97, res_main_v23, reduce_reads]
  simp only [Finset.univ_unique, Finset.sum_const, Finset.card_singleton, one_smul]
  rfl

/-- The five results. -/
abbrev outU : FVec Ideal S8192x2048 .bf16 := truncf .bf16 (shapeCast _ (concatenate S4x2048x2048 2 [⟨S4x2048x1024, (mulf (res_main_v107 V0) (res_main_v8 V0))⟩, ⟨S4x2048x1024, (mulf (mulf (res_main_v1 V0) (res_main_v107 V0)) (mulf (res_main_v8 V0) (subf (broadcastInDim S4x2048x1024 ![] bcast_S_S4x2048x1024 (constant S_ .f32 0x3F800000#32)) (res_main_v8 V0))))⟩] concatenates_S4x2048x1024_S4x2048x1024_S4x2048x2048_d2) shapeCasts_S4x2048x2048_S8192x2048) bitsLt_bf16_f32
abbrev outW : FVec Ideal S31x1024 .f32 := shapeCast _ (broadcastInDim S31x1x1024 ![0, 2] bcast_S31x1024_S31x1x1024_0_2 (Host.reduceAdd (shapeCast _ (Host.reduceAdd (mulf (res_main_v22 V0) (res_main_v97 V0)) (constant S_ .f32 0x00000000#32) reducesTo_S31x4x2048x1024_S31x1024_d1_2 h_S_) shapeCasts_S31x1024_S31x1x1x1024) (constant S_ .f32 0x00000000#32) reducesTo_S31x1x1x1024_S31x1024_d1_2 h_S_)) shapeCasts_S31x1x1024_S31x1024
/-- A sum over all tokens, as the reference writes it. -/
abbrev outC (z : FVec Ideal S4x2048x1024 .f32) : FVec Ideal S1x1024 .f32 := shapeCast _ (Host.reduceAdd (shapeCast _ (Host.reduceAdd z (constant S_ .f32 0x00000000#32) reducesTo_S4x2048x1024_S1024_d0_1 h_S_) shapeCasts_S1024_S1x1x1024) (constant S_ .f32 0x00000000#32) reducesTo_S1x1x1024_S1024_d0_1 h_S_) shapeCasts_S1024_S1x1024

theorem outC_at (z : FVec Ideal S4x2048x1024 .f32) (k : Fin 1024) : outC z (ix2 0 k) = ∑ b : Fin 4, ∑ n : Fin 2048, z (ix3 b n k) := by
  pointwise [reduce_tokens]
  simp only [Finset.univ_unique, Finset.sum_const, Finset.card_singleton, one_smul]

/-- What one tap reads at one position. -/
def tapRead (u : FVec Ideal S4x2048x5376 .f32) (b : Fin 4) (k : Fin 1024) (t j : ℕ) : EReal :=
  ∑ s : Fin 2048, Scalar.select (reads s.val t j) (glu u b s k) (Ideal.ofBits .f32 0#32)

theorem v22_at (j : Fin 31) (b : Fin 4) (t : Fin 2048) (k : Fin 1024) : res_main_v22 V0 (ix4 j b t k) = tapRead (ru V0) b k t.val j.val := by
  pointwise [res_main_v22, res_main_v21_1, res_main_v8, res_main_v1, res_main_v0]
  rfl

theorem outW_at (j : Fin 31) (k : Fin 1024) : outW V0 (ix2 j k)
    = ∑ b : Fin 4, ∑ s : Fin 2048, glu (ru V0) b s k * dcv V0 b k (s.val + (30 - j.val)) := by
  refine Eq.trans ?_ (Finset.sum_congr rfl fun b _ => tap_grad (fun t => res_main_v93 V0 (ix3 b t k)) (fun s => glu (ru V0) b s k) j)
  refine Eq.trans ?_ (Finset.sum_congr rfl fun b _ => Finset.sum_congr rfl fun t _ => congrArg (fun x : EReal => x * (res_main_v93 V0 (ix3 b t k) : EReal)) (v22_at V0 j b t k))
  generalize hA : res_main_v22 V0 = A
  pointwise [res_main_v97, reduce_taps, hA]
  simp only [Finset.univ_unique, Finset.sum_const, Finset.card_singleton, one_smul]

theorem cast_at (x : FVec Ideal S4x2048x2048 .f32) (t : Fin 32) (r : Fin 256) (k : Fin 2048) :
    shapeCast S8192x2048 x shapeCasts_S4x2048x2048_S8192x2048 (ix2 ⟨256 * t.val + r.val, by omega⟩ k)
      = x (ix3 ⟨t.val / 8, by omega⟩ ⟨256 * (t.val % 8) + r.val, by omega⟩ k) := by
  pointwise
  blk_ext!

theorem v8_at (b : Fin 4) (s : Fin 2048) (k : Fin 1024) : res_main_v8 V0 (ix3 b s k) = Ideal.logistic (ru V0 (ix3 b s ⟨1024 + k.val, by omega⟩)) := by
  pointwise [res_main_v8, res_main_v0]
  rfl

theorem v1_at (b : Fin 4) (s : Fin 2048) (k : Fin 1024) : res_main_v1 V0 (ix3 b s k) = ru V0 (ix3 b s ⟨k.val, by omega⟩) := by
  pointwise [res_main_v1, res_main_v0]

/-- The two halves of the gated columns' cotangent side by side. -/
abbrev sides (x y : FVec Ideal S4x2048x1024 .f32) : FVec Ideal S4x2048x2048 .f32 :=
  concatenate S4x2048x2048 2 [⟨S4x2048x1024, x⟩, ⟨S4x2048x1024, y⟩] concatenates_S4x2048x1024_S4x2048x1024_S4x2048x2048_d2

theorem sides_left (x y : FVec Ideal S4x2048x1024 .f32) (b : Fin 4) (s : Fin 2048) (k : Fin 1024) : sides x y (ix3 b s ⟨k.val, by omega⟩) = x (ix3 b s k) := by
  pointwise

theorem sides_right (x y : FVec Ideal S4x2048x1024 .f32) (b : Fin 4) (s : Fin 2048) (k : Fin 1024) :
    sides x y (ix3 b s ⟨1024 + k.val, by omega⟩) = y (ix3 b s k) := by
  pointwise

/-- The gate's own slope. -/
abbrev gateD : FVec Ideal S4x2048x1024 .f32 :=
  mulf (mulf (res_main_v1 V0) (res_main_v107 V0)) (mulf (res_main_v8 V0) (subf (broadcastInDim S4x2048x1024 ![] bcast_S_S4x2048x1024 (constant S_ .f32 0x3F800000#32)) (res_main_v8 V0)))

theorem slope_at (x y z : FVec Ideal S4x2048x1024 .f32) (b : Fin 4) (s : Fin 2048) (k : Fin 1024) :
    mulf (mulf x y) (mulf z (subf (broadcastInDim S4x2048x1024 ![] bcast_S_S4x2048x1024 (constant S_ .f32 0x3F800000#32)) z)) (ix3 b s k)
      = x (ix3 b s k) * y (ix3 b s k) * (z (ix3 b s k) * (1 - z (ix3 b s k))) := by
  pointwise

theorem outU_left (t : Fin 32) (r : Fin 256) (k : Fin 1024) :
    outU V0 (ix2 ⟨256 * t.val + r.val, by omega⟩ ⟨k.val, by omega⟩)
      = dglu V0 ⟨t.val / 8, by omega⟩ k (256 * (t.val % 8) + r.val)
        * Ideal.logistic (ru V0 (ix3 ⟨t.val / 8, by omega⟩ ⟨256 * (t.val % 8) + r.val, by omega⟩ ⟨1024 + k.val, by omega⟩)) := by
  refine (cast_at (sides (mulf (F := Ideal) (res_main_v107 V0) (res_main_v8 V0)) (gateD V0)) t r _).trans ?_
  rw [sides_left]
  exact congrArg₂ (fun a b : EReal => a * b) (v107_at V0 _ _ k) (v8_at V0 _ _ k)

theorem outU_right (t : Fin 32) (r : Fin 256) (k : Fin 1024) :
    outU V0 (ix2 ⟨256 * t.val + r.val, by omega⟩ ⟨1024 + k.val, by omega⟩)
      = (dglu V0 ⟨t.val / 8, by omega⟩ k (256 * (t.val % 8) + r.val) * ru V0 (ix3 ⟨t.val / 8, by omega⟩ ⟨256 * (t.val % 8) + r.val, by omega⟩ ⟨k.val, by omega⟩))
        * (Ideal.logistic (ru V0 (ix3 ⟨t.val / 8, by omega⟩ ⟨256 * (t.val % 8) + r.val, by omega⟩ ⟨1024 + k.val, by omega⟩))
          * (1 - Ideal.logistic (ru V0 (ix3 ⟨t.val / 8, by omega⟩ ⟨256 * (t.val % 8) + r.val, by omega⟩ ⟨1024 + k.val, by omega⟩)))) := by
  refine (cast_at (sides (mulf (F := Ideal) (res_main_v107 V0) (res_main_v8 V0)) (gateD V0)) t r _).trans ?_
  rw [sides_right]
  refine (slope_at (res_main_v1 V0) (res_main_v107 V0) (res_main_v8 V0) _ _ k).trans ?_
  exact congrArg₂ (fun a b : EReal => a * b) ((congrArg₂ (fun a b : EReal => a * b) (v1_at V0 _ _ k) (v107_at V0 _ _ k)).trans (mul_comm _ _)) (congrArg (fun x : EReal => x * (1 - x)) (v8_at V0 _ _ k))

end Cert.Reference6Ideal.Value
-- ==== Proof.ConvValue.lean ====
module

public import proofs.«01_k».proof.Proof.ConvRes

/-! The kernel's five results against the reference's. -/

@[expose] public section

set_option maxRecDepth 16384

noncomputable section

namespace Cert.Kernel6Ideal.Conv

open Idealize.ShloMosaic Idealize.ShloMosaic.TcCoe Cert.Kernel6Ideal.Gen
open Cert.Reference6Ideal.Value (res_main_v93 res_main_v52 res_main_v60 dglu outU outW outC outU_left outU_right outW_at outC_at)

theorem left_at (x : Vec Ideal S256x1024 .bf16) (a : FVec Ideal S256x1024 .f32) (r : Fin 256) (k : Fin 1024) :
    k0_pay1 (k0_pay628 x) a (ix2 r k) = a (ix2 r k) * Ideal.logistic (x (ix2 r k)) := by
  pointwise [k0_pay1, k0_pay628]

theorem right_at (x y : Vec Ideal S256x1024 .bf16) (a : FVec Ideal S256x1024 .f32) (r : Fin 256) (k : Fin 1024) :
    k0_pay2 (k0_pay628 x) (k0_pay629 y) a (ix2 r k) = a (ix2 r k) * y (ix2 r k) * (Ideal.logistic (x (ix2 r k)) * (1 - Ideal.logistic (x (ix2 r k)))) := by
  pointwise [k0_pay2, k0_pay628, k0_pay629]

variable {V0 : Valuation Cert.Reference6Ideal.τ Cert.Reference6Ideal.sig (Elt Ideal)}
variable {m : (ℓ : Loc nD τ sig) → Buf (Elt Ideal) ℓ} {c : Dev nD} (S : Same V0 m c) (H : Finite V0)
include S H

theorem lt32 (t : Fin cfg0.N) : t.val < 32 := lt_of_lt_of_eq t.isLt N_0

/-! ## The gradient of the gated columns -/

theorem acc_at (t : Fin cfg0.N) (r : Fin 256) (k : Fin 1024) :
    accSum (rows31 (iblk m c 6 t)) (rows288 m c t) (ix2 r k) = dglu V0 (seq t) k (256 * (t.val % 8) + r.val) := by
  unfold accSum dglu
  refine (chain_eq _ 31).trans (Finset.sum_congr rfl fun j _ => ?_)
  refine congrArg₂ (fun a b : EReal => a * b) ?_ ?_
  · unfold rows31
    exact (dif_pos ⟨j.2, k.2⟩).trans (taps_at S t j k)
  · refine (rows288_at S H t (30 - j.val + r.val) (by omega) k).trans ?_
    exact congrArg (dcv V0 (seq t) k) (by omega)

theorem first_eq (t : Fin cfg0.N) : (outsAt m c t.val t.isLt).1 = (step m c t (k0_pay602 (F := Ideal)) (k0_pay603 (F := Ideal)) (k0_pay604 (F := Ideal)) (k0_pay605 (F := Ideal))).1 := by
  by_cases h : t.val = 0
  · rw [outsAt_first m c t h]
  · rw [outsAt_next m c t h]; rfl

theorem final9 : (dats m 0 c).arrAt 9 (cfgs 0).N = outU V0 := by
  refine (dats m 0 c).arrAt_eq_of_covers 9 _ (by decide +kernel) fun t _ y => ?_
  blk_simp
  rw [after_9, first_eq S H]
  idx_vars y
  unfold step outs
  dsimp only
  have hr : ∀ k : Fin 1024, accSum (rows31 (iblk m c 6 t)) (rows288 m c t) (ix2 y0 k) = dglu V0 (seq t) k (256 * (t.val % 8) + y0.val) := fun k => acc_at S H t y0 k
  by_cases h : y1.val < 1024
  · refine (dif_pos h).trans ?_
    refine (left_at _ _ y0 ⟨y1.val, h⟩).trans ?_
    refine (congrArg₂ (fun a b : EReal => a * Ideal.logistic b) (hr ⟨y1.val, h⟩) (gate_at S t y0 ⟨y1.val, h⟩)).trans ?_
    refine (outU_left V0 ⟨t.val, lt32 S H t⟩ y0 ⟨y1.val, h⟩).symm.trans ?_
    generalize outU V0 = A
    blk_ext! [idx t]
  · refine (dif_neg h).trans ?_
    have h2 : y1.val < 2048 := y1.isLt
    refine (right_at _ _ _ y0 ⟨y1.val - 1024, by omega⟩).trans ?_
    rw [hr ⟨y1.val - 1024, by omega⟩, a_at S t y0 ⟨y1.val - 1024, by omega⟩, gate_at S t y0 ⟨y1.val - 1024, by omega⟩]
    refine (outU_right V0 ⟨t.val, lt32 S H t⟩ y0 ⟨y1.val - 1024, by omega⟩).symm.trans ?_
    generalize outU V0 = A
    blk_ext! [idx t]

end Cert.Kernel6Ideal.Conv
-- ==== Proof.ConvAcc.lean ====
module

public import proofs.«01_k».proof.Proof.ConvValue

/-! The four gradients that the kernel sums over all points. -/

@[expose] public section

set_option maxRecDepth 16384

noncomputable section

namespace Cert.Kernel6Ideal.Conv

open Idealize.ShloMosaic Idealize.ShloMosaic.TcCoe Cert.Kernel6Ideal.Gen
open Cert.Reference6Ideal.Value (res_main_v93 res_main_v52 res_main_v60 dglu outU outW outC outU_left outU_right outW_at outC_at)

def tlast : Fin cfg0.N := ⟨31, by rw [show cfg0.N = 32 from N_0]; decide⟩

theorem sum_N (f : Fin 32 → EReal) : ∑ p : Fin cfg0.N, f ⟨p.val, lt_of_lt_of_eq p.isLt N_0⟩ = ∑ t : Fin 32, f t :=
  Fintype.sum_equiv (finCongr N_0) _ _ fun _ => rfl

theorem first_pt (t : Fin cfg0.N) (h : t.val % 32 = 0) : t.val = 0 := by have := lt_of_lt_of_eq t.isLt N_0; omega
theorem next_pt (t : Fin cfg0.N) (h : ¬t.val % 32 = 0) : ¬t.val = 0 := by omega

/-- Adding up the rows of a block. -/
theorem col_norm (x : FVec Ideal S256x1024 .f32) (v : FVec Ideal S1x1024 .f32) (k : Fin 1024) :
    k0_pay625 x (k0_pay624 v) (ix2 0 k) = v (ix2 0 k) + ∑ r : Fin 256, x (ix2 r k) := by
  pointwise [k0_pay625, k0_pay624]
theorem col_gain (x : FVec Ideal S256x1024 .f32) (v : FVec Ideal S1x1024 .f32) (k : Fin 1024) :
    k0_pay626 x v (ix2 0 k) = v (ix2 0 k) + ∑ r : Fin 256, x (ix2 r k) := by
  pointwise [k0_pay626]
theorem col_gate (x : FVec Ideal S256x1024 .f32) (v : FVec Ideal S1x1024 .f32) (k : Fin 1024) :
    k0_pay627 x v (ix2 0 k) = v (ix2 0 k) + ∑ r : Fin 256, x (ix2 r k) := by
  pointwise [k0_pay627]
theorem start3 (k : Fin 1024) : k0_pay603 (F := Ideal) (ix2 0 k) = 0 := by pointwise [k0_pay603]
theorem start4 (k : Fin 1024) : k0_pay604 (F := Ideal) (ix2 0 k) = 0 := by pointwise [k0_pay604]
theorem start5 (k : Fin 1024) : k0_pay605 (F := Ideal) (ix2 0 k) = 0 := by pointwise [k0_pay605]
theorem start2 (y : S248x1024.Idx) : k0_pay602 (F := Ideal) y = 0 := by pointwise [k0_pay602]

variable {V0 : Valuation Cert.Reference6Ideal.τ Cert.Reference6Ideal.sig (Elt Ideal)}
variable {m : (ℓ : Loc nD τ sig) → Buf (Elt Ideal) ℓ} {c : Dev nD}

/-- One point's rows of a gradient that is summed over the tokens. -/
def part (z : FVec Ideal Cert.Reference6Ideal.S4x2048x1024 .f32) (k : Fin 1024) (t : Fin 32) : EReal :=
  ∑ r : Fin 256, z (ix3 (⟨t.val / 8, by omega⟩ : Fin 4) (⟨256 * (t.val % 8) + r.val, by omega⟩ : Fin 2048) k)

/-- A row that starts at zero and grows by one block's column sums at every point ends at the sum over all tokens. -/
theorem col_total (z : FVec Ideal Cert.Reference6Ideal.S4x2048x1024 .f32) (f : (n : ℕ) → n < cfg0.N → FVec Ideal S1x1024 .f32)
    (h0 : ∀ t : Fin cfg0.N, t.val = 0 → ∀ k : Fin 1024, f t.val t.isLt (ix2 0 k) = 0 + part z k ⟨t.val, lt_of_lt_of_eq t.isLt N_0⟩)
    (hs : ∀ t : Fin cfg0.N, ¬t.val = 0 → ∀ k : Fin 1024,
      f t.val t.isLt (ix2 0 k) = f (t.val - 1) (Nat.lt_of_le_of_lt (Nat.sub_le _ _) t.isLt) (ix2 0 k) + part z k ⟨t.val, lt_of_lt_of_eq t.isLt N_0⟩)
    (k : Fin 1024) : f tlast.val tlast.isLt (ix2 0 k) = outC z (ix2 0 k) := by
  have h := Pipeline.eq_sum_fin_of_reset_step_apply_last (fun n h (k : Fin 1024) => f n h (ix2 0 k)) 32 (fun _ => (0 : EReal))
    (fun (t : Fin cfg0.N) k => part z k ⟨t.val, lt_of_lt_of_eq t.isLt N_0⟩) (fun t h k => h0 t (first_pt t h) k) (fun t h k => hs t (next_pt t h) k)
    (le_of_eq N_0) tlast N_0.symm k
  refine h.trans ?_
  rw [zero_add, sum_N (part z k), outC_at]
  exact sum_points fun b n => z (ix3 b n k)

variable (S : Same V0 m c) (H : Finite V0)
include S H

theorem final11 : (dats m 0 c).arrAt 11 (cfgs 0).N = outC (res_main_v93 V0) := by
  refine (dats m 0 c).arrAt_eq_of_after_last 11 tlast (by decide +kernel) _ fun j => ?_
  blk_simp
  rw [after_11]
  idx_vars j
  obtain rfl : j0 = 0 := Subsingleton.elim _ _
  refine col_total (res_main_v93 V0) (fun n h => (outsAt m c n h).2.2.1) (fun t h k => ?_) (fun t h k => ?_) j1
  · rw [outsAt_first m c t h]
    refine (col_norm _ _ k).trans (congrArg₂ (fun a b : EReal => a + b) (start3 k) (Finset.sum_congr rfl fun r _ => dNorm_at S H t r k))
  · rw [outsAt_next m c t h]
    exact (col_norm _ _ k).trans (congrArg (fun b : EReal => _ + b) (Finset.sum_congr rfl fun r _ => dNorm_at S H t r k))

theorem final12 : (dats m 0 c).arrAt 12 (cfgs 0).N = outC (mulf (F := Ideal) (res_main_v52 V0) (res_main_v60 V0)) := by
  refine (dats m 0 c).arrAt_eq_of_after_last 12 tlast (by decide +kernel) _ fun j => ?_
  blk_simp
  rw [after_12]
  idx_vars j
  obtain rfl : j0 = 0 := Subsingleton.elim _ _
  have hr : ∀ (t : Fin cfg0.N) (r : Fin 256) (k : Fin 1024), _ := fun t r k => row_gain V0 (iblk m c 0 t) (iblk m c 2 t) (iblk m c 7 t) (iblk m c 8 t) r (seq t) (pos t r) k
    (dcp_at S t r) (hc_at S t r) (gain_at S t) (shift_at S t) (H.d _ _)
  refine col_total (mulf (F := Ideal) (res_main_v52 V0) (res_main_v60 V0)) (fun n h => (outsAt m c n h).2.2.2.1) (fun t h k => ?_) (fun t h k => ?_) j1
  · rw [outsAt_first m c t h]
    exact (col_gain _ _ k).trans (congrArg₂ (fun a b : EReal => a + b) (start4 k) (Finset.sum_congr rfl fun r _ => hr t r k))
  · rw [outsAt_next m c t h]
    exact (col_gain _ _ k).trans (congrArg (fun b : EReal => _ + b) (Finset.sum_congr rfl fun r _ => hr t r k))

theorem final13 : (dats m 0 c).arrAt 13 (cfgs 0).N = outC (res_main_v60 V0) := by
  refine (dats m 0 c).arrAt_eq_of_after_last 13 tlast (by decide +kernel) _ fun j => ?_
  blk_simp
  rw [after_13]
  idx_vars j
  obtain rfl : j0 = 0 := Subsingleton.elim _ _
  have hr : ∀ (t : Fin cfg0.N) (r : Fin 256) (k : Fin 1024), _ := fun t r k => row_gate V0 (iblk m c 0 t) (iblk m c 2 t) (iblk m c 7 t) (iblk m c 8 t) r (seq t) (pos t r) k
    (dcp_at S t r) (hc_at S t r) (gain_at S t) (shift_at S t) (H.d _ _)
  refine col_total (res_main_v60 V0) (fun n h => (outsAt m c n h).2.2.2.2) (fun t h k => ?_) (fun t h k => ?_) j1
  · rw [outsAt_first m c t h]
    exact (col_gate _ _ k).trans (congrArg₂ (fun a b : EReal => a + b) (start5 k) (Finset.sum_congr rfl fun r _ => hr t r k))
  · rw [outsAt_next m c t h]
    exact (col_gate _ _ k).trans (congrArg (fun b : EReal => _ + b) (Finset.sum_congr rfl fun r _ => hr t r k))

end Cert.Kernel6Ideal.Conv
-- ==== Proof.ConvTaps.lean ====
module

public import proofs.«01_k».proof.Proof.ConvAcc

/-! The gradient of the taps: eight partial sums to a tap, which the host adds up. -/

@[expose] public section

set_option maxRecDepth 16384

noncomputable section

namespace Cert.Kernel6Ideal.Conv

open Idealize.ShloMosaic Idealize.ShloMosaic.TcCoe Cert.Kernel6Ideal.Gen
open Cert.Reference6Ideal.Value (res_main_v93 outW outW_at)

variable (V0 : Valuation Cert.Reference6Ideal.τ Cert.Reference6Ideal.sig (Elt Ideal))

/-- One position's term of a tap's gradient. -/
def tapAt (j : Fin 31) (k : Fin 1024) (b : Fin 4) (n : Fin 2048) : EReal := glu (ru V0) b n k * dcv V0 b k (n.val + (30 - j.val))

/-- One point's positions of one residue modulo eight. -/
def tapPart (j : Fin 31) (q : Fin 8) (k : Fin 1024) (t : Fin 32) : EReal :=
  ∑ n : Fin 32, tapAt V0 j k ⟨t.val / 8, by omega⟩ ⟨256 * (t.val % 8) + (8 * n.val + q.val), by omega⟩

/-- What the kernel leaves for the host. -/
def tapSums : FVec Ideal S248x1024 .f32 := fun y =>
  ∑ t : Fin 32, tapPart V0 ⟨(y 0).val / 8, by have : (y 0).val < 248 := (y 0).isLt; omega⟩ ⟨(y 0).val % 8, by omega⟩ (y 1 : Fin 1024) t

/-- The host's sum of the eight. -/
abbrev fold8 (x : FVec Ideal S248x1024 .f32) : FVec Ideal S31x1024 .f32 :=
  Host.reduceAdd (shapeCast S31x8x1024 x shapeCasts_S248x1024_S31x8x1024) (constant S_ .f32 0x00000000#32) reducesTo_S31x8x1024_S31x1024_d1 h_S_

theorem fold8_at (x : FVec Ideal S248x1024 .f32) (j : Fin 31) (k : Fin 1024) : fold8 x (ix2 j k) = ∑ q : Fin 8, x (ix2 (⟨8 * j.val + q.val, by omega⟩ : Fin 248) k) := by
  pointwise
  refine Finset.sum_congr rfl fun q _ => ?_
  blk_ext!

theorem tapSums_at (j : Fin 31) (q : Fin 8) (k : Fin 1024) :
    tapSums V0 (ix2 (⟨8 * j.val + q.val, by omega⟩ : Fin 248) k) = ∑ t : Fin 32, tapPart V0 j q k t := by
  unfold tapSums
  refine Finset.sum_congr rfl fun t _ => ?_
  refine congrFun (congrFun (congrArg₂ (tapPart V0) (Fin.ext ?_) (Fin.ext ?_)) k) t
  · show (8 * j.val + q.val) / 8 = j.val
    omega
  · show (8 * j.val + q.val) % 8 = q.val
    omega

theorem fold8_tapSums : fold8 (tapSums V0) = outW V0 := by
  funext y
  idx_vars y
  refine (fold8_at _ y0 y1).trans ?_
  rw [Finset.sum_congr rfl fun q _ => tapSums_at V0 y0 q y1, Finset.sum_comm]
  refine Eq.trans (Finset.sum_congr rfl fun t _ => ?_) ((sum_points (tapAt V0 y0 y1)).trans (outW_at V0 y0 y1).symm)
  unfold tapPart
  rw [Finset.sum_comm]
  exact Fin.sum_mul_add_congr (S := 32) (n := 8) (L := 256) fun s q hl => congrArg (tapAt V0 y0 y1 _) (Fin.ext (by dsimp only; omega))

theorem prod_at (x z : Vec Ideal S256x1024 .bf16) (r : Fin 256) (k : Fin 1024) : k0_pay630 x z (ix2 r k) = z (ix2 r k) * Ideal.logistic (x (ix2 r k)) := by
  pointwise [k0_pay630, k0_pay629, k0_pay628]

variable {V0} {m : (ℓ : Loc nD τ sig) → Buf (Elt Ideal) ℓ} {c : Dev nD} (S : Same V0 m c) (H : Finite V0)
include S H

theorem tap_at (t : Fin cfg0.N) (y0 : Fin 248) (y1 : Fin 1024) :
    tapSum (rows256 (k0_pay630 (X0_5 m c t) (X0_4 m c t))) (rows288 m c t) (ix2 y0 y1)
      = tapPart V0 ⟨y0.val / 8, by omega⟩ ⟨y0.val % 8, by omega⟩ y1 ⟨t.val, lt_of_lt_of_eq t.isLt N_0⟩ := by
  unfold tapSum tapPart
  refine (chain_eq _ 32).trans (Finset.sum_congr rfl fun n _ => ?_)
  refine congrArg₂ (fun a b : EReal => a * b) ?_ ?_
  · unfold rows256
    refine (dif_pos ⟨show 8 * n.val + y0.val % 8 < 256 by omega, y1.2⟩).trans ?_
    refine (prod_at _ _ (⟨8 * n.val + y0.val % 8, by omega⟩ : Fin 256) y1).trans ?_
    rw [a_at S t _ y1, gate_at S t _ y1]
    rfl
  · refine (rows288_at S H t (30 - y0.val / 8 + 8 * n.val + y0.val % 8) (by omega) y1).trans ?_
    exact congrArg (dcv V0 (seq t) y1) (by dsimp only; omega)

theorem final10 : (dats m 0 c).arrAt 10 (cfgs 0).N = tapSums V0 := by
  refine (dats m 0 c).arrAt_eq_of_after_last 10 tlast (by decide +kernel) _ fun j => ?_
  blk_simp
  rw [after_10]
  have h := Pipeline.eq_sum_fin_of_reset_step_apply_last (fun n h => (outsAt m c n h).2.1) 32 (fun _ => (0 : EReal))
    (fun (t : Fin cfg0.N) (y : S248x1024.Idx) => tapPart V0 ⟨(y 0).val / 8, by have : (y 0).val < 248 := (y 0).isLt; omega⟩ ⟨(y 0).val % 8, by omega⟩
      (y 1 : Fin 1024) ⟨t.val, lt_of_lt_of_eq t.isLt N_0⟩)
    (fun t h y => by
      rw [outsAt_first m c t (first_pt t h)]
      idx_vars y
      exact congrArg₂ (fun a b : EReal => a + b) (start2 _) (tap_at S H t y0 y1))
    (fun t h y => by
      rw [outsAt_next m c t (next_pt t h)]
      idx_vars y
      exact congrArg (fun b : EReal => _ + b) (tap_at S H t y0 y1))
    (le_of_eq N_0) tlast N_0.symm j
  refine h.trans ?_
  rw [zero_add]
  exact sum_N _

end Cert.Kernel6Ideal.Conv
-- ==== Proof.ConvRun.lean ====
module

public import proofs.«01_k».proof.Proof.ConvTaps

/-! What the whole kernel program leaves: the five results, its arguments and the counters. -/

@[expose] public section

set_option maxRecDepth 16384

noncomputable section

namespace Cert.Kernel6Ideal.Conv

open Idealize.ShloMosaic Idealize.ShloMosaic.TcCoe Idealize.SL.Sem Cert.Kernel6Ideal.Gen

variable (m : (ℓ : Loc nD τ sig) → Buf (Elt Ideal) ℓ) (ρ : Dev nD → PrngReg)

theorem tail_taps (c : Dev nD) : Pipeline.afterTail₀ cfgs (dats m) 0 (V0 m) [hostOps1] c main_v43 = fold8 ((dats m 0 c).arrAt 10 (cfgs 0).N) := by
  unfold Pipeline.afterTail₀
  simp only [List.flatten_cons, List.flatten_nil, List.append_nil, hostOps1]
  after_results_simp
  exact congrArg fold8 ((dats m 0 c).withArrays_arrAt sharedIn0 (V0 m c) (A_eq m c) 10)

theorem run_all : θ_run defs (onTc (τ := τ) (main (F := Ideal))) ⟨m, fun _ => 0, ρ⟩ (fun r => (∀ c : Dev nD,
      r.2.mem ((c.tc : Thread nD τ).loc main_v41_0) = (dats m 0 c).arrAt 9 (cfgs 0).N
      ∧ r.2.mem ((c.tc : Thread nD τ).loc main_v43) = fold8 ((dats m 0 c).arrAt 10 (cfgs 0).N)
      ∧ r.2.mem ((c.tc : Thread nD τ).loc main_v41_2) = (dats m 0 c).arrAt 11 (cfgs 0).N
      ∧ r.2.mem ((c.tc : Thread nD τ).loc main_v41_3) = (dats m 0 c).arrAt 12 (cfgs 0).N
      ∧ r.2.mem ((c.tc : Thread nD τ).loc main_v41_4) = (dats m 0 c).arrAt 13 (cfgs 0).N)
      ∧ r.2.sem = fun _ => 0) :=
  (θ_run defs _ _).mono (fun _ h => ⟨fun c => ⟨(h.1 c).1 9,
    ((h.1 c).2 main_v43 (Pipeline.mem_restRefs_of main_v43 (by decide) (by decide))).trans (tail_taps m c),
    (h.1 c).1 11, (h.1 c).1 12, (h.1 c).1 13⟩, h.2⟩) (run_main m ρ)

theorem run_blocks : θ_run defs (onTc (τ := τ) (main (F := Ideal))) ⟨m, fun _ => 0, ρ⟩ (fun r => ∀ c : Dev nD,
      r.2.mem ((c.tc : Thread nD τ).loc main_v41_0) = (dats m 0 c).arrAt 9 (cfgs 0).N
      ∧ r.2.mem ((c.tc : Thread nD τ).loc main_v43) = fold8 ((dats m 0 c).arrAt 10 (cfgs 0).N)
      ∧ r.2.mem ((c.tc : Thread nD τ).loc main_v41_2) = (dats m 0 c).arrAt 11 (cfgs 0).N
      ∧ r.2.mem ((c.tc : Thread nD τ).loc main_v41_3) = (dats m 0 c).arrAt 12 (cfgs 0).N
      ∧ r.2.mem ((c.tc : Thread nD τ).loc main_v41_4) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1.1 c).1, (h.1.1 c).2.1, (h.1.1 c).2.2.1, (h.1.1 c).2.2.2.1, (h.1.1 c).2.2.2.2, h.2.1 c⟩)
    (θ_run_and (run_all m ρ) (frame m ρ))

end Cert.Kernel6Ideal.Conv
-- ==== Proof.ConvPre.lean ====
module

public import proofs.«01_k».proof.Proof.ConvGrid
public import proofs.«01_k».proof.Proof.Gen.Pre_finite_conv
public import Idealize.ShloMosaic.Lib.Claim

/-! What the precondition of the convolution's claim says of each argument. -/

@[expose] public section

set_option maxRecDepth 16384

noncomputable section

namespace Cert.Kernel6Ideal.Conv

open Idealize.ShloMosaic
open Cert.Pre_finite_conv (S8192x5376 S8192x1024 S31x1024 S1x1024 S24609x1024)

/-- Six arrays one under the other. -/
abbrev stack (x0 x1 x2 : FVec Ideal S8192x1024 .f32) (x3 : FVec Ideal S31x1024 .f32) (x4 x5 : FVec Ideal S1x1024 .f32) : FVec Ideal S24609x1024 .f32 :=
  concatenate S24609x1024 0 [⟨S8192x1024, x0⟩, ⟨S8192x1024, x1⟩, ⟨S8192x1024, x2⟩, ⟨S31x1024, x3⟩, ⟨S1x1024, x4⟩, ⟨S1x1024, x5⟩]
    Cert.Pre_finite_conv.Facts.concatenates_S8192x1024_S8192x1024_S8192x1024_S31x1024_S1x1024_S1x1024_S24609x1024_d0

section stack
variable (x0 x1 x2 : FVec Ideal S8192x1024 .f32) (x3 : FVec Ideal S31x1024 .f32) (x4 x5 : FVec Ideal S1x1024 .f32)
theorem stack_0 (n : Fin 8192) (k : Fin 1024) : stack x0 x1 x2 x3 x4 x5 (ix2 ⟨n.val, by omega⟩ k) = x0 (ix2 n k) := by pointwise
theorem stack_1 (n : Fin 8192) (k : Fin 1024) : stack x0 x1 x2 x3 x4 x5 (ix2 ⟨8192 + n.val, by omega⟩ k) = x1 (ix2 n k) := by pointwise
theorem stack_2 (n : Fin 8192) (k : Fin 1024) : stack x0 x1 x2 x3 x4 x5 (ix2 ⟨16384 + n.val, by omega⟩ k) = x2 (ix2 n k) := by
  pointwise
  rw [dif_neg (by omega), dif_neg (by omega), dif_pos (by omega)]
  blk_ext!
theorem stack_3 (n : Fin 31) (k : Fin 1024) : stack x0 x1 x2 x3 x4 x5 (ix2 ⟨24576 + n.val, by omega⟩ k) = x3 (ix2 n k) := by
  pointwise
  rw [dif_neg (by omega), dif_neg (by omega), dif_neg (by omega), dif_pos (by omega)]
  blk_ext!
theorem stack_4 (k : Fin 1024) : stack x0 x1 x2 x3 x4 x5 (ix2 ⟨24607, by omega⟩ k) = x4 (ix2 0 k) := by pointwise
theorem stack_5 (k : Fin 1024) : stack x0 x1 x2 x3 x4 x5 (ix2 ⟨24608, by omega⟩ k) = x5 (ix2 0 k) := by pointwise
end stack

variable (V0 : Valuation Cert.Reference6Ideal.τ Cert.Reference6Ideal.sig (Elt Ideal))

abbrev tokU : FVec Ideal S8192x5376 .f32 := shapeCast S8192x5376 (ru V0) Cert.Pre_finite_conv.Facts.shapeCasts_S4x2048x5376_S8192x5376

/-- The rows the precondition speaks of. -/
abbrev rowsOf : FVec Ideal S24609x1024 .f32 :=
  stack (extractStridedSlice S8192x1024 ![0, 0] (tokU V0) Cert.Pre_finite_conv.Facts.slices_S8192x5376_S8192x1024_0_0)
    (extractStridedSlice S8192x1024 ![0, 1024] (tokU V0) Cert.Pre_finite_conv.Facts.slices_S8192x5376_S8192x1024_0_1024)
    (shapeCast S8192x1024 (rd V0) Cert.Pre_finite_conv.Facts.shapeCasts_S4x2048x1024_S8192x1024)
    (shapeCast S31x1024 (rw31 V0) Cert.Pre_finite_conv.Facts.shapeCasts_S31x1x1024_S31x1024)
    (shapeCast S1x1024 (rb V0) Cert.Pre_finite_conv.Facts.shapeCasts_S1024_S1x1024)
    (shapeCast S1x1024 (rg V0) Cert.Pre_finite_conv.Facts.shapeCasts_S1024_S1x1024)

theorem tokU_at (b : Fin 4) (s : Fin 2048) (k : Fin 5376) : tokU V0 (ix2 ⟨2048 * b.val + s.val, by omega⟩ k) = ru V0 (ix3 b s k) := by
  pointwise

theorem tokD_at (b : Fin 4) (s : Fin 2048) (k : Fin 1024) :
    shapeCast S8192x1024 (rd V0) Cert.Pre_finite_conv.Facts.shapeCasts_S4x2048x1024_S8192x1024 (ix2 ⟨2048 * b.val + s.val, by omega⟩ k) = rd V0 (ix3 b s k) := by
  pointwise

theorem left_col (x : FVec Ideal S8192x5376 .f32) (n : Fin 8192) (k : Fin 1024) :
    extractStridedSlice S8192x1024 ![0, 0] x Cert.Pre_finite_conv.Facts.slices_S8192x5376_S8192x1024_0_0 (ix2 n k) = x (ix2 n ⟨k.val, by omega⟩) := by pointwise
theorem right_col (x : FVec Ideal S8192x5376 .f32) (n : Fin 8192) (k : Fin 1024) :
    extractStridedSlice S8192x1024 ![0, 1024] x Cert.Pre_finite_conv.Facts.slices_S8192x5376_S8192x1024_0_1024 (ix2 n k) = x (ix2 n ⟨1024 + k.val, by omega⟩) := by pointwise
theorem tap_row (j : Fin 31) (k : Fin 1024) : shapeCast S31x1024 (rw31 V0) Cert.Pre_finite_conv.Facts.shapeCasts_S31x1x1024_S31x1024 (ix2 j k) = rw31 V0 (ix3 j 0 k) := by pointwise
theorem one_row (x : FVec Ideal Cert.Pre_finite_conv.S1024 .f32) (k : Fin 1024) :
    shapeCast S1x1024 x Cert.Pre_finite_conv.Facts.shapeCasts_S1024_S1x1024 (ix2 0 k) = x (ix1 k) := by pointwise

theorem finite_of (h : ∀ j, Re (rowsOf V0 j)) : Finite V0 where
  u b s k := by
    by_cases hk : k.val < 1024
    · exact (congrArg Re ((stack_0 _ _ _ _ _ _ ⟨2048 * b.val + s.val, by omega⟩ ⟨k.val, hk⟩).trans ((left_col _ _ _).trans (tokU_at V0 b s _)))).mp (h _)
    · exact (congrArg Re ((stack_1 _ _ _ _ _ _ ⟨2048 * b.val + s.val, by omega⟩ ⟨k.val - 1024, by omega⟩).trans ((right_col _ _ _).trans
        ((tokU_at V0 b s _).trans (congrArg (fun n => ru V0 (ix3 b s n)) (Fin.ext (by dsimp only; omega))))))).mp (h _)
  w j k := (congrArg Re ((stack_3 _ _ _ _ _ _ j k).trans (tap_row V0 j k))).mp (h _)
  b k := (congrArg Re ((stack_4 _ _ _ _ _ _ k).trans (one_row _ k))).mp (h _)
  g k := (congrArg Re ((stack_5 _ _ _ _ _ _ k).trans (one_row _ k))).mp (h _)
  d b s k := (congrArg Re ((stack_2 _ _ _ _ _ _ ⟨2048 * b.val + s.val, by omega⟩ k).trans (tokD_at V0 b s k))).mp (h _)

theorem rows_real (h : Cert.Pre_finite_conv.fn (F := Ideal) (ru V0) (rw31 V0) (rb V0) (rg V0) (rl V0) (rd V0) = fun _ => 1#1)
    (j : S24609x1024.Idx) : Re (rowsOf V0 j) := by
  have := congrFun h j
  dsimp only [Cert.Pre_finite_conv.fn] at this
  exact Cert.Arith.real_of_olt _ _ j rfl this

end Cert.Kernel6Ideal.Conv
-- ==== Proof.ConvClaim.lean ====
module

public import proofs.«01_k».proof.Defs
public import proofs.«01_k».proof.Proof.ConvRun
public import proofs.«01_k».proof.Proof.ConvPre
public import proofs.«01_k».proof.Proof.Gen.Kernel6
public import Idealize.ShloMosaic.Lib.Claim

/-! The claims about the convolution's gradients, from the runs. -/

@[expose] public section

set_option maxRecDepth 16384

noncomputable section

namespace Cert.Proof

open Idealize.ShloMosaic Idealize.SL.Sem

theorem frame_kernel6_ideal : Cert.quiescent_Kernel6Ideal := fun m ρ _ => Cert.Kernel6Ideal.Conv.frame m ρ
theorem frame_kernel6_ideal' : Cert.quiescent_Kernel6Ideal_pre_finite_conv := fun m ρ _ => Cert.Kernel6Ideal.Conv.frame m ρ

/-- The program over machine words is the same text, so the same run serves. -/
theorem frame_kernel6 : Cert.quiescent_Kernel6 := by
  intro m ρ _
  have h := Cert.Kernel6Ideal.Conv.frame (F := Bits) m ρ
  refine cast ?_ h
  sl_kernel_rfl

theorem frame_reference6 : Cert.quiescent_Reference6Ideal := by
  intro m g _
  exact (θ_run Cert.Reference6Ideal.defs _ _).mono (fun r h => ⟨fun c => (h c).2.2.2.2.2, sem_eq_zero_of_no_sems (by decide) r.2⟩) (Cert.Reference6Ideal.Value.run m g)
theorem frame_reference6' : Cert.quiescent_Reference6Ideal_pre_finite_conv := by
  intro m g _
  exact (θ_run Cert.Reference6Ideal.defs _ _).mono (fun r h => ⟨fun c => (h c).2.2.2.2.2, sem_eq_zero_of_no_sems (by decide) r.2⟩) (Cert.Reference6Ideal.Value.run m g)

section agree
variable (m : (ℓ : Loc Cert.Kernel6Ideal.nD Cert.Kernel6Ideal.τ Cert.Kernel6Ideal.sig) → Buf (Elt Ideal) ℓ) (c : Dev Cert.Kernel6Ideal.nD)
  (V0 : Valuation Cert.Reference6Ideal.τ Cert.Reference6Ideal.sig (Elt Ideal))

theorem finite6 (S : Cert.Kernel6Ideal.Conv.Same V0 m c) (h : Cert.Pre_Kernel6Ideal_finite_conv m) : Cert.Kernel6Ideal.Conv.Finite V0 := by
  refine Cert.Kernel6Ideal.Conv.finite_of V0 (Cert.Kernel6Ideal.Conv.rows_real V0 ?_)
  rw [S.u, S.w, S.b, S.g, S.l, S.d]
  exact h c

end agree

theorem algebraic6 : Cert.algebraic_Kernel6Ideal_Reference6Ideal_pre_finite_conv := by
  pair_intro
  · run_from Cert.Kernel6Ideal.Conv.run_blocks m g
  · run_from Cert.Reference6Ideal.Value.run m' g'
    all_goals
      obtain ⟨h0, h1, h2, h3, h4, h5⟩ := hagree c
      have S : Cert.Kernel6Ideal.Conv.Same (StableHlo.launchContents m' c) m c := ⟨h0, h1, h2, h3, h4, h5⟩
      have H := finite6 m c _ S hpre
    · exact (Cert.Kernel6Ideal.Conv.final9 S H).symm
    · exact ((congrArg Cert.Kernel6Ideal.Conv.fold8 (Cert.Kernel6Ideal.Conv.final10 S H)).trans (Cert.Kernel6Ideal.Conv.fold8_tapSums _)).symm
    · exact (Cert.Kernel6Ideal.Conv.final11 S H).symm
    · exact (Cert.Kernel6Ideal.Conv.final12 S H).symm
    · exact (Cert.Kernel6Ideal.Conv.final13 S H).symm

end Cert.Proof
-- ==== Proof.AttnTrip.lean ====
module

public import proofs.«01_k».proof.Proof.Gen.Kernel7Ideal.Loops
public import Idealize.ShloMosaic.Lib.Pipeline.ValueKit.Tiles
public import Idealize.ShloMosaic.Lib.Pointwise

/-! One trip of the forward attention kernel: eight blocks of 128 queries, each against its window of 256 keys. What a
    trip reads is given by functions of rows and columns, and so is everything it writes. -/

@[expose] public section

set_option maxRecDepth 16384

noncomputable section

namespace Cert.Kernel7Ideal.Attn

open Idealize.ShloMosaic Idealize.ShloMosaic.TcCoe Idealize.ShloMosaic.Tactic Cert.Kernel7Ideal.Gen

variable {F : FTy → Type} [FloatOps F] [Named F]

section
variable (v2 : IVec S1x128 1) (v273 : Vec F S1x128 .f32) (Q KA KB VA VB : ℕ → ℕ → F .bf16) (SK : ℕ → F .f32)
  (BT : ℕ → ℕ → ℕ → ℕ → F .f32)

/-- Block `n`'s normalised queries: four pairs of heads, one under the other. -/
def QN (n r c : ℕ) : F .bf16 :=
  k0_pay13 v2 (k0_pay4 v273) (fun z => Q (128 * n + (z 0).val) (128 * (r / 128) + (z 1).val)) (ix3 0 (Fin.ofNat 128 r) (Fin.ofNat 128 c))

/-- The window's keys for one half of the lanes and, under them, for the other. -/
def KK (n : ℕ) : FVec F S512x128 .bf16 :=
  k0_pay6 (fun z => KA (128 * n + (z 0).val) (z 1).val) (fun z => KB (128 * n + (z 0).val) (z 1).val)

/-- Block `n`'s scores. -/
def SC (n r c : ℕ) : F .f32 :=
  k0_pay16 (k0_pay15 (KK KA KB n) (fun z => QN v2 v273 Q n (z 1).val (z 2).val)) (ix3 0 (Fin.ofNat 512 r) (Fin.ofNat 512 c))

/-- Block `n`'s probabilities. -/
def PR (n r c : ℕ) : F .bf16 :=
  k0_pay17 (SK (2 * (c / 128) + r / 256)) (fun z => SC v2 v273 Q KA KB n (256 * (r / 256) + (z 0).val) (128 * (c / 128) + (z 1).val))
    (fun z => BT (min n 1) (2 * (c / 128) + r / 256) (z 2).val (z 3).val) (ix3 0 (Fin.ofNat 256 r) (Fin.ofNat 128 c))

/-- Block `n`'s result before its rounding: four pairs of heads, one under the other. -/
def OT (n : ℕ) : FVec F S512x128 .f32 :=
  k0_pay35 (KK VA VB n) (fun z => PR v2 v273 Q KA KB SK BT n (z 1).val (z 2).val)

/-- The result. -/
def OUT (R c : ℕ) : F .bf16 :=
  truncf .bf16 (OT v2 v273 Q KA KB VA VB SK BT (R / 128)) bitsLt_bf16_f32 (ix2 (Fin.ofNat 512 (128 * (c / 128) + R % 128)) (Fin.ofNat 128 c))

end

/-! ## Reading back what has been written -/

theorem readCov_of {κ : Kind} {sp : Space} {S : Shape} {e : EltTy} (v : View sig κ sp S e) (G : S.Idx → Elt F e)
    {L : List (View.Piece (Elt F) S e)} (hL : ∀ p ∈ L, ∀ x, p.2 x = G (p.1.emb x)) {B : LoadRect S} (x : B.shape.Idx)
    (hc : ∃ p ∈ L, B.idx x ∈ p.1.set) : v.readCov (Val := Elt F) L B x = G (B.idx x) :=
  View.read_writes_apply_of_pieces v _ G L hL _ hc

theorem ix3_of {a b c : ℕ} (x : (⟨3, ![a, b, c]⟩ : Shape).Idx) (i : Fin a) (j : Fin b) (k : Fin c) (h0 : (x 0).val = i.val)
    (h1 : (x 1).val = j.val) (h2 : (x 2).val = k.val) : x = ix3 i j k :=
  funext fun q => by
    match q with
    | 0 => exact Fin.ext h0
    | 1 => exact Fin.ext h1
    | 2 => exact Fin.ext h2

section
variable {v2 : IVec S1x128 1} {v273 : Vec F S1x128 .f32} {Q KA KB VA VB : ℕ → ℕ → F .bf16} {SK : ℕ → F .f32}
  {BT : ℕ → ℕ → ℕ → ℕ → F .f32} {i : grid0.Coords}
  {arg2 : Memref sig .tc .smem S16 .f32} {arg4 : Memref sig .tc .vmem S2048x512 .bf16}
  {arg10 arg11 arg12 arg13 : Memref sig .tc .vmem S2176x128 .bf16} {arg14 : Memref sig .tc .vmem S2x8x256x128 .f32}
  {arg15 : Memref sig .tc .vmem S8x512x128 .bf16} {arg16 : Memref sig .tc .vmem S8x512x512 .f32} {arg17 : Memref sig .tc .vmem S8x512x512 .bf16}
  {X2 : BufTy.Contents (Elt F) arg2.view.ty} {X4 : BufTy.Contents (Elt F) arg4.view.ty}
  {X10 : BufTy.Contents (Elt F) arg10.view.ty} {X11 : BufTy.Contents (Elt F) arg11.view.ty} {X12 : BufTy.Contents (Elt F) arg12.view.ty}
  {X13 : BufTy.Contents (Elt F) arg13.view.ty} {X14 : BufTy.Contents (Elt F) arg14.view.ty} {k : Fin k0_t1_loop.trips}

/-! ## The queries -/

abbrev G15 (v2 : IVec S1x128 1) (v273 : Vec F S1x128 .f32) (Q : ℕ → ℕ → F .bf16) (k : Fin k0_t1_loop.trips) (y : S8x512x128.Idx) : F .bf16 :=
  QN v2 v273 Q (8 * k.val + (y 0).val) (y 1).val (y 2).val

section
variable (hQ : ∀ y : S2048x512.Idx, arg4.view.read (Elt F) X4 y = Q (y 0).val (y 1).val)
include hQ

theorem qn_piece {off : Fin 2 → ℕ} [o : ClosedOff off] (s q : ℕ) (hq : q % 128 = 0) (ho : o.form = ![1024 * k.val + 128 * s, q])
    (inb : ∀ i, off i + S128x128.size i ≤ S2048x512.size i) (inb' : ∀ i, (![s, q, 0] : Fin 3 → ℕ) i + S1x128x128.size i ≤ S8x512x128.size i)
    (x : S1x128x128.Idx) :
    k0_pay13 v2 (k0_pay4 v273) (View.readAt (Elt F) arg4.view (Rect.unit (s := S2048x512) off S128x128.size inb).toLoadRect X4) x
      = G15 v2 v273 Q k ((Rect.unit (s := S8x512x128) ![s, q, 0] S1x128x128.size inb').emb x) := by
  have h0 : (x 0).val < 1 := (x 0).isLt
  have h1 : (x 1).val < 128 := (x 1).isLt
  have h2 : (x 2).val < 128 := (x 2).isLt
  have e0 : ((Rect.unit (s := S8x512x128) ![s, q, 0] S1x128x128.size inb').emb x 0).val = s := by
    show s + 1 * (x 0).val = s; omega
  have e1 : ((Rect.unit (s := S8x512x128) ![s, q, 0] S1x128x128.size inb').emb x 1).val = q + (x 1).val := by
    show q + 1 * (x 1).val = _; omega
  have e2 : ((Rect.unit (s := S8x512x128) ![s, q, 0] S1x128x128.size inb').emb x 2).val = (x 2).val := by
    show 0 + 1 * (x 2).val = _; omega
  unfold G15 QN
  rw [e0, e1, e2, show 128 * ((q + (x 1).val) / 128) = q by omega]
  refine congrArg₂ (fun f z => k0_pay13 v2 (k0_pay4 v273) f z) (funext fun z => ?_) (ix3_of x _ _ _ ?_ ?_ ?_)
  · refine (hQ ((Rect.unit (s := S2048x512) off S128x128.size inb).idx z)).trans ?_
    have c0 : off 0 = 1024 * k.val + 128 * s := congrFun (o.eq.trans ho) 0
    have c1 : off 1 = q := congrFun (o.eq.trans ho) 1
    rw [Rect.idx_unit_val, Rect.idx_unit_val, c0, c1, show 128 * (8 * k.val + s) = 1024 * k.val + 128 * s by ring]
  · show (x 0).val = 0
    omega
  · show (x 1).val = (q + (x 1).val) % 128
    omega
  · show (x 2).val = (x 2).val % 128
    omega

set_option maxHeartbeats 4000000 in
theorem agree15 : ∀ p ∈ trip_k0_t1.sl.HW_arg15_32 arg4 v2 v273 X4 k, ∀ x, p.2 x = G15 v2 v273 Q k (p.1.emb x) := by
  unfold trip_k0_t1.sl.HW_arg15_32 trip_k0_t1.sl.HW_arg15_28 trip_k0_t1.sl.HW_arg15_24 trip_k0_t1.sl.HW_arg15_20
    trip_k0_t1.sl.HW_arg15_16 trip_k0_t1.sl.HW_arg15_12 trip_k0_t1.sl.HW_arg15_8 trip_k0_t1.sl.HW_arg15_4
  simp only [List.forall_mem_cons, List.not_mem_nil, false_implies, implies_true, and_true]
  repeat' apply And.intro
  all_goals
    intro x
    exact qn_piece hQ _ _ rfl rfl _ _ x

end

end

end Cert.Kernel7Ideal.Attn
-- ==== Proof.AttnScore.lean ====
module

public import proofs.«01_k».proof.Proof.AttnTrip

/-! The scores a trip writes. -/

@[expose] public section

set_option maxRecDepth 16384

noncomputable section

namespace Cert.Kernel7Ideal.Attn

open Idealize.ShloMosaic Idealize.ShloMosaic.TcCoe Idealize.ShloMosaic.Tactic Cert.Kernel7Ideal.Gen

variable {F : FTy → Type} [FloatOps F] [Named F]

section
variable {v2 : IVec S1x128 1} {v273 : Vec F S1x128 .f32} {Q KA KB VA VB : ℕ → ℕ → F .bf16} {SK : ℕ → F .f32}
  {BT : ℕ → ℕ → ℕ → ℕ → F .f32} {i : grid0.Coords}
  {arg2 : Memref sig .tc .smem S16 .f32} {arg4 : Memref sig .tc .vmem S2048x512 .bf16}
  {arg10 arg11 arg12 arg13 : Memref sig .tc .vmem S2176x128 .bf16} {arg14 : Memref sig .tc .vmem S2x8x256x128 .f32}
  {arg15 : Memref sig .tc .vmem S8x512x128 .bf16} {arg16 : Memref sig .tc .vmem S8x512x512 .f32} {arg17 : Memref sig .tc .vmem S8x512x512 .bf16}
  {X2 : BufTy.Contents (Elt F) arg2.view.ty} {X4 : BufTy.Contents (Elt F) arg4.view.ty}
  {X10 : BufTy.Contents (Elt F) arg10.view.ty} {X11 : BufTy.Contents (Elt F) arg11.view.ty} {X12 : BufTy.Contents (Elt F) arg12.view.ty}
  {X13 : BufTy.Contents (Elt F) arg13.view.ty} {X14 : BufTy.Contents (Elt F) arg14.view.ty} {k : Fin k0_t1_loop.trips}

/-! ## The scores -/

theorem cover15 (s : ℕ) (i3 i2 i1 i0 w3 w2 w1 w0) (L : List (View.Piece (Elt F) S8x512x128 .bf16)) (y : S8x512x128.Idx) (hy : (y 0).val = s) :
    ∃ p ∈ (⟨Rect.unit ![s, 384, 0] S1x128x128.size i3, w3⟩ :: ⟨Rect.unit ![s, 256, 0] S1x128x128.size i2, w2⟩
      :: ⟨Rect.unit ![s, 128, 0] S1x128x128.size i1, w1⟩ :: ⟨Rect.unit ![s, 0, 0] S1x128x128.size i0, w0⟩ :: L : List (View.Piece (Elt F) S8x512x128 .bf16)),
      y ∈ p.1.set := by
  have h1 : (y 1).val < 512 := (y 1).isLt
  have h2 : (y 2).val < 128 := (y 2).isLt
  have hit : ∀ r : ℕ, r ≤ (y 1).val → (y 1).val < r + 128 → ∀ inb, y ∈ (Rect.unit (s := S8x512x128) ![s, r, 0] S1x128x128.size inb).set := by
    intro r ha hb inb
    refine Rect.mem_set_unit.2 fun a => ?_
    match a with
    | 0 => exact ⟨hy.ge, by show (y 0).val < s + 1; omega⟩
    | 1 => exact ⟨ha, hb⟩
    | 2 => exact ⟨Nat.zero_le _, by show (y 2).val < 0 + 128; omega⟩
  simp only [List.exists_mem_cons_iff]
  by_cases a3 : 384 ≤ (y 1).val
  · exact .inl (hit _ a3 (by omega) _)
  by_cases a2 : 256 ≤ (y 1).val
  · exact .inr (.inl (hit _ a2 (by omega) _))
  by_cases a1 : 128 ≤ (y 1).val
  · exact .inr (.inr (.inl (hit _ a1 (by omega) _)))
  · exact .inr (.inr (.inr (.inl (hit _ (Nat.zero_le _) (by omega) _))))

theorem win_read {arg : Memref sig .tc .vmem S2176x128 .bf16} {X : BufTy.Contents (Elt F) arg.view.ty} {K : ℕ → ℕ → F .bf16}
    (hK : ∀ y : S2176x128.Idx, arg.view.read (Elt F) X y = K (y 0).val (y 1).val) {off : Fin 2 → ℕ} [o : ClosedOff off] (s : ℕ)
    (ho : o.form = ![1024 * k.val + 128 * s, 0]) (inb : ∀ i, off i + S256x128.size i ≤ S2176x128.size i) :
    View.readAt (Elt F) arg.view (Rect.unit (s := S2176x128) off S256x128.size inb).toLoadRect X
      = fun z => K (128 * (8 * k.val + s) + (z 0).val) (z 1).val := by
  funext z
  refine (hK ((Rect.unit (s := S2176x128) off S256x128.size inb).idx z)).trans ?_
  have c0 : off 0 = 1024 * k.val + 128 * s := congrFun (o.eq.trans ho) 0
  have c1 : off 1 = 0 := congrFun (o.eq.trans ho) 1
  rw [Rect.idx_unit_val, Rect.idx_unit_val, c0, c1, show 128 * (8 * k.val + s) = 1024 * k.val + 128 * s by ring, Nat.zero_add]

abbrev G16 (v2 : IVec S1x128 1) (v273 : Vec F S1x128 .f32) (Q KA KB : ℕ → ℕ → F .bf16) (k : Fin k0_t1_loop.trips) (y : S8x512x512.Idx) : F .f32 :=
  SC v2 v273 Q KA KB (8 * k.val + (y 0).val) (y 1).val (y 2).val

theorem sc_piece (hA : ∀ y : S2176x128.Idx, arg10.view.read (Elt F) X10 y = KA (y 0).val (y 1).val)
    (hB : ∀ y : S2176x128.Idx, arg11.view.read (Elt F) X11 y = KB (y 0).val (y 1).val) {off : Fin 2 → ℕ} [o : ClosedOff off] (s : ℕ)
    (ho : o.form = ![1024 * k.val + 128 * s, 0]) (inb : ∀ i, off i + S256x128.size i ≤ S2176x128.size i)
    {L : List (View.Piece (Elt F) S8x512x128 .bf16)} (hL : ∀ p ∈ L, ∀ x, p.2 x = G15 v2 v273 Q k (p.1.emb x))
    (hc : ∀ y : S8x512x128.Idx, (y 0).val = s → ∃ p ∈ L, y ∈ p.1.set)
    (inb1 : ∀ i, (![s, 0, 0] : Fin 3 → ℕ) i + S1x512x128.size i ≤ S8x512x128.size i)
    (inb' : ∀ i, (![s, 0, 0] : Fin 3 → ℕ) i + S1x512x512.size i ≤ S8x512x512.size i) (x : S1x512x512.Idx) :
    k0_pay16 (k0_pay15 (k0_pay6 (View.readAt (Elt F) arg10.view (Rect.unit (s := S2176x128) off S256x128.size inb).toLoadRect X10)
        (View.readAt (Elt F) arg11.view (Rect.unit (s := S2176x128) off S256x128.size inb).toLoadRect X11))
        (arg15.view.readCov (Val := Elt F) L (Rect.unit (s := S8x512x128) ![s, 0, 0] S1x512x128.size inb1).toLoadRect)) x
      = G16 v2 v273 Q KA KB k ((Rect.unit (s := S8x512x512) ![s, 0, 0] S1x512x512.size inb').emb x) := by
  have h0 : (x 0).val < 1 := (x 0).isLt
  have h1 : (x 1).val < 512 := (x 1).isLt
  have h2 : (x 2).val < 512 := (x 2).isLt
  have e0 : ((Rect.unit (s := S8x512x512) ![s, 0, 0] S1x512x512.size inb').emb x 0).val = s := by
    show s + 1 * (x 0).val = s; omega
  have e1 : ((Rect.unit (s := S8x512x512) ![s, 0, 0] S1x512x512.size inb').emb x 1).val = (x 1).val := by
    show 0 + 1 * (x 1).val = _; omega
  have e2 : ((Rect.unit (s := S8x512x512) ![s, 0, 0] S1x512x512.size inb').emb x 2).val = (x 2).val := by
    show 0 + 1 * (x 2).val = _; omega
  have hq : arg15.view.readCov (Val := Elt F) L (Rect.unit (s := S8x512x128) ![s, 0, 0] S1x512x128.size inb1).toLoadRect
      = fun z => QN v2 v273 Q (8 * k.val + s) (z 1).val (z 2).val := by
    funext z
    have z0 : (z 0).val < 1 := (z 0).isLt
    have f0 : ((Rect.unit (s := S8x512x128) ![s, 0, 0] S1x512x128.size inb1).idx z 0).val = s := by
      rw [Rect.idx_unit_val]; show s + (z 0).val = s; omega
    have f1 : ((Rect.unit (s := S8x512x128) ![s, 0, 0] S1x512x128.size inb1).idx z 1).val = (z 1).val := by
      rw [Rect.idx_unit_val]; exact Nat.zero_add _
    have f2 : ((Rect.unit (s := S8x512x128) ![s, 0, 0] S1x512x128.size inb1).idx z 2).val = (z 2).val := by
      rw [Rect.idx_unit_val]; exact Nat.zero_add _
    refine (readCov_of arg15.view (G15 v2 v273 Q k) hL z (hc _ f0)).trans ?_
    show QN v2 v273 Q (8 * k.val + ((Rect.unit (s := S8x512x128) ![s, 0, 0] S1x512x128.size inb1).idx z 0).val)
      ((Rect.unit (s := S8x512x128) ![s, 0, 0] S1x512x128.size inb1).idx z 1).val
      ((Rect.unit (s := S8x512x128) ![s, 0, 0] S1x512x128.size inb1).idx z 2).val = _
    rw [f0, f1, f2]
  unfold G16 SC KK
  rw [e0, e1, e2, hq, win_read hA s ho, win_read hB s ho]
  refine congrArg (k0_pay16 _) (ix3_of x _ _ _ ?_ ?_ ?_)
  · show (x 0).val = 0
    omega
  · show (x 1).val = (x 1).val % 512
    omega
  · show (x 2).val = (x 2).val % 512
    omega

set_option maxHeartbeats 4000000 in
theorem agree16 (hQ : ∀ y : S2048x512.Idx, arg4.view.read (Elt F) X4 y = Q (y 0).val (y 1).val)
    (hA : ∀ y : S2176x128.Idx, arg10.view.read (Elt F) X10 y = KA (y 0).val (y 1).val)
    (hB : ∀ y : S2176x128.Idx, arg11.view.read (Elt F) X11 y = KB (y 0).val (y 1).val) :
    ∀ p ∈ trip_k0_t1.sl.HW_arg16_8 arg4 arg10 arg11 arg15 v2 v273 X4 X10 X11 k, ∀ x, p.2 x = G16 v2 v273 Q KA KB k (p.1.emb x) := by
  have H := agree15 (v2 := v2) (v273 := v273) (k := k) hQ
  unfold trip_k0_t1.sl.HW_arg16_8 trip_k0_t1.sl.HW_arg16_7 trip_k0_t1.sl.HW_arg16_6 trip_k0_t1.sl.HW_arg16_5
    trip_k0_t1.sl.HW_arg16_4 trip_k0_t1.sl.HW_arg16_3 trip_k0_t1.sl.HW_arg16_2 trip_k0_t1.sl.HW_arg16_1
  simp only [List.forall_mem_cons, List.not_mem_nil, false_implies, implies_true, and_true]
  repeat' apply And.intro
  all_goals
    intro x
    refine sc_piece hA hB _ rfl _ (fun p hp => H p ?_) (fun y hy => ?_) _ _ x
    rotate_left
    · exact cover15 _ _ _ _ _ _ _ _ _ _ y hy
    · repeat' first
        | exact hp
        | refine List.mem_cons_of_mem _ ?_

end

end Cert.Kernel7Ideal.Attn
-- ==== Proof.AttnProb.lean ====
module

public import proofs.«01_k».proof.Proof.AttnScore

/-! The probabilities and the result a trip writes. -/

@[expose] public section

set_option maxRecDepth 16384

noncomputable section

namespace Cert.Kernel7Ideal.Attn

open Idealize.ShloMosaic Idealize.ShloMosaic.TcCoe Idealize.ShloMosaic.Tactic Cert.Kernel7Ideal.Gen

variable {F : FTy → Type} [FloatOps F] [Named F]

section
variable {v2 : IVec S1x128 1} {v273 : Vec F S1x128 .f32} {Q KA KB VA VB : ℕ → ℕ → F .bf16} {SK : ℕ → F .f32}
  {BT : ℕ → ℕ → ℕ → ℕ → F .f32} {i : grid0.Coords}
  {arg2 : Memref sig .tc .smem S16 .f32} {arg4 : Memref sig .tc .vmem S2048x512 .bf16}
  {arg10 arg11 arg12 arg13 : Memref sig .tc .vmem S2176x128 .bf16} {arg14 : Memref sig .tc .vmem S2x8x256x128 .f32}
  {arg15 : Memref sig .tc .vmem S8x512x128 .bf16} {arg16 : Memref sig .tc .vmem S8x512x512 .f32} {arg17 : Memref sig .tc .vmem S8x512x512 .bf16}
  {X2 : BufTy.Contents (Elt F) arg2.view.ty} {X4 : BufTy.Contents (Elt F) arg4.view.ty}
  {X10 : BufTy.Contents (Elt F) arg10.view.ty} {X11 : BufTy.Contents (Elt F) arg11.view.ty} {X12 : BufTy.Contents (Elt F) arg12.view.ty}
  {X13 : BufTy.Contents (Elt F) arg13.view.ty} {X14 : BufTy.Contents (Elt F) arg14.view.ty} {k : Fin k0_t1_loop.trips}

/-! ## The probabilities -/

theorem sc_read {L : List (View.Piece (Elt F) S8x512x512 .f32)} (hL : ∀ p ∈ L, ∀ x, p.2 x = G16 v2 v273 Q KA KB k (p.1.emb x)) {s rr cc : ℕ}
    (hc : ∀ y : S8x512x512.Idx, (y 0).val = s → ∃ p ∈ L, y ∈ p.1.set)
    (inb1 : ∀ i, (![s, 0, 0] : Fin 3 → ℕ) i + S1x512x512.size i ≤ S8x512x512.size i)
    (inb2 : ∀ i, (![rr, cc] : Fin 2 → ℕ) i + S256x128.size i ≤ S512x512.size i) (h0 hs hu)
    (hR : (Rect.unit (s := S512x512) ![rr, cc] S256x128.size inb2).toLoadRect.shape.numel
      = ((Rect.unit (s := S8x512x512) ![s, 0, 0] S1x512x512.size inb1).withinL
          ((Rect.unit (s := S512x512) ![rr, cc] S256x128.size inb2).toLoadRect.consLift ![1, 512, 512] h0 hs) hu).shape.numel) (z : S256x128.Idx) :
    LoadRect.valAlong hR (arg16.view.readCov (Val := Elt F) L ((Rect.unit (s := S8x512x512) ![s, 0, 0] S1x512x512.size inb1).withinL
          ((Rect.unit (s := S512x512) ![rr, cc] S256x128.size inb2).toLoadRect.consLift ![1, 512, 512] h0 hs) hu)) z
      = SC v2 v273 Q KA KB (8 * k.val + s) (rr + (z 0).val) (cc + (z 1).val) := by
  have hz : Shape.reshapeEquiv hR z = Fin.cons ⟨0, Nat.one_pos⟩ z := Shape.reshapeEquiv_cons_one (d := S256x128.size) _ _
  show arg16.view.readCov (Val := Elt F) L _ (Shape.reshapeEquiv hR z) = _
  rw [hz]
  have f0 : (((Rect.unit (s := S8x512x512) ![s, 0, 0] S1x512x512.size inb1).withinL
          ((Rect.unit (s := S512x512) ![rr, cc] S256x128.size inb2).toLoadRect.consLift ![1, 512, 512] h0 hs) hu).idx (Fin.cons ⟨0, Nat.one_pos⟩ z) 0).val = s := by
    show s + 0 + 1 * 0 = s
    omega
  have f1 : (((Rect.unit (s := S8x512x512) ![s, 0, 0] S1x512x512.size inb1).withinL
          ((Rect.unit (s := S512x512) ![rr, cc] S256x128.size inb2).toLoadRect.consLift ![1, 512, 512] h0 hs) hu).idx (Fin.cons ⟨0, Nat.one_pos⟩ z) 1).val
        = rr + (z 0).val := by
    show 0 + rr + 1 * (z 0).val = _
    omega
  have f2 : (((Rect.unit (s := S8x512x512) ![s, 0, 0] S1x512x512.size inb1).withinL
          ((Rect.unit (s := S512x512) ![rr, cc] S256x128.size inb2).toLoadRect.consLift ![1, 512, 512] h0 hs) hu).idx (Fin.cons ⟨0, Nat.one_pos⟩ z) 2).val
        = cc + (z 1).val := by
    show 0 + cc + 1 * (z 1).val = _
    omega
  refine (readCov_of arg16.view (G16 v2 v273 Q KA KB k) hL _ (hc _ f0)).trans ?_
  show SC v2 v273 Q KA KB (8 * k.val + (_ : Fin _).val) (_ : Fin _).val (_ : Fin _).val = _
  rw [f0, f1, f2]

theorem cover16 (s : ℕ) (i0 w0) (L : List (View.Piece (Elt F) S8x512x512 .f32)) (y : S8x512x512.Idx) (hy : (y 0).val = s) :
    ∃ p ∈ (⟨Rect.unit ![s, 0, 0] S1x512x512.size i0, w0⟩ :: L : List (View.Piece (Elt F) S8x512x512 .f32)), y ∈ p.1.set := by
  refine (List.exists_mem_cons_iff _ _ _).2 (.inl ?_)
  show y ∈ (Rect.unit (s := S8x512x512) ![s, 0, 0] S1x512x512.size i0).set
  refine Rect.mem_set_unit.2 fun a => ?_
  match a with
  | 0 => exact ⟨hy.ge, by show (y 0).val < s + 1; omega⟩
  | 1 => exact ⟨Nat.zero_le _, by show (y 1).val < 0 + 512; have := (y 1).isLt; have e : S8x512x512.size 1 = 512 := rfl; omega⟩
  | 2 => exact ⟨Nat.zero_le _, by show (y 2).val < 0 + 512; have := (y 2).isLt; have e : S8x512x512.size 2 = 512 := rfl; omega⟩

theorem sink_read (hS : ∀ y : S16.Idx, arg2.view.read (Elt F) X2 y = SK ((y 0).val)) {off : Fin 1 → ℕ} [o : ClosedOff off]
    {n : ℕ} (ho : o.form = ![n]) (inb : ∀ i, off i + S1.size i ≤ S16.size i) (h) :
    View.readAt (Elt F) arg2.view (Rect.unit (s := S16) off S1.size inb).toLoadRect X2 (Shape.Idx.first h) = SK n := by
  refine (hS ((Rect.unit (s := S16) off S1.size inb).idx (Shape.Idx.first h))).trans ?_
  have c0 : off 0 = n := congrFun (o.eq.trans ho) 0
  rw [Rect.idx_unit_val, c0]
  rfl

theorem bias_read (hB : ∀ y : S2x8x256x128.Idx, arg14.view.read (Elt F) X14 y = BT (y 0).val (y 1).val (y 2).val (y 3).val)
    {off : Fin 4 → ℕ} [o : ClosedOff off] {j n : ℕ}
    (ho : o.form = ![n, j, 0, 0]) (inb : ∀ i, off i + S1x1x256x128.size i ≤ S2x8x256x128.size i) (z : S1x1x256x128.Idx) :
    View.readAt (Elt F) arg14.view (Rect.unit (s := S2x8x256x128) off S1x1x256x128.size inb).toLoadRect X14 z
      = BT n j (z 2).val (z 3).val := by
  refine (hB ((Rect.unit (s := S2x8x256x128) off S1x1x256x128.size inb).idx z)).trans ?_
  have c0 : off 0 = n := congrFun (o.eq.trans ho) 0
  have c1 : off 1 = j := congrFun (o.eq.trans ho) 1
  have c2 : off 2 = 0 := congrFun (o.eq.trans ho) 2
  have c3 : off 3 = 0 := congrFun (o.eq.trans ho) 3
  have z0 : (z 0).val < 1 := (z 0).isLt
  have z1 : (z 1).val < 1 := (z 1).isLt
  rw [Rect.idx_unit_val, Rect.idx_unit_val, Rect.idx_unit_val, Rect.idx_unit_val, c0, c1, c2, c3, Nat.zero_add, Nat.zero_add,
    show n + (z 0).val = n by omega, show j + (z 1).val = j by omega]

abbrev G17 (v2 : IVec S1x128 1) (v273 : Vec F S1x128 .f32) (Q KA KB : ℕ → ℕ → F .bf16) (SK : ℕ → F .f32) (BT : ℕ → ℕ → ℕ → ℕ → F .f32)
    (k : Fin k0_t1_loop.trips) (y : S8x512x512.Idx) : F .bf16 :=
  PR v2 v273 Q KA KB SK BT (8 * k.val + (y 0).val) (y 1).val (y 2).val

theorem pr_piece {a : F .f32} {sc : Vec F S256x128 .f32} {b : Vec F S1x1x256x128 .f32} {s rr cc : ℕ}
    (hr : rr % 256 = 0) (hc : cc % 128 = 0)
    (ha : a = SK (2 * (cc / 128) + rr / 256)) (hsc : ∀ z, sc z = SC v2 v273 Q KA KB (8 * k.val + s) (rr + (z 0).val) (cc + (z 1).val))
    (hb : ∀ z, b z = BT (min (8 * k.val + s) 1) (2 * (cc / 128) + rr / 256) (z 2).val (z 3).val)
    (inb : ∀ i, (![s, rr, cc] : Fin 3 → ℕ) i + S1x256x128.size i ≤ S8x512x512.size i) (x : S1x256x128.Idx) :
    k0_pay17 a sc b x = G17 v2 v273 Q KA KB SK BT k ((Rect.unit (s := S8x512x512) ![s, rr, cc] S1x256x128.size inb).emb x) := by
  have h0 : (x 0).val < 1 := (x 0).isLt
  have h1 : (x 1).val < 256 := (x 1).isLt
  have h2 : (x 2).val < 128 := (x 2).isLt
  have e0 : ((Rect.unit (s := S8x512x512) ![s, rr, cc] S1x256x128.size inb).emb x 0).val = s := by
    show s + 1 * (x 0).val = s; omega
  have e1 : ((Rect.unit (s := S8x512x512) ![s, rr, cc] S1x256x128.size inb).emb x 1).val = rr + (x 1).val := by
    show rr + 1 * (x 1).val = _; omega
  have e2 : ((Rect.unit (s := S8x512x512) ![s, rr, cc] S1x256x128.size inb).emb x 2).val = cc + (x 2).val := by
    show cc + 1 * (x 2).val = _; omega
  unfold G17 PR
  rw [e0, e1, e2, show (cc + (x 2).val) / 128 = cc / 128 by omega, show (rr + (x 1).val) / 256 = rr / 256 by omega,
    show 256 * (rr / 256) = rr by omega, show 128 * (cc / 128) = cc by omega, ha, funext hsc, funext hb]
  refine congrArg (k0_pay17 _ _ _) (ix3_of x _ _ _ ?_ ?_ ?_)
  · show (x 0).val = 0
    omega
  · show (x 1).val = (rr + (x 1).val) % 256
    omega
  · show (x 2).val = (cc + (x 2).val) % 128
    omega

set_option maxHeartbeats 16000000 in
theorem agree17 (hQ : ∀ y : S2048x512.Idx, arg4.view.read (Elt F) X4 y = Q (y 0).val (y 1).val)
    (hA : ∀ y : S2176x128.Idx, arg10.view.read (Elt F) X10 y = KA (y 0).val (y 1).val)
    (hB : ∀ y : S2176x128.Idx, arg11.view.read (Elt F) X11 y = KB (y 0).val (y 1).val)
    (hS : ∀ y : S16.Idx, arg2.view.read (Elt F) X2 y = SK (y 0).val)
    (hT : ∀ y : S2x8x256x128.Idx, arg14.view.read (Elt F) X14 y = BT (y 0).val (y 1).val (y 2).val (y 3).val) :
    ∀ p ∈ trip_k0_t1.sl.HW_arg17_64 i arg2 arg4 arg10 arg11 arg14 arg15 arg16 v2 v273 X2 X4 X10 X11 X14 k, ∀ x,
      p.2 x = G17 v2 v273 Q KA KB (fun j => SK (8 * (i 1).val + j)) BT k (p.1.emb x) := by
  have H8 := agree16 (v2 := v2) (v273 := v273) (k := k) (arg15 := arg15) hQ hA hB
  have H7 : ∀ p ∈ trip_k0_t1.sl.HW_arg16_7 arg4 arg10 arg11 arg15 v2 v273 X4 X10 X11 k, ∀ x, p.2 x = G16 v2 v273 Q KA KB k (p.1.emb x) :=
    fun p hp => H8 p (List.mem_cons_of_mem _ hp)
  have H6 : ∀ p ∈ trip_k0_t1.sl.HW_arg16_6 arg4 arg10 arg11 arg15 v2 v273 X4 X10 X11 k, ∀ x, p.2 x = G16 v2 v273 Q KA KB k (p.1.emb x) :=
    fun p hp => H7 p (List.mem_cons_of_mem _ hp)
  have H5 : ∀ p ∈ trip_k0_t1.sl.HW_arg16_5 arg4 arg10 arg11 arg15 v2 v273 X4 X10 X11 k, ∀ x, p.2 x = G16 v2 v273 Q KA KB k (p.1.emb x) :=
    fun p hp => H6 p (List.mem_cons_of_mem _ hp)
  have H4 : ∀ p ∈ trip_k0_t1.sl.HW_arg16_4 arg4 arg10 arg11 arg15 v2 v273 X4 X10 X11 k, ∀ x, p.2 x = G16 v2 v273 Q KA KB k (p.1.emb x) :=
    fun p hp => H5 p (List.mem_cons_of_mem _ hp)
  have H3 : ∀ p ∈ trip_k0_t1.sl.HW_arg16_3 arg4 arg10 arg11 arg15 v2 v273 X4 X10 X11 k, ∀ x, p.2 x = G16 v2 v273 Q KA KB k (p.1.emb x) :=
    fun p hp => H4 p (List.mem_cons_of_mem _ hp)
  have H2 : ∀ p ∈ trip_k0_t1.sl.HW_arg16_2 arg4 arg10 arg11 arg15 v2 v273 X4 X10 X11 k, ∀ x, p.2 x = G16 v2 v273 Q KA KB k (p.1.emb x) :=
    fun p hp => H3 p (List.mem_cons_of_mem _ hp)
  have H1 : ∀ p ∈ trip_k0_t1.sl.HW_arg16_1 arg4 arg10 arg11 arg15 v2 v273 X4 X10 X11 k, ∀ x, p.2 x = G16 v2 v273 Q KA KB k (p.1.emb x) :=
    fun p hp => H2 p (List.mem_cons_of_mem _ hp)
  unfold trip_k0_t1.sl.HW_arg17_64 trip_k0_t1.sl.HW_arg17_56 trip_k0_t1.sl.HW_arg17_48 trip_k0_t1.sl.HW_arg17_40
    trip_k0_t1.sl.HW_arg17_32 trip_k0_t1.sl.HW_arg17_24 trip_k0_t1.sl.HW_arg17_16 trip_k0_t1.sl.HW_arg17_8
  simp only [List.forall_mem_cons, List.not_mem_nil, false_implies, implies_true, and_true]
  repeat' apply And.intro
  all_goals
    intro x
    refine pr_piece ?_ ?_ ?_ ?_ ?_ _ x
    rotate_left 2
    · exact sink_read hS rfl _ _
    · refine sc_read ?_ (fun y hy => ?_) _ _ _ _ _ _
      · with_reducible assumption
      · exact cover16 _ _ _ _ y hy
    · exact bias_read hT rfl _
    · rfl
    · rfl

end

end Cert.Kernel7Ideal.Attn
-- ==== Proof.AttnLoop.lean ====
module

public import proofs.«01_k».proof.Proof.AttnProb

/-! The result a trip writes, and the loop. -/

@[expose] public section

set_option maxRecDepth 16384

noncomputable section

namespace Cert.Kernel7Ideal.Attn

open Idealize.ShloMosaic Idealize.ShloMosaic.TcCoe Idealize.ShloMosaic.Tactic Cert.Kernel7Ideal.Gen

variable {F : FTy → Type} [FloatOps F] [Named F]

section
variable {v2 : IVec S1x128 1} {v273 : Vec F S1x128 .f32} {Q KA KB VA VB : ℕ → ℕ → F .bf16} {SK : ℕ → F .f32}
  {BT : ℕ → ℕ → ℕ → ℕ → F .f32} {i : grid0.Coords}
  {arg2 : Memref sig .tc .smem S16 .f32} {arg4 : Memref sig .tc .vmem S2048x512 .bf16}
  {arg10 arg11 arg12 arg13 : Memref sig .tc .vmem S2176x128 .bf16} {arg14 : Memref sig .tc .vmem S2x8x256x128 .f32}
  {arg15 : Memref sig .tc .vmem S8x512x128 .bf16} {arg16 : Memref sig .tc .vmem S8x512x512 .f32} {arg17 : Memref sig .tc .vmem S8x512x512 .bf16}
  {X2 : BufTy.Contents (Elt F) arg2.view.ty} {X4 : BufTy.Contents (Elt F) arg4.view.ty}
  {X10 : BufTy.Contents (Elt F) arg10.view.ty} {X11 : BufTy.Contents (Elt F) arg11.view.ty} {X12 : BufTy.Contents (Elt F) arg12.view.ty}
  {X13 : BufTy.Contents (Elt F) arg13.view.ty} {X14 : BufTy.Contents (Elt F) arg14.view.ty} {k : Fin k0_t1_loop.trips}

/-! ## The result -/

theorem cover17 (s : ℕ) (i0 w0 i1 w1 i2 w2 i3 w3 i4 w4 i5 w5 i6 w6 i7 w7) (L : List (View.Piece (Elt F) S8x512x512 .bf16)) (y : S8x512x512.Idx) (hy : (y 0).val = s) :
    ∃ p ∈ (
      ⟨Rect.unit ![s, 256, 384] S1x256x128.size i7, w7⟩
      :: ⟨Rect.unit ![s, 0, 384] S1x256x128.size i6, w6⟩
      :: ⟨Rect.unit ![s, 256, 256] S1x256x128.size i5, w5⟩
      :: ⟨Rect.unit ![s, 0, 256] S1x256x128.size i4, w4⟩
      :: ⟨Rect.unit ![s, 256, 128] S1x256x128.size i3, w3⟩
      :: ⟨Rect.unit ![s, 0, 128] S1x256x128.size i2, w2⟩
      :: ⟨Rect.unit ![s, 256, 0] S1x256x128.size i1, w1⟩
      :: ⟨Rect.unit ![s, 0, 0] S1x256x128.size i0, w0⟩
      :: L : List (View.Piece (Elt F) S8x512x512 .bf16)), y ∈ p.1.set := by
  have h1 : (y 1).val < 512 := (y 1).isLt
  have h2 : (y 2).val < 512 := (y 2).isLt
  have hit : ∀ r c : ℕ, r ≤ (y 1).val → (y 1).val < r + 256 → c ≤ (y 2).val → (y 2).val < c + 128 → ∀ inb,
      y ∈ (Rect.unit (s := S8x512x512) ![s, r, c] S1x256x128.size inb).set := by
    intro r c ha hb hc hd inb
    refine Rect.mem_set_unit.2 fun a => ?_
    match a with
    | 0 => exact ⟨hy.ge, by show (y 0).val < s + 1; omega⟩
    | 1 => exact ⟨ha, hb⟩
    | 2 => exact ⟨hc, hd⟩
  simp only [List.exists_mem_cons_iff]
  have hh : 256 ≤ (y 1).val ∨ (y 1).val < 256 := by omega
  have hp : 384 ≤ (y 2).val ∨ 256 ≤ (y 2).val ∧ (y 2).val < 384 ∨ 128 ≤ (y 2).val ∧ (y 2).val < 256 ∨ (y 2).val < 128 := by omega
  rcases hp with hp | hp | hp | hp <;> rcases hh with hh | hh
  · exact .inl (hit _ _ hh (by omega) hp (by omega) _)
  · exact .inr (.inl (hit _ _ (Nat.zero_le _) (by omega) hp (by omega) _))
  · exact .inr (.inr (.inl (hit _ _ hh (by omega) hp.1 (by omega) _)))
  · exact .inr (.inr (.inr (.inl (hit _ _ (Nat.zero_le _) (by omega) hp.1 (by omega) _))))
  · exact .inr (.inr (.inr (.inr (.inl (hit _ _ hh (by omega) hp.1 (by omega) _)))))
  · exact .inr (.inr (.inr (.inr (.inr (.inl (hit _ _ (Nat.zero_le _) (by omega) hp.1 (by omega) _))))))
  · exact .inr (.inr (.inr (.inr (.inr (.inr (.inl (hit _ _ hh (by omega) (Nat.zero_le _) (by omega) _)))))))
  · exact .inr (.inr (.inr (.inr (.inr (.inr (.inr (.inl (hit _ _ (Nat.zero_le _) (by omega) (Nat.zero_le _) (by omega) _))))))))

abbrev G9 (v2 : IVec S1x128 1) (v273 : Vec F S1x128 .f32) (Q KA KB VA VB : ℕ → ℕ → F .bf16) (SK : ℕ → F .f32)
    (BT : ℕ → ℕ → ℕ → ℕ → F .f32) (y : S2048x512.Idx) : F .bf16 :=
  OUT v2 v273 Q KA KB VA VB SK BT (y 0).val (y 1).val

theorem o_piece (hA : ∀ y : S2176x128.Idx, arg12.view.read (Elt F) X12 y = VA (y 0).val (y 1).val)
    (hB : ∀ y : S2176x128.Idx, arg13.view.read (Elt F) X13 y = VB (y 0).val (y 1).val) {off off' : Fin 2 → ℕ} [o : ClosedOff off] [o' : ClosedOff off']
    {s cc : ℕ} (hcc : cc % 128 = 0) (hlt : s < 8)
    (ho : o.form = ![1024 * k.val + 128 * s, 0]) (ho' : o'.form = ![1024 * k.val + 128 * s, cc])
    (inb : ∀ i, off i + S256x128.size i ≤ S2176x128.size i) (inb9 : ∀ i, off' i + S128x128.size i ≤ S2048x512.size i)
    {L : List (View.Piece (Elt F) S8x512x512 .bf16)} (hL : ∀ p ∈ L, ∀ x, p.2 x = G17 v2 v273 Q KA KB SK BT k (p.1.emb x))
    (hc : ∀ y : S8x512x512.Idx, (y 0).val = s → ∃ p ∈ L, y ∈ p.1.set)
    (inb1 : ∀ i, (![s, 0, 0] : Fin 3 → ℕ) i + S1x512x512.size i ≤ S8x512x512.size i) (hs) (hb) (x : S128x128.Idx) :
    truncf .bf16 (extractStridedSlice S128x128 ![cc, 0] (k0_pay35 (k0_pay7
        (View.readAt (Elt F) arg12.view (Rect.unit (s := S2176x128) off S256x128.size inb).toLoadRect X12)
        (View.readAt (Elt F) arg13.view (Rect.unit (s := S2176x128) off S256x128.size inb).toLoadRect X13))
        (arg17.view.readCov (Val := Elt F) L (Rect.unit (s := S8x512x512) ![s, 0, 0] S1x512x512.size inb1).toLoadRect)) hs) hb x
      = G9 v2 v273 Q KA KB VA VB SK BT ((Rect.unit (s := S2048x512) off' S128x128.size inb9).emb x) := by
  have h0 : (x 0).val < 128 := (x 0).isLt
  have h1 : (x 1).val < 128 := (x 1).isLt
  have c0 : off' 0 = 1024 * k.val + 128 * s := congrFun (o'.eq.trans ho') 0
  have c1 : off' 1 = cc := congrFun (o'.eq.trans ho') 1
  have e0 : ((Rect.unit (s := S2048x512) off' S128x128.size inb9).emb x 0).val = 1024 * k.val + 128 * s + (x 0).val := by
    show off' 0 + 1 * (x 0).val = _; omega
  have e1 : ((Rect.unit (s := S2048x512) off' S128x128.size inb9).emb x 1).val = cc + (x 1).val := by
    show off' 1 + 1 * (x 1).val = _; omega
  have hp : arg17.view.readCov (Val := Elt F) L (Rect.unit (s := S8x512x512) ![s, 0, 0] S1x512x512.size inb1).toLoadRect
      = fun z => PR v2 v273 Q KA KB SK BT (8 * k.val + s) (z 1).val (z 2).val := by
    funext z
    have z0 : (z 0).val < 1 := (z 0).isLt
    have f0 : ((Rect.unit (s := S8x512x512) ![s, 0, 0] S1x512x512.size inb1).idx z 0).val = s := by
      rw [Rect.idx_unit_val]; show s + (z 0).val = s; omega
    have f1 : ((Rect.unit (s := S8x512x512) ![s, 0, 0] S1x512x512.size inb1).idx z 1).val = (z 1).val := by
      rw [Rect.idx_unit_val]; exact Nat.zero_add _
    have f2 : ((Rect.unit (s := S8x512x512) ![s, 0, 0] S1x512x512.size inb1).idx z 2).val = (z 2).val := by
      rw [Rect.idx_unit_val]; exact Nat.zero_add _
    refine (readCov_of arg17.view (G17 v2 v273 Q KA KB SK BT k) hL z (hc _ f0)).trans ?_
    show PR v2 v273 Q KA KB SK BT (8 * k.val + ((Rect.unit (s := S8x512x512) ![s, 0, 0] S1x512x512.size inb1).idx z 0).val)
      ((Rect.unit (s := S8x512x512) ![s, 0, 0] S1x512x512.size inb1).idx z 1).val
      ((Rect.unit (s := S8x512x512) ![s, 0, 0] S1x512x512.size inb1).idx z 2).val = _
    rw [f0, f1, f2]
  unfold G9 OUT
  rw [e0, e1, hp, win_read hA s ho, win_read hB s ho, show (1024 * k.val + 128 * s + (x 0).val) / 128 = 8 * k.val + s by omega,
    show (1024 * k.val + 128 * s + (x 0).val) % 128 = (x 0).val by omega, show 128 * ((cc + (x 1).val) / 128) = cc by omega]
  have hlt' : cc + (x 0).val < 512 := by
    have h := hs
    have hy : ((Rect.unit (s := S2048x512) off' S128x128.size inb9).emb x 1).val < 512 := ((Rect.unit (s := S2048x512) off' S128x128.size inb9).emb x 1).isLt
    omega
  refine congrArg (FloatOps.truncf (F := F) .bf16 bitsLt_bf16_f32) ?_
  refine extractStridedSlice_apply _ _ hs x _ fun d => ?_
  match d with
  | 0 => show (cc + (x 0).val) % 512 = cc + (x 0).val
         omega
  | 1 => show (cc + (x 1).val) % 128 = 0 + (x 1).val
         omega

end

/-- Everything one trip of the loop over the query blocks is given. -/
structure Args (F : FTy → Type) [FloatOps F] [Named F] where
  𝒱 : Variants
  c : Dev nD
  bd : Option 𝒱.V
  i : grid0.Coords
  arg2 : Memref sig .tc .smem S16 .f32
  harg2 : arg2.IsWhole
  arg3 : Memref sig .tc .smem S16 .f32
  harg3 : arg3.IsWhole
  arg4 : Memref sig .tc .vmem S2048x512 .bf16
  harg4 : arg4.IsWhole
  arg5 : Memref sig .tc .vmem S2048x128 .bf16
  harg5 : arg5.IsWhole
  arg6 : Memref sig .tc .vmem S2048x128 .bf16
  harg6 : arg6.IsWhole
  arg7 : Memref sig .tc .vmem S1x128 .f32
  harg7 : arg7.IsWhole
  arg8 : Memref sig .tc .vmem S1x128 .f32
  harg8 : arg8.IsWhole
  arg9 : Memref sig .tc .vmem S2048x512 .bf16
  harg9 : arg9.IsWhole
  arg10 : Memref sig .tc .vmem S2176x128 .bf16
  harg10 : arg10.IsWhole
  arg11 : Memref sig .tc .vmem S2176x128 .bf16
  harg11 : arg11.IsWhole
  arg12 : Memref sig .tc .vmem S2176x128 .bf16
  harg12 : arg12.IsWhole
  arg13 : Memref sig .tc .vmem S2176x128 .bf16
  harg13 : arg13.IsWhole
  arg14 : Memref sig .tc .vmem S2x8x256x128 .f32
  harg14 : arg14.IsWhole
  arg15 : Memref sig .tc .vmem S8x512x128 .bf16
  harg15 : arg15.IsWhole
  arg16 : Memref sig .tc .vmem S8x512x512 .f32
  harg16 : arg16.IsWhole
  arg17 : Memref sig .tc .vmem S8x512x512 .bf16
  harg17 : arg17.IsWhole
  arg1 : BitVec 32
  v2 : IVec S1x128 1
  v273 : Vec F S1x128 .f32
  X_arg2 : BufTy.Contents (Elt F) arg2.view.ty
  X_arg4 : BufTy.Contents (Elt F) arg4.view.ty
  X_arg10 : BufTy.Contents (Elt F) arg10.view.ty
  X_arg11 : BufTy.Contents (Elt F) arg11.view.ty
  X_arg12 : BufTy.Contents (Elt F) arg12.view.ty
  X_arg13 : BufTy.Contents (Elt F) arg13.view.ty
  X_arg14 : BufTy.Contents (Elt F) arg14.view.ty
  k : Fin k0_t1_loop.trips

/-- What one trip does, as pieces of the four memrefs it writes. -/
abbrev Args.trip (a : Args F) := trip_k0_t1 (F := F) a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg1 a.v2 a.v273 a.X_arg2 a.X_arg4 a.X_arg10 a.X_arg11 a.X_arg12 a.X_arg13 a.X_arg14 a.k

/-- What the trip's loads find. -/
structure Holds (a : Args F) (Q KA KB VA VB : ℕ → ℕ → F .bf16) (SK : ℕ → F .f32) (BT : ℕ → ℕ → ℕ → ℕ → F .f32) : Prop where
  h4 : ∀ y : S2048x512.Idx, a.arg4.view.read (Elt F) a.X_arg4 y = Q (y 0).val (y 1).val
  h10 : ∀ y : S2176x128.Idx, a.arg10.view.read (Elt F) a.X_arg10 y = KA (y 0).val (y 1).val
  h11 : ∀ y : S2176x128.Idx, a.arg11.view.read (Elt F) a.X_arg11 y = KB (y 0).val (y 1).val
  h12 : ∀ y : S2176x128.Idx, a.arg12.view.read (Elt F) a.X_arg12 y = VA (y 0).val (y 1).val
  h13 : ∀ y : S2176x128.Idx, a.arg13.view.read (Elt F) a.X_arg13 y = VB (y 0).val (y 1).val
  h2 : ∀ y : S16.Idx, a.arg2.view.read (Elt F) a.X_arg2 y = SK (y 0).val
  h14 : ∀ y : S2x8x256x128.Idx, a.arg14.view.read (Elt F) a.X_arg14 y = BT (y 0).val (y 1).val (y 2).val (y 3).val

theorem mem8 {α : Type*} {p a b c d e f g h : α} {L : List α} (hp : p ∈ L) : p ∈ a :: b :: c :: d :: e :: f :: g :: h :: L :=
  List.mem_cons_of_mem _ (List.mem_cons_of_mem _ (List.mem_cons_of_mem _ (List.mem_cons_of_mem _ (List.mem_cons_of_mem _
    (List.mem_cons_of_mem _ (List.mem_cons_of_mem _ (List.mem_cons_of_mem _ hp)))))))

set_option maxHeartbeats 16000000 in
theorem out_pieces {a : Args F} {Q KA KB VA VB : ℕ → ℕ → F .bf16} {SK : ℕ → F .f32} {BT : ℕ → ℕ → ℕ → ℕ → F .f32}
    (H : Holds a Q KA KB VA VB SK BT) (f9 f15 f16 f17) :
    ∀ p ∈ a.trip.1 f9 f15 f16 f17, ∀ x, p.2 x = G9 a.v2 a.v273 Q KA KB VA VB (fun j => SK (8 * (a.i 1).val + j)) BT (p.1.emb x) := by
  have H64 := agree17 (i := a.i) (v2 := a.v2) (v273 := a.v273) (k := a.k) (arg15 := a.arg15) (arg16 := a.arg16) H.h4 H.h10 H.h11 H.h2 H.h14
  have hk : a.k.val < 2 := Nat.lt_of_lt_of_le a.k.isLt k0_t1_abs.2.1
  have H56 : ∀ p ∈ trip_k0_t1.sl.HW_arg17_56 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H64 p (mem8 hp)
  have H48 : ∀ p ∈ trip_k0_t1.sl.HW_arg17_48 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H56 p (mem8 hp)
  have H40 : ∀ p ∈ trip_k0_t1.sl.HW_arg17_40 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H48 p (mem8 hp)
  have H32 : ∀ p ∈ trip_k0_t1.sl.HW_arg17_32 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H40 p (mem8 hp)
  have H24 : ∀ p ∈ trip_k0_t1.sl.HW_arg17_24 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H32 p (mem8 hp)
  have H16 : ∀ p ∈ trip_k0_t1.sl.HW_arg17_16 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H24 p (mem8 hp)
  have H8 : ∀ p ∈ trip_k0_t1.sl.HW_arg17_8 a.i a.arg2 a.arg4 a.arg10 a.arg11 a.arg14 a.arg15 a.arg16 a.v2 a.v273 a.X_arg2 a.X_arg4 a.X_arg10 a.X_arg11 a.X_arg14 a.k,
      ∀ x, p.2 x = G17 a.v2 a.v273 Q KA KB (fun j => SK (8 * (a.i 1).val + j)) BT a.k (p.1.emb x) := fun p hp => H16 p (mem8 hp)
  unfold Args.trip trip_k0_t1
  simp only [List.forall_mem_cons, List.not_mem_nil, false_implies, implies_true, and_true]
  repeat' apply And.intro
  all_goals
    intro x
    refine o_piece (k := a.k) H.h12 H.h13 ?_ ?_ ?_ ?_ _ _ ?_ (fun y hy => ?_) _ _ _ x
    rotate_left 4
    · with_reducible assumption
    · exact cover17 _ _ _ _ _ _ _ _ _ _ _ _ _ _ _ _ _ _ y hy
    · rfl
    · decide
    · rfl
    · rfl

/-- The same trip's data at trip `k`. -/
abbrev Args.at (a : Args F) (k : Fin k0_t1_loop.trips) : Args F := { a with k := k }

theorem Holds.at {a : Args F} {Q KA KB VA VB : ℕ → ℕ → F .bf16} {SK : ℕ → F .f32} {BT : ℕ → ℕ → ℕ → ℕ → F .f32}
    (H : Holds a Q KA KB VA VB SK BT) (k) : Holds (a.at k) Q KA KB VA VB SK BT := ⟨H.h4, H.h10, H.h11, H.h12, H.h13, H.h2, H.h14⟩

/-- The pieces of the trips before `n`. -/
abbrev Args.before (a : Args F) (G9 : BufTy.Contents (Elt F) a.arg9.view.ty) (G15 : BufTy.Contents (Elt F) a.arg15.view.ty)
    (G16 : BufTy.Contents (Elt F) a.arg16.view.ty) (G17 : BufTy.Contents (Elt F) a.arg17.view.ty) (n : ℕ) :=
  pb_k0_t1 (F := F) a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg1 a.v2 a.v273 a.X_arg2 a.X_arg4 a.X_arg10 a.X_arg11 a.X_arg12 a.X_arg13 a.X_arg14 G9 G15 G16 G17 n

theorem before_succ (a : Args F) (G9 G15 G16 G17) (k : Fin k0_t1_loop.trips) :
    ∃ f9 f15 f16 f17, (a.before G9 G15 G16 G17 (k.val + 1)).1 = (a.at k).trip.1 f9 f15 f16 f17 ++ (a.before G9 G15 G16 G17 k.val).1 :=
  ⟨_, _, _, _, congrArg Prod.fst (pb_k0_t1_succ (F := F) a.𝒱 a.c a.bd a.i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg1 a.v2 a.v273 a.X_arg2 a.X_arg4 a.X_arg10 a.X_arg11 a.X_arg12 a.X_arg13 a.X_arg14 G9 G15 G16 G17 k)⟩

theorem mem_off {off : Fin 2 → ℕ} [o : ClosedOff off] {b s cc : ℕ} (ho : o.form = ![b + 128 * s, cc])
    (inb : ∀ i, off i + S128x128.size i ≤ S2048x512.size i) (y : S2048x512.Idx) :
    y ∈ (Rect.unit (s := S2048x512) off S128x128.size inb).set
      ↔ (b + 128 * s ≤ (y 0).val ∧ (y 0).val < b + 128 * s + 128) ∧ cc ≤ (y 1).val ∧ (y 1).val < cc + 128 := by
  have c0 : off 0 = b + 128 * s := congrFun (o.eq.trans ho) 0
  have c1 : off 1 = cc := congrFun (o.eq.trans ho) 1
  rw [Rect.mem_set_unit, Fin.forall_fin_two, c0, c1]
  exact Iff.rfl

set_option maxHeartbeats 16000000 in
theorem out_cover (a : Args F) (f9 f15 f16 f17) (y : S2048x512.Idx) (h0 : 1024 * a.k.val ≤ (y 0).val) (h1 : (y 0).val < 1024 * a.k.val + 1024) :
    ∃ p ∈ a.trip.1 f9 f15 f16 f17, y ∈ p.1.set := by
  have hy : (y 1).val < 512 := (y 1).isLt
  unfold Args.trip trip_k0_t1
  simp only [List.exists_mem_cons_iff, List.not_mem_nil, false_and, exists_false, or_false]
  have hk : ∃ b, b = 1024 * a.k.val := ⟨_, rfl⟩
  obtain ⟨b, hb⟩ := hk
  obtain ⟨s, hs⟩ : ∃ s, s = ((y 0).val - b) / 128 := ⟨_, rfl⟩
  obtain ⟨c, hc⟩ : ∃ c, c = (y 1).val / 128 := ⟨_, rfl⟩
  have hs8 : s < 8 := by omega
  have hc4 : c < 4 := by omega
  have g : ∀ s' c', s = s' → c = c' → (1024 * a.k.val + 128 * s' ≤ (y 0).val ∧ (y 0).val < 1024 * a.k.val + 128 * s' + 128)
      ∧ 128 * c' ≤ (y 1).val ∧ (y 1).val < 128 * c' + 128 := by omega
  interval_cases s <;> interval_cases c
  all_goals
    repeat' first
      | exact Or.inl ((mem_off rfl _ y).2 (g _ _ rfl rfl))
      | exact ((mem_off rfl _ y).2 (g _ _ rfl rfl))
      | refine Or.inr ?_

theorem before_pieces {a : Args F} {Q KA KB VA VB : ℕ → ℕ → F .bf16} {SK : ℕ → F .f32} {BT : ℕ → ℕ → ℕ → ℕ → F .f32}
    (H : Holds a Q KA KB VA VB SK BT) (F9 F15 F16 F17) (n : ℕ) (hn : n ≤ 2) :
    ∀ p ∈ (a.before F9 F15 F16 F17 n).1, ∀ x, p.2 x = G9 a.v2 a.v273 Q KA KB VA VB (fun j => SK (8 * (a.i 1).val + j)) BT (p.1.emb x) := by
  induction n with
  | zero => intro p hp; exact absurd hp List.not_mem_nil
  | succ n ih =>
    have hk : n < k0_t1_loop.trips := lt_of_lt_of_eq (show n < 2 by omega) (by decide +kernel)
    obtain ⟨f9, f15, f16, f17, e⟩ := before_succ a F9 F15 F16 F17 ⟨n, hk⟩
    intro p hp
    rw [e] at hp
    rcases List.mem_append.1 hp with h | h
    · exact out_pieces (H.at ⟨n, hk⟩) _ _ _ _ p h
    · exact ih (by omega) p h

/-- What the loop leaves in the result. -/
theorem loop_read {a : Args F} {Q KA KB VA VB : ℕ → ℕ → F .bf16} {SK : ℕ → F .f32} {BT : ℕ → ℕ → ℕ → ℕ → F .f32}
    (H : Holds a Q KA KB VA VB SK BT) (F9 F15 F16 F17) (f) (n : ℕ) (hn : n = 2) (y : S2048x512.Idx) :
    a.arg9.view.read (Elt F) (a.arg9.view.writes (Elt F) f (a.before F9 F15 F16 F17 n).1) y
      = OUT a.v2 a.v273 Q KA KB VA VB (fun j => SK (8 * (a.i 1).val + j)) BT (y 0).val (y 1).val := by
  subst hn
  refine View.read_writes_apply_of_pieces a.arg9.view f (G9 a.v2 a.v273 Q KA KB VA VB (fun j => SK (8 * (a.i 1).val + j)) BT) (a.before F9 F15 F16 F17 2).1
    (before_pieces H F9 F15 F16 F17 2 le_rfl) y ?_
  have hy : (y 0).val < 2048 := (y 0).isLt
  have ht : k0_t1_loop.trips = 2 := by decide +kernel
  obtain ⟨f9, f15, f16, f17, e⟩ := before_succ a F9 F15 F16 F17 ⟨1, by omega⟩
  obtain ⟨g9, g15, g16, g17, e'⟩ := before_succ a F9 F15 F16 F17 ⟨0, by omega⟩
  have e2 : (a.before F9 F15 F16 F17 2).1 = (a.at ⟨1, by omega⟩).trip.1 f9 f15 f16 f17 ++ ((a.at ⟨0, by omega⟩).trip.1 g9 g15 g16 g17
      ++ (a.before F9 F15 F16 F17 0).1) := e.trans (congrArg _ e')
  rw [e2]
  by_cases h : (y 0).val < 1024
  · obtain ⟨p, hp, hm⟩ := out_cover (a.at ⟨0, by omega⟩) g9 g15 g16 g17 y (Nat.zero_le _) (by show (y 0).val < 1024 * 0 + 1024; omega)
    exact ⟨p, List.mem_append_right _ (List.mem_append_left _ hp), hm⟩
  · obtain ⟨p, hp, hm⟩ := out_cover (a.at ⟨1, by omega⟩) f9 f15 f16 f17 y (by show 1024 * 1 ≤ (y 0).val; omega) (by show (y 0).val < 1024 * 1 + 1024; omega)
    exact ⟨p, List.mem_append_left _ hp, hm⟩

end Cert.Kernel7Ideal.Attn
-- ==== Proof.AttnBody.lean ====
module

public import proofs.«01_k».proof.Proof.AttnLoop
public import Idealize.ShloMosaic.Lib.WholeRead
public import Idealize.ShloMosaic.Lib.VecWindow
public import Idealize.ShloMosaic.Lib.WritesUnit

/-! The body at a point of the grid. -/

@[expose] public section

set_option maxRecDepth 16384

noncomputable section

namespace Cert.Kernel7Ideal.Attn

open Idealize.ShloMosaic Idealize.ShloMosaic.TcCoe Idealize.ShloMosaic.Tactic Cert.Kernel7Ideal.Gen

variable {F : FTy → Type} [FloatOps F] [Named F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

theorem zero2 : (![0, 0] : Fin 2 → ℕ) = fun _ => 0 := by decide

/-- A load of a whole buffer reads what the buffer holds. -/
theorem readAt_whole {S : Shape} {e : EltTy} {κ : Kind} {sp : Space} {a : Memref sig κ sp S e} (ha : a.IsWhole) (x : S.Idx → Elt F e)
    {off : Fin S.rank → ℕ} (h : off = fun _ => 0) (inb) :
    View.readAt (Elt F) a.view (Rect.unit off S.size inb).toLoadRect (ha.unread x) = x := by
  subst h
  refine funext fun y => (ha.readAt_unread x _ y).trans (congrArg x ?_)
  exact funext fun j => Fin.ext (by rw [Rect.idx_unit_val]; exact Nat.zero_add _)

/-- 128 rows and 2048 rows under them, by row and column number. -/
def staged (lo : FVec F S128x128 .bf16) (hi : FVec F S2048x128 .bf16) (r c : ℕ) : F .bf16 :=
  if r < 128 then lo (ix2 (Fin.ofNat 128 r) (Fin.ofNat 128 c)) else hi (ix2 (Fin.ofNat 2048 (r - 128)) (Fin.ofNat 128 c))

theorem ix2_of {n m : ℕ} (x : (⟨2, ![n, m]⟩ : Shape).Idx) (i : Fin n) (j : Fin m) (h0 : (x 0).val = i.val) (h1 : (x 1).val = j.val) :
    x = ix2 i j := by
  funext a
  match a with
  | 0 => exact Fin.ext h0
  | 1 => exact Fin.ext h1

theorem staged_read {κ : Kind} {sp : Space} (v : View sig κ sp S2176x128 .bf16) (f) (lo : FVec F S128x128 .bf16) (hi : FVec F S2048x128 .bf16)
    (inb1 inb2) (y : S2176x128.Idx) :
    v.read (Elt F) (v.writes (Elt F) f [⟨Rect.unit ![128, 0] S2048x128.size inb1, hi⟩, ⟨Rect.unit ![0, 0] S128x128.size inb2, lo⟩]) y
      = staged lo hi (y 0).val (y 1).val := by
  have h0 : (y 0).val < 2176 := (y 0).isLt
  have h1 : (y 1).val < 128 := (y 1).isLt
  unfold staged
  by_cases h : (y 0).val < 128
  · rw [if_pos h]
    refine (View.read_writes_cons_unit_of_not_mem v f inb1 hi _ y rfl 0 (Or.inl h)).trans ?_
    refine View.read_writes_cons_unit_of_mem v f inb2 lo [] y (ix2 (Fin.ofNat 128 (y 0).val) (Fin.ofNat 128 (y 1).val)) rfl (Fin.forall_fin_two.2 ⟨?_, ?_⟩)
    · show (y 0).val = 0 + (y 0).val % 128
      omega
    · show (y 1).val = 0 + (y 1).val % 128
      omega
  · rw [if_neg h]
    refine View.read_writes_cons_unit_of_mem v f inb1 hi _ y (ix2 (Fin.ofNat 2048 ((y 0).val - 128)) (Fin.ofNat 128 (y 1).val)) rfl (Fin.forall_fin_two.2 ⟨?_, ?_⟩)
    · show (y 0).val = 128 + ((y 0).val - 128) % 2048
      omega
    · show (y 1).val = 0 + (y 1).val % 128
      omega

section
variable (i : grid0.Coords) (x2 x3 : Vec F S16 .f32) (x4 : Vec F S2048x512 .bf16) (x5 x6 : Vec F S2048x128 .bf16) (x7 x8 : Vec F S1x128 .f32)

abbrev lanes : IVec S1x128 32 := iota .tc S1x128 32 [1] iota_S1x128_d1_w32
abbrev rows : IVec S256x128 32 := iota .tc S256x128 32 [0] iota_S256x128_d0_w32
abbrev bc : BitVec 32 := BitVec.ofNat 32 (i 1).val

def KAf := staged (F := F) k0_pay328 (k0_pay330 (k0_pay329 (bc i) (k0_pay315 x5 x8) lanes 64#32 k0_pay316 k0_pay317 k0_pay318))
def KBf := staged (F := F) (k0_pay331 k0_pay324) (k0_pay332 (k0_pay325 (bc i) (k0_pay315 x5 x8) lanes 64#32 k0_pay316 k0_pay317 k0_pay318))
def VAf := staged (F := F) (k0_pay333 k0_pay324) (k0_pay334 (k0_pay326 (bc i) lanes 64#32 k0_pay316 k0_pay317 k0_pay318 x6))
def VBf := staged (F := F) (k0_pay335 k0_pay324) (k0_pay336 (k0_pay327 (bc i) lanes 64#32 k0_pay316 k0_pay317 k0_pay318 x6))
def Qf (r c : ℕ) : F .bf16 := x4 (ix2 (Fin.ofNat 2048 r) (Fin.ofNat 512 c))
def SKf (n : ℕ) : F .f32 := x2 (ix1 (Fin.ofNat 16 n))
/-- The bias of head `j` of the eight: of the first block (`v = 0`) or of the others. -/
def BTf (v j r c : ℕ) : F .f32 :=
  if v = 0 then k0_pay342 rows k0_pay338 k0_pay339 (x3 (ix1 (Fin.ofNat 16 (8 * (i 1).val + j)))) (ix4 0 0 (Fin.ofNat 256 r) (Fin.ofNat 128 c))
  else k0_pay341 k0_pay338 k0_pay339 (x3 (ix1 (Fin.ofNat 16 (8 * (i 1).val + j)))) (ix4 0 0 (Fin.ofNat 256 r) (Fin.ofNat 128 c))

/-- What the body leaves in the result's block. -/
def outv : Vec F S2048x512 .bf16 := fun y =>
  OUT k0_pay314 x7 (Qf x4) (KAf i x5 x8) (KBf i x5 x8) (VAf i x6) (VBf i x6) (fun j => SKf x2 (8 * (i 1).val + j)) (BTf i x3) (y 0).val (y 1).val

end

/-- The loop's result by what its buffers hold, with the buffers named one by one. -/
theorem loop_reads (𝒱 : Variants)
    (c : Dev nD)
    (bd : Option 𝒱.V)
    (i : grid0.Coords)
    (arg2 : Memref sig .tc .smem S16 .f32)
    (harg2 : arg2.IsWhole)
    (arg3 : Memref sig .tc .smem S16 .f32)
    (harg3 : arg3.IsWhole)
    (arg4 : Memref sig .tc .vmem S2048x512 .bf16)
    (harg4 : arg4.IsWhole)
    (arg5 : Memref sig .tc .vmem S2048x128 .bf16)
    (harg5 : arg5.IsWhole)
    (arg6 : Memref sig .tc .vmem S2048x128 .bf16)
    (harg6 : arg6.IsWhole)
    (arg7 : Memref sig .tc .vmem S1x128 .f32)
    (harg7 : arg7.IsWhole)
    (arg8 : Memref sig .tc .vmem S1x128 .f32)
    (harg8 : arg8.IsWhole)
    (arg9 : Memref sig .tc .vmem S2048x512 .bf16)
    (harg9 : arg9.IsWhole)
    (arg10 : Memref sig .tc .vmem S2176x128 .bf16)
    (harg10 : arg10.IsWhole)
    (arg11 : Memref sig .tc .vmem S2176x128 .bf16)
    (harg11 : arg11.IsWhole)
    (arg12 : Memref sig .tc .vmem S2176x128 .bf16)
    (harg12 : arg12.IsWhole)
    (arg13 : Memref sig .tc .vmem S2176x128 .bf16)
    (harg13 : arg13.IsWhole)
    (arg14 : Memref sig .tc .vmem S2x8x256x128 .f32)
    (harg14 : arg14.IsWhole)
    (arg15 : Memref sig .tc .vmem S8x512x128 .bf16)
    (harg15 : arg15.IsWhole)
    (arg16 : Memref sig .tc .vmem S8x512x512 .f32)
    (harg16 : arg16.IsWhole)
    (arg17 : Memref sig .tc .vmem S8x512x512 .bf16)
    (harg17 : arg17.IsWhole)
    (arg1 : BitVec 32)
    (v2 : IVec S1x128 1)
    (v273 : Vec F S1x128 .f32)
    (X_arg2 : BufTy.Contents (Elt F) arg2.view.ty)
    (X_arg4 : BufTy.Contents (Elt F) arg4.view.ty)
    (X_arg10 : BufTy.Contents (Elt F) arg10.view.ty)
    (X_arg11 : BufTy.Contents (Elt F) arg11.view.ty)
    (X_arg12 : BufTy.Contents (Elt F) arg12.view.ty)
    (X_arg13 : BufTy.Contents (Elt F) arg13.view.ty)
    (X_arg14 : BufTy.Contents (Elt F) arg14.view.ty)
    (k : Fin k0_t1_loop.trips)
    {Q KA KB VA VB : ℕ → ℕ → F .bf16} {SK : ℕ → F .f32} {BT : ℕ → ℕ → ℕ → ℕ → F .f32}
    (h4 : ∀ y : S2048x512.Idx, arg4.view.read (Elt F) X_arg4 y = Q (y 0).val (y 1).val)
    (h10 : ∀ y : S2176x128.Idx, arg10.view.read (Elt F) X_arg10 y = KA (y 0).val (y 1).val)
    (h11 : ∀ y : S2176x128.Idx, arg11.view.read (Elt F) X_arg11 y = KB (y 0).val (y 1).val)
    (h12 : ∀ y : S2176x128.Idx, arg12.view.read (Elt F) X_arg12 y = VA (y 0).val (y 1).val)
    (h13 : ∀ y : S2176x128.Idx, arg13.view.read (Elt F) X_arg13 y = VB (y 0).val (y 1).val)
    (h2 : ∀ y : S16.Idx, arg2.view.read (Elt F) X_arg2 y = SK (y 0).val)
    (h14 : ∀ y : S2x8x256x128.Idx, arg14.view.read (Elt F) X_arg14 y = BT (y 0).val (y 1).val (y 2).val (y 3).val)
    (F9 F15 F16 F17) (f) (n : ℕ) (hn : n = 2) (y : S2048x512.Idx) :
    arg9.view.read (Elt F) (arg9.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v273 X_arg2 X_arg4 X_arg10 X_arg11 X_arg12 X_arg13 X_arg14 F9 F15 F16 F17 n).1) y
      = OUT v2 v273 Q KA KB VA VB (fun j => SK (8 * (i 1).val + j)) BT (y 0).val (y 1).val :=
  loop_read (a := ⟨𝒱, c, bd, i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg1, v2, v273, X_arg2, X_arg4, X_arg10, X_arg11, X_arg12, X_arg13, X_arg14, k⟩) ⟨h4, h10, h11, h12, h13, h2, h14⟩ F9 F15 F16 F17 f n hn y

/-! ## The bias table -/

theorem bias_cover (i07 w07 i17 w17 i06 w06 i16 w16 i05 w05 i15 w15 i04 w04 i14 w14 i03 w03 i13 w13 i02 w02 i12 w12 i01 w01 i11 w11 i00 w00 i10 w10) (y : S2x8x256x128.Idx) :
    ∃ p ∈ (
      ⟨Rect.unit ![0, 7, 0, 0] S1x1x256x128.size i07, w07⟩
      :: ⟨Rect.unit ![1, 7, 0, 0] S1x1x256x128.size i17, w17⟩
      :: ⟨Rect.unit ![0, 6, 0, 0] S1x1x256x128.size i06, w06⟩
      :: ⟨Rect.unit ![1, 6, 0, 0] S1x1x256x128.size i16, w16⟩
      :: ⟨Rect.unit ![0, 5, 0, 0] S1x1x256x128.size i05, w05⟩
      :: ⟨Rect.unit ![1, 5, 0, 0] S1x1x256x128.size i15, w15⟩
      :: ⟨Rect.unit ![0, 4, 0, 0] S1x1x256x128.size i04, w04⟩
      :: ⟨Rect.unit ![1, 4, 0, 0] S1x1x256x128.size i14, w14⟩
      :: ⟨Rect.unit ![0, 3, 0, 0] S1x1x256x128.size i03, w03⟩
      :: ⟨Rect.unit ![1, 3, 0, 0] S1x1x256x128.size i13, w13⟩
      :: ⟨Rect.unit ![0, 2, 0, 0] S1x1x256x128.size i02, w02⟩
      :: ⟨Rect.unit ![1, 2, 0, 0] S1x1x256x128.size i12, w12⟩
      :: ⟨Rect.unit ![0, 1, 0, 0] S1x1x256x128.size i01, w01⟩
      :: ⟨Rect.unit ![1, 1, 0, 0] S1x1x256x128.size i11, w11⟩
      :: ⟨Rect.unit ![0, 0, 0, 0] S1x1x256x128.size i00, w00⟩
      :: ⟨Rect.unit ![1, 0, 0, 0] S1x1x256x128.size i10, w10⟩
      :: [] : List (View.Piece (Elt F) S2x8x256x128 .f32)), y ∈ p.1.set := by
  have h0 : (y 0).val < 2 := (y 0).isLt
  have h1 : (y 1).val < 8 := (y 1).isLt
  have h2 : (y 2).val < 256 := (y 2).isLt
  have h3 : (y 3).val < 128 := (y 3).isLt
  have hit : ∀ v j : ℕ, (y 0).val = v → (y 1).val = j → ∀ inb,
      y ∈ (Rect.unit (s := S2x8x256x128) ![v, j, 0, 0] S1x1x256x128.size inb).set := by
    intro v j hv hj inb
    refine Rect.mem_set_unit.2 fun a => ?_
    match a with
    | 0 => exact ⟨hv.ge, by show (y 0).val < v + 1; omega⟩
    | 1 => exact ⟨hj.ge, by show (y 1).val < j + 1; omega⟩
    | 2 => exact ⟨Nat.zero_le _, by show (y 2).val < 0 + 256; omega⟩
    | 3 => exact ⟨Nat.zero_le _, by show (y 3).val < 0 + 128; omega⟩
  have hd : (y 0).val = 0 ∧ (y 1).val = 7 ∨ (y 0).val = 1 ∧ (y 1).val = 7 ∨ (y 0).val = 0 ∧ (y 1).val = 6 ∨ (y 0).val = 1 ∧ (y 1).val = 6 ∨ (y 0).val = 0 ∧ (y 1).val = 5 ∨ (y 0).val = 1 ∧ (y 1).val = 5 ∨ (y 0).val = 0 ∧ (y 1).val = 4 ∨ (y 0).val = 1 ∧ (y 1).val = 4 ∨ (y 0).val = 0 ∧ (y 1).val = 3 ∨ (y 0).val = 1 ∧ (y 1).val = 3 ∨ (y 0).val = 0 ∧ (y 1).val = 2 ∨ (y 0).val = 1 ∧ (y 1).val = 2 ∨ (y 0).val = 0 ∧ (y 1).val = 1 ∨ (y 0).val = 1 ∧ (y 1).val = 1 ∨ (y 0).val = 0 ∧ (y 1).val = 0 ∨ (y 0).val = 1 ∧ (y 1).val = 0 := by omega
  simp only [List.exists_mem_cons_iff]
  exact (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => d.imp (fun d => hit _ _ d.1 d.2 _) (fun d => .inl (hit _ _ d.1 d.2 _))))))))))))))))) hd

theorem ix4_of (x : S1x1x256x128.Idx) (r c : ℕ) (h2 : (x 2).val = r) (h3 : (x 3).val = c) :
    x = ix4 0 0 (Fin.ofNat 256 r) (Fin.ofNat 128 c) := by
  have h0 : (x 0).val < 1 := (x 0).isLt
  have h1 : (x 1).val < 1 := (x 1).isLt
  have h2' : (x 2).val < 256 := (x 2).isLt
  have h3' : (x 3).val < 128 := (x 3).isLt
  funext a
  match a with
  | 0 => exact Fin.ext (by show (x 0).val = 0; omega)
  | 1 => exact Fin.ext (by show (x 1).val = 0; omega)
  | 2 => exact Fin.ext (by show (x 2).val = r % 256; omega)
  | 3 => exact Fin.ext (by show (x 3).val = c % 128; omega)

theorem bias_zero {i : grid0.Coords} {x3 : Vec F S16 .f32} {w : Vec F S1x1x256x128 .f32} {a : F .f32} {j : ℕ} (hw : w = k0_pay342 rows k0_pay338 k0_pay339 a)
    (ha : a = SKf x3 (8 * (i 1).val + j)) (inb : ∀ d, (![0, j, 0, 0] : Fin 4 → ℕ) d + S1x1x256x128.size d ≤ S2x8x256x128.size d) (x : S1x1x256x128.Idx) :
    w x = (fun y : S2x8x256x128.Idx => BTf i x3 (y 0).val (y 1).val (y 2).val (y 3).val) ((Rect.unit (s := S2x8x256x128) ![0, j, 0, 0] S1x1x256x128.size inb).emb x) := by
  have h0 : (x 0).val < 1 := (x 0).isLt
  have h1 : (x 1).val < 1 := (x 1).isLt
  have e0 : ((Rect.unit (s := S2x8x256x128) ![0, j, 0, 0] S1x1x256x128.size inb).emb x 0).val = 0 := by show 0 + 1 * (x 0).val = 0; omega
  have e1 : ((Rect.unit (s := S2x8x256x128) ![0, j, 0, 0] S1x1x256x128.size inb).emb x 1).val = j := by show j + 1 * (x 1).val = j; omega
  have e2 : ((Rect.unit (s := S2x8x256x128) ![0, j, 0, 0] S1x1x256x128.size inb).emb x 2).val = (x 2).val := by show 0 + 1 * (x 2).val = _; omega
  have e3 : ((Rect.unit (s := S2x8x256x128) ![0, j, 0, 0] S1x1x256x128.size inb).emb x 3).val = (x 3).val := by show 0 + 1 * (x 3).val = _; omega
  beta_reduce
  rw [e0, e1, e2, e3, hw, ha]
  unfold BTf SKf
  rw [if_pos rfl]
  exact congrArg _ (ix4_of x _ _ rfl rfl)

theorem bias_one {i : grid0.Coords} {x3 : Vec F S16 .f32} {w : Vec F S1x1x256x128 .f32} {a : F .f32} {j : ℕ} (hw : w = k0_pay341 k0_pay338 k0_pay339 a)
    (ha : a = SKf x3 (8 * (i 1).val + j)) (inb : ∀ d, (![1, j, 0, 0] : Fin 4 → ℕ) d + S1x1x256x128.size d ≤ S2x8x256x128.size d) (x : S1x1x256x128.Idx) :
    w x = (fun y : S2x8x256x128.Idx => BTf i x3 (y 0).val (y 1).val (y 2).val (y 3).val) ((Rect.unit (s := S2x8x256x128) ![1, j, 0, 0] S1x1x256x128.size inb).emb x) := by
  have h0 : (x 0).val < 1 := (x 0).isLt
  have h1 : (x 1).val < 1 := (x 1).isLt
  have e0 : ((Rect.unit (s := S2x8x256x128) ![1, j, 0, 0] S1x1x256x128.size inb).emb x 0).val = 1 := by show 1 + 1 * (x 0).val = 1; omega
  have e1 : ((Rect.unit (s := S2x8x256x128) ![1, j, 0, 0] S1x1x256x128.size inb).emb x 1).val = j := by show j + 1 * (x 1).val = j; omega
  have e2 : ((Rect.unit (s := S2x8x256x128) ![1, j, 0, 0] S1x1x256x128.size inb).emb x 2).val = (x 2).val := by show 0 + 1 * (x 2).val = _; omega
  have e3 : ((Rect.unit (s := S2x8x256x128) ![1, j, 0, 0] S1x1x256x128.size inb).emb x 3).val = (x 3).val := by show 0 + 1 * (x 3).val = _; omega
  beta_reduce
  rw [e0, e1, e2, e3, hw, ha]
  unfold BTf SKf
  rw [if_neg Nat.one_ne_zero]
  exact congrArg _ (ix4_of x _ _ rfl rfl)

set_option maxHeartbeats 4000000 in
theorem triple (c : Dev nD) (i : grid0.Coords) (arg2 : Memref sig .tc .smem S16 .f32) (harg2 : arg2.IsWhole) (arg3 : Memref sig .tc .smem S16 .f32) (harg3 : arg3.IsWhole) (arg4 : Memref sig .tc .vmem S2048x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x512 .bf16) (harg9 : arg9.IsWhole) (arg10 : Memref sig .tc .vmem S2176x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S2176x128 .bf16) (harg13 : arg13.IsWhole) (arg14 : Memref sig .tc .vmem S2x8x256x128 .f32) (harg14 : arg14.IsWhole) (arg15 : Memref sig .tc .vmem S8x512x128 .bf16) (harg15 : arg15.IsWhole) (arg16 : Memref sig .tc .vmem S8x512x512 .f32) (harg16 : arg16.IsWhole) (arg17 : Memref sig .tc .vmem S8x512x512 .bf16) (harg17 : arg17.IsWhole)
    (x2 : Vec F S16 .f32) (x3 : Vec F S16 .f32) (x4 : Vec F S2048x512 .bf16) (x5 : Vec F S2048x128 .bf16) (x6 : Vec F S2048x128 .bf16) (x7 : Vec F S1x128 .f32) (x8 : Vec F S1x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outv i x2 x3 x4 x5 x6 x7 x8) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f)) -∗ K ⟨⟩))
      ⊢ wp frame (wpE (defs₀ (F := F)) Variants.none c none) E (cc0_attn_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attn_fwd_eq_skeleton]; unfold cc0_attn_fwd_skel
  simp only [k0_part97_eq_skeleton, k0_part98_eq_skeleton, k0_part99_eq_skeleton, k0_part100_eq_skeleton, k0_part101_eq_skeleton, k0_part102_eq_skeleton, k0_part103_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, H10⟩, ⟨%f11, H11⟩, ⟨%f12, H12⟩, ⟨%f13, H13⟩, ⟨%f14, H14⟩, ⟨%f15, H15⟩, ⟨%f16, H16⟩, ⟨%f17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    have hS : ∀ (x : Vec F S16 .f32) (y : S16.Idx), x y = SKf x (y 0).val := by
      intro x y
      refine congrArg x (funext fun a => ?_)
      match a with
      | 0 => exact Fin.ext (Nat.mod_eq_of_lt (y 0).isLt).symm
    have hS3 : ∀ y : S16.Idx, arg3.view.read (Elt F) (harg3.unread x3) y = SKf x3 (y 0).val :=
      fun y => (congrFun (harg3.read_unread x3) y).trans (hS x3 y)
    have h10 : ∀ y : S2176x128.Idx, View.read (Elt F) arg10.view (arg10.view.writes (Elt F) arg10.view.junk (triple.sl.H10_2 c i arg5 harg5 arg8 harg8 x5 x8)) y = KAf i x5 x8 (y 0).val (y 1).val := by
      intro y
      delta triple.sl.H10_2
      refine (staged_read arg10.view _ _ _ _ _ y).trans ?_
      delta triple.sl.r_4 triple.sl.r
      rw [readAt_whole harg5 x5 zero2, readAt_whole harg8 x8 zero2]
      rfl
    have h11 : ∀ y : S2176x128.Idx, View.read (Elt F) arg11.view (arg11.view.writes (Elt F) arg11.view.junk (triple.sl.H11_2 c i arg5 harg5 arg8 harg8 x5 x8)) y = KBf i x5 x8 (y 0).val (y 1).val := by
      intro y
      delta triple.sl.H11_2
      refine (staged_read arg11.view _ _ _ _ _ y).trans ?_
      delta triple.sl.r_1 triple.sl.r
      rw [readAt_whole harg5 x5 zero2, readAt_whole harg8 x8 zero2]
      rfl
    have h12 : ∀ y : S2176x128.Idx, View.read (Elt F) arg12.view (arg12.view.writes (Elt F) arg12.view.junk (triple.sl.H12_2 c i arg6 harg6 x6)) y = VAf i x6 (y 0).val (y 1).val := by
      intro y
      delta triple.sl.H12_2
      refine (staged_read arg12.view _ _ _ _ _ y).trans ?_
      delta triple.sl.r_2
      rw [readAt_whole harg6 x6 zero2]
      rfl
    have h13 : ∀ y : S2176x128.Idx, View.read (Elt F) arg13.view (arg13.view.writes (Elt F) arg13.view.junk (triple.sl.H13_2 c i arg6 harg6 x6)) y = VBf i x6 (y 0).val (y 1).val := by
      intro y
      delta triple.sl.H13_2
      refine (staged_read arg13.view _ _ _ _ _ y).trans ?_
      delta triple.sl.r_3
      rw [readAt_whole harg6 x6 zero2]
      rfl
    have h14 : ∀ y : S2x8x256x128.Idx, View.read (Elt F) arg14.view (arg14.view.writes (Elt F) arg14.view.junk (triple.sl.H14_16 c i arg3 harg3 x3)) y = BTf i x3 (y 0).val (y 1).val (y 2).val (y 3).val := by
      intro y
      delta triple.sl.H14_16
      refine View.read_writes_apply_of_pieces (Val := Elt F) arg14.view arg14.view.junk (fun y : S2x8x256x128.Idx => BTf i x3 (y 0).val (y 1).val (y 2).val (y 3).val) _ ?_ y ?_
      · simp only [List.forall_mem_cons, List.not_mem_nil, false_implies, implies_true, and_true]
        refine ⟨?_, ?_, ?_, ?_, ?_, ?_, ?_, ?_, ?_, ?_, ?_, ?_, ?_, ?_, ?_, ?_⟩
        · intro x
          refine bias_zero (j := 7) (a := triple.sl.r_16 c i arg3 harg3 x3) rfl ?_ _ x
          delta triple.sl.r_16
          exact sink_read (SK := SKf x3) hS3 rfl _ _
        · intro x
          refine bias_one (j := 7) (a := triple.sl.r_16 c i arg3 harg3 x3) rfl ?_ _ x
          delta triple.sl.r_16
          exact sink_read (SK := SKf x3) hS3 rfl _ _
        · intro x
          refine bias_zero (j := 6) (a := triple.sl.r_14 c i arg3 harg3 x3) rfl ?_ _ x
          delta triple.sl.r_14
          exact sink_read (SK := SKf x3) hS3 rfl _ _
        · intro x
          refine bias_one (j := 6) (a := triple.sl.r_14 c i arg3 harg3 x3) rfl ?_ _ x
          delta triple.sl.r_14
          exact sink_read (SK := SKf x3) hS3 rfl _ _
        · intro x
          refine bias_zero (j := 5) (a := triple.sl.r_12 c i arg3 harg3 x3) rfl ?_ _ x
          delta triple.sl.r_12
          exact sink_read (SK := SKf x3) hS3 rfl _ _
        · intro x
          refine bias_one (j := 5) (a := triple.sl.r_12 c i arg3 harg3 x3) rfl ?_ _ x
          delta triple.sl.r_12
          exact sink_read (SK := SKf x3) hS3 rfl _ _
        · intro x
          refine bias_zero (j := 4) (a := triple.sl.r_11 c i arg3 harg3 x3) rfl ?_ _ x
          delta triple.sl.r_11
          exact sink_read (SK := SKf x3) hS3 rfl _ _
        · intro x
          refine bias_one (j := 4) (a := triple.sl.r_11 c i arg3 harg3 x3) rfl ?_ _ x
          delta triple.sl.r_11
          exact sink_read (SK := SKf x3) hS3 rfl _ _
        · intro x
          refine bias_zero (j := 3) (a := triple.sl.r_9 c i arg3 harg3 x3) rfl ?_ _ x
          delta triple.sl.r_9
          exact sink_read (SK := SKf x3) hS3 rfl _ _
        · intro x
          refine bias_one (j := 3) (a := triple.sl.r_9 c i arg3 harg3 x3) rfl ?_ _ x
          delta triple.sl.r_9
          exact sink_read (SK := SKf x3) hS3 rfl _ _
        · intro x
          refine bias_zero (j := 2) (a := triple.sl.r_8 c i arg3 harg3 x3) rfl ?_ _ x
          delta triple.sl.r_8
          exact sink_read (SK := SKf x3) hS3 rfl _ _
        · intro x
          refine bias_one (j := 2) (a := triple.sl.r_8 c i arg3 harg3 x3) rfl ?_ _ x
          delta triple.sl.r_8
          exact sink_read (SK := SKf x3) hS3 rfl _ _
        · intro x
          refine bias_zero (j := 1) (a := triple.sl.r_6 c i arg3 harg3 x3) rfl ?_ _ x
          delta triple.sl.r_6
          exact sink_read (SK := SKf x3) hS3 rfl _ _
        · intro x
          refine bias_one (j := 1) (a := triple.sl.r_6 c i arg3 harg3 x3) rfl ?_ _ x
          delta triple.sl.r_6
          exact sink_read (SK := SKf x3) hS3 rfl _ _
        · intro x
          refine bias_zero (j := 0) (a := triple.sl.r_5 c i arg3 harg3 x3) rfl ?_ _ x
          delta triple.sl.r_5
          exact sink_read (SK := SKf x3) hS3 rfl _ _
        · intro x
          refine bias_one (j := 0) (a := triple.sl.r_5 c i arg3 harg3 x3) rfl ?_ _ x
          delta triple.sl.r_5
          exact sink_read (SK := SKf x3) hS3 rfl _ _
      · exact bias_cover _ _ _ _ _ _ _ _ _ _ _ _ _ _ _ _ _ _ _ _ _ _ _ _ _ _ _ _ _ _ _ _ y
    rw [readAt_whole harg7 x7 zero2]
    funext y
    have h4 : ∀ y : S2048x512.Idx, arg4.view.read (Elt F) (harg4.unread x4) y = Qf x4 (y 0).val (y 1).val := by
      intro y
      refine (congrFun (harg4.read_unread x4) y).trans (congrArg x4 (ix2_of y _ _ ?_ ?_))
      · exact (Nat.mod_eq_of_lt (y 0).isLt).symm
      · exact (Nat.mod_eq_of_lt (y 1).isLt).symm
    have h2 : ∀ y : S16.Idx, arg2.view.read (Elt F) (harg2.unread x2) y = SKf x2 (y 0).val := by
      intro y
      exact (congrFun (harg2.read_unread x2) y).trans (hS x2 y)
    exact loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) k0_pay314 x7 (harg2.unread x2) (harg4.unread x4) _ _ _ _ _ ⟨0, by decide +kernel⟩ h4 h10 h11 h12 h13 h2 h14 f9 f15 f16 f17 f9 _ (by decide +kernel) y
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.Kernel7Ideal.Attn
-- ==== Proof.AttnFrame.lean ====
module

public import proofs.«01_k».proof.Proof.AttnBody
public import proofs.«01_k».proof.Proof.Gen.Kernel7Ideal.Frame
public import Idealize.ShloMosaic.Lib.Claim

/-! The attention call: its run and its frame. -/

@[expose] public section

set_option maxRecDepth 16384

noncomputable section

namespace Cert.Kernel7Ideal.Attn

open Idealize.ShloMosaic Idealize.ShloMosaic.TcCoe Idealize.ShloMosaic.Tactic Cert.Kernel7Ideal.Gen

variable {F : FTy → Type} [FloatOps F] [Named F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## The pipeline's proof data -/

/-- The result's block at point `t`. -/
def oblk (c : Dev nD) (t : Fin cfg0.N) : Vec F S2048x512 .bf16 :=
  outv (grid0.coords t) (iblk m c 0 t) (iblk m c 1 t) (X0_2 m c t) (iblk m c 3 t) (iblk m c 4 t) (iblk m c 5 t) (iblk m c 6 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => oblk m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = oblk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7]
  unfold Pipeline.ΦA
  rw [scopedRest0_eq]
  unfold oblk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  icases HΦ with ⟨⟨⟨%s0, S0⟩, ⟨%s1, S1⟩, ⟨%s2, S2⟩, ⟨%s3, S3⟩, ⟨%s4, S4⟩, ⟨%s5, S5⟩, ⟨%s6, S6⟩, ⟨%s7, S7⟩⟩, Hr⟩
  iapply (triple c (grid0.coords t) _ _ _ _ _ _ _ _ _ _ _ _ _ _ _ _ _ _ _ _ _ _ _ _ _ _ _ _ _ _ _ _ (iblk m c 0 t) (iblk m c 1 t) (X0_2 m c t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexists s0; simp only [Memref.view_whole, View.set_whole]; iexact S0
  isplitl [S1]; · iexists s1; simp only [Memref.view_whole, View.set_whole]; iexact S1
  isplitl [S2]; · iexists s2; simp only [Memref.view_whole, View.set_whole]; iexact S2
  isplitl [S3]; · iexists s3; simp only [Memref.view_whole, View.set_whole]; iexact S3
  isplitl [S4]; · iexists s4; simp only [Memref.view_whole, View.set_whole]; iexact S4
  isplitl [S5]; · iexists s5; simp only [Memref.view_whole, View.set_whole]; iexact S5
  isplitl [S6]; · iexists s6; simp only [Memref.view_whole, View.set_whole]; iexact S6
  isplitl [S7]; · iexists s7; simp only [Memref.view_whole, View.set_whole]; iexact S7
  iintro ⟨H0, H1, H2, H3, H4, H5, H6, H7, ⟨%z0, S0⟩, ⟨%z1, S1⟩, ⟨%z2, S2⟩, ⟨%z3, S3⟩, ⟨%z4, S4⟩, ⟨%z5, S5⟩, ⟨%z6, S6⟩, ⟨%z7, S7⟩⟩
  isplitl [S0 S1 S2 S3 S4 S5 S6 S7 Hr]
  · isplitl [S0 S1 S2 S3 S4 S5 S6 S7]
    · isplitl [S0]; · iexists z0; simp only [Memref.view_whole, View.set_whole]; iexact S0
      isplitl [S1]; · iexists z1; simp only [Memref.view_whole, View.set_whole]; iexact S1
      isplitl [S2]; · iexists z2; simp only [Memref.view_whole, View.set_whole]; iexact S2
      isplitl [S3]; · iexists z3; simp only [Memref.view_whole, View.set_whole]; iexact S3
      isplitl [S4]; · iexists z4; simp only [Memref.view_whole, View.set_whole]; iexact S4
      isplitl [S5]; · iexists z5; simp only [Memref.view_whole, View.set_whole]; iexact S5
      isplitl [S6]; · iexists z6; simp only [Memref.view_whole, View.set_whole]; iexact S6
      iexists z7; simp only [Memref.view_whole, View.set_whole]; iexact S7
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hΦ := fun _ _ => rfl) (Q' := _)

/-- The frame, for any values: the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel7Ideal.Attn
-- ==== Proof.AttnClaim.lean ====
module

public import proofs.«01_k».proof.Defs
public import proofs.«01_k».proof.Proof.AttnFrame
public import proofs.«01_k».proof.Proof.Gen.Kernel7
public import Idealize.ShloMosaic.Lib.Claim

/-! The claims about the forward attention call. -/

@[expose] public section

set_option maxRecDepth 16384

noncomputable section

namespace Cert.Proof

open Idealize.ShloMosaic Idealize.SL.Sem

theorem frame_kernel7_ideal : Cert.quiescent_Kernel7Ideal := fun m ρ _ => Cert.Kernel7Ideal.Attn.frame m ρ

/-- The program over machine words is the same text, so the same run serves. -/
theorem frame_kernel7 : Cert.quiescent_Kernel7 := by
  intro m ρ _
  letI : Named Bits := ⟨fun _ _ φ b => FloatOps.ofBits φ b⟩
  have h := Cert.Kernel7Ideal.Attn.frame (F := Bits) m ρ
  refine cast ?_ h
  sl_kernel_rfl

/-- The mask's literal stands for −∞. -/
theorem preserves7 : Cert.preserves_Kernel7_Kernel7Ideal := IdealRules.named_const.statement _ _ _ _ _ rfl

end Cert.Proof
-- ==== Proof.InFwd.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

/-! The first rms norm and the combined input projection: what each row of the kernel's blocks says. -/

@[expose] public section

set_option maxRecDepth 16384

noncomputable section

open Idealize.ShloMosaic Idealize.ShloMosaic.TcCoe Idealize.SL.Sem
open Idealize.ShloMosaic.Pipeline (Dat)

namespace Cert.Reference8Ideal.Value
open Cert.Reference8Ideal Cert.Reference8Ideal.Gen

/-- The tokens in one line, normalised and scaled, and their projection. -/
def toks (x : FVec Ideal S4x2048x1024 .f32) : FVec Ideal S8192x1024 .f32 := shapeCast _ x shapeCasts_S4x2048x1024_S8192x1024
def scaled (h : FVec Ideal S8192x1024 .f32) (g : FVec Ideal S1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g))
def proj (h : FVec Ideal S8192x1024 .f32) (w : FVec Ideal S1024x5376 .f32) : FVec Ideal S8192x5376 .f32 :=
  Host.dotGeneral dot_S8192x1024_S1024x5376_S8192x5376_1_0_0_1_n_n none h w
/-- The projected columns in the order conv, gates, q, k, v. -/
def ordered (u : FVec Ideal S8192x5376 .f32) : FVec Ideal S8192x5376 .bf16 :=
  truncf .bf16 (concatenate S8192x5376 1 [⟨S8192x2048, extractStridedSlice S8192x2048 ![0, 0] u slices_S8192x5376_S8192x2048_0_0⟩,
    ⟨S8192x2048, extractStridedSlice S8192x2048 ![0, 3328] u slices_S8192x5376_S8192x2048_0_3328⟩,
    ⟨S8192x1280, extractStridedSlice S8192x1280 ![0, 2048] u slices_S8192x5376_S8192x1280_0_2048⟩] concatenates_S8192x2048_S8192x2048_S8192x1280_S8192x5376_d1) bitsLt_bf16_f32
def half (x : FVec Ideal S8192x1024 .f32) : FVec Ideal S8192x1024 .bf16 := truncf .bf16 x bitsLt_bf16_f32

theorem ordered_conv (u : FVec Ideal S8192x5376 .f32) (s : Fin 8192) (d : Fin 2048) :
    ordered u (ix2 s ⟨d.val, by omega⟩) = u (ix2 s ⟨d.val, by omega⟩) := by
  pointwise [ordered]

theorem ordered_gates (u : FVec Ideal S8192x5376 .f32) (s : Fin 8192) (d : Fin 2048) :
    ordered u (ix2 s ⟨2048 + d.val, by omega⟩) = u (ix2 s ⟨3328 + d.val, by omega⟩) := by
  pointwise [ordered]

theorem ordered_qkv (u : FVec Ideal S8192x5376 .f32) (s : Fin 8192) (d : Fin 1280) :
    ordered u (ix2 s ⟨4096 + d.val, by omega⟩) = u (ix2 s ⟨2048 + d.val, by omega⟩) := by
  pointwise [ordered]
  rw [dif_neg (by omega), dif_neg (by omega)]
  blk_ext!

end Cert.Reference8Ideal.Value

namespace Cert.Kernel8Ideal.Value
open Cert.Kernel8Ideal Cert.Kernel8Ideal.Gen
open Cert.Reference8Ideal.Value (toks scaled proj ordered half ordered_conv ordered_gates ordered_qkv)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

variable (m : (ℓ : Loc nD τ sig) → Buf (Elt Ideal) ℓ) (c : Dev nD)

/-- The tokens of one grid point. -/
def tok (t : Fin cfg0.N) (r : Fin 512) : Fin 8192 := ⟨t.val * 512 + r.val, by have := lt_of_lt_of_eq t.2 N_0; omega⟩

/-- The normalised and scaled tokens, and their projection, of the arguments. -/
abbrev XN : FVec Ideal S8192x1024 .f32 := scaled (toks (m ((c.tc : Thread nD τ).loc main_arg0))) (m ((c.tc : Thread nD τ).loc main_arg1))
abbrev U : FVec Ideal S8192x5376 .f32 := proj (XN m c) (m ((c.tc : Thread nD τ).loc main_arg2))

theorem x_at (t : Fin cfg0.N) (r : Fin 512) (d : Fin 1024) : iblk m c 0 t (ix2 r d) = toks (m ((c.tc : Thread nD τ).loc main_arg0)) (ix2 (tok t r) d) := by
  pointwise [toks]
  blk_ext! [iblk, V, idx t, tok]

theorem g_at (t : Fin cfg0.N) (d : Fin 1024) : iblk m c 1 t (ix2 0 d) = (m ((c.tc : Thread nD τ).loc main_arg1)) (ix1 d) := by
  blk_ext! [iblk, V, idx t]

theorem w_at (t : Fin cfg0.N) (n : Fin 5376) (k : Fin 1024) : iblk m c 2 t (ix2 n k) = (m ((c.tc : Thread nD τ).loc main_arg2)) (ix2 k n) := by
  blk_ext! [iblk, V, idx t]

/-- The norm, row by row. -/
theorem row_xn (v0 : FVec Ideal S512x1024 .f32) (v12 : FVec Ideal S1x1024 .f32) (h : FVec Ideal S8192x1024 .f32) (g : FVec Ideal S1024 .f32)
    (r : Fin 512) (s : Fin 8192) (d : Fin 1024) (hh : ∀ d, v0 (ix2 r d) = h (ix2 s d)) (hg : ∀ d, v12 (ix2 0 d) = g (ix1 d)) :
    k0_pay1 (F := Ideal) v0 v12 (ix2 r d) = half (scaled h g) (ix2 s d) := by
  pointwise [k0_pay1, half, scaled]
  simp only [hh, hg, Finset.univ_unique, Finset.sum_const, Finset.card_singleton, one_smul]

theorem xn_at (t : Fin cfg0.N) (r : Fin 512) (d : Fin 1024) : k0_pay1 (F := Ideal) (iblk m c 0 t) (iblk m c 1 t) (ix2 r d) = half (XN m c) (ix2 (tok t r) d) :=
  row_xn _ _ _ _ r (tok t r) d (x_at m c t r) (g_at m c t)

/-- The three products, row by row. -/
theorem row_conv (v0 : FVec Ideal S512x1024 .f32) (v12 : FVec Ideal S1x1024 .f32) (v : FVec Ideal S2048x1024 .bf16) (h : FVec Ideal S8192x1024 .f32) (w : FVec Ideal S1024x5376 .f32)
    (r : Fin 512) (s : Fin 8192) (d : Fin 2048) (n : Fin 5376) (hh : ∀ k, k0_pay1 (F := Ideal) v0 v12 (ix2 r k) = half h (ix2 s k)) (hw : ∀ k, v (ix2 d k) = w (ix2 k n)) :
    k0_pay2 (F := Ideal) v0 v12 v (ix2 r d) = proj h w (ix2 s n) := by
  pointwise [k0_pay2, proj]
  refine Finset.sum_congr rfl fun k _ => ?_
  rw [hh, hw]; rfl

theorem row_gates (v0 : FVec Ideal S512x1024 .f32) (v12 : FVec Ideal S1x1024 .f32) (v : FVec Ideal S2048x1024 .bf16) (h : FVec Ideal S8192x1024 .f32) (w : FVec Ideal S1024x5376 .f32)
    (r : Fin 512) (s : Fin 8192) (d : Fin 2048) (n : Fin 5376) (hh : ∀ k, k0_pay1 (F := Ideal) v0 v12 (ix2 r k) = half h (ix2 s k)) (hw : ∀ k, v (ix2 d k) = w (ix2 k n)) :
    k0_pay3 (F := Ideal) v0 v12 v (ix2 r d) = proj h w (ix2 s n) := by
  pointwise [k0_pay3, proj]
  refine Finset.sum_congr rfl fun k _ => ?_
  rw [hh, hw]; rfl

theorem row_qkv (v0 : FVec Ideal S512x1024 .f32) (v12 : FVec Ideal S1x1024 .f32) (v : FVec Ideal S1280x1024 .bf16) (h : FVec Ideal S8192x1024 .f32) (w : FVec Ideal S1024x5376 .f32)
    (r : Fin 512) (s : Fin 8192) (d : Fin 1280) (n : Fin 5376) (hh : ∀ k, k0_pay1 (F := Ideal) v0 v12 (ix2 r k) = half h (ix2 s k)) (hw : ∀ k, v (ix2 d k) = w (ix2 k n)) :
    k0_pay4 (F := Ideal) v0 v12 v (ix2 r d) = proj h w (ix2 s n) := by
  pointwise [k0_pay4, proj]
  refine Finset.sum_congr rfl fun k _ => ?_
  rw [hh, hw]; rfl

theorem wconv_at (t : Fin cfg0.N) (d : Fin 2048) (k : Fin 1024) :
    View.ld (iblk m c 2 t) (Rect.unit ![0, 0] ![2048, 1024] inb_S5376x1024_S2048x1024_0_0) (ix2 d k) = (m ((c.tc : Thread nD τ).loc main_arg2)) (ix2 k ⟨d.val, by omega⟩) := by
  refine Eq.trans ?_ (w_at m c t ⟨d.val, by omega⟩ k)
  generalize iblk m c 2 t = b
  pointwise

theorem wgates_at (t : Fin cfg0.N) (d : Fin 2048) (k : Fin 1024) :
    View.ld (iblk m c 2 t) (Rect.unit ![3328, 0] ![2048, 1024] inb_S5376x1024_S2048x1024_3328_0) (ix2 d k) = (m ((c.tc : Thread nD τ).loc main_arg2)) (ix2 k ⟨3328 + d.val, by omega⟩) := by
  refine Eq.trans ?_ (w_at m c t ⟨3328 + d.val, by omega⟩ k)
  generalize iblk m c 2 t = b
  pointwise

theorem wqkv_at (t : Fin cfg0.N) (d : Fin 1280) (k : Fin 1024) :
    View.ld (iblk m c 2 t) (Rect.unit ![2048, 0] ![1280, 1024] inb_S5376x1024_S1280x1024_2048_0) (ix2 d k) = (m ((c.tc : Thread nD τ).loc main_arg2)) (ix2 k ⟨2048 + d.val, by omega⟩) := by
  refine Eq.trans ?_ (w_at m c t ⟨2048 + d.val, by omega⟩ k)
  generalize iblk m c 2 t = b
  pointwise

/-! ## The two results -/

theorem final4 : (dats m 0 c).arrAt 4 (cfgs 0).N = half (XN m c) := by
  refine (dats m 0 c).arrAt_eq_of_covers 4 _ (by decide +kernel) fun t _ y => ?_
  blk_simp
  rw [after0_4, outsAt0]
  frame_out
  idx_vars y
  refine (xn_at m c t y0 y1).trans ?_
  blk_ext! [idx t, tok]

theorem final3 : (dats m 0 c).arrAt 3 (cfgs 0).N = ordered (U m c) := by
  refine (dats m 0 c).arrAt_eq_of_covers 3 _ (by decide +kernel) fun t _ y => ?_
  blk_simp
  rw [after0_3, outsAt0]
  frame_out
  idx_vars y
  refine View.canon_eq_of_allAt _ _ _ (View.cover_of_tiledBy _ ![512, 256] (by sl_kernel_rfl) _)
    (View.allAt_cons_unit _ _ _ _ _ (fun x hx => ?_) (View.allAt_cons_unit _ _ _ _ _ (fun x hx => ?_) (View.allAt_cons_unit _ _ _ _ _ (fun x hx => ?_) (View.allAt_nil _ _))))
  · obtain ⟨x0, x1, rfl⟩ : ∃ (x0 : Fin 512) (x1 : Fin 1280), x = ix2 x0 x1 := ⟨x 0, x 1, by idx_vars x⟩
    have h0 : y0.val = x0.val := (hx 0).trans (Nat.zero_add _)
    have h1 : y1.val = 4096 + x1.val := hx 1
    obtain rfl : y0 = x0 := Fin.ext h0
    refine (row_qkv _ _ _ (XN m c) _ y0 (tok t y0) x1 _ (xn_at m c t y0) (wqkv_at m c t x1)).trans ?_
    refine (ordered_qkv (U m c) (tok t y0) x1).symm.trans ?_
    generalize ordered (U m c) = A
    blk_ext! [idx t, tok, h1]
  · obtain ⟨x0, x1, rfl⟩ : ∃ (x0 : Fin 512) (x1 : Fin 2048), x = ix2 x0 x1 := ⟨x 0, x 1, by idx_vars x⟩
    have h0 : y0.val = x0.val := (hx 0).trans (Nat.zero_add _)
    have h1 : y1.val = 2048 + x1.val := hx 1
    obtain rfl : y0 = x0 := Fin.ext h0
    refine (row_gates _ _ _ (XN m c) _ y0 (tok t y0) x1 _ (xn_at m c t y0) (wgates_at m c t x1)).trans ?_
    refine (ordered_gates (U m c) (tok t y0) x1).symm.trans ?_
    generalize ordered (U m c) = A
    blk_ext! [idx t, tok, h1]
  · obtain ⟨x0, x1, rfl⟩ : ∃ (x0 : Fin 512) (x1 : Fin 2048), x = ix2 x0 x1 := ⟨x 0, x 1, by idx_vars x⟩
    have h0 : y0.val = x0.val := (hx 0).trans (Nat.zero_add _)
    have h1 : y1.val = x1.val := (hx 1).trans (Nat.zero_add _)
    obtain rfl : y0 = x0 := Fin.ext h0
    refine (row_conv _ _ _ (XN m c) _ y0 (tok t y0) x1 _ (xn_at m c t y0) (wconv_at m c t x1)).trans ?_
    refine (ordered_conv (U m c) (tok t y0) x1).symm.trans ?_
    generalize ordered (U m c) = A
    blk_ext! [idx t, tok, h1]

end Cert.Kernel8Ideal.Value
-- ==== Proof.InFwdClaim.lean ====
module

public import proofs.«01_k».proof.Defs
public import proofs.«01_k».proof.Proof.InFwd
public import Idealize.ShloMosaic.Lib.Claim

/-! The claims about the first rms norm and the combined input projection, from the two runs. -/

@[expose] public section

set_option maxRecDepth 16384

noncomputable section

namespace Cert.Proof

open Idealize.ShloMosaic Idealize.SL.Sem

theorem frame_reference8 : Cert.quiescent_Reference8Ideal := by
  intro m g _
  exact (θ_run Cert.Reference8Ideal.defs _ _).mono (fun r h => ⟨fun c => (h c).2.2, sem_eq_zero_of_no_sems (by decide) r.2⟩) (Cert.Reference8Ideal.Value.run m g)

theorem algebraic8 : Cert.algebraic_Kernel8Ideal_Reference8Ideal := by
  pair_intro
  · run_from Cert.Kernel8Ideal.Value.run_blocks m g
  · run_from Cert.Reference8Ideal.Value.run m' g'
    · obtain ⟨h0, h1, h2⟩ := hagree c
      refine Eq.trans ?_ (Cert.Kernel8Ideal.Value.final3 m c).symm
      exact congrArg (fun w => Cert.Reference8Ideal.Value.ordered (Cert.Reference8Ideal.Value.proj (Cert.Kernel8Ideal.Value.XN m c) w)) h2
    · exact (Cert.Kernel8Ideal.Value.final4 m c).symm

end Cert.Proof
-- ==== Proof.FfnOut.lean ====
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import proofs.«01_k».proof.Proof.RealArith

/-! The last product with the residual, its squared error and the gradient of the loss: what each row of the kernel's blocks says. -/

@[expose] public section

set_option maxRecDepth 16384

noncomputable section

open Idealize.ShloMosaic Idealize.ShloMosaic.TcCoe Idealize.SL.Sem
open Idealize.ShloMosaic.Pipeline (Dat)

namespace Cert.Reference9Ideal.Value
open Cert.Reference9Ideal Cert.Reference9Ideal.Gen

/-- The output less the target, of tokens in one line. -/
def err (a : FVec Ideal S4x2048x2816 .f32) (w : FVec Ideal S2816x1024 .f32) (h t : FVec Ideal S4x2048x1024 .f32) : FVec Ideal S8192x1024 .f32 :=
  subf (addf (shapeCast _ h shapeCasts_S4x2048x1024_S8192x1024) (Host.dotGeneral dot_S8192x2816_S2816x1024_S8192x1024_1_0_0_1_n_n none (shapeCast _ a shapeCasts_S4x2048x2816_S8192x2816) w))
    (shapeCast _ t shapeCasts_S4x2048x1024_S8192x1024)
/-- The squared error in every entry, and the gradient of the loss. -/
def sse (e : FVec Ideal S8192x1024 .f32) : FVec Ideal S8x128 .f32 :=
  broadcastInDim S8x128 ![] bcast_S_S8x128 (Host.reduceAdd (mulf e e) (constant S_ .f32 0x00000000#32) reducesTo_S8192x1024_S_d0_1 h_S_)
def grad (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)
def narrow (x : FVec Ideal S8192x1024 .f32) : FVec Ideal S8192x1024 .bf16 := truncf .bf16 x bitsLt_bf16_f32

theorem sse_at (e : FVec Ideal S8192x1024 .f32) (j : S8x128.Idx) : sse e j = ∑ s : Fin 8192, ∑ d : Fin 1024, e (ix2 s d) * e (ix2 s d) := by
  pointwise [sse]

end Cert.Reference9Ideal.Value

namespace Cert.Kernel9Ideal.Value
open Cert.Kernel9Ideal Cert.Kernel9Ideal.Gen
open Cert.Reference9Ideal.Value (err sse grad narrow sse_at)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The tokens of one grid point. -/
def tok (t : Fin cfg0.N) (r : Fin 512) : Fin 8192 := ⟨t.val * 512 + r.val, by have := lt_of_lt_of_eq t.2 N_0; omega⟩

/-- The output less the target, of the arguments. -/
abbrev E : FVec Ideal S8192x1024 .f32 :=
  err (m ((c.tc : Thread nD τ).loc main_arg0)) (m ((c.tc : Thread nD τ).loc main_arg1)) (m ((c.tc : Thread nD τ).loc main_arg2)) (m ((c.tc : Thread nD τ).loc main_arg3))

theorem e_at (t : Fin cfg0.N) (r : Fin 512) (d : Fin 1024) :
    k0_pay1 (F := Ideal) (iblk m c 2 t) (iblk m c 0 t) (iblk m c 1 t) (iblk m c 3 t) (ix2 r d) = E m c (ix2 (tok t r) d) := by
  pointwise [k0_pay1, err]
  blk_point [iblk, V, idx t, tok]

/-- A half of the two of the square over the features is the kernel's factor. -/
theorem half_1024 (x : EReal) : x * Ideal.ofBits .f32 981467136#32
    = Ideal.div (Ideal.ofBits .f32 1056964608#32) (Ideal.ofBits .f32 1149239296#32) * (Ideal.ofBits .f32 1073741824#32 * x) := by
  have h0 : Ideal.ofBits .f32 981467136#32 = ((1 / 1024 : ℝ) : EReal) := by simp [Ideal.ofBits, Ideal.ieee, -EReal.coe_mul]; norm_num
  have h1 : Ideal.ofBits .f32 1056964608#32 = ((1 / 2 : ℝ) : EReal) := by simp [Ideal.ofBits, Ideal.ieee, -EReal.coe_mul]; norm_num
  have h4 : Ideal.ofBits .f32 1073741824#32 = ((2 : ℝ) : EReal) := by simp [Ideal.ofBits, Ideal.ieee, -EReal.coe_mul]; norm_num
  rw [h0, h1, Cert.Arith.lit_1024, h4, Ideal.div_coe (by norm_num : (1024 : ℝ) ≠ 0), ← mul_assoc, mul_comm x, ← EReal.coe_mul, ← EReal.coe_mul]
  norm_num

/-- The gradient of the loss, row by row. -/
theorem row_d (v0 : FVec Ideal S512x1024 .f32) (v2 : FVec Ideal S512x2816 .bf16) (v4 : FVec Ideal S2816x1024 .bf16) (v8 : FVec Ideal S512x1024 .f32) (e : FVec Ideal S8192x1024 .f32)
    (r : Fin 512) (s : Fin 8192) (d : Fin 1024) (he : k0_pay1 (F := Ideal) v0 v2 v4 v8 (ix2 r d) = e (ix2 s d)) :
    k0_pay4 (F := Ideal) v0 v2 v4 v8 (ix2 r d) = grad e (ix2 s d) := by
  pointwise [k0_pay4, grad]
  rw [he]
  exact half_1024 _

/-- What one grid point adds to the squared error. -/
theorem row_s (v0 : FVec Ideal S512x1024 .f32) (v2 : FVec Ideal S512x2816 .bf16) (v4 : FVec Ideal S2816x1024 .bf16) (v8 : FVec Ideal S512x1024 .f32) (e : FVec Ideal S8192x1024 .f32)
    (v : FVec Ideal S8x128 .f32) (j : S8x128.Idx) (s : Fin 512 → Fin 8192) (he : ∀ r d, k0_pay1 (F := Ideal) v0 v2 v4 v8 (ix2 r d) = e (ix2 (s r) d)) :
    k0_pay3 (F := Ideal) v0 v2 v4 v8 v j = v j + ∑ r : Fin 512, ∑ d : Fin 1024, e (ix2 (s r) d) * e (ix2 (s r) d) := by
  idx_vars j
  pointwise [k0_pay3]
  simp only [he]

theorem hzero (j : S8x128.Idx) : k0_pay2 (F := Ideal) j = 0 := by pointwise [k0_pay2]

theorem d_at (t : Fin cfg0.N) (r : Fin 512) (d : Fin 1024) :
    k0_pay4 (F := Ideal) (iblk m c 2 t) (iblk m c 0 t) (iblk m c 1 t) (iblk m c 3 t) (ix2 r d) = grad (E m c) (ix2 (tok t r) d) :=
  row_d _ _ _ _ _ r (tok t r) d (e_at m c t r d)

/-! ## The three results -/

theorem final4 : (dats m 0 c).arrAt 4 (cfgs 0).N = sse (E m c) := by
  refine (dats m 0 c).arrAt_eq_of_after_last 4 t0_15 (by decide +kernel) _ fun j => ?_
  blk_simp
  rw [after0_4, Pipeline.eq_sum_fin_of_reset_step_apply_last (fun n h => (outsAt0 m c n h).1) 16 (fun _ => 0) _
    (fun t h j => by rw [outsAt0_A m c t h]; frame_out; rw [row_s _ _ _ _ (E m c) _ _ (tok t) (e_at m c t), hzero])
    (fun t h j => by rw [outsAt0_B m c t h]; frame_out; rw [row_s _ _ _ _ (E m c) _ _ (tok t) (e_at m c t)])
    (le_of_eq N_0) t0_15 rfl j, zero_add]
  refine Eq.trans ?_ (sse_at _ _).symm
  exact Fin.sum_mul_add_congr (S := 16) (n := 512) (L := 8192) fun s k hl => rfl

theorem final5 : (dats m 0 c).arrAt 5 (cfgs 0).N = grad (E m c) := by
  refine (dats m 0 c).arrAt_eq_of_covers 5 _ (by decide +kernel) fun t _ y => ?_
  blk_simp
  rw [after0_5]
  by_cases h : t.val % 16 = 0
  · rw [outsAt0_A m c t h]
    frame_out
    idx_vars y
    refine (d_at m c t y0 y1).trans ?_
    blk_ext! [idx t, tok]
  · rw [outsAt0_B m c t h]
    frame_out
    idx_vars y
    refine (d_at m c t y0 y1).trans ?_
    blk_ext! [idx t, tok]

theorem final6 : (dats m 0 c).arrAt 6 (cfgs 0).N = narrow (grad (E m c)) := by
  refine (dats m 0 c).arrAt_eq_of_covers 6 _ (by decide +kernel) fun t _ y => ?_
  blk_simp
  rw [after0_6]
  by_cases h : t.val % 16 = 0
  · rw [outsAt0_A m c t h]
    frame_out
    idx_vars y
    refine (show _ = narrow (grad (E m c)) (ix2 (tok t y0) y1) from d_at m c t y0 y1).trans ?_
    blk_ext! [idx t, tok]
  · rw [outsAt0_B m c t h]
    frame_out
    idx_vars y
    refine (show _ = narrow (grad (E m c)) (ix2 (tok t y0) y1) from d_at m c t y0 y1).trans ?_
    blk_ext! [idx t, tok]

end Cert.Kernel9Ideal.Value
-- ==== Proof.FfnOutClaim.lean ====
module

public import proofs.«01_k».proof.Defs
public import proofs.«01_k».proof.Proof.FfnOut
public import Idealize.ShloMosaic.Lib.Claim

/-! The claims about the last product, its squared error and the gradient of the loss, from the two runs. -/

@[expose] public section

set_option maxRecDepth 16384

noncomputable section

namespace Cert.Proof

open Idealize.ShloMosaic Idealize.SL.Sem

theorem frame_reference9 : Cert.quiescent_Reference9Ideal := by
  intro m g _
  exact (θ_run Cert.Reference9Ideal.defs _ _).mono (fun r h => ⟨fun c => (h c).2.2.2, sem_eq_zero_of_no_sems (by decide) r.2⟩) (Cert.Reference9Ideal.Value.run m g)

theorem algebraic9 : Cert.algebraic_Kernel9Ideal_Reference9Ideal := by
  pair_intro
  · run_from Cert.Kernel9Ideal.Value.run_blocks m g
  · run_from Cert.Reference9Ideal.Value.run m' g'
    · exact (Cert.Kernel9Ideal.Value.final4 m c).symm
    · exact (Cert.Kernel9Ideal.Value.final5 m c).symm
    · exact (Cert.Kernel9Ideal.Value.final6 m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_h
public import proofs.«01_k».proof.Proof.Gen.Pre_finite_x
public import proofs.«01_k».proof.Proof.FfnInClaim
public import proofs.«01_k».proof.Proof.InprojClaim
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.FfnDownClaim
public import proofs.«01_k».proof.Proof.MergeClaim
public import proofs.«01_k».proof.Proof.Gen.Kernel4Ideal.Value
public import proofs.«01_k».proof.Proof.Gen.Kernel5Ideal.Value
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Pre_finite_ffn
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.ConvClaim
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite_conv
public import proofs.«01_k».proof.Proof.AttnClaim
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.InFwdClaim
public import proofs.«01_k».proof.Proof.FfnOutClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite_h.Gen.facts, Cert.Pre_finite_x.Gen.facts, Cert.Pre_finite_ffn.Gen.facts, Cert.Pre_finite_conv.Gen.facts, by
  exact ⟨fun m ρ _ => Cert.Kernel.Gen.frame m ρ, fun m ρ _ => Cert.KernelIdeal.Gen.frame m ρ, fun m ρ _ => Cert.KernelIdeal.Gen.frame m ρ,
    frame_reference, frame_reference', fun m ρ _ => Cert.Kernel2.Gen.frame m ρ, fun m ρ _ => Cert.Kernel2Ideal.Gen.frame m ρ, fun m ρ _ => Cert.Kernel2Ideal.Gen.frame m ρ,
    frame_reference2, frame_reference2', fun m ρ _ => Cert.Kernel3.Gen.frame m ρ, fun m ρ _ => Cert.Kernel3Ideal.Gen.frame m ρ, frame_kernel3',
    frame_reference3, frame_reference3', fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    frame_kernel6, frame_kernel6_ideal, frame_kernel6_ideal', frame_reference6, frame_reference6', frame_kernel7, frame_kernel7_ideal,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    trivial, algebraic, trivial, algebraic2, trivial, algebraic3, trivial, algebraic4, trivial, algebraic5, trivial, algebraic6, preserves7, trivial, algebraic8, trivial, algebraic9⟩⟩

end Cert.Proof

end
